-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_OutA (m : (ℓ : Loc Cert.OutA.nD Cert.OutA.τ Cert.OutA.sig) → Buf (Elt Bits) ℓ) : Prop :=
  True

def Pre_OutAIdeal (m : (ℓ : Loc Cert.OutAIdeal.nD Cert.OutAIdeal.τ Cert.OutAIdeal.sig) → Buf (Elt Ideal) ℓ) : Prop :=
  True

def Pre_OutAReferenceIdeal (m : (ℓ : Loc Cert.OutAReferenceIdeal.nD Cert.OutAReferenceIdeal.τ Cert.OutAReferenceIdeal.sig) → Buf (Elt Ideal) ℓ) : Prop :=
  True

def Pre_OutB (m : (ℓ : Loc Cert.OutB.nD Cert.OutB.τ Cert.OutB.sig) → Buf (Elt Bits) ℓ) : Prop :=
  True

def Pre_OutBIdeal (m : (ℓ : Loc Cert.OutBIdeal.nD Cert.OutBIdeal.τ Cert.OutBIdeal.sig) → Buf (Elt Ideal) ℓ) : Prop :=
  True

def Pre_OutBReferenceIdeal (m : (ℓ : Loc Cert.OutBReferenceIdeal.nD Cert.OutBReferenceIdeal.τ Cert.OutBReferenceIdeal.sig) → Buf (Elt Ideal) ℓ) : Prop :=
  True

def Pre_OutLru (m : (ℓ : Loc Cert.OutLru.nD Cert.OutLru.τ Cert.OutLru.sig) → Buf (Elt Bits) ℓ) : Prop :=
  True

def Pre_OutLruIdeal (m : (ℓ : Loc Cert.OutLruIdeal.nD Cert.OutLruIdeal.τ Cert.OutLruIdeal.sig) → Buf (Elt Ideal) ℓ) : Prop :=
  True

def Pre_OutLruReferenceIdeal (m : (ℓ : Loc Cert.OutLruReferenceIdeal.nD Cert.OutLruReferenceIdeal.τ Cert.OutLruReferenceIdeal.sig) → Buf (Elt Ideal) ℓ) : Prop :=
  True

def Pre_OutMix (m : (ℓ : Loc Cert.OutMix.nD Cert.OutMix.τ Cert.OutMix.sig) → Buf (Elt Bits) ℓ) : Prop :=
  True

def Pre_OutMixIdeal (m : (ℓ : Loc Cert.OutMixIdeal.nD Cert.OutMixIdeal.τ Cert.OutMixIdeal.sig) → Buf (Elt Ideal) ℓ) : Prop :=
  True

def Pre_OutMixReferenceIdeal (m : (ℓ : Loc Cert.OutMixReferenceIdeal.nD Cert.OutMixReferenceIdeal.τ Cert.OutMixReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_OutA [hOutA : Cert.OutA.Facts] : Prop :=
  ∀ (m : (ℓ : Loc Cert.OutA.nD Cert.OutA.τ Cert.OutA.sig) → Buf (Elt Bits) ℓ) (g : Dev Cert.OutA.nD → PrngReg), Pre_OutA m →
    θ_run (Cert.OutA.defs (F := Bits)) (onTc (τ := Cert.OutA.τ) (Cert.OutA.main (F := Bits))) ⟨m, fun _ => 0, g⟩ (fun r => (∀ c : Dev Cert.OutA.nD,
      r.2.mem ((c.tc : Thread Cert.OutA.nD Cert.OutA.τ).loc Cert.OutA.main_arg0) = m ((c.tc : Thread Cert.OutA.nD Cert.OutA.τ).loc Cert.OutA.main_arg0)
      ∧ r.2.mem ((c.tc : Thread Cert.OutA.nD Cert.OutA.τ).loc Cert.OutA.main_arg1) = m ((c.tc : Thread Cert.OutA.nD Cert.OutA.τ).loc Cert.OutA.main_arg1)
      ∧ r.2.mem ((c.tc : Thread Cert.OutA.nD Cert.OutA.τ).loc Cert.OutA.main_arg2) = m ((c.tc : Thread Cert.OutA.nD Cert.OutA.τ).loc Cert.OutA.main_arg2)
      ∧ r.2.mem ((c.tc : Thread Cert.OutA.nD Cert.OutA.τ).loc Cert.OutA.main_arg3) = m ((c.tc : Thread Cert.OutA.nD Cert.OutA.τ).loc Cert.OutA.main_arg3)
      ∧ r.2.mem ((c.tc : Thread Cert.OutA.nD Cert.OutA.τ).loc Cert.OutA.main_arg4) = m ((c.tc : Thread Cert.OutA.nD Cert.OutA.τ).loc Cert.OutA.main_arg4)
      ∧ r.2.mem ((c.tc : Thread Cert.OutA.nD Cert.OutA.τ).loc Cert.OutA.main_arg5) = m ((c.tc : Thread Cert.OutA.nD Cert.OutA.τ).loc Cert.OutA.main_arg5))
      ∧ r.2.sem = fun _ => 0)

def quiescent_OutAIdeal [hOutAIdeal : Cert.OutAIdeal.Facts] : Prop :=
  ∀ (m : (ℓ : Loc Cert.OutAIdeal.nD Cert.OutAIdeal.τ Cert.OutAIdeal.sig) → Buf (Elt Ideal) ℓ) (g : Dev Cert.OutAIdeal.nD → PrngReg), Pre_OutAIdeal m →
    θ_run (Cert.OutAIdeal.defs (F := Ideal)) (onTc (τ := Cert.OutAIdeal.τ) (Cert.OutAIdeal.main (F := Ideal))) ⟨m, fun _ => 0, g⟩ (fun r => (∀ c : Dev Cert.OutAIdeal.nD,
      r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
      ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
      ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2)
      ∧ r.2.mem ((c.tc : Thread Cert.OutAIdeal.nD Cert.OutAIdeal.τ).loc Cert.OutAIdeal.main_arg3) = m ((c.tc : Thread Cert.OutAIdeal.nD Cert.OutAIdeal.τ).loc Cert.OutAIdeal.main_arg3)
      ∧ r.2.mem ((c.tc : Thread Cert.OutAIdeal.nD Cert.OutAIdeal.τ).loc Cert.OutAIdeal.main_arg4) = m ((c.tc : Thread Cert.OutAIdeal.nD Cert.OutAIdeal.τ).loc Cert.OutAIdeal.main_arg4)
      ∧ r.2.mem ((c.tc : Thread Cert.OutAIdeal.nD Cert.OutAIdeal.τ).loc Cert.OutAIdeal.main_arg5) = m ((c.tc : Thread Cert.OutAIdeal.nD Cert.OutAIdeal.τ).loc Cert.OutAIdeal.main_arg5))
      ∧ r.2.sem = fun _ => 0)

def quiescent_OutAReferenceIdeal [hOutAReferenceIdeal : Cert.OutAReferenceIdeal.Facts] : Prop :=
  ∀ (m : (ℓ : Loc Cert.OutAReferenceIdeal.nD Cert.OutAReferenceIdeal.τ Cert.OutAReferenceIdeal.sig) → Buf (Elt Ideal) ℓ) (g : Dev Cert.OutAReferenceIdeal.nD → PrngReg), Pre_OutAReferenceIdeal m →
    θ_run (Cert.OutAReferenceIdeal.defs (F := Ideal)) (onTc (τ := Cert.OutAReferenceIdeal.τ) (Cert.OutAReferenceIdeal.main (F := Ideal))) ⟨m, fun _ => 0, g⟩ (fun r => (∀ c : Dev Cert.OutAReferenceIdeal.nD,
      r.2.mem ((c.tc : Thread Cert.OutAReferenceIdeal.nD Cert.OutAReferenceIdeal.τ).loc Cert.OutAReferenceIdeal.main_arg0) = m ((c.tc : Thread Cert.OutAReferenceIdeal.nD Cert.OutAReferenceIdeal.τ).loc Cert.OutAReferenceIdeal.main_arg0)
      ∧ r.2.mem ((c.tc : Thread Cert.OutAReferenceIdeal.nD Cert.OutAReferenceIdeal.τ).loc Cert.OutAReferenceIdeal.main_arg1) = m ((c.tc : Thread Cert.OutAReferenceIdeal.nD Cert.OutAReferenceIdeal.τ).loc Cert.OutAReferenceIdeal.main_arg1)
      ∧ r.2.mem ((c.tc : Thread Cert.OutAReferenceIdeal.nD Cert.OutAReferenceIdeal.τ).loc Cert.OutAReferenceIdeal.main_arg2) = m ((c.tc : Thread Cert.OutAReferenceIdeal.nD Cert.OutAReferenceIdeal.τ).loc Cert.OutAReferenceIdeal.main_arg2)
      ∧ r.2.mem ((c.tc : Thread Cert.OutAReferenceIdeal.nD Cert.OutAReferenceIdeal.τ).loc Cert.OutAReferenceIdeal.main_arg3) = m ((c.tc : Thread Cert.OutAReferenceIdeal.nD Cert.OutAReferenceIdeal.τ).loc Cert.OutAReferenceIdeal.main_arg3)
      ∧ r.2.mem ((c.tc : Thread Cert.OutAReferenceIdeal.nD Cert.OutAReferenceIdeal.τ).loc Cert.OutAReferenceIdeal.main_arg4) = m ((c.tc : Thread Cert.OutAReferenceIdeal.nD Cert.OutAReferenceIdeal.τ).loc Cert.OutAReferenceIdeal.main_arg4)
      ∧ r.2.mem ((c.tc : Thread Cert.OutAReferenceIdeal.nD Cert.OutAReferenceIdeal.τ).loc Cert.OutAReferenceIdeal.main_arg5) = m ((c.tc : Thread Cert.OutAReferenceIdeal.nD Cert.OutAReferenceIdeal.τ).loc Cert.OutAReferenceIdeal.main_arg5))
      ∧ r.2.sem = fun _ => 0)

def quiescent_OutB [hOutB : Cert.OutB.Facts] : Prop :=
  ∀ (m : (ℓ : Loc Cert.OutB.nD Cert.OutB.τ Cert.OutB.sig) → Buf (Elt Bits) ℓ) (g : Dev Cert.OutB.nD → PrngReg), Pre_OutB m →
    θ_run (Cert.OutB.defs (F := Bits)) (onTc (τ := Cert.OutB.τ) (Cert.OutB.main (F := Bits))) ⟨m, fun _ => 0, g⟩ (fun r => (∀ c : Dev Cert.OutB.nD,
      r.2.mem ((c.tc : Thread Cert.OutB.nD Cert.OutB.τ).loc Cert.OutB.main_arg0) = m ((c.tc : Thread Cert.OutB.nD Cert.OutB.τ).loc Cert.OutB.main_arg0)
      ∧ r.2.mem ((c.tc : Thread Cert.OutB.nD Cert.OutB.τ).loc Cert.OutB.main_arg1) = m ((c.tc : Thread Cert.OutB.nD Cert.OutB.τ).loc Cert.OutB.main_arg1)
      ∧ r.2.mem ((c.tc : Thread Cert.OutB.nD Cert.OutB.τ).loc Cert.OutB.main_arg2) = m ((c.tc : Thread Cert.OutB.nD Cert.OutB.τ).loc Cert.OutB.main_arg2)
      ∧ r.2.mem ((c.tc : Thread Cert.OutB.nD Cert.OutB.τ).loc Cert.OutB.main_arg3) = m ((c.tc : Thread Cert.OutB.nD Cert.OutB.τ).loc Cert.OutB.main_arg3)
      ∧ r.2.mem ((c.tc : Thread Cert.OutB.nD Cert.OutB.τ).loc Cert.OutB.main_arg4) = m ((c.tc : Thread Cert.OutB.nD Cert.OutB.τ).loc Cert.OutB.main_arg4)
      ∧ r.2.mem ((c.tc : Thread Cert.OutB.nD Cert.OutB.τ).loc Cert.OutB.main_arg5) = m ((c.tc : Thread Cert.OutB.nD Cert.OutB.τ).loc Cert.OutB.main_arg5))
      ∧ r.2.sem = fun _ => 0)

def quiescent_OutBIdeal [hOutBIdeal : Cert.OutBIdeal.Facts] : Prop :=
  ∀ (m : (ℓ : Loc Cert.OutBIdeal.nD Cert.OutBIdeal.τ Cert.OutBIdeal.sig) → Buf (Elt Ideal) ℓ) (g : Dev Cert.OutBIdeal.nD → PrngReg), Pre_OutBIdeal m →
    θ_run (Cert.OutBIdeal.defs (F := Ideal)) (onTc (τ := Cert.OutBIdeal.τ) (Cert.OutBIdeal.main (F := Ideal))) ⟨m, fun _ => 0, g⟩ (fun r => (∀ c : Dev Cert.OutBIdeal.nD,
      r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
      ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
      ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2)
      ∧ r.2.mem ((c.tc : Thread Cert.OutBIdeal.nD Cert.OutBIdeal.τ).loc Cert.OutBIdeal.main_arg3) = m ((c.tc : Thread Cert.OutBIdeal.nD Cert.OutBIdeal.τ).loc Cert.OutBIdeal.main_arg3)
      ∧ r.2.mem ((c.tc : Thread Cert.OutBIdeal.nD Cert.OutBIdeal.τ).loc Cert.OutBIdeal.main_arg4) = m ((c.tc : Thread Cert.OutBIdeal.nD Cert.OutBIdeal.τ).loc Cert.OutBIdeal.main_arg4)
      ∧ r.2.mem ((c.tc : Thread Cert.OutBIdeal.nD Cert.OutBIdeal.τ).loc Cert.OutBIdeal.main_arg5) = m ((c.tc : Thread Cert.OutBIdeal.nD Cert.OutBIdeal.τ).loc Cert.OutBIdeal.main_arg5))
      ∧ r.2.sem = fun _ => 0)

def quiescent_OutBReferenceIdeal [hOutBReferenceIdeal : Cert.OutBReferenceIdeal.Facts] : Prop :=
  ∀ (m : (ℓ : Loc Cert.OutBReferenceIdeal.nD Cert.OutBReferenceIdeal.τ Cert.OutBReferenceIdeal.sig) → Buf (Elt Ideal) ℓ) (g : Dev Cert.OutBReferenceIdeal.nD → PrngReg), Pre_OutBReferenceIdeal m →
    θ_run (Cert.OutBReferenceIdeal.defs (F := Ideal)) (onTc (τ := Cert.OutBReferenceIdeal.τ) (Cert.OutBReferenceIdeal.main (F := Ideal))) ⟨m, fun _ => 0, g⟩ (fun r => (∀ c : Dev Cert.OutBReferenceIdeal.nD,
      r.2.mem ((c.tc : Thread Cert.OutBReferenceIdeal.nD Cert.OutBReferenceIdeal.τ).loc Cert.OutBReferenceIdeal.main_arg0) = m ((c.tc : Thread Cert.OutBReferenceIdeal.nD Cert.OutBReferenceIdeal.τ).loc Cert.OutBReferenceIdeal.main_arg0)
      ∧ r.2.mem ((c.tc : Thread Cert.OutBReferenceIdeal.nD Cert.OutBReferenceIdeal.τ).loc Cert.OutBReferenceIdeal.main_arg1) = m ((c.tc : Thread Cert.OutBReferenceIdeal.nD Cert.OutBReferenceIdeal.τ).loc Cert.OutBReferenceIdeal.main_arg1)
      ∧ r.2.mem ((c.tc : Thread Cert.OutBReferenceIdeal.nD Cert.OutBReferenceIdeal.τ).loc Cert.OutBReferenceIdeal.main_arg2) = m ((c.tc : Thread Cert.OutBReferenceIdeal.nD Cert.OutBReferenceIdeal.τ).loc Cert.OutBReferenceIdeal.main_arg2)
      ∧ r.2.mem ((c.tc : Thread Cert.OutBReferenceIdeal.nD Cert.OutBReferenceIdeal.τ).loc Cert.OutBReferenceIdeal.main_arg3) = m ((c.tc : Thread Cert.OutBReferenceIdeal.nD Cert.OutBReferenceIdeal.τ).loc Cert.OutBReferenceIdeal.main_arg3)
      ∧ r.2.mem ((c.tc : Thread Cert.OutBReferenceIdeal.nD Cert.OutBReferenceIdeal.τ).loc Cert.OutBReferenceIdeal.main_arg4) = m ((c.tc : Thread Cert.OutBReferenceIdeal.nD Cert.OutBReferenceIdeal.τ).loc Cert.OutBReferenceIdeal.main_arg4)
      ∧ r.2.mem ((c.tc : Thread Cert.OutBReferenceIdeal.nD Cert.OutBReferenceIdeal.τ).loc Cert.OutBReferenceIdeal.main_arg5) = m ((c.tc : Thread Cert.OutBReferenceIdeal.nD Cert.OutBReferenceIdeal.τ).loc Cert.OutBReferenceIdeal.main_arg5))
      ∧ r.2.sem = fun _ => 0)

def quiescent_OutLru [hOutLru : Cert.OutLru.Facts] : Prop :=
  ∀ (m : (ℓ : Loc Cert.OutLru.nD Cert.OutLru.τ Cert.OutLru.sig) → Buf (Elt Bits) ℓ) (g : Dev Cert.OutLru.nD → PrngReg), Pre_OutLru m →
    θ_run (Cert.OutLru.defs (F := Bits)) (onTc (τ := Cert.OutLru.τ) (Cert.OutLru.main (F := Bits))) ⟨m, fun _ => 0, g⟩ (fun r => (∀ c : Dev Cert.OutLru.nD,
      r.2.mem ((c.tc : Thread Cert.OutLru.nD Cert.OutLru.τ).loc Cert.OutLru.main_arg0) = m ((c.tc : Thread Cert.OutLru.nD Cert.OutLru.τ).loc Cert.OutLru.main_arg0)
      ∧ r.2.mem ((c.tc : Thread Cert.OutLru.nD Cert.OutLru.τ).loc Cert.OutLru.main_arg1) = m ((c.tc : Thread Cert.OutLru.nD Cert.OutLru.τ).loc Cert.OutLru.main_arg1)
      ∧ r.2.mem ((c.tc : Thread Cert.OutLru.nD Cert.OutLru.τ).loc Cert.OutLru.main_arg2) = m ((c.tc : Thread Cert.OutLru.nD Cert.OutLru.τ).loc Cert.OutLru.main_arg2)
      ∧ r.2.mem ((c.tc : Thread Cert.OutLru.nD Cert.OutLru.τ).loc Cert.OutLru.main_arg3) = m ((c.tc : Thread Cert.OutLru.nD Cert.OutLru.τ).loc Cert.OutLru.main_arg3)
      ∧ r.2.mem ((c.tc : Thread Cert.OutLru.nD Cert.OutLru.τ).loc Cert.OutLru.main_arg4) = m ((c.tc : Thread Cert.OutLru.nD Cert.OutLru.τ).loc Cert.OutLru.main_arg4)
      ∧ r.2.mem ((c.tc : Thread Cert.OutLru.nD Cert.OutLru.τ).loc Cert.OutLru.main_arg5) = m ((c.tc : Thread Cert.OutLru.nD Cert.OutLru.τ).loc Cert.OutLru.main_arg5))
      ∧ r.2.sem = fun _ => 0)

def quiescent_OutLruIdeal [hOutLruIdeal : Cert.OutLruIdeal.Facts] : Prop :=
  ∀ (m : (ℓ : Loc Cert.OutLruIdeal.nD Cert.OutLruIdeal.τ Cert.OutLruIdeal.sig) → Buf (Elt Ideal) ℓ) (g : Dev Cert.OutLruIdeal.nD → PrngReg), Pre_OutLruIdeal m →
    θ_run (Cert.OutLruIdeal.defs (F := Ideal)) (onTc (τ := Cert.OutLruIdeal.τ) (Cert.OutLruIdeal.main (F := Ideal))) ⟨m, fun _ => 0, g⟩ (fun r => (∀ c : Dev Cert.OutLruIdeal.nD,
      r.2.mem ((c.tc : Thread Cert.OutLruIdeal.nD Cert.OutLruIdeal.τ).loc Cert.OutLruIdeal.main_arg0) = m ((c.tc : Thread Cert.OutLruIdeal.nD Cert.OutLruIdeal.τ).loc Cert.OutLruIdeal.main_arg0)
      ∧ r.2.mem ((c.tc : Thread Cert.OutLruIdeal.nD Cert.OutLruIdeal.τ).loc Cert.OutLruIdeal.main_arg1) = m ((c.tc : Thread Cert.OutLruIdeal.nD Cert.OutLruIdeal.τ).loc Cert.OutLruIdeal.main_arg1)
      ∧ r.2.mem ((c.tc : Thread Cert.OutLruIdeal.nD Cert.OutLruIdeal.τ).loc Cert.OutLruIdeal.main_arg2) = m ((c.tc : Thread Cert.OutLruIdeal.nD Cert.OutLruIdeal.τ).loc Cert.OutLruIdeal.main_arg2)
      ∧ r.2.mem ((c.tc : Thread Cert.OutLruIdeal.nD Cert.OutLruIdeal.τ).loc Cert.OutLruIdeal.main_arg3) = m ((c.tc : Thread Cert.OutLruIdeal.nD Cert.OutLruIdeal.τ).loc Cert.OutLruIdeal.main_arg3)
      ∧ r.2.mem ((c.tc : Thread Cert.OutLruIdeal.nD Cert.OutLruIdeal.τ).loc Cert.OutLruIdeal.main_arg4) = m ((c.tc : Thread Cert.OutLruIdeal.nD Cert.OutLruIdeal.τ).loc Cert.OutLruIdeal.main_arg4)
      ∧ r.2.mem ((c.tc : Thread Cert.OutLruIdeal.nD Cert.OutLruIdeal.τ).loc Cert.OutLruIdeal.main_arg5) = m ((c.tc : Thread Cert.OutLruIdeal.nD Cert.OutLruIdeal.τ).loc Cert.OutLruIdeal.main_arg5))
      ∧ r.2.sem = fun _ => 0)

def quiescent_OutLruReferenceIdeal [hOutLruReferenceIdeal : Cert.OutLruReferenceIdeal.Facts] : Prop :=
  ∀ (m : (ℓ : Loc Cert.OutLruReferenceIdeal.nD Cert.OutLruReferenceIdeal.τ Cert.OutLruReferenceIdeal.sig) → Buf (Elt Ideal) ℓ) (g : Dev Cert.OutLruReferenceIdeal.nD → PrngReg), Pre_OutLruReferenceIdeal m →
    θ_run (Cert.OutLruReferenceIdeal.defs (F := Ideal)) (onTc (τ := Cert.OutLruReferenceIdeal.τ) (Cert.OutLruReferenceIdeal.main (F := Ideal))) ⟨m, fun _ => 0, g⟩ (fun r => (∀ c : Dev Cert.OutLruReferenceIdeal.nD,
      r.2.mem ((c.tc : Thread Cert.OutLruReferenceIdeal.nD Cert.OutLruReferenceIdeal.τ).loc Cert.OutLruReferenceIdeal.main_arg0) = m ((c.tc : Thread Cert.OutLruReferenceIdeal.nD Cert.OutLruReferenceIdeal.τ).loc Cert.OutLruReferenceIdeal.main_arg0)
      ∧ r.2.mem ((c.tc : Thread Cert.OutLruReferenceIdeal.nD Cert.OutLruReferenceIdeal.τ).loc Cert.OutLruReferenceIdeal.main_arg1) = m ((c.tc : Thread Cert.OutLruReferenceIdeal.nD Cert.OutLruReferenceIdeal.τ).loc Cert.OutLruReferenceIdeal.main_arg1)
      ∧ r.2.mem ((c.tc : Thread Cert.OutLruReferenceIdeal.nD Cert.OutLruReferenceIdeal.τ).loc Cert.OutLruReferenceIdeal.main_arg2) = m ((c.tc : Thread Cert.OutLruReferenceIdeal.nD Cert.OutLruReferenceIdeal.τ).loc Cert.OutLruReferenceIdeal.main_arg2)
      ∧ r.2.mem ((c.tc : Thread Cert.OutLruReferenceIdeal.nD Cert.OutLruReferenceIdeal.τ).loc Cert.OutLruReferenceIdeal.main_arg3) = m ((c.tc : Thread Cert.OutLruReferenceIdeal.nD Cert.OutLruReferenceIdeal.τ).loc Cert.OutLruReferenceIdeal.main_arg3)
      ∧ r.2.mem ((c.tc : Thread Cert.OutLruReferenceIdeal.nD Cert.OutLruReferenceIdeal.τ).loc Cert.OutLruReferenceIdeal.main_arg4) = m ((c.tc : Thread Cert.OutLruReferenceIdeal.nD Cert.OutLruReferenceIdeal.τ).loc Cert.OutLruReferenceIdeal.main_arg4)
      ∧ r.2.mem ((c.tc : Thread Cert.OutLruReferenceIdeal.nD Cert.OutLruReferenceIdeal.τ).loc Cert.OutLruReferenceIdeal.main_arg5) = m ((c.tc : Thread Cert.OutLruReferenceIdeal.nD Cert.OutLruReferenceIdeal.τ).loc Cert.OutLruReferenceIdeal.main_arg5))
      ∧ r.2.sem = fun _ => 0)

def quiescent_OutMix [hOutMix : Cert.OutMix.Facts] : Prop :=
  ∀ (m : (ℓ : Loc Cert.OutMix.nD Cert.OutMix.τ Cert.OutMix.sig) → Buf (Elt Bits) ℓ) (g : Dev Cert.OutMix.nD → PrngReg), Pre_OutMix m →
    θ_run (Cert.OutMix.defs (F := Bits)) (onTc (τ := Cert.OutMix.τ) (Cert.OutMix.main (F := Bits))) ⟨m, fun _ => 0, g⟩ (fun r => (∀ c : Dev Cert.OutMix.nD,
      r.2.mem ((c.tc : Thread Cert.OutMix.nD Cert.OutMix.τ).loc Cert.OutMix.main_arg0) = m ((c.tc : Thread Cert.OutMix.nD Cert.OutMix.τ).loc Cert.OutMix.main_arg0)
      ∧ r.2.mem ((c.tc : Thread Cert.OutMix.nD Cert.OutMix.τ).loc Cert.OutMix.main_arg1) = m ((c.tc : Thread Cert.OutMix.nD Cert.OutMix.τ).loc Cert.OutMix.main_arg1)
      ∧ r.2.mem ((c.tc : Thread Cert.OutMix.nD Cert.OutMix.τ).loc Cert.OutMix.main_arg2) = m ((c.tc : Thread Cert.OutMix.nD Cert.OutMix.τ).loc Cert.OutMix.main_arg2)
      ∧ r.2.mem ((c.tc : Thread Cert.OutMix.nD Cert.OutMix.τ).loc Cert.OutMix.main_arg3) = m ((c.tc : Thread Cert.OutMix.nD Cert.OutMix.τ).loc Cert.OutMix.main_arg3)
      ∧ r.2.mem ((c.tc : Thread Cert.OutMix.nD Cert.OutMix.τ).loc Cert.OutMix.main_arg4) = m ((c.tc : Thread Cert.OutMix.nD Cert.OutMix.τ).loc Cert.OutMix.main_arg4)
      ∧ r.2.mem ((c.tc : Thread Cert.OutMix.nD Cert.OutMix.τ).loc Cert.OutMix.main_arg5) = m ((c.tc : Thread Cert.OutMix.nD Cert.OutMix.τ).loc Cert.OutMix.main_arg5))
      ∧ r.2.sem = fun _ => 0)

def quiescent_OutMixIdeal [hOutMixIdeal : Cert.OutMixIdeal.Facts] : Prop :=
  ∀ (m : (ℓ : Loc Cert.OutMixIdeal.nD Cert.OutMixIdeal.τ Cert.OutMixIdeal.sig) → Buf (Elt Ideal) ℓ) (g : Dev Cert.OutMixIdeal.nD → PrngReg), Pre_OutMixIdeal m →
    θ_run (Cert.OutMixIdeal.defs (F := Ideal)) (onTc (τ := Cert.OutMixIdeal.τ) (Cert.OutMixIdeal.main (F := Ideal))) ⟨m, fun _ => 0, g⟩ (fun r => (∀ c : Dev Cert.OutMixIdeal.nD,
      r.2.mem ((c.tc : Thread Cert.OutMixIdeal.nD Cert.OutMixIdeal.τ).loc Cert.OutMixIdeal.main_arg0) = m ((c.tc : Thread Cert.OutMixIdeal.nD Cert.OutMixIdeal.τ).loc Cert.OutMixIdeal.main_arg0)
      ∧ r.2.mem ((c.tc : Thread Cert.OutMixIdeal.nD Cert.OutMixIdeal.τ).loc Cert.OutMixIdeal.main_arg1) = m ((c.tc : Thread Cert.OutMixIdeal.nD Cert.OutMixIdeal.τ).loc Cert.OutMixIdeal.main_arg1)
      ∧ r.2.mem ((c.tc : Thread Cert.OutMixIdeal.nD Cert.OutMixIdeal.τ).loc Cert.OutMixIdeal.main_arg2) = m ((c.tc : Thread Cert.OutMixIdeal.nD Cert.OutMixIdeal.τ).loc Cert.OutMixIdeal.main_arg2)
      ∧ r.2.mem ((c.tc : Thread Cert.OutMixIdeal.nD Cert.OutMixIdeal.τ).loc Cert.OutMixIdeal.main_arg3) = m ((c.tc : Thread Cert.OutMixIdeal.nD Cert.OutMixIdeal.τ).loc Cert.OutMixIdeal.main_arg3)
      ∧ r.2.mem ((c.tc : Thread Cert.OutMixIdeal.nD Cert.OutMixIdeal.τ).loc Cert.OutMixIdeal.main_arg4) = m ((c.tc : Thread Cert.OutMixIdeal.nD Cert.OutMixIdeal.τ).loc Cert.OutMixIdeal.main_arg4)
      ∧ r.2.mem ((c.tc : Thread Cert.OutMixIdeal.nD Cert.OutMixIdeal.τ).loc Cert.OutMixIdeal.main_arg5) = m ((c.tc : Thread Cert.OutMixIdeal.nD Cert.OutMixIdeal.τ).loc Cert.OutMixIdeal.main_arg5))
      ∧ r.2.sem = fun _ => 0)

def quiescent_OutMixReferenceIdeal [hOutMixReferenceIdeal : Cert.OutMixReferenceIdeal.Facts] : Prop :=
  ∀ (m : (ℓ : Loc Cert.OutMixReferenceIdeal.nD Cert.OutMixReferenceIdeal.τ Cert.OutMixReferenceIdeal.sig) → Buf (Elt Ideal) ℓ) (g : Dev Cert.OutMixReferenceIdeal.nD → PrngReg), Pre_OutMixReferenceIdeal m →
    θ_run (Cert.OutMixReferenceIdeal.defs (F := Ideal)) (onTc (τ := Cert.OutMixReferenceIdeal.τ) (Cert.OutMixReferenceIdeal.main (F := Ideal))) ⟨m, fun _ => 0, g⟩ (fun r => (∀ c : Dev Cert.OutMixReferenceIdeal.nD,
      r.2.mem ((c.tc : Thread Cert.OutMixReferenceIdeal.nD Cert.OutMixReferenceIdeal.τ).loc Cert.OutMixReferenceIdeal.main_arg0) = m ((c.tc : Thread Cert.OutMixReferenceIdeal.nD Cert.OutMixReferenceIdeal.τ).loc Cert.OutMixReferenceIdeal.main_arg0)
      ∧ r.2.mem ((c.tc : Thread Cert.OutMixReferenceIdeal.nD Cert.OutMixReferenceIdeal.τ).loc Cert.OutMixReferenceIdeal.main_arg1) = m ((c.tc : Thread Cert.OutMixReferenceIdeal.nD Cert.OutMixReferenceIdeal.τ).loc Cert.OutMixReferenceIdeal.main_arg1)
      ∧ r.2.mem ((c.tc : Thread Cert.OutMixReferenceIdeal.nD Cert.OutMixReferenceIdeal.τ).loc Cert.OutMixReferenceIdeal.main_arg2) = m ((c.tc : Thread Cert.OutMixReferenceIdeal.nD Cert.OutMixReferenceIdeal.τ).loc Cert.OutMixReferenceIdeal.main_arg2)
      ∧ r.2.mem ((c.tc : Thread Cert.OutMixReferenceIdeal.nD Cert.OutMixReferenceIdeal.τ).loc Cert.OutMixReferenceIdeal.main_arg3) = m ((c.tc : Thread Cert.OutMixReferenceIdeal.nD Cert.OutMixReferenceIdeal.τ).loc Cert.OutMixReferenceIdeal.main_arg3)
      ∧ r.2.mem ((c.tc : Thread Cert.OutMixReferenceIdeal.nD Cert.OutMixReferenceIdeal.τ).loc Cert.OutMixReferenceIdeal.main_arg4) = m ((c.tc : Thread Cert.OutMixReferenceIdeal.nD Cert.OutMixReferenceIdeal.τ).loc Cert.OutMixReferenceIdeal.main_arg4)
      ∧ r.2.mem ((c.tc : Thread Cert.OutMixReferenceIdeal.nD Cert.OutMixReferenceIdeal.τ).loc Cert.OutMixReferenceIdeal.main_arg5) = m ((c.tc : Thread Cert.OutMixReferenceIdeal.nD Cert.OutMixReferenceIdeal.τ).loc Cert.OutMixReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_OutA_OutAIdeal : Prop :=
  True

def algebraic_OutAIdeal_OutAReferenceIdeal [hOutAIdeal : Cert.OutAIdeal.Facts] [hOutAReferenceIdeal : Cert.OutAReferenceIdeal.Facts] : Prop :=
  ∀ (m : (ℓ : Loc Cert.OutAIdeal.nD Cert.OutAIdeal.τ Cert.OutAIdeal.sig) → Buf (Elt Ideal) ℓ) (g : Dev Cert.OutAIdeal.nD → PrngReg)
    (m' : (ℓ : Loc Cert.OutAReferenceIdeal.nD Cert.OutAReferenceIdeal.τ Cert.OutAReferenceIdeal.sig) → Buf (Elt Ideal) ℓ) (g' : Dev Cert.OutAReferenceIdeal.nD → PrngReg), Pre_OutAIdeal m →
    (∀ c : Dev Cert.OutAIdeal.nD,
      m' ((c.tc : Thread Cert.OutAReferenceIdeal.nD Cert.OutAReferenceIdeal.τ).loc Cert.OutAReferenceIdeal.main_arg0) = m ((c.tc : Thread Cert.OutAIdeal.nD Cert.OutAIdeal.τ).loc Cert.OutAIdeal.main_arg0)
      ∧ m' ((c.tc : Thread Cert.OutAReferenceIdeal.nD Cert.OutAReferenceIdeal.τ).loc Cert.OutAReferenceIdeal.main_arg1) = m ((c.tc : Thread Cert.OutAIdeal.nD Cert.OutAIdeal.τ).loc Cert.OutAIdeal.main_arg1)
      ∧ m' ((c.tc : Thread Cert.OutAReferenceIdeal.nD Cert.OutAReferenceIdeal.τ).loc Cert.OutAReferenceIdeal.main_arg2) = m ((c.tc : Thread Cert.OutAIdeal.nD Cert.OutAIdeal.τ).loc Cert.OutAIdeal.main_arg2)
      ∧ m' ((c.tc : Thread Cert.OutAReferenceIdeal.nD Cert.OutAReferenceIdeal.τ).loc Cert.OutAReferenceIdeal.main_arg3) = m ((c.tc : Thread Cert.OutAIdeal.nD Cert.OutAIdeal.τ).loc Cert.OutAIdeal.main_arg3)
      ∧ m' ((c.tc : Thread Cert.OutAReferenceIdeal.nD Cert.OutAReferenceIdeal.τ).loc Cert.OutAReferenceIdeal.main_arg4) = m ((c.tc : Thread Cert.OutAIdeal.nD Cert.OutAIdeal.τ).loc Cert.OutAIdeal.main_arg4)
      ∧ m' ((c.tc : Thread Cert.OutAReferenceIdeal.nD Cert.OutAReferenceIdeal.τ).loc Cert.OutAReferenceIdeal.main_arg5) = m ((c.tc : Thread Cert.OutAIdeal.nD Cert.OutAIdeal.τ).loc Cert.OutAIdeal.main_arg5)) →
    ∃ (v0 : (c : Dev Cert.OutAIdeal.nD) → Buf (Elt Ideal) ((c.tc : Thread Cert.OutAIdeal.nD Cert.OutAIdeal.τ).loc Cert.OutAIdeal.main_v1_0)) (v1 : (c : Dev Cert.OutAIdeal.nD) → Buf (Elt Ideal) ((c.tc : Thread Cert.OutAIdeal.nD Cert.OutAIdeal.τ).loc Cert.OutAIdeal.main_v1_1)),
      θ_run (Cert.OutAIdeal.defs (F := Ideal)) (onTc (τ := Cert.OutAIdeal.τ) (Cert.OutAIdeal.main (F := Ideal))) ⟨m, fun _ => 0, g⟩ (fun r => ∀ c : Dev Cert.OutAIdeal.nD,
          r.2.mem ((c.tc : Thread Cert.OutAIdeal.nD Cert.OutAIdeal.τ).loc Cert.OutAIdeal.main_v1_0) = v0 c
          ∧ r.2.mem ((c.tc : Thread Cert.OutAIdeal.nD Cert.OutAIdeal.τ).loc Cert.OutAIdeal.main_v1_1) = v1 c
          ∧ r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
          ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
          ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2)
          ∧ r.2.mem ((c.tc : Thread Cert.OutAIdeal.nD Cert.OutAIdeal.τ).loc Cert.OutAIdeal.main_arg3) = m ((c.tc : Thread Cert.OutAIdeal.nD Cert.OutAIdeal.τ).loc Cert.OutAIdeal.main_arg3)
          ∧ r.2.mem ((c.tc : Thread Cert.OutAIdeal.nD Cert.OutAIdeal.τ).loc Cert.OutAIdeal.main_arg4) = m ((c.tc : Thread Cert.OutAIdeal.nD Cert.OutAIdeal.τ).loc Cert.OutAIdeal.main_arg4)
          ∧ r.2.mem ((c.tc : Thread Cert.OutAIdeal.nD Cert.OutAIdeal.τ).loc Cert.OutAIdeal.main_arg5) = m ((c.tc : Thread Cert.OutAIdeal.nD Cert.OutAIdeal.τ).loc Cert.OutAIdeal.main_arg5))
      ∧ θ_run (Cert.OutAReferenceIdeal.defs (F := Ideal)) (onTc (τ := Cert.OutAReferenceIdeal.τ) (Cert.OutAReferenceIdeal.main (F := Ideal))) ⟨m', fun _ => 0, g'⟩ (fun r => ∀ c : Dev Cert.OutAReferenceIdeal.nD,
          r.2.mem ((c.tc : Thread Cert.OutAReferenceIdeal.nD Cert.OutAReferenceIdeal.τ).loc Cert.OutAReferenceIdeal.main_v9) = v0 c
          ∧ r.2.mem ((c.tc : Thread Cert.OutAReferenceIdeal.nD Cert.OutAReferenceIdeal.τ).loc Cert.OutAReferenceIdeal.main_v21) = v1 c
          ∧ r.2.mem ((c.tc : Thread Cert.OutAReferenceIdeal.nD Cert.OutAReferenceIdeal.τ).loc Cert.OutAReferenceIdeal.main_arg0) = m' ((c.tc : Thread Cert.OutAReferenceIdeal.nD Cert.OutAReferenceIdeal.τ).loc Cert.OutAReferenceIdeal.main_arg0)
          ∧ r.2.mem ((c.tc : Thread Cert.OutAReferenceIdeal.nD Cert.OutAReferenceIdeal.τ).loc Cert.OutAReferenceIdeal.main_arg1) = m' ((c.tc : Thread Cert.OutAReferenceIdeal.nD Cert.OutAReferenceIdeal.τ).loc Cert.OutAReferenceIdeal.main_arg1)
          ∧ r.2.mem ((c.tc : Thread Cert.OutAReferenceIdeal.nD Cert.OutAReferenceIdeal.τ).loc Cert.OutAReferenceIdeal.main_arg2) = m' ((c.tc : Thread Cert.OutAReferenceIdeal.nD Cert.OutAReferenceIdeal.τ).loc Cert.OutAReferenceIdeal.main_arg2)
          ∧ r.2.mem ((c.tc : Thread Cert.OutAReferenceIdeal.nD Cert.OutAReferenceIdeal.τ).loc Cert.OutAReferenceIdeal.main_arg3) = m' ((c.tc : Thread Cert.OutAReferenceIdeal.nD Cert.OutAReferenceIdeal.τ).loc Cert.OutAReferenceIdeal.main_arg3)
          ∧ r.2.mem ((c.tc : Thread Cert.OutAReferenceIdeal.nD Cert.OutAReferenceIdeal.τ).loc Cert.OutAReferenceIdeal.main_arg4) = m' ((c.tc : Thread Cert.OutAReferenceIdeal.nD Cert.OutAReferenceIdeal.τ).loc Cert.OutAReferenceIdeal.main_arg4)
          ∧ r.2.mem ((c.tc : Thread Cert.OutAReferenceIdeal.nD Cert.OutAReferenceIdeal.τ).loc Cert.OutAReferenceIdeal.main_arg5) = m' ((c.tc : Thread Cert.OutAReferenceIdeal.nD Cert.OutAReferenceIdeal.τ).loc Cert.OutAReferenceIdeal.main_arg5))

def preserves_OutB_OutBIdeal : Prop :=
  True

def algebraic_OutBIdeal_OutBReferenceIdeal [hOutBIdeal : Cert.OutBIdeal.Facts] [hOutBReferenceIdeal : Cert.OutBReferenceIdeal.Facts] : Prop :=
  ∀ (m : (ℓ : Loc Cert.OutBIdeal.nD Cert.OutBIdeal.τ Cert.OutBIdeal.sig) → Buf (Elt Ideal) ℓ) (g : Dev Cert.OutBIdeal.nD → PrngReg)
    (m' : (ℓ : Loc Cert.OutBReferenceIdeal.nD Cert.OutBReferenceIdeal.τ Cert.OutBReferenceIdeal.sig) → Buf (Elt Ideal) ℓ) (g' : Dev Cert.OutBReferenceIdeal.nD → PrngReg), Pre_OutBIdeal m →
    (∀ c : Dev Cert.OutBIdeal.nD,
      m' ((c.tc : Thread Cert.OutBReferenceIdeal.nD Cert.OutBReferenceIdeal.τ).loc Cert.OutBReferenceIdeal.main_arg0) = m ((c.tc : Thread Cert.OutBIdeal.nD Cert.OutBIdeal.τ).loc Cert.OutBIdeal.main_arg0)
      ∧ m' ((c.tc : Thread Cert.OutBReferenceIdeal.nD Cert.OutBReferenceIdeal.τ).loc Cert.OutBReferenceIdeal.main_arg1) = m ((c.tc : Thread Cert.OutBIdeal.nD Cert.OutBIdeal.τ).loc Cert.OutBIdeal.main_arg1)
      ∧ m' ((c.tc : Thread Cert.OutBReferenceIdeal.nD Cert.OutBReferenceIdeal.τ).loc Cert.OutBReferenceIdeal.main_arg2) = m ((c.tc : Thread Cert.OutBIdeal.nD Cert.OutBIdeal.τ).loc Cert.OutBIdeal.main_arg2)
      ∧ m' ((c.tc : Thread Cert.OutBReferenceIdeal.nD Cert.OutBReferenceIdeal.τ).loc Cert.OutBReferenceIdeal.main_arg3) = m ((c.tc : Thread Cert.OutBIdeal.nD Cert.OutBIdeal.τ).loc Cert.OutBIdeal.main_arg3)
      ∧ m' ((c.tc : Thread Cert.OutBReferenceIdeal.nD Cert.OutBReferenceIdeal.τ).loc Cert.OutBReferenceIdeal.main_arg4) = m ((c.tc : Thread Cert.OutBIdeal.nD Cert.OutBIdeal.τ).loc Cert.OutBIdeal.main_arg4)
      ∧ m' ((c.tc : Thread Cert.OutBReferenceIdeal.nD Cert.OutBReferenceIdeal.τ).loc Cert.OutBReferenceIdeal.main_arg5) = m ((c.tc : Thread Cert.OutBIdeal.nD Cert.OutBIdeal.τ).loc Cert.OutBIdeal.main_arg5)) →
    ∃ (v0 : (c : Dev Cert.OutBIdeal.nD) → Buf (Elt Ideal) ((c.tc : Thread Cert.OutBIdeal.nD Cert.OutBIdeal.τ).loc Cert.OutBIdeal.main_v1_0)) (v1 : (c : Dev Cert.OutBIdeal.nD) → Buf (Elt Ideal) ((c.tc : Thread Cert.OutBIdeal.nD Cert.OutBIdeal.τ).loc Cert.OutBIdeal.main_v1_1)),
      θ_run (Cert.OutBIdeal.defs (F := Ideal)) (onTc (τ := Cert.OutBIdeal.τ) (Cert.OutBIdeal.main (F := Ideal))) ⟨m, fun _ => 0, g⟩ (fun r => ∀ c : Dev Cert.OutBIdeal.nD,
          r.2.mem ((c.tc : Thread Cert.OutBIdeal.nD Cert.OutBIdeal.τ).loc Cert.OutBIdeal.main_v1_0) = v0 c
          ∧ r.2.mem ((c.tc : Thread Cert.OutBIdeal.nD Cert.OutBIdeal.τ).loc Cert.OutBIdeal.main_v1_1) = v1 c
          ∧ r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
          ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
          ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2)
          ∧ r.2.mem ((c.tc : Thread Cert.OutBIdeal.nD Cert.OutBIdeal.τ).loc Cert.OutBIdeal.main_arg3) = m ((c.tc : Thread Cert.OutBIdeal.nD Cert.OutBIdeal.τ).loc Cert.OutBIdeal.main_arg3)
          ∧ r.2.mem ((c.tc : Thread Cert.OutBIdeal.nD Cert.OutBIdeal.τ).loc Cert.OutBIdeal.main_arg4) = m ((c.tc : Thread Cert.OutBIdeal.nD Cert.OutBIdeal.τ).loc Cert.OutBIdeal.main_arg4)
          ∧ r.2.mem ((c.tc : Thread Cert.OutBIdeal.nD Cert.OutBIdeal.τ).loc Cert.OutBIdeal.main_arg5) = m ((c.tc : Thread Cert.OutBIdeal.nD Cert.OutBIdeal.τ).loc Cert.OutBIdeal.main_arg5))
      ∧ θ_run (Cert.OutBReferenceIdeal.defs (F := Ideal)) (onTc (τ := Cert.OutBReferenceIdeal.τ) (Cert.OutBReferenceIdeal.main (F := Ideal))) ⟨m', fun _ => 0, g'⟩ (fun r => ∀ c : Dev Cert.OutBReferenceIdeal.nD,
          r.2.mem ((c.tc : Thread Cert.OutBReferenceIdeal.nD Cert.OutBReferenceIdeal.τ).loc Cert.OutBReferenceIdeal.main_v9) = v0 c
          ∧ r.2.mem ((c.tc : Thread Cert.OutBReferenceIdeal.nD Cert.OutBReferenceIdeal.τ).loc Cert.OutBReferenceIdeal.main_v21) = v1 c
          ∧ r.2.mem ((c.tc : Thread Cert.OutBReferenceIdeal.nD Cert.OutBReferenceIdeal.τ).loc Cert.OutBReferenceIdeal.main_arg0) = m' ((c.tc : Thread Cert.OutBReferenceIdeal.nD Cert.OutBReferenceIdeal.τ).loc Cert.OutBReferenceIdeal.main_arg0)
          ∧ r.2.mem ((c.tc : Thread Cert.OutBReferenceIdeal.nD Cert.OutBReferenceIdeal.τ).loc Cert.OutBReferenceIdeal.main_arg1) = m' ((c.tc : Thread Cert.OutBReferenceIdeal.nD Cert.OutBReferenceIdeal.τ).loc Cert.OutBReferenceIdeal.main_arg1)
          ∧ r.2.mem ((c.tc : Thread Cert.OutBReferenceIdeal.nD Cert.OutBReferenceIdeal.τ).loc Cert.OutBReferenceIdeal.main_arg2) = m' ((c.tc : Thread Cert.OutBReferenceIdeal.nD Cert.OutBReferenceIdeal.τ).loc Cert.OutBReferenceIdeal.main_arg2)
          ∧ r.2.mem ((c.tc : Thread Cert.OutBReferenceIdeal.nD Cert.OutBReferenceIdeal.τ).loc Cert.OutBReferenceIdeal.main_arg3) = m' ((c.tc : Thread Cert.OutBReferenceIdeal.nD Cert.OutBReferenceIdeal.τ).loc Cert.OutBReferenceIdeal.main_arg3)
          ∧ r.2.mem ((c.tc : Thread Cert.OutBReferenceIdeal.nD Cert.OutBReferenceIdeal.τ).loc Cert.OutBReferenceIdeal.main_arg4) = m' ((c.tc : Thread Cert.OutBReferenceIdeal.nD Cert.OutBReferenceIdeal.τ).loc Cert.OutBReferenceIdeal.main_arg4)
          ∧ r.2.mem ((c.tc : Thread Cert.OutBReferenceIdeal.nD Cert.OutBReferenceIdeal.τ).loc Cert.OutBReferenceIdeal.main_arg5) = m' ((c.tc : Thread Cert.OutBReferenceIdeal.nD Cert.OutBReferenceIdeal.τ).loc Cert.OutBReferenceIdeal.main_arg5))

def preserves_OutLru_OutLruIdeal : Prop :=
  True

def algebraic_OutLruIdeal_OutLruReferenceIdeal [hOutLruIdeal : Cert.OutLruIdeal.Facts] [hOutLruReferenceIdeal : Cert.OutLruReferenceIdeal.Facts] : Prop :=
  ∀ (m : (ℓ : Loc Cert.OutLruIdeal.nD Cert.OutLruIdeal.τ Cert.OutLruIdeal.sig) → Buf (Elt Ideal) ℓ) (g : Dev Cert.OutLruIdeal.nD → PrngReg)
    (m' : (ℓ : Loc Cert.OutLruReferenceIdeal.nD Cert.OutLruReferenceIdeal.τ Cert.OutLruReferenceIdeal.sig) → Buf (Elt Ideal) ℓ) (g' : Dev Cert.OutLruReferenceIdeal.nD → PrngReg), Pre_OutLruIdeal m →
    (∀ c : Dev Cert.OutLruIdeal.nD,
      m' ((c.tc : Thread Cert.OutLruReferenceIdeal.nD Cert.OutLruReferenceIdeal.τ).loc Cert.OutLruReferenceIdeal.main_arg0) = m ((c.tc : Thread Cert.OutLruIdeal.nD Cert.OutLruIdeal.τ).loc Cert.OutLruIdeal.main_arg0)
      ∧ m' ((c.tc : Thread Cert.OutLruReferenceIdeal.nD Cert.OutLruReferenceIdeal.τ).loc Cert.OutLruReferenceIdeal.main_arg1) = m ((c.tc : Thread Cert.OutLruIdeal.nD Cert.OutLruIdeal.τ).loc Cert.OutLruIdeal.main_arg1)
      ∧ m' ((c.tc : Thread Cert.OutLruReferenceIdeal.nD Cert.OutLruReferenceIdeal.τ).loc Cert.OutLruReferenceIdeal.main_arg2) = m ((c.tc : Thread Cert.OutLruIdeal.nD Cert.OutLruIdeal.τ).loc Cert.OutLruIdeal.main_arg2)
      ∧ m' ((c.tc : Thread Cert.OutLruReferenceIdeal.nD Cert.OutLruReferenceIdeal.τ).loc Cert.OutLruReferenceIdeal.main_arg3) = m ((c.tc : Thread Cert.OutLruIdeal.nD Cert.OutLruIdeal.τ).loc Cert.OutLruIdeal.main_arg3)
      ∧ m' ((c.tc : Thread Cert.OutLruReferenceIdeal.nD Cert.OutLruReferenceIdeal.τ).loc Cert.OutLruReferenceIdeal.main_arg4) = m ((c.tc : Thread Cert.OutLruIdeal.nD Cert.OutLruIdeal.τ).loc Cert.OutLruIdeal.main_arg4)
      ∧ m' ((c.tc : Thread Cert.OutLruReferenceIdeal.nD Cert.OutLruReferenceIdeal.τ).loc Cert.OutLruReferenceIdeal.main_arg5) = m ((c.tc : Thread Cert.OutLruIdeal.nD Cert.OutLruIdeal.τ).loc Cert.OutLruIdeal.main_arg5)) →
    ∃ (v0 : (c : Dev Cert.OutLruIdeal.nD) → Buf (Elt Ideal) ((c.tc : Thread Cert.OutLruIdeal.nD Cert.OutLruIdeal.τ).loc Cert.OutLruIdeal.main_v1_0)) (v1 : (c : Dev Cert.OutLruIdeal.nD) → Buf (Elt Ideal) ((c.tc : Thread Cert.OutLruIdeal.nD Cert.OutLruIdeal.τ).loc Cert.OutLruIdeal.main_v1_1)),
      θ_run (Cert.OutLruIdeal.defs (F := Ideal)) (onTc (τ := Cert.OutLruIdeal.τ) (Cert.OutLruIdeal.main (F := Ideal))) ⟨m, fun _ => 0, g⟩ (fun r => ∀ c : Dev Cert.OutLruIdeal.nD,
          r.2.mem ((c.tc : Thread Cert.OutLruIdeal.nD Cert.OutLruIdeal.τ).loc Cert.OutLruIdeal.main_v1_0) = v0 c
          ∧ r.2.mem ((c.tc : Thread Cert.OutLruIdeal.nD Cert.OutLruIdeal.τ).loc Cert.OutLruIdeal.main_v1_1) = v1 c
          ∧ r.2.mem ((c.tc : Thread Cert.OutLruIdeal.nD Cert.OutLruIdeal.τ).loc Cert.OutLruIdeal.main_arg0) = m ((c.tc : Thread Cert.OutLruIdeal.nD Cert.OutLruIdeal.τ).loc Cert.OutLruIdeal.main_arg0)
          ∧ r.2.mem ((c.tc : Thread Cert.OutLruIdeal.nD Cert.OutLruIdeal.τ).loc Cert.OutLruIdeal.main_arg1) = m ((c.tc : Thread Cert.OutLruIdeal.nD Cert.OutLruIdeal.τ).loc Cert.OutLruIdeal.main_arg1)
          ∧ r.2.mem ((c.tc : Thread Cert.OutLruIdeal.nD Cert.OutLruIdeal.τ).loc Cert.OutLruIdeal.main_arg2) = m ((c.tc : Thread Cert.OutLruIdeal.nD Cert.OutLruIdeal.τ).loc Cert.OutLruIdeal.main_arg2)
          ∧ r.2.mem ((c.tc : Thread Cert.OutLruIdeal.nD Cert.OutLruIdeal.τ).loc Cert.OutLruIdeal.main_arg3) = m ((c.tc : Thread Cert.OutLruIdeal.nD Cert.OutLruIdeal.τ).loc Cert.OutLruIdeal.main_arg3)
          ∧ r.2.mem ((c.tc : Thread Cert.OutLruIdeal.nD Cert.OutLruIdeal.τ).loc Cert.OutLruIdeal.main_arg4) = m ((c.tc : Thread Cert.OutLruIdeal.nD Cert.OutLruIdeal.τ).loc Cert.OutLruIdeal.main_arg4)
          ∧ r.2.mem ((c.tc : Thread Cert.OutLruIdeal.nD Cert.OutLruIdeal.τ).loc Cert.OutLruIdeal.main_arg5) = m ((c.tc : Thread Cert.OutLruIdeal.nD Cert.OutLruIdeal.τ).loc Cert.OutLruIdeal.main_arg5))
      ∧ θ_run (Cert.OutLruReferenceIdeal.defs (F := Ideal)) (onTc (τ := Cert.OutLruReferenceIdeal.τ) (Cert.OutLruReferenceIdeal.main (F := Ideal))) ⟨m', fun _ => 0, g'⟩ (fun r => ∀ c : Dev Cert.OutLruReferenceIdeal.nD,
          r.2.mem ((c.tc : Thread Cert.OutLruReferenceIdeal.nD Cert.OutLruReferenceIdeal.τ).loc Cert.OutLruReferenceIdeal.main_v6) = v0 c
          ∧ r.2.mem ((c.tc : Thread Cert.OutLruReferenceIdeal.nD Cert.OutLruReferenceIdeal.τ).loc Cert.OutLruReferenceIdeal.main_v17) = v1 c
          ∧ r.2.mem ((c.tc : Thread Cert.OutLruReferenceIdeal.nD Cert.OutLruReferenceIdeal.τ).loc Cert.OutLruReferenceIdeal.main_arg0) = m' ((c.tc : Thread Cert.OutLruReferenceIdeal.nD Cert.OutLruReferenceIdeal.τ).loc Cert.OutLruReferenceIdeal.main_arg0)
          ∧ r.2.mem ((c.tc : Thread Cert.OutLruReferenceIdeal.nD Cert.OutLruReferenceIdeal.τ).loc Cert.OutLruReferenceIdeal.main_arg1) = m' ((c.tc : Thread Cert.OutLruReferenceIdeal.nD Cert.OutLruReferenceIdeal.τ).loc Cert.OutLruReferenceIdeal.main_arg1)
          ∧ r.2.mem ((c.tc : Thread Cert.OutLruReferenceIdeal.nD Cert.OutLruReferenceIdeal.τ).loc Cert.OutLruReferenceIdeal.main_arg2) = m' ((c.tc : Thread Cert.OutLruReferenceIdeal.nD Cert.OutLruReferenceIdeal.τ).loc Cert.OutLruReferenceIdeal.main_arg2)
          ∧ r.2.mem ((c.tc : Thread Cert.OutLruReferenceIdeal.nD Cert.OutLruReferenceIdeal.τ).loc Cert.OutLruReferenceIdeal.main_arg3) = m' ((c.tc : Thread Cert.OutLruReferenceIdeal.nD Cert.OutLruReferenceIdeal.τ).loc Cert.OutLruReferenceIdeal.main_arg3)
          ∧ r.2.mem ((c.tc : Thread Cert.OutLruReferenceIdeal.nD Cert.OutLruReferenceIdeal.τ).loc Cert.OutLruReferenceIdeal.main_arg4) = m' ((c.tc : Thread Cert.OutLruReferenceIdeal.nD Cert.OutLruReferenceIdeal.τ).loc Cert.OutLruReferenceIdeal.main_arg4)
          ∧ r.2.mem ((c.tc : Thread Cert.OutLruReferenceIdeal.nD Cert.OutLruReferenceIdeal.τ).loc Cert.OutLruReferenceIdeal.main_arg5) = m' ((c.tc : Thread Cert.OutLruReferenceIdeal.nD Cert.OutLruReferenceIdeal.τ).loc Cert.OutLruReferenceIdeal.main_arg5))

def preserves_OutMix_OutMixIdeal : Prop :=
  True

def algebraic_OutMixIdeal_OutMixReferenceIdeal [hOutMixIdeal : Cert.OutMixIdeal.Facts] [hOutMixReferenceIdeal : Cert.OutMixReferenceIdeal.Facts] : Prop :=
  ∀ (m : (ℓ : Loc Cert.OutMixIdeal.nD Cert.OutMixIdeal.τ Cert.OutMixIdeal.sig) → Buf (Elt Ideal) ℓ) (g : Dev Cert.OutMixIdeal.nD → PrngReg)
    (m' : (ℓ : Loc Cert.OutMixReferenceIdeal.nD Cert.OutMixReferenceIdeal.τ Cert.OutMixReferenceIdeal.sig) → Buf (Elt Ideal) ℓ) (g' : Dev Cert.OutMixReferenceIdeal.nD → PrngReg), Pre_OutMixIdeal m →
    (∀ c : Dev Cert.OutMixIdeal.nD,
      m' ((c.tc : Thread Cert.OutMixReferenceIdeal.nD Cert.OutMixReferenceIdeal.τ).loc Cert.OutMixReferenceIdeal.main_arg0) = m ((c.tc : Thread Cert.OutMixIdeal.nD Cert.OutMixIdeal.τ).loc Cert.OutMixIdeal.main_arg0)
      ∧ m' ((c.tc : Thread Cert.OutMixReferenceIdeal.nD Cert.OutMixReferenceIdeal.τ).loc Cert.OutMixReferenceIdeal.main_arg1) = m ((c.tc : Thread Cert.OutMixIdeal.nD Cert.OutMixIdeal.τ).loc Cert.OutMixIdeal.main_arg1)
      ∧ m' ((c.tc : Thread Cert.OutMixReferenceIdeal.nD Cert.OutMixReferenceIdeal.τ).loc Cert.OutMixReferenceIdeal.main_arg2) = m ((c.tc : Thread Cert.OutMixIdeal.nD Cert.OutMixIdeal.τ).loc Cert.OutMixIdeal.main_arg2)
      ∧ m' ((c.tc : Thread Cert.OutMixReferenceIdeal.nD Cert.OutMixReferenceIdeal.τ).loc Cert.OutMixReferenceIdeal.main_arg3) = m ((c.tc : Thread Cert.OutMixIdeal.nD Cert.OutMixIdeal.τ).loc Cert.OutMixIdeal.main_arg3)
      ∧ m' ((c.tc : Thread Cert.OutMixReferenceIdeal.nD Cert.OutMixReferenceIdeal.τ).loc Cert.OutMixReferenceIdeal.main_arg4) = m ((c.tc : Thread Cert.OutMixIdeal.nD Cert.OutMixIdeal.τ).loc Cert.OutMixIdeal.main_arg4)
      ∧ m' ((c.tc : Thread Cert.OutMixReferenceIdeal.nD Cert.OutMixReferenceIdeal.τ).loc Cert.OutMixReferenceIdeal.main_arg5) = m ((c.tc : Thread Cert.OutMixIdeal.nD Cert.OutMixIdeal.τ).loc Cert.OutMixIdeal.main_arg5)) →
    ∃ (v0 : (c : Dev Cert.OutMixIdeal.nD) → Buf (Elt Ideal) ((c.tc : Thread Cert.OutMixIdeal.nD Cert.OutMixIdeal.τ).loc Cert.OutMixIdeal.main_v1_0)) (v1 : (c : Dev Cert.OutMixIdeal.nD) → Buf (Elt Ideal) ((c.tc : Thread Cert.OutMixIdeal.nD Cert.OutMixIdeal.τ).loc Cert.OutMixIdeal.main_v1_1)),
      θ_run (Cert.OutMixIdeal.defs (F := Ideal)) (onTc (τ := Cert.OutMixIdeal.τ) (Cert.OutMixIdeal.main (F := Ideal))) ⟨m, fun _ => 0, g⟩ (fun r => ∀ c : Dev Cert.OutMixIdeal.nD,
          r.2.mem ((c.tc : Thread Cert.OutMixIdeal.nD Cert.OutMixIdeal.τ).loc Cert.OutMixIdeal.main_v1_0) = v0 c
          ∧ r.2.mem ((c.tc : Thread Cert.OutMixIdeal.nD Cert.OutMixIdeal.τ).loc Cert.OutMixIdeal.main_v1_1) = v1 c
          ∧ r.2.mem ((c.tc : Thread Cert.OutMixIdeal.nD Cert.OutMixIdeal.τ).loc Cert.OutMixIdeal.main_arg0) = m ((c.tc : Thread Cert.OutMixIdeal.nD Cert.OutMixIdeal.τ).loc Cert.OutMixIdeal.main_arg0)
          ∧ r.2.mem ((c.tc : Thread Cert.OutMixIdeal.nD Cert.OutMixIdeal.τ).loc Cert.OutMixIdeal.main_arg1) = m ((c.tc : Thread Cert.OutMixIdeal.nD Cert.OutMixIdeal.τ).loc Cert.OutMixIdeal.main_arg1)
          ∧ r.2.mem ((c.tc : Thread Cert.OutMixIdeal.nD Cert.OutMixIdeal.τ).loc Cert.OutMixIdeal.main_arg2) = m ((c.tc : Thread Cert.OutMixIdeal.nD Cert.OutMixIdeal.τ).loc Cert.OutMixIdeal.main_arg2)
          ∧ r.2.mem ((c.tc : Thread Cert.OutMixIdeal.nD Cert.OutMixIdeal.τ).loc Cert.OutMixIdeal.main_arg3) = m ((c.tc : Thread Cert.OutMixIdeal.nD Cert.OutMixIdeal.τ).loc Cert.OutMixIdeal.main_arg3)
          ∧ r.2.mem ((c.tc : Thread Cert.OutMixIdeal.nD Cert.OutMixIdeal.τ).loc Cert.OutMixIdeal.main_arg4) = m ((c.tc : Thread Cert.OutMixIdeal.nD Cert.OutMixIdeal.τ).loc Cert.OutMixIdeal.main_arg4)
          ∧ r.2.mem ((c.tc : Thread Cert.OutMixIdeal.nD Cert.OutMixIdeal.τ).loc Cert.OutMixIdeal.main_arg5) = m ((c.tc : Thread Cert.OutMixIdeal.nD Cert.OutMixIdeal.τ).loc Cert.OutMixIdeal.main_arg5))
      ∧ θ_run (Cert.OutMixReferenceIdeal.defs (F := Ideal)) (onTc (τ := Cert.OutMixReferenceIdeal.τ) (Cert.OutMixReferenceIdeal.main (F := Ideal))) ⟨m', fun _ => 0, g'⟩ (fun r => ∀ c : Dev Cert.OutMixReferenceIdeal.nD,
          r.2.mem ((c.tc : Thread Cert.OutMixReferenceIdeal.nD Cert.OutMixReferenceIdeal.τ).loc Cert.OutMixReferenceIdeal.main_v5) = v0 c
          ∧ r.2.mem ((c.tc : Thread Cert.OutMixReferenceIdeal.nD Cert.OutMixReferenceIdeal.τ).loc Cert.OutMixReferenceIdeal.main_v15) = v1 c
          ∧ r.2.mem ((c.tc : Thread Cert.OutMixReferenceIdeal.nD Cert.OutMixReferenceIdeal.τ).loc Cert.OutMixReferenceIdeal.main_arg0) = m' ((c.tc : Thread Cert.OutMixReferenceIdeal.nD Cert.OutMixReferenceIdeal.τ).loc Cert.OutMixReferenceIdeal.main_arg0)
          ∧ r.2.mem ((c.tc : Thread Cert.OutMixReferenceIdeal.nD Cert.OutMixReferenceIdeal.τ).loc Cert.OutMixReferenceIdeal.main_arg1) = m' ((c.tc : Thread Cert.OutMixReferenceIdeal.nD Cert.OutMixReferenceIdeal.τ).loc Cert.OutMixReferenceIdeal.main_arg1)
          ∧ r.2.mem ((c.tc : Thread Cert.OutMixReferenceIdeal.nD Cert.OutMixReferenceIdeal.τ).loc Cert.OutMixReferenceIdeal.main_arg2) = m' ((c.tc : Thread Cert.OutMixReferenceIdeal.nD Cert.OutMixReferenceIdeal.τ).loc Cert.OutMixReferenceIdeal.main_arg2)
          ∧ r.2.mem ((c.tc : Thread Cert.OutMixReferenceIdeal.nD Cert.OutMixReferenceIdeal.τ).loc Cert.OutMixReferenceIdeal.main_arg3) = m' ((c.tc : Thread Cert.OutMixReferenceIdeal.nD Cert.OutMixReferenceIdeal.τ).loc Cert.OutMixReferenceIdeal.main_arg3)
          ∧ r.2.mem ((c.tc : Thread Cert.OutMixReferenceIdeal.nD Cert.OutMixReferenceIdeal.τ).loc Cert.OutMixReferenceIdeal.main_arg4) = m' ((c.tc : Thread Cert.OutMixReferenceIdeal.nD Cert.OutMixReferenceIdeal.τ).loc Cert.OutMixReferenceIdeal.main_arg4)
          ∧ r.2.mem ((c.tc : Thread Cert.OutMixReferenceIdeal.nD Cert.OutMixReferenceIdeal.τ).loc Cert.OutMixReferenceIdeal.main_arg5) = m' ((c.tc : Thread Cert.OutMixReferenceIdeal.nD Cert.OutMixReferenceIdeal.τ).loc Cert.OutMixReferenceIdeal.main_arg5))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v2_0)) (v1 : (c : Dev Cert.FfnIdeal.nD) → Buf (Elt Ideal) ((c.tc : Thread Cert.FfnIdeal.nD Cert.FfnIdeal.τ).loc Cert.FfnIdeal.main_v2_1)) (v2 : (c : Dev Cert.FfnIdeal.nD) → Buf (Elt Ideal) ((c.tc : Thread Cert.FfnIdeal.nD Cert.FfnIdeal.τ).loc Cert.FfnIdeal.main_v2_2)) (v3 : (c : Dev Cert.FfnIdeal.nD) → Buf (Elt Ideal) ((c.tc : Thread Cert.FfnIdeal.nD Cert.FfnIdeal.τ).loc Cert.FfnIdeal.main_v2_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2_0) = v0 c
          ∧ r.2.mem ((c.tc : Thread Cert.FfnIdeal.nD Cert.FfnIdeal.τ).loc Cert.FfnIdeal.main_v2_1) = v1 c
          ∧ r.2.mem ((c.tc : Thread Cert.FfnIdeal.nD Cert.FfnIdeal.τ).loc Cert.FfnIdeal.main_v2_2) = v2 c
          ∧ r.2.mem ((c.tc : Thread Cert.FfnIdeal.nD Cert.FfnIdeal.τ).loc Cert.FfnIdeal.main_v2_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v129) = v0 c
          ∧ r.2.mem ((c.tc : Thread Cert.FfnReferenceIdeal.nD Cert.FfnReferenceIdeal.τ).loc Cert.FfnReferenceIdeal.main_v132) = v1 c
          ∧ r.2.mem ((c.tc : Thread Cert.FfnReferenceIdeal.nD Cert.FfnReferenceIdeal.τ).loc Cert.FfnReferenceIdeal.main_v133) = v2 c
          ∧ r.2.mem ((c.tc : Thread Cert.FfnReferenceIdeal.nD Cert.FfnReferenceIdeal.τ).loc Cert.FfnReferenceIdeal.main_v135) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def Claim : Prop :=
  ∃ (hKernel : Cert.Kernel.Facts) (hKernelIdeal : Cert.KernelIdeal.Facts) (hReferenceIdeal : Cert.ReferenceIdeal.Facts) (hOutA : Cert.OutA.Facts) (hOutAIdeal : Cert.OutAIdeal.Facts) (hOutAReferenceIdeal : Cert.OutAReferenceIdeal.Facts) (hOutB : Cert.OutB.Facts) (hOutBIdeal : Cert.OutBIdeal.Facts) (hOutBReferenceIdeal : Cert.OutBReferenceIdeal.Facts) (hOutLru : Cert.OutLru.Facts) (hOutLruIdeal : Cert.OutLruIdeal.Facts) (hOutLruReferenceIdeal : Cert.OutLruReferenceIdeal.Facts) (hOutMix : Cert.OutMix.Facts) (hOutMixIdeal : Cert.OutMixIdeal.Facts) (hOutMixReferenceIdeal : Cert.OutMixReferenceIdeal.Facts) (hFfn : Cert.Ffn.Facts) (hFfnIdeal : Cert.FfnIdeal.Facts) (hFfnReferenceIdeal : Cert.FfnReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OutA (hOutA := hOutA)
    ∧ quiescent_OutAIdeal (hOutAIdeal := hOutAIdeal)
    ∧ quiescent_OutAReferenceIdeal (hOutAReferenceIdeal := hOutAReferenceIdeal)
    ∧ quiescent_OutB (hOutB := hOutB)
    ∧ quiescent_OutBIdeal (hOutBIdeal := hOutBIdeal)
    ∧ quiescent_OutBReferenceIdeal (hOutBReferenceIdeal := hOutBReferenceIdeal)
    ∧ quiescent_OutLru (hOutLru := hOutLru)
    ∧ quiescent_OutLruIdeal (hOutLruIdeal := hOutLruIdeal)
    ∧ quiescent_OutLruReferenceIdeal (hOutLruReferenceIdeal := hOutLruReferenceIdeal)
    ∧ quiescent_OutMix (hOutMix := hOutMix)
    ∧ quiescent_OutMixIdeal (hOutMixIdeal := hOutMixIdeal)
    ∧ quiescent_OutMixReferenceIdeal (hOutMixReferenceIdeal := hOutMixReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_OutA_OutAIdeal
    ∧ algebraic_OutAIdeal_OutAReferenceIdeal (hOutAIdeal := hOutAIdeal) (hOutAReferenceIdeal := hOutAReferenceIdeal)
    ∧ preserves_OutB_OutBIdeal
    ∧ algebraic_OutBIdeal_OutBReferenceIdeal (hOutBIdeal := hOutBIdeal) (hOutBReferenceIdeal := hOutBReferenceIdeal)
    ∧ preserves_OutLru_OutLruIdeal
    ∧ algebraic_OutLruIdeal_OutLruReferenceIdeal (hOutLruIdeal := hOutLruIdeal) (hOutLruReferenceIdeal := hOutLruReferenceIdeal)
    ∧ preserves_OutMix_OutMixIdeal
    ∧ algebraic_OutMixIdeal_OutMixReferenceIdeal (hOutMixIdeal := hOutMixIdeal) (hOutMixReferenceIdeal := hOutMixReferenceIdeal)
    ∧ preserves_Ffn_FfnIdeal
    ∧ algebraic_FfnIdeal_FfnReferenceIdeal (hFfnIdeal := hFfnIdeal) (hFfnReferenceIdeal := hFfnReferenceIdeal)
-- ==== Pre_finite.lean ====
abbrev S8192x2560 : Shape := ⟨2, ![8192, 2560]⟩
abbrev S32 : Shape := ⟨1, ![32]⟩
abbrev S_ : Shape := ⟨0, ![]⟩

class Facts : Prop where
  bcast_S_S8192x2560 : S_.BroadcastsInDim S8192x2560 (![] : Fin 0 → Fin S8192x2560.rank)
  bcast_S_S32 : S_.BroadcastsInDim S32 (![] : Fin 0 → Fin S32.rank)

variable [Facts]

def fn {F : FTy → Type} [FloatOps F] (main_arg0 : FVec F S8192x2560 .f32) (main_arg1 : FVec F S32 .f32) : IVec S8192x2560 1 × IVec S32 1 :=
  let main_v0 : FVec F S8192x2560 .f32 := Host.absf main_arg0
  let main_cst : FVec F S_ .f32 := constant S_ .f32 0x7F800000#32
  let main_v1 : FVec F S8192x2560 .f32 := broadcastInDim S8192x2560 ![] bcast_S_S8192x2560 main_cst
  let main_v2 : IVec S8192x2560 1 := cmpf .olt main_v0 main_v1
  let main_v3 : FVec F S32 .f32 := Host.absf main_arg1
  let main_cst_0 : FVec F S_ .f32 := constant S_ .f32 0x7F800000#32
  let main_v4 : FVec F S32 .f32 := broadcastInDim S32 ![] bcast_S_S32 main_cst_0
  let main_v5 : IVec S32 1 := cmpf .olt main_v3 main_v4
  (main_v2, main_v5)
-- ==== Kernel.lean ====
abbrev S8192x2560 : Shape := ⟨2, ![8192, 2560]⟩
abbrev S32 : Shape := ⟨1, ![32]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S8192x2048 : Shape := ⟨2, ![8192, 2048]⟩
abbrev S8192x256 : Shape := ⟨2, ![8192, 256]⟩
abbrev S128x2048 : Shape := ⟨2, ![128, 2048]⟩
abbrev S128x256 : Shape := ⟨2, ![128, 256]⟩
abbrev S128x128 : Shape := ⟨2, ![128, 128]⟩
abbrev S256x256 : Shape := ⟨2, ![256, 256]⟩
abbrev S256x128 : Shape := ⟨2, ![256, 128]⟩
abbrev S1 : Shape := ⟨1, ![1]⟩
abbrev S128 : Shape := ⟨1, ![128]⟩
abbrev S1x128 : Shape := ⟨2, ![1, 128]⟩

abbrev nBuf : Space → Nat
  | .hbm => 39
  | .vmem => 26
  | .smem => 1
  | _ => 0

abbrev bufTy : (tb : Table) → Fin (tcTables nBuf tb) → BufTy
  | .hbm, ⟨0, _⟩ => ⟨S8192x2560, .f32⟩
  | .hbm, ⟨1, _⟩ => ⟨S32, .f32⟩
  | .hbm, ⟨2, _⟩ => ⟨S2048, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S2048x1, .f32⟩
  | .hbm, ⟨12, _⟩ => ⟨S1x8, .f32⟩
  | .hbm, ⟨13, _⟩ => ⟨S2048x8, .f32⟩
  | .hbm, ⟨14, _⟩ => ⟨S2048x8, .f32⟩
  | .hbm, ⟨15, _⟩ => ⟨S2048x8, .f32⟩
  | .hbm, ⟨16, _⟩ => ⟨S2048x8, .f32⟩
  | .hbm, ⟨17, _⟩ => ⟨S2048x8, .f32⟩
  | .hbm, ⟨18, _⟩ => ⟨S_, .f32⟩
  | .hbm, ⟨19, _⟩ => ⟨S2048x48, .f32⟩
  | .hbm, ⟨20, _⟩ => ⟨S_, .f32⟩
  | .hbm, ⟨21, _⟩ => ⟨S2048x8, .f32⟩
  | .hbm, ⟨22, _⟩ => ⟨S_, .f32⟩
  | .hbm, ⟨23, _⟩ => ⟨S2048x48, .f32⟩
  | .hbm, ⟨24, _⟩ => ⟨S2048x64, .f32⟩
  | .hbm, ⟨25, _⟩ => ⟨S2048x8, .f32⟩
  | .hbm, ⟨26, _⟩ => ⟨S2048x64, .f32⟩
  | .hbm, ⟨27, _⟩ => ⟨S2048x64, .f32⟩
  | .hbm, ⟨28, _⟩ => ⟨S1x2048x1x64, .f32⟩
  | .hbm, ⟨29, _⟩ => ⟨S1x2048x2x64, .f32⟩
  | .hbm, ⟨30, _⟩ => ⟨S2048x128, .f32⟩
  | .hbm, ⟨31, _⟩ => ⟨S1x2048x1x64, .f32⟩
  | .hbm, ⟨32, _⟩ => ⟨S1x2048x2x64, .f32⟩
  | .hbm, ⟨33, _⟩ => ⟨S2048x128, .f32⟩
  | .hbm, ⟨34, _⟩ => ⟨S1x2048x1x64, .f32⟩
  | .hbm, ⟨35, _⟩ => ⟨S1x2048x2x64, .f32⟩
  | .hbm, ⟨36, _⟩ => ⟨S2048x128, .f32⟩
  | .hbm, ⟨37, _⟩ => ⟨S8192x2048, .bf16⟩
  | .hbm, ⟨38, _⟩ => ⟨S8192x256, .f32⟩
  | .local _ .vmem, ⟨0, _⟩ => ⟨S128x2048, .f32⟩
  | .local _ .vmem, ⟨1, _⟩ => ⟨S128x2048, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x2048, .bf16⟩
  | .local _ .vmem, ⟨23, _⟩ => ⟨S128x2048, .bf16⟩
  | .local _ .vmem, ⟨24, _⟩ => ⟨S128x256, .f32⟩
  | .local _ .vmem, ⟨25, _⟩ => ⟨S128x256, .f32⟩
  | .local _ .smem, ⟨0, _⟩ => ⟨S32, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30_0 : Ref sig .tc := ⟨.hbm, 37, rfl⟩
abbrev main_v30_1 : Ref sig .tc := ⟨.hbm, 38, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![4, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c8_i32 : BitVec 32 := 8#32
  let c0_i32_0 : BitVec 32 := 0#32
  ![v3.toNat, c8_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let c0_i32 : BitVec 32 := 0#32
  ![v1.toNat, c8_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c9_i32 : BitVec 32 := 9#32
  let c0_i32_0 : BitVec 32 := 0#32
  ![v3.toNat, c9_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c9_i32 : BitVec 32 := 9#32
  let c0_i32 : BitVec 32 := 0#32
  ![v1.toNat, c9_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S8192x2560 : Shape := ⟨2, ![8192, 2560]⟩
abbrev S32 : Shape := ⟨1, ![32]⟩
abbrev S4x2048x2560 : Shape := ⟨3, ![4, 2048, 2560]⟩
abbrev S4x2048x2048 : Shape := ⟨3, ![4, 2048, 2048]⟩
abbrev S4x2048x256 : Shape := ⟨3, ![4, 2048, 256]⟩
abbrev S2048 : Shape := ⟨1, ![2048]⟩
abbrev S_ : Shape := ⟨0, ![]⟩
abbrev S4x2048x32x64 : Shape := ⟨4, ![4, 2048, 32, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S4x2048x32x16 : Shape := ⟨4, ![4, 2048, 32, 16]⟩
abbrev S4x2048x32x8 : Shape := ⟨4, ![4, 2048, 32, 8]⟩
abbrev S4x2048x32x48 : Shape := ⟨4, ![4, 2048, 32, 48]⟩
abbrev S4x2048x4x64 : Shape := ⟨4, ![4, 2048, 4, 64]⟩
abbrev S4x2048x4x16 : Shape := ⟨4, ![4, 2048, 4, 16]⟩
abbrev S4x2048x4x8 : Shape := ⟨4, ![4, 2048, 4, 8]⟩
abbrev S4x2048x4x48 : Shape := ⟨4, ![4, 2048, 4, 48]⟩
abbrev S4x128x4x64 : Shape := ⟨4, ![4, 128, 4, 64]⟩
abbrev S4x2176x4x64 : Shape := ⟨4, ![4, 2176, 4, 64]⟩
abbrev S16 : Shape := ⟨1, ![16]⟩
abbrev S16x1 : Shape := ⟨2, ![16, 1]⟩
abbrev S256 : Shape := ⟨1, ![256]⟩
abbrev S1x256 : Shape := ⟨2, ![1, 256]⟩
abbrev S16x256 : Shape := ⟨2, ![16, 256]⟩
abbrev S16x256x1 : Shape := ⟨3, ![16, 256, 1]⟩
abbrev S4x16x256x4x64 : Shape := ⟨5, ![4, 16, 256, 4, 64]⟩
abbrev S4x16x128x4x8x64 : Shape := ⟨6, ![4, 16, 128, 4, 8, 64]⟩
abbrev S16x128 : Shape := ⟨2, ![16, 128]⟩
abbrev S16x128x1 : Shape := ⟨3, ![16, 128, 1]⟩
abbrev S16x1x256 : Shape := ⟨3, ![16, 1, 256]⟩
abbrev S16x128x256 : Shape := ⟨3, ![16, 128, 256]⟩
abbrev S4x16x4x256x128x8 : Shape := ⟨6, ![4, 16, 4, 256, 128, 8]⟩
abbrev S4x16x4x8x128x256 : Shape := ⟨6, ![4, 16, 4, 8, 128, 256]⟩
abbrev S1x16x1x1x128x256 : Shape := ⟨6, ![1, 16, 1, 1, 128, 256]⟩
abbrev S4x8 : Shape := ⟨2, ![4, 8]⟩
abbrev S1x1x4x8x1x1 : Shape := ⟨6, ![1, 1, 4, 8, 1, 1]⟩
abbrev S4x16x4x8x128 : Shape := ⟨5, ![4, 16, 4, 8, 128]⟩
abbrev S4x16x4x8x128x1 : Shape := ⟨6, ![4, 16, 4, 8, 128, 1]⟩
abbrev S4x16x4x64x8x128 : Shape := ⟨6, ![4, 16, 4, 64, 8, 128]⟩
abbrev S8192x2048 : Shape := ⟨2, ![8192, 2048]⟩
abbrev S8192x256 : Shape := ⟨2, ![8192, 256]⟩

abbrev nBuf : Space → Nat
  | .hbm => 174
  | .vmem => 0
  | .smem => 0
  | _ => 0

abbrev hbmTy0_0 (i : Nat) : BufTy := match i % 128 with
  | 0 => ⟨S8192x2560, .f32⟩
  | 1 => ⟨S32, .f32⟩
  | 2 => ⟨S4x2048x2560, .f32⟩
  | 3 => ⟨S4x2048x2048, .f32⟩
  | 4 => ⟨S4x2048x256, .f32⟩
  | 5 => ⟨S4x2048x256, .f32⟩
  | 6 => ⟨S2048, .i32⟩
  | 7 => ⟨S_, .i32⟩
  | 8 => ⟨S2048, .i32⟩
  | 9 => ⟨S2048, .i32⟩
  | 10 => ⟨S2048, .f32⟩
  | 11 => ⟨S4x2048x32x64, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S2048x1, .f32⟩
  | 21 => ⟨S1x8, .f32⟩
  | 22 => ⟨S2048x8, .f32⟩
  | 23 => ⟨S2048x8, .f32⟩
  | 24 => ⟨S2048x8, .f32⟩
  | 25 => ⟨S2048x8, .f32⟩
  | 26 => ⟨S1x2048x1x8, .f32⟩
  | 27 => ⟨S2048x8, .f32⟩
  | 28 => ⟨S1x2048x1x8, .f32⟩
  | 29 => ⟨S4x2048x32x16, .f32⟩
  | 30 => ⟨S4x2048x32x8, .f32⟩
  | 31 => ⟨S4x2048x32x8, .f32⟩
  | 32 => ⟨S4x2048x32x8, .f32⟩
  | 33 => ⟨S4x2048x32x8, .f32⟩
  | 34 => ⟨S4x2048x32x8, .f32⟩
  | 35 => ⟨S4x2048x32x8, .f32⟩
  | 36 => ⟨S4x2048x32x8, .f32⟩
  | 37 => ⟨S4x2048x32x8, .f32⟩
  | 38 => ⟨S4x2048x32x8, .f32⟩
  | 39 => ⟨S4x2048x32x8, .f32⟩
  | 40 => ⟨S4x2048x32x8, .f32⟩
  | 41 => ⟨S4x2048x32x8, .f32⟩
  | 42 => ⟨S4x2048x32x16, .f32⟩
  | 43 => ⟨S4x2048x32x48, .f32⟩
  | 44 => ⟨S4x2048x32x64, .f32⟩
  | 45 => ⟨S4x2048x4x64, .f32⟩
  | 46 => ⟨S8, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S2048x1, .f32⟩
  | 55 => ⟨S1x8, .f32⟩
  | 56 => ⟨S2048x8, .f32⟩
  | 57 => ⟨S2048x8, .f32⟩
  | 58 => ⟨S2048x8, .f32⟩
  | 59 => ⟨S2048x8, .f32⟩
  | 60 => ⟨S1x2048x1x8, .f32⟩
  | 61 => ⟨S2048x8, .f32⟩
  | 62 => ⟨S1x2048x1x8, .f32⟩
  | 63 => ⟨S4x2048x4x16, .f32⟩
  | 64 => ⟨S4x2048x4x8, .f32⟩
  | 65 => ⟨S4x2048x4x8, .f32⟩
  | 66 => ⟨S4x2048x4x8, .f32⟩
  | 67 => ⟨S4x2048x4x8, .f32⟩
  | 68 => ⟨S4x2048x4x8, .f32⟩
  | 69 => ⟨S4x2048x4x8, .f32⟩
  | 70 => ⟨S4x2048x4x8, .f32⟩
  | 71 => ⟨S4x2048x4x8, .f32⟩
  | 72 => ⟨S4x2048x4x8, .f32⟩
  | 73 => ⟨S4x2048x4x8, .f32⟩
  | 74 => ⟨S4x2048x4x8, .f32⟩
  | 75 => ⟨S4x2048x4x8, .f32⟩
  | 76 => ⟨S4x2048x4x16, .f32⟩
  | 77 => ⟨S4x2048x4x48, .f32⟩
  | 78 => ⟨S4x2048x4x64, .f32⟩
  | 79 => ⟨S4x2048x4x64, .f32⟩
  | 80 => ⟨S_, .f32⟩
  | 81 => ⟨S4x128x4x64, .f32⟩
  | 82 => ⟨S4x2176x4x64, .f32⟩
  | 83 => ⟨S4x2176x4x64, .f32⟩
  | 84 => ⟨S16, .i32⟩
  | 85 => ⟨S16x1, .i32⟩
  | 86 => ⟨S_, .i32⟩
  | 87 => ⟨S16x1, .i32⟩
  | 88 => ⟨S16x1, .i32⟩
  | 89 => ⟨S256, .i32⟩
  | 90 => ⟨S1x256, .i32⟩
  | 91 => ⟨S16x256, .i32⟩
  | 92 => ⟨S16x256, .i32⟩
  | 93 => ⟨S16x256, .i32⟩
  | 94 => ⟨S_, .i32⟩
  | 95 => ⟨S16x256, .i32⟩
  | 96 => ⟨S16x256, .i1⟩
  | 97 => ⟨S_, .i32⟩
  | 98 => ⟨S16x256, .i32⟩
  | 99 => ⟨S16x256, .i32⟩
  | 100 => ⟨S16x256, .i32⟩
  | 101 => ⟨S16x256x1, .i32⟩
  | 102 => ⟨S4x16x256x4x64, .f32⟩
  | 103 => ⟨S_, .i32⟩
  | 104 => ⟨S16x256, .i32⟩
  | 105 => ⟨S16x256, .i1⟩
  | 106 => ⟨S_, .i32⟩
  | 107 => ⟨S16x256, .i32⟩
  | 108 => ⟨S16x256, .i32⟩
  | 109 => ⟨S16x256, .i32⟩
  | 110 => ⟨S16x256x1, .i32⟩
  | 111 => ⟨S4x16x256x4x64, .f32⟩
  | 112 => ⟨S4x16x128x4x8x64, .f32⟩
  | 113 => ⟨S2048, .i32⟩
  | 114 => ⟨S16x128, .i32⟩
  | 115 => ⟨S_, .i32⟩
  | 116 => ⟨S16x128, .i32⟩
  | 117 => ⟨S16x128, .i32⟩
  | 118 => ⟨S_, .i32⟩
  | 119 => ⟨S16x256, .i32⟩
  | 120 => ⟨S16x256, .i32⟩
  | 121 => ⟨S16x128x1, .i32⟩
  | 122 => ⟨S16x1x256, .i32⟩
  | 123 => ⟨S16x128x256, .i32⟩
  | 124 => ⟨S16x128x256, .i32⟩
  | 125 => ⟨S16x128x256, .i32⟩
  | 126 => ⟨S_, .i32⟩
  | 127 => ⟨S16x128x256, .i32⟩
  | _ => ⟨S8192x2560, .f32⟩

abbrev hbmTy0_1 (i : Nat) : BufTy := match i % 128 with
  | 0 => ⟨S16x128x256, .i1⟩
  | 1 => ⟨S_, .i32⟩
  | 2 => ⟨S16x128x256, .i32⟩
  | 3 => ⟨S16x128x256, .i1⟩
  | 4 => ⟨S16x128x256, .i1⟩
  | 5 => ⟨S16x1x256, .i32⟩
  | 6 => ⟨S_, .i32⟩
  | 7 => ⟨S16x1x256, .i32⟩
  | 8 => ⟨S16x1x256, .i1⟩
  | 9 => ⟨S16x128x256, .i1⟩
  | 10 => ⟨S16x128x256, .i1⟩
  | 11 => ⟨S4x16x4x256x128x8, .f32⟩
  | 12 => ⟨S4x16x4x8x128x256, .f32⟩
  | 13 => ⟨S_, .f32⟩
  | 14 => ⟨S4x16x4x8x128x256, .f32⟩
  | 15 => ⟨S4x16x4x8x128x256, .f32⟩
  | 16 => ⟨S1x16x1x1x128x256, .i1⟩
  | 17 => ⟨S_, .f32⟩
  | 18 => ⟨S_, .f32⟩
  | 19 => ⟨S4x16x4x8x128x256, .i1⟩
  | 20 => ⟨S4x16x4x8x128x256, .f32⟩
  | 21 => ⟨S4x16x4x8x128x256, .f32⟩
  | 22 => ⟨S4x8, .f32⟩
  | 23 => ⟨S1x1x4x8x1x1, .f32⟩
  | 24 => ⟨S_, .f32⟩
  | 25 => ⟨S4x16x4x8x128, .f32⟩
  | 26 => ⟨S4x16x4x8x128x1, .f32⟩
  | 27 => ⟨S4x16x4x8x128x1, .f32⟩
  | 28 => ⟨S4x16x4x8x128x1, .f32⟩
  | 29 => ⟨S4x16x4x8x128x256, .f32⟩
  | 30 => ⟨S4x16x4x8x128x256, .f32⟩
  | 31 => ⟨S4x16x4x8x128x256, .f32⟩
  | 32 => ⟨S_, .f32⟩
  | 33 => ⟨S4x16x4x8x128, .f32⟩
  | 34 => ⟨S4x16x4x8x128x1, .f32⟩
  | 35 => ⟨S4x16x4x8x128x1, .f32⟩
  | 36 => ⟨S4x16x4x8x128x1, .f32⟩
  | 37 => ⟨S4x16x4x8x128x1, .f32⟩
  | 38 => ⟨S4x16x4x8x128x1, .f32⟩
  | 39 => ⟨S4x16x4x8x128x256, .f32⟩
  | 40 => ⟨S4x16x4x8x128x256, .f32⟩
  | 41 => ⟨S4x16x4x64x8x128, .f32⟩
  | 42 => ⟨S4x16x128x4x8x64, .f32⟩
  | 43 => ⟨S8192x2048, .f32⟩
  | 44 => ⟨S8192x2048, .bf16⟩
  | 45 => ⟨S8192x256, .f32⟩
  | _ => ⟨S8192x2560, .f32⟩

abbrev hbmTy (i : Nat) : BufTy := match i / 128 with
  | 0 => hbmTy0_0 i
  | 1 => hbmTy0_1 i
  | _ => ⟨S8192x2560, .f32⟩

abbrev bufTy : (tb : Table) → Fin (tcTables nBuf tb) → BufTy
  | .hbm, ⟨i, _⟩ => hbmTy i
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_cst_1 : Ref sig .tc := ⟨.hbm, 48, rfl⟩
abbrev main_v43 : Ref sig .tc := ⟨.hbm, 49, rfl⟩
abbrev main_v44 : Ref sig .tc := ⟨.hbm, 50, rfl⟩
abbrev main_cst_2 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_cst_3 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_c_4 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_c_5 : Ref sig .tc := ⟨.hbm, 94, rfl⟩
abbrev main_v85 : Ref sig .tc := ⟨.hbm, 95, rfl⟩
abbrev main_v86 : Ref sig .tc := ⟨.hbm, 96, rfl⟩
abbrev main_c_6 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_c_7 : Ref sig .tc := ⟨.hbm, 103, rfl⟩
abbrev main_v92 : Ref sig .tc := ⟨.hbm, 104, rfl⟩
abbrev main_v93 : Ref sig .tc := ⟨.hbm, 105, rfl⟩
abbrev main_c_8 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_c_9 : Ref sig .tc := ⟨.hbm, 115, rfl⟩
abbrev main_v102 : Ref sig .tc := ⟨.hbm, 116, rfl⟩
abbrev main_v103 : Ref sig .tc := ⟨.hbm, 117, rfl⟩
abbrev main_c_10 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_c_11 : Ref sig .tc := ⟨.hbm, 126, rfl⟩
abbrev main_v111 : Ref sig .tc := ⟨.hbm, 127, rfl⟩
abbrev main_v112 : Ref sig .tc := ⟨.hbm, 128, rfl⟩
abbrev main_c_12 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_c_13 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_cst_14 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_cst_15 : Ref sig .tc := ⟨.hbm, 145, rfl⟩
abbrev main_call0_v0 : Ref sig .tc := ⟨.hbm, 146, rfl⟩
abbrev main_call0_v1 : Ref sig .tc := ⟨.hbm, 147, rfl⟩
abbrev main_call0_v2 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_cst_16 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_cst_17 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩

abbrev nD : Nat := 1
abbrev τ : Topo := Topo.v7x

variable {F : FTy → Type} [FloatOps F]
-- ==== OutA.lean ====
abbrev S8192x6144 : Shape := ⟨2, ![8192, 6144]⟩
abbrev S4x32x6144 : Shape := ⟨3, ![4, 32, 6144]⟩
abbrev S4x6144x2048 : Shape := ⟨3, ![4, 6144, 2048]⟩
abbrev S2048 : Shape := ⟨1, ![2048]⟩
abbrev S8192x2048 : Shape := ⟨2, ![8192, 2048]⟩
abbrev S4x32x2048 : Shape := ⟨3, ![4, 32, 2048]⟩
abbrev S1x2048 : Shape := ⟨2, ![1, 2048]⟩
abbrev S2048x3072 : Shape := ⟨2, ![2048, 3072]⟩
abbrev S1x32x3072 : Shape := ⟨3, ![1, 32, 3072]⟩
abbrev S1x3072x512 : Shape := ⟨3, ![1, 3072, 512]⟩
abbrev S1x512 : Shape := ⟨2, ![1, 512]⟩
abbrev S2048x512 : Shape := ⟨2, ![2048, 512]⟩
abbrev S1x32x512 : Shape := ⟨3, ![1, 32, 512]⟩
abbrev S3072x512 : Shape := ⟨2, ![3072, 512]⟩
abbrev S256x512 : Shape := ⟨2, ![256, 512]⟩
abbrev S256x3072 : Shape := ⟨2, ![256, 3072]⟩
abbrev S32x3072 : Shape := ⟨2, ![32, 3072]⟩
abbrev S288x3072 : Shape := ⟨2, ![288, 3072]⟩
abbrev S288x512 : Shape := ⟨2, ![288, 512]⟩
abbrev S32x512 : Shape := ⟨2, ![32, 512]⟩

abbrev nBuf : Space → Nat
  | .hbm => 9
  | .vmem => 15
  | .smem => 0
  | _ => 0

abbrev bufTy : (tb : Table) → Fin (tcTables nBuf tb) → BufTy
  | .hbm, ⟨0, _⟩ => ⟨S8192x6144, .bf16⟩
  | .hbm, ⟨1, _⟩ => ⟨S4x32x6144, .bf16⟩
  | .hbm, ⟨2, _⟩ => ⟨S4x6144x2048, .f32⟩
  | .hbm, ⟨3, _⟩ => ⟨S2048, .f32⟩
  | .hbm, ⟨4, _⟩ => ⟨S8192x2048, .f32⟩
  | .hbm, ⟨5, _⟩ => ⟨S4x32x2048, .f32⟩
  | .hbm, ⟨6, _⟩ => ⟨S1x2048, .f32⟩
  | .hbm, ⟨7, _⟩ => ⟨S8192x2048, .f32⟩
  | .hbm, ⟨8, _⟩ => ⟨S4x32x2048, .f32⟩
  | .local _ .vmem, ⟨0, _⟩ => ⟨S2048x3072, .bf16⟩
  | .local _ .vmem, ⟨1, _⟩ => ⟨S2048x3072, .bf16⟩
  | .local _ .vmem, ⟨2, _⟩ => ⟨S1x32x3072, .bf16⟩
  | .local _ .vmem, ⟨3, _⟩ => ⟨S1x3072x512, .f32⟩
  | .local _ .vmem, ⟨4, _⟩ => ⟨S1x3072x512, .f32⟩
  | .local _ .vmem, ⟨5, _⟩ => ⟨S1x512, .f32⟩
  | .local _ .vmem, ⟨6, _⟩ => ⟨S1x512, .f32⟩
  | .local _ .vmem, ⟨7, _⟩ => ⟨S2048x512, .f32⟩
  | .local _ .vmem, ⟨8, _⟩ => ⟨S2048x512, .f32⟩
  | .local _ .vmem, ⟨9, _⟩ => ⟨S1x32x512, .f32⟩
  | .local _ .vmem, ⟨10, _⟩ => ⟨S1x32x512, .f32⟩
  | .local _ .vmem, ⟨11, _⟩ => ⟨S2048x512, .f32⟩
  | .local _ .vmem, ⟨12, _⟩ => ⟨S2048x512, .f32⟩
  | .local _ .vmem, ⟨13, _⟩ => ⟨S1x32x512, .f32⟩
  | .local _ .vmem, ⟨14, _⟩ => ⟨S1x32x512, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x32x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3072x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutAReferenceIdeal.lean ====
abbrev S8192x6144 : Shape := ⟨2, ![8192, 6144]⟩
abbrev S4x32x6144 : Shape := ⟨3, ![4, 32, 6144]⟩
abbrev S4x6144x2048 : Shape := ⟨3, ![4, 6144, 2048]⟩
abbrev S2048 : Shape := ⟨1, ![2048]⟩
abbrev S8192x2048 : Shape := ⟨2, ![8192, 2048]⟩
abbrev S4x32x2048 : Shape := ⟨3, ![4, 32, 2048]⟩
abbrev S8192x3072 : Shape := ⟨2, ![8192, 3072]⟩
abbrev S4x32x3072 : Shape := ⟨3, ![4, 32, 3072]⟩
abbrev S4x3072x2048 : Shape := ⟨3, ![4, 3072, 2048]⟩
abbrev S1x3072x2048 : Shape := ⟨3, ![1, 3072, 2048]⟩
abbrev S3072x2048 : Shape := ⟨2, ![3072, 2048]⟩
abbrev S1x2048 : Shape := ⟨2, ![1, 2048]⟩
abbrev S1x32x2048 : Shape := ⟨3, ![1, 32, 2048]⟩
abbrev S32x2048 : Shape := ⟨2, ![32, 2048]⟩
abbrev S1x32x3072 : Shape := ⟨3, ![1, 32, 3072]⟩
abbrev S32x3072 : Shape := ⟨2, ![32, 3072]⟩

abbrev nBuf : Space → Nat
  | .hbm => 28
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S4x32x6144, .bf16⟩
  | .hbm, ⟨2, _⟩ => ⟨S4x6144x2048, .f32⟩
  | .hbm, ⟨3, _⟩ => ⟨S2048, .f32⟩
  | .hbm, ⟨4, _⟩ => ⟨S8192x2048, .f32⟩
  | .hbm, ⟨5, _⟩ => ⟨S4x32x2048, .f32⟩
  | .hbm, ⟨6, _⟩ => ⟨S8192x3072, .bf16⟩
  | .hbm, ⟨7, _⟩ => ⟨S4x32x3072, .bf16⟩
  | .hbm, ⟨8, _⟩ => ⟨S4x3072x2048, .f32⟩
  | .hbm, ⟨9, _⟩ => ⟨S1x3072x2048, .f32⟩
  | .hbm, ⟨10, _⟩ => ⟨S3072x2048, .f32⟩
  | .hbm, ⟨11, _⟩ => ⟨S8192x2048, .f32⟩
  | .hbm, ⟨12, _⟩ => ⟨S1x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S1x32x2048, .f32⟩
  | .hbm, ⟨17, _⟩ => ⟨S32x2048, .f32⟩
  | .hbm, ⟨18, _⟩ => ⟨S1x32x3072, .bf16⟩
  | .hbm, ⟨19, _⟩ => ⟨S32x3072, .bf16⟩
  | .hbm, ⟨20, _⟩ => ⟨S1x3072x2048, .f32⟩
  | .hbm, ⟨21, _⟩ => ⟨S3072x2048, .f32⟩
  | .hbm, ⟨22, _⟩ => ⟨S32x2048, .f32⟩
  | .hbm, ⟨23, _⟩ => ⟨S1x2048, .f32⟩
  | .hbm, ⟨24, _⟩ => ⟨S32x2048, .f32⟩
  | .hbm, ⟨25, _⟩ => ⟨S32x2048, .f32⟩
  | .hbm, ⟨26, _⟩ => ⟨S32x2048, .f32⟩
  | .hbm, ⟨27, _⟩ => ⟨S4x32x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== OutB.lean ====
abbrev S8192x6144 : Shape := ⟨2, ![8192, 6144]⟩
abbrev S4x32x6144 : Shape := ⟨3, ![4, 32, 6144]⟩
abbrev S4x6144x2048 : Shape := ⟨3, ![4, 6144, 2048]⟩
abbrev S2048 : Shape := ⟨1, ![2048]⟩
abbrev S8192x2048 : Shape := ⟨2, ![8192, 2048]⟩
abbrev S4x32x2048 : Shape := ⟨3, ![4, 32, 2048]⟩
abbrev S1x2048 : Shape := ⟨2, ![1, 2048]⟩
abbrev S2048x3072 : Shape := ⟨2, ![2048, 3072]⟩
abbrev S1x32x3072 : Shape := ⟨3, ![1, 32, 3072]⟩
abbrev S1x3072x512 : Shape := ⟨3, ![1, 3072, 512]⟩
abbrev S1x512 : Shape := ⟨2, ![1, 512]⟩
abbrev S2048x512 : Shape := ⟨2, ![2048, 512]⟩
abbrev S1x32x512 : Shape := ⟨3, ![1, 32, 512]⟩
abbrev S3072x512 : Shape := ⟨2, ![3072, 512]⟩
abbrev S256x512 : Shape := ⟨2, ![256, 512]⟩
abbrev S256x3072 : Shape := ⟨2, ![256, 3072]⟩
abbrev S32x3072 : Shape := ⟨2, ![32, 3072]⟩
abbrev S288x3072 : Shape := ⟨2, ![288, 3072]⟩
abbrev S288x512 : Shape := ⟨2, ![288, 512]⟩
abbrev S32x512 : Shape := ⟨2, ![32, 512]⟩

abbrev nBuf : Space → Nat
  | .hbm => 9
  | .vmem => 15
  | .smem => 0
  | _ => 0

abbrev bufTy : (tb : Table) → Fin (tcTables nBuf tb) → BufTy
  | .hbm, ⟨0, _⟩ => ⟨S8192x6144, .bf16⟩
  | .hbm, ⟨1, _⟩ => ⟨S4x32x6144, .bf16⟩
  | .hbm, ⟨2, _⟩ => ⟨S4x6144x2048, .f32⟩
  | .hbm, ⟨3, _⟩ => ⟨S2048, .f32⟩
  | .hbm, ⟨4, _⟩ => ⟨S8192x2048, .f32⟩
  | .hbm, ⟨5, _⟩ => ⟨S4x32x2048, .f32⟩
  | .hbm, ⟨6, _⟩ => ⟨S1x2048, .f32⟩
  | .hbm, ⟨7, _⟩ => ⟨S8192x2048, .f32⟩
  | .hbm, ⟨8, _⟩ => ⟨S4x32x2048, .f32⟩
  | .local _ .vmem, ⟨0, _⟩ => ⟨S2048x3072, .bf16⟩
  | .local _ .vmem, ⟨1, _⟩ => ⟨S2048x3072, .bf16⟩
  | .local _ .vmem, ⟨2, _⟩ => ⟨S1x32x3072, .bf16⟩
  | .local _ .vmem, ⟨3, _⟩ => ⟨S1x3072x512, .f32⟩
  | .local _ .vmem, ⟨4, _⟩ => ⟨S1x3072x512, .f32⟩
  | .local _ .vmem, ⟨5, _⟩ => ⟨S1x512, .f32⟩
  | .local _ .vmem, ⟨6, _⟩ => ⟨S1x512, .f32⟩
  | .local _ .vmem, ⟨7, _⟩ => ⟨S2048x512, .f32⟩
  | .local _ .vmem, ⟨8, _⟩ => ⟨S2048x512, .f32⟩
  | .local _ .vmem, ⟨9, _⟩ => ⟨S1x32x512, .f32⟩
  | .local _ .vmem, ⟨10, _⟩ => ⟨S1x32x512, .f32⟩
  | .local _ .vmem, ⟨11, _⟩ => ⟨S2048x512, .f32⟩
  | .local _ .vmem, ⟨12, _⟩ => ⟨S2048x512, .f32⟩
  | .local _ .vmem, ⟨13, _⟩ => ⟨S1x32x512, .f32⟩
  | .local _ .vmem, ⟨14, _⟩ => ⟨S1x32x512, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x32x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3072x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutBReferenceIdeal.lean ====
abbrev S8192x6144 : Shape := ⟨2, ![8192, 6144]⟩
abbrev S4x32x6144 : Shape := ⟨3, ![4, 32, 6144]⟩
abbrev S4x6144x2048 : Shape := ⟨3, ![4, 6144, 2048]⟩
abbrev S2048 : Shape := ⟨1, ![2048]⟩
abbrev S8192x2048 : Shape := ⟨2, ![8192, 2048]⟩
abbrev S4x32x2048 : Shape := ⟨3, ![4, 32, 2048]⟩
abbrev S8192x3072 : Shape := ⟨2, ![8192, 3072]⟩
abbrev S4x32x3072 : Shape := ⟨3, ![4, 32, 3072]⟩
abbrev S4x3072x2048 : Shape := ⟨3, ![4, 3072, 2048]⟩
abbrev S1x3072x2048 : Shape := ⟨3, ![1, 3072, 2048]⟩
abbrev S3072x2048 : Shape := ⟨2, ![3072, 2048]⟩
abbrev S1x2048 : Shape := ⟨2, ![1, 2048]⟩
abbrev S1x32x2048 : Shape := ⟨3, ![1, 32, 2048]⟩
abbrev S32x2048 : Shape := ⟨2, ![32, 2048]⟩
abbrev S1x32x3072 : Shape := ⟨3, ![1, 32, 3072]⟩
abbrev S32x3072 : Shape := ⟨2, ![32, 3072]⟩

abbrev nBuf : Space → Nat
  | .hbm => 28
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S4x32x6144, .bf16⟩
  | .hbm, ⟨2, _⟩ => ⟨S4x6144x2048, .f32⟩
  | .hbm, ⟨3, _⟩ => ⟨S2048, .f32⟩
  | .hbm, ⟨4, _⟩ => ⟨S8192x2048, .f32⟩
  | .hbm, ⟨5, _⟩ => ⟨S4x32x2048, .f32⟩
  | .hbm, ⟨6, _⟩ => ⟨S8192x3072, .bf16⟩
  | .hbm, ⟨7, _⟩ => ⟨S4x32x3072, .bf16⟩
  | .hbm, ⟨8, _⟩ => ⟨S4x3072x2048, .f32⟩
  | .hbm, ⟨9, _⟩ => ⟨S1x3072x2048, .f32⟩
  | .hbm, ⟨10, _⟩ => ⟨S3072x2048, .f32⟩
  | .hbm, ⟨11, _⟩ => ⟨S8192x2048, .f32⟩
  | .hbm, ⟨12, _⟩ => ⟨S1x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S1x32x2048, .f32⟩
  | .hbm, ⟨17, _⟩ => ⟨S32x2048, .f32⟩
  | .hbm, ⟨18, _⟩ => ⟨S1x32x3072, .bf16⟩
  | .hbm, ⟨19, _⟩ => ⟨S32x3072, .bf16⟩
  | .hbm, ⟨20, _⟩ => ⟨S1x3072x2048, .f32⟩
  | .hbm, ⟨21, _⟩ => ⟨S3072x2048, .f32⟩
  | .hbm, ⟨22, _⟩ => ⟨S32x2048, .f32⟩
  | .hbm, ⟨23, _⟩ => ⟨S1x2048, .f32⟩
  | .hbm, ⟨24, _⟩ => ⟨S32x2048, .f32⟩
  | .hbm, ⟨25, _⟩ => ⟨S32x2048, .f32⟩
  | .hbm, ⟨26, _⟩ => ⟨S32x2048, .f32⟩
  | .hbm, ⟨27, _⟩ => ⟨S4x32x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== OutLru.lean ====
abbrev S8192x2560 : Shape := ⟨2, ![8192, 2560]⟩
abbrev S1x32x2560 : Shape := ⟨3, ![1, 32, 2560]⟩
abbrev S2x2560x2048 : Shape := ⟨3, ![2, 2560, 2048]⟩
abbrev S2048 : Shape := ⟨1, ![2048]⟩
abbrev S8192x2048 : Shape := ⟨2, ![8192, 2048]⟩
abbrev S4x32x2048 : Shape := ⟨3, ![4, 32, 2048]⟩
abbrev S1x2048 : Shape := ⟨2, ![1, 2048]⟩
abbrev S2048x2560 : Shape := ⟨2, ![2048, 2560]⟩
abbrev S1x2560x512 : Shape := ⟨3, ![1, 2560, 512]⟩
abbrev S1x512 : Shape := ⟨2, ![1, 512]⟩
abbrev S2048x512 : Shape := ⟨2, ![2048, 512]⟩
abbrev S1x32x512 : Shape := ⟨3, ![1, 32, 512]⟩
abbrev S2560x512 : Shape := ⟨2, ![2560, 512]⟩
abbrev S256x512 : Shape := ⟨2, ![256, 512]⟩
abbrev S256x2560 : Shape := ⟨2, ![256, 2560]⟩
abbrev S32x2560 : Shape := ⟨2, ![32, 2560]⟩
abbrev S288x2560 : Shape := ⟨2, ![288, 2560]⟩
abbrev S288x512 : Shape := ⟨2, ![288, 512]⟩
abbrev S32x512 : Shape := ⟨2, ![32, 512]⟩

abbrev nBuf : Space → Nat
  | .hbm => 9
  | .vmem => 15
  | .smem => 0
  | _ => 0

abbrev bufTy : (tb : Table) → Fin (tcTables nBuf tb) → BufTy
  | .hbm, ⟨0, _⟩ => ⟨S8192x2560, .bf16⟩
  | .hbm, ⟨1, _⟩ => ⟨S1x32x2560, .bf16⟩
  | .hbm, ⟨2, _⟩ => ⟨S2x2560x2048, .f32⟩
  | .hbm, ⟨3, _⟩ => ⟨S2048, .f32⟩
  | .hbm, ⟨4, _⟩ => ⟨S8192x2048, .f32⟩
  | .hbm, ⟨5, _⟩ => ⟨S4x32x2048, .f32⟩
  | .hbm, ⟨6, _⟩ => ⟨S1x2048, .f32⟩
  | .hbm, ⟨7, _⟩ => ⟨S8192x2048, .f32⟩
  | .hbm, ⟨8, _⟩ => ⟨S4x32x2048, .f32⟩
  | .local _ .vmem, ⟨0, _⟩ => ⟨S2048x2560, .bf16⟩
  | .local _ .vmem, ⟨1, _⟩ => ⟨S2048x2560, .bf16⟩
  | .local _ .vmem, ⟨2, _⟩ => ⟨S1x32x2560, .bf16⟩
  | .local _ .vmem, ⟨3, _⟩ => ⟨S1x2560x512, .f32⟩
  | .local _ .vmem, ⟨4, _⟩ => ⟨S1x2560x512, .f32⟩
  | .local _ .vmem, ⟨5, _⟩ => ⟨S1x512, .f32⟩
  | .local _ .vmem, ⟨6, _⟩ => ⟨S1x512, .f32⟩
  | .local _ .vmem, ⟨7, _⟩ => ⟨S2048x512, .f32⟩
  | .local _ .vmem, ⟨8, _⟩ => ⟨S2048x512, .f32⟩
  | .local _ .vmem, ⟨9, _⟩ => ⟨S1x32x512, .f32⟩
  | .local _ .vmem, ⟨10, _⟩ => ⟨S1x32x512, .f32⟩
  | .local _ .vmem, ⟨11, _⟩ => ⟨S2048x512, .f32⟩
  | .local _ .vmem, ⟨12, _⟩ => ⟨S2048x512, .f32⟩
  | .local _ .vmem, ⟨13, _⟩ => ⟨S1x32x512, .f32⟩
  | .local _ .vmem, ⟨14, _⟩ => ⟨S1x32x512, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x32x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2560x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutLruIdeal.lean ====
abbrev S8192x2560 : Shape := ⟨2, ![8192, 2560]⟩
abbrev S1x32x2560 : Shape := ⟨3, ![1, 32, 2560]⟩
abbrev S2x2560x2048 : Shape := ⟨3, ![2, 2560, 2048]⟩
abbrev S2048 : Shape := ⟨1, ![2048]⟩
abbrev S8192x2048 : Shape := ⟨2, ![8192, 2048]⟩
abbrev S4x32x2048 : Shape := ⟨3, ![4, 32, 2048]⟩
abbrev S1x2048 : Shape := ⟨2, ![1, 2048]⟩
abbrev S2048x2560 : Shape := ⟨2, ![2048, 2560]⟩
abbrev S1x2560x512 : Shape := ⟨3, ![1, 2560, 512]⟩
abbrev S1x512 : Shape := ⟨2, ![1, 512]⟩
abbrev S2048x512 : Shape := ⟨2, ![2048, 512]⟩
abbrev S1x32x512 : Shape := ⟨3, ![1, 32, 512]⟩
abbrev S2560x512 : Shape := ⟨2, ![2560, 512]⟩
abbrev S256x512 : Shape := ⟨2, ![256, 512]⟩
abbrev S256x2560 : Shape := ⟨2, ![256, 2560]⟩
abbrev S32x2560 : Shape := ⟨2, ![32, 2560]⟩
abbrev S288x2560 : Shape := ⟨2, ![288, 2560]⟩
abbrev S288x512 : Shape := ⟨2, ![288, 512]⟩
abbrev S32x512 : Shape := ⟨2, ![32, 512]⟩

abbrev nBuf : Space → Nat
  | .hbm => 9
  | .vmem => 15
  | .smem => 0
  | _ => 0

abbrev bufTy : (tb : Table) → Fin (tcTables nBuf tb) → BufTy
  | .hbm, ⟨0, _⟩ => ⟨S8192x2560, .bf16⟩
  | .hbm, ⟨1, _⟩ => ⟨S1x32x2560, .bf16⟩
  | .hbm, ⟨2, _⟩ => ⟨S2x2560x2048, .f32⟩
  | .hbm, ⟨3, _⟩ => ⟨S2048, .f32⟩
  | .hbm, ⟨4, _⟩ => ⟨S8192x2048, .f32⟩
  | .hbm, ⟨5, _⟩ => ⟨S4x32x2048, .f32⟩
  | .hbm, ⟨6, _⟩ => ⟨S1x2048, .f32⟩
  | .hbm, ⟨7, _⟩ => ⟨S8192x2048, .f32⟩
  | .hbm, ⟨8, _⟩ => ⟨S4x32x2048, .f32⟩
  | .local _ .vmem, ⟨0, _⟩ => ⟨S2048x2560, .bf16⟩
  | .local _ .vmem, ⟨1, _⟩ => ⟨S2048x2560, .bf16⟩
  | .local _ .vmem, ⟨2, _⟩ => ⟨S1x32x2560, .bf16⟩
  | .local _ .vmem, ⟨3, _⟩ => ⟨S1x2560x512, .f32⟩
  | .local _ .vmem, ⟨4, _⟩ => ⟨S1x2560x512, .f32⟩
  | .local _ .vmem, ⟨5, _⟩ => ⟨S1x512, .f32⟩
  | .local _ .vmem, ⟨6, _⟩ => ⟨S1x512, .f32⟩
  | .local _ .vmem, ⟨7, _⟩ => ⟨S2048x512, .f32⟩
  | .local _ .vmem, ⟨8, _⟩ => ⟨S2048x512, .f32⟩
  | .local _ .vmem, ⟨9, _⟩ => ⟨S1x32x512, .f32⟩
  | .local _ .vmem, ⟨10, _⟩ => ⟨S1x32x512, .f32⟩
  | .local _ .vmem, ⟨11, _⟩ => ⟨S2048x512, .f32⟩
  | .local _ .vmem, ⟨12, _⟩ => ⟨S2048x512, .f32⟩
  | .local _ .vmem, ⟨13, _⟩ => ⟨S1x32x512, .f32⟩
  | .local _ .vmem, ⟨14, _⟩ => ⟨S1x32x512, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x32x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2560x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutLruReferenceIdeal.lean ====
abbrev S8192x2560 : Shape := ⟨2, ![8192, 2560]⟩
abbrev S1x32x2560 : Shape := ⟨3, ![1, 32, 2560]⟩
abbrev S2x2560x2048 : Shape := ⟨3, ![2, 2560, 2048]⟩
abbrev S2048 : Shape := ⟨1, ![2048]⟩
abbrev S8192x2048 : Shape := ⟨2, ![8192, 2048]⟩
abbrev S4x32x2048 : Shape := ⟨3, ![4, 32, 2048]⟩
abbrev S1x2560x2048 : Shape := ⟨3, ![1, 2560, 2048]⟩
abbrev S2560x2048 : Shape := ⟨2, ![2560, 2048]⟩
abbrev S1x2048 : Shape := ⟨2, ![1, 2048]⟩
abbrev S1x32x2048 : Shape := ⟨3, ![1, 32, 2048]⟩
abbrev S32x2048 : Shape := ⟨2, ![32, 2048]⟩
abbrev S32x2560 : Shape := ⟨2, ![32, 2560]⟩

abbrev nBuf : Space → Nat
  | .hbm => 24
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S1x32x2560, .bf16⟩
  | .hbm, ⟨2, _⟩ => ⟨S2x2560x2048, .f32⟩
  | .hbm, ⟨3, _⟩ => ⟨S2048, .f32⟩
  | .hbm, ⟨4, _⟩ => ⟨S8192x2048, .f32⟩
  | .hbm, ⟨5, _⟩ => ⟨S4x32x2048, .f32⟩
  | .hbm, ⟨6, _⟩ => ⟨S1x2560x2048, .f32⟩
  | .hbm, ⟨7, _⟩ => ⟨S2560x2048, .f32⟩
  | .hbm, ⟨8, _⟩ => ⟨S8192x2048, .f32⟩
  | .hbm, ⟨9, _⟩ => ⟨S1x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S1x32x2048, .f32⟩
  | .hbm, ⟨14, _⟩ => ⟨S32x2048, .f32⟩
  | .hbm, ⟨15, _⟩ => ⟨S32x2560, .bf16⟩
  | .hbm, ⟨16, _⟩ => ⟨S1x2560x2048, .f32⟩
  | .hbm, ⟨17, _⟩ => ⟨S2560x2048, .f32⟩
  | .hbm, ⟨18, _⟩ => ⟨S32x2048, .f32⟩
  | .hbm, ⟨19, _⟩ => ⟨S1x2048, .f32⟩
  | .hbm, ⟨20, _⟩ => ⟨S32x2048, .f32⟩
  | .hbm, ⟨21, _⟩ => ⟨S32x2048, .f32⟩
  | .hbm, ⟨22, _⟩ => ⟨S32x2048, .f32⟩
  | .hbm, ⟨23, _⟩ => ⟨S4x32x2048, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== OutMix.lean ====
abbrev S8192x2048 : Shape := ⟨2, ![8192, 2048]⟩
abbrev S1x32x2048 : Shape := ⟨3, ![1, 32, 2048]⟩
abbrev S1x2048x2048 : Shape := ⟨3, ![1, 2048, 2048]⟩
abbrev S2048 : Shape := ⟨1, ![2048]⟩
abbrev S4x32x2048 : Shape := ⟨3, ![4, 32, 2048]⟩
abbrev S1x2048 : Shape := ⟨2, ![1, 2048]⟩
abbrev S2048x2048 : Shape := ⟨2, ![2048, 2048]⟩
abbrev S1x2048x512 : Shape := ⟨3, ![1, 2048, 512]⟩
abbrev S1x512 : Shape := ⟨2, ![1, 512]⟩
abbrev S2048x512 : Shape := ⟨2, ![2048, 512]⟩
abbrev S1x32x512 : Shape := ⟨3, ![1, 32, 512]⟩
abbrev S256x512 : Shape := ⟨2, ![256, 512]⟩
abbrev S256x2048 : Shape := ⟨2, ![256, 2048]⟩
abbrev S32x2048 : Shape := ⟨2, ![32, 2048]⟩
abbrev S288x2048 : Shape := ⟨2, ![288, 2048]⟩
abbrev S288x512 : Shape := ⟨2, ![288, 512]⟩
abbrev S32x512 : Shape := ⟨2, ![32, 512]⟩

abbrev nBuf : Space → Nat
  | .hbm => 9
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S1x32x2048, .bf16⟩
  | .hbm, ⟨2, _⟩ => ⟨S1x2048x2048, .f32⟩
  | .hbm, ⟨3, _⟩ => ⟨S2048, .f32⟩
  | .hbm, ⟨4, _⟩ => ⟨S8192x2048, .f32⟩
  | .hbm, ⟨5, _⟩ => ⟨S4x32x2048, .f32⟩
  | .hbm, ⟨6, _⟩ => ⟨S1x2048, .f32⟩
  | .hbm, ⟨7, _⟩ => ⟨S8192x2048, .f32⟩
  | .hbm, ⟨8, _⟩ => ⟨S4x32x2048, .f32⟩
  | .local _ .vmem, ⟨0, _⟩ => ⟨S2048x2048, .bf16⟩
  | .local _ .vmem, ⟨1, _⟩ => ⟨S2048x2048, .bf16⟩
  | .local _ .vmem, ⟨2, _⟩ => ⟨S1x32x2048, .bf16⟩
  | .local _ .vmem, ⟨3, _⟩ => ⟨S1x2048x512, .f32⟩
  | .local _ .vmem, ⟨4, _⟩ => ⟨S1x2048x512, .f32⟩
  | .local _ .vmem, ⟨5, _⟩ => ⟨S1x512, .f32⟩
  | .local _ .vmem, ⟨6, _⟩ => ⟨S1x512, .f32⟩
  | .local _ .vmem, ⟨7, _⟩ => ⟨S2048x512, .f32⟩
  | .local _ .vmem, ⟨8, _⟩ => ⟨S2048x512, .f32⟩
  | .local _ .vmem, ⟨9, _⟩ => ⟨S1x32x512, .f32⟩
  | .local _ .vmem, ⟨10, _⟩ => ⟨S1x32x512, .f32⟩
  | .local _ .vmem, ⟨11, _⟩ => ⟨S2048x512, .f32⟩
  | .local _ .vmem, ⟨12, _⟩ => ⟨S2048x512, .f32⟩
  | .local _ .vmem, ⟨13, _⟩ => ⟨S1x32x512, .f32⟩
  | .local _ .vmem, ⟨14, _⟩ => ⟨S1x32x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x32x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutMixReferenceIdeal.lean ====
abbrev S8192x2048 : Shape := ⟨2, ![8192, 2048]⟩
abbrev S1x32x2048 : Shape := ⟨3, ![1, 32, 2048]⟩
abbrev S1x2048x2048 : Shape := ⟨3, ![1, 2048, 2048]⟩
abbrev S2048 : Shape := ⟨1, ![2048]⟩
abbrev S4x32x2048 : Shape := ⟨3, ![4, 32, 2048]⟩
abbrev S2048x2048 : Shape := ⟨2, ![2048, 2048]⟩
abbrev S1x2048 : Shape := ⟨2, ![1, 2048]⟩
abbrev S32x2048 : Shape := ⟨2, ![32, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x32x2048, .bf16⟩
  | .hbm, ⟨2, _⟩ => ⟨S1x2048x2048, .f32⟩
  | .hbm, ⟨3, _⟩ => ⟨S2048, .f32⟩
  | .hbm, ⟨4, _⟩ => ⟨S8192x2048, .f32⟩
  | .hbm, ⟨5, _⟩ => ⟨S4x32x2048, .f32⟩
  | .hbm, ⟨6, _⟩ => ⟨S2048x2048, .f32⟩
  | .hbm, ⟨7, _⟩ => ⟨S8192x2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S1x32x2048, .f32⟩
  | .hbm, ⟨13, _⟩ => ⟨S32x2048, .f32⟩
  | .hbm, ⟨14, _⟩ => ⟨S32x2048, .bf16⟩
  | .hbm, ⟨15, _⟩ => ⟨S2048x2048, .f32⟩
  | .hbm, ⟨16, _⟩ => ⟨S32x2048, .f32⟩
  | .hbm, ⟨17, _⟩ => ⟨S1x2048, .f32⟩
  | .hbm, ⟨18, _⟩ => ⟨S32x2048, .f32⟩
  | .hbm, ⟨19, _⟩ => ⟨S32x2048, .f32⟩
  | .hbm, ⟨20, _⟩ => ⟨S32x2048, .f32⟩
  | .hbm, ⟨21, _⟩ => ⟨S4x32x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Ffn.lean ====
abbrev S8192x2048 : Shape := ⟨2, ![8192, 2048]⟩
abbrev S4x32x2048 : Shape := ⟨3, ![4, 32, 2048]⟩
abbrev S2048 : Shape := ⟨1, ![2048]⟩
abbrev S4x2048x12288 : Shape := ⟨3, ![4, 2048, 12288]⟩
abbrev S4x3x6144 : Shape := ⟨3, ![4, 3, 6144]⟩
abbrev S4x6144 : Shape := ⟨2, ![4, 6144]⟩
abbrev S2x32x6144 : Shape := ⟨3, ![2, 32, 6144]⟩
abbrev S1x2048 : Shape := ⟨2, ![1, 2048]⟩
abbrev S4x1x6144 : Shape := ⟨3, ![4, 1, 6144]⟩
abbrev S8192x6144 : Shape := ⟨2, ![8192, 6144]⟩
abbrev S4x32x6144 : Shape := ⟨3, ![4, 32, 6144]⟩
abbrev S4x8x6144 : Shape := ⟨3, ![4, 8, 6144]⟩
abbrev S1x32x2048 : Shape := ⟨3, ![1, 32, 2048]⟩
abbrev S1x2048x512 : Shape := ⟨3, ![1, 2048, 512]⟩
abbrev S1x3x512 : Shape := ⟨3, ![1, 3, 512]⟩
abbrev S1x1x512 : Shape := ⟨3, ![1, 1, 512]⟩
abbrev S2x32x512 : Shape := ⟨3, ![2, 32, 512]⟩
abbrev S2048x512 : Shape := ⟨2, ![2048, 512]⟩
abbrev S1x32x512 : Shape := ⟨3, ![1, 32, 512]⟩
abbrev S1x8x512 : Shape := ⟨3, ![1, 8, 512]⟩
abbrev S2080x2048 : Shape := ⟨2, ![2080, 2048]⟩
abbrev S2056x512 : Shape := ⟨2, ![2056, 512]⟩
abbrev S2x256x2048 : Shape := ⟨3, ![2, 256, 2048]⟩
abbrev S2 : Shape := ⟨1, ![2]⟩
abbrev S3x512 : Shape := ⟨2, ![3, 512]⟩
abbrev S1 : Shape := ⟨1, ![1]⟩
abbrev S_ : Shape := ⟨0, ![]⟩
abbrev S1x256x2048 : Shape := ⟨3, ![1, 256, 2048]⟩
abbrev S256x2048 : Shape := ⟨2, ![256, 2048]⟩
abbrev S8x512 : Shape := ⟨2, ![8, 512]⟩
abbrev S32x2048 : Shape := ⟨2, ![32, 2048]⟩
abbrev S32 : Shape := ⟨1, ![32]⟩
abbrev S32x1 : Shape := ⟨2, ![32, 1]⟩
abbrev S256 : Shape := ⟨1, ![256]⟩
abbrev S256x1 : Shape := ⟨2, ![256, 1]⟩
abbrev S256x512 : Shape := ⟨2, ![256, 512]⟩
abbrev S1x512 : Shape := ⟨2, ![1, 512]⟩
abbrev S288x2048 : Shape := ⟨2, ![288, 2048]⟩
abbrev S288x512 : Shape := ⟨2, ![288, 512]⟩
abbrev S32x512 : Shape := ⟨2, ![32, 512]⟩

abbrev nBuf : Space → Nat
  | .hbm => 13
  | .vmem => 23
  | .smem => 0
  | _ => 0

abbrev bufTy : (tb : Table) → Fin (tcTables nBuf tb) → BufTy
  | .hbm, ⟨0, _⟩ => ⟨S8192x2048, .f32⟩
  | .hbm, ⟨1, _⟩ => ⟨S4x32x2048, .f32⟩
  | .hbm, ⟨2, _⟩ => ⟨S2048, .f32⟩
  | .hbm, ⟨3, _⟩ => ⟨S4x2048x12288, .f32⟩
  | .hbm, ⟨4, _⟩ => ⟨S4x3x6144, .f32⟩
  | .hbm, ⟨5, _⟩ => ⟨S4x6144, .f32⟩
  | .hbm, ⟨6, _⟩ => ⟨S2x32x6144, .f32⟩
  | .hbm, ⟨7, _⟩ => ⟨S1x2048, .f32⟩
  | .hbm, ⟨8, _⟩ => ⟨S4x1x6144, .f32⟩
  | .hbm, ⟨9, _⟩ => ⟨S8192x6144, .bf16⟩
  | .hbm, ⟨10, _⟩ => ⟨S4x32x6144, .bf16⟩
  | .hbm, ⟨11, _⟩ => ⟨S4x8x6144, .f32⟩
  | .hbm, ⟨12, _⟩ => ⟨S4x32x6144, .f32⟩
  | .local _ .vmem, ⟨0, _⟩ => ⟨S1x32x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x3x512, .f32⟩
  | .local _ .vmem, ⟨7, _⟩ => ⟨S1x3x512, .f32⟩
  | .local _ .vmem, ⟨8, _⟩ => ⟨S1x1x512, .f32⟩
  | .local _ .vmem, ⟨9, _⟩ => ⟨S1x1x512, .f32⟩
  | .local _ .vmem, ⟨10, _⟩ => ⟨S2x32x512, .f32⟩
  | .local _ .vmem, ⟨11, _⟩ => ⟨S2x32x512, .f32⟩
  | .local _ .vmem, ⟨12, _⟩ => ⟨S2048x512, .bf16⟩
  | .local _ .vmem, ⟨13, _⟩ => ⟨S2048x512, .bf16⟩
  | .local _ .vmem, ⟨14, _⟩ => ⟨S1x32x512, .bf16⟩
  | .local _ .vmem, ⟨15, _⟩ => ⟨S1x32x512, .bf16⟩
  | .local _ .vmem, ⟨16, _⟩ => ⟨S1x8x512, .f32⟩
  | .local _ .vmem, ⟨17, _⟩ => ⟨S1x8x512, .f32⟩
  | .local _ .vmem, ⟨18, _⟩ => ⟨S1x32x512, .f32⟩
  | .local _ .vmem, ⟨19, _⟩ => ⟨S1x32x512, .f32⟩
  | .local _ .vmem, ⟨20, _⟩ => ⟨S2080x2048, .bf16⟩
  | .local _ .vmem, ⟨21, _⟩ => ⟨S2056x512, .f32⟩
  | .local _ .vmem, ⟨22, _⟩ => ⟨S2x256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 12], ![false, false]⟩

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_8 : BitVec 32 := 0#32
  let v10 : BitVec 1 := Scalar.cmpi .ne v9 c0_i32_8
  v10

def k0_off1 (i : grid0.Coords) (c0_i32_10 : BitVec 32) : Fin 2 → Nat :=
  let arg0 : BitVec 32 := BitVec.ofNat 32 (i 0).val
  let c2048_i32 : BitVec 32 := 2048#32
  let v14 : BitVec 32 := Scalar.muli arg0 c2048_i32
  let v15 : BitVec 32 := Scalar.addi v14 c0_i32_10
  let c0_i32_15 : BitVec 32 := 0#32
  ![v15.toNat, 0]
def k0_cond2 (i : grid0.Coords) : BitVec 1 :=
  let arg1 : BitVec 32 := BitVec.ofNat 32 (i 1).val
  let c0_i32 : BitVec 32 := 0#32
  let v8 : BitVec 1 := Scalar.cmpi .eq arg1 c0_i32
  let v_true : BitVec 1 := 1#1
  let v11 : BitVec 1 := Scalar.xori v8 v_true
  let v12 : BitVec 32 := Scalar.extui v11
  let c0_i32_9 : BitVec 32 := 0#32
  let v13 : BitVec 1 := Scalar.cmpi .ne v12 c0_i32_9
  v13

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnReferenceIdeal.lean ====
abbrev S8192x2048 : Shape := ⟨2, ![8192, 2048]⟩
abbrev S4x32x2048 : Shape := ⟨3, ![4, 32, 2048]⟩
abbrev S2048 : Shape := ⟨1, ![2048]⟩
abbrev S4x2048x12288 : Shape := ⟨3, ![4, 2048, 12288]⟩
abbrev S4x3x6144 : Shape := ⟨3, ![4, 3, 6144]⟩
abbrev S4x6144 : Shape := ⟨2, ![4, 6144]⟩
abbrev S2x32x6144 : Shape := ⟨3, ![2, 32, 6144]⟩
abbrev S4x2048x2048 : Shape := ⟨3, ![4, 2048, 2048]⟩
abbrev S_ : Shape := ⟨0, ![]⟩
abbrev S4x2x6144 : Shape := ⟨3, ![4, 2, 6144]⟩
abbrev S4x2048 : Shape := ⟨2, ![4, 2048]⟩
abbrev S4x2048x1 : Shape := ⟨3, ![4, 2048, 1]⟩
abbrev S1x1x2048 : Shape := ⟨3, ![1, 1, 2048]⟩
abbrev S1x2048x12288 : Shape := ⟨3, ![1, 2048, 12288]⟩
abbrev S2048x12288 : Shape := ⟨2, ![2048, 12288]⟩
abbrev S4x2048x6144 : Shape := ⟨3, ![4, 2048, 6144]⟩
abbrev S1x3x6144 : Shape := ⟨3, ![1, 3, 6144]⟩
abbrev S3x6144 : Shape := ⟨2, ![3, 6144]⟩
abbrev S1x6144 : Shape := ⟨2, ![1, 6144]⟩
abbrev S6144 : Shape := ⟨1, ![6144]⟩
abbrev S4x2050x6144 : Shape := ⟨3, ![4, 2050, 6144]⟩
abbrev S1x1x6144 : Shape := ⟨3, ![1, 1, 6144]⟩
abbrev S1x32x2048 : Shape := ⟨3, ![1, 32, 2048]⟩
abbrev S32x2048 : Shape := ⟨2, ![32, 2048]⟩
abbrev S32x1x2048 : Shape := ⟨3, ![32, 1, 2048]⟩
abbrev S32x2x6144 : Shape := ⟨3, ![32, 2, 6144]⟩
abbrev S32x1 : Shape := ⟨2, ![32, 1]⟩
abbrev S32x1x1 : Shape := ⟨3, ![32, 1, 1]⟩
abbrev S32x1x12288 : Shape := ⟨3, ![32, 1, 12288]⟩
abbrev S32x1x6144 : Shape := ⟨3, ![32, 1, 6144]⟩
abbrev S32x3x6144 : Shape := ⟨3, ![32, 3, 6144]⟩
abbrev S8192x6144 : Shape := ⟨2, ![8192, 6144]⟩
abbrev S1x32x6144 : Shape := ⟨3, ![1, 32, 6144]⟩
abbrev S4x32x6144 : Shape := ⟨3, ![4, 32, 6144]⟩
abbrev S4x8x6144 : Shape := ⟨3, ![4, 8, 6144]⟩

abbrev nBuf : Space → Nat
  | .hbm => 158
  | .vmem => 0
  | .smem => 0
  | _ => 0

abbrev hbmTy0_0 (i : Nat) : BufTy := match i % 128 with
  | 0 => ⟨S8192x2048, .f32⟩
  | 1 => ⟨S4x32x2048, .f32⟩
  | 2 => ⟨S2048, .f32⟩
  | 3 => ⟨S4x2048x12288, .f32⟩
  | 4 => ⟨S4x3x6144, .f32⟩
  | 5 => ⟨S4x6144, .f32⟩
  | 6 => ⟨S2x32x6144, .f32⟩
  | 7 => ⟨S4x2048x2048, .f32⟩
  | 8 => ⟨S_, .f32⟩
  | 9 => ⟨S4x2x6144, .f32⟩
  | 10 => ⟨S4x2048x2048, .f32⟩
  | 11 => ⟨S_, .f32⟩
  | 12 => ⟨S4x2048, .f32⟩
  | 13 => ⟨S4x2048x1, .f32⟩
  | 14 => ⟨S_, .f32⟩
  | 15 => ⟨S4x2048x1, .f32⟩
  | 16 => ⟨S4x2048x1, .f32⟩
  | 17 => ⟨S_, .f32⟩
  | 18 => ⟨S4x2048x1, .f32⟩
  | 19 => ⟨S4x2048x1, .f32⟩
  | 20 => ⟨S4x2048x1, .f32⟩
  | 21 => ⟨S4x2048x2048, .f32⟩
  | 22 => ⟨S4x2048x2048, .f32⟩
  | 23 => ⟨S1x1x2048, .f32⟩
  | 24 => ⟨S4x2048x2048, .f32⟩
  | 25 => ⟨S4x2048x2048, .f32⟩
  | 26 => ⟨S1x2048x12288, .f32⟩
  | 27 => ⟨S2048x12288, .f32⟩
  | 28 => ⟨S4x2048x12288, .f32⟩
  | 29 => ⟨S4x2048x6144, .f32⟩
  | 30 => ⟨S4x2048x6144, .f32⟩
  | 31 => ⟨S1x3x6144, .f32⟩
  | 32 => ⟨S3x6144, .f32⟩
  | 33 => ⟨S1x6144, .f32⟩
  | 34 => ⟨S6144, .f32⟩
  | 35 => ⟨S4x2050x6144, .f32⟩
  | 36 => ⟨S4x2048x6144, .f32⟩
  | 37 => ⟨S1x6144, .f32⟩
  | 38 => ⟨S6144, .f32⟩
  | 39 => ⟨S1x1x6144, .f32⟩
  | 40 => ⟨S4x2048x6144, .f32⟩
  | 41 => ⟨S4x2048x6144, .f32⟩
  | 42 => ⟨S1x1x6144, .f32⟩
  | 43 => ⟨S4x2048x6144, .f32⟩
  | 44 => ⟨S4x2048x6144, .f32⟩
  | 45 => ⟨S4x2048x6144, .f32⟩
  | 46 => ⟨S1x6144, .f32⟩
  | 47 => ⟨S6144, .f32⟩
  | 48 => ⟨S1x1x6144, .f32⟩
  | 49 => ⟨S4x2048x6144, .f32⟩
  | 50 => ⟨S4x2048x6144, .f32⟩
  | 51 => ⟨S4x2048x6144, .f32⟩
  | 52 => ⟨S4x2048x6144, .f32⟩
  | 53 => ⟨S1x6144, .f32⟩
  | 54 => ⟨S6144, .f32⟩
  | 55 => ⟨S1x1x6144, .f32⟩
  | 56 => ⟨S4x2048x6144, .f32⟩
  | 57 => ⟨S4x2048x6144, .f32⟩
  | 58 => ⟨S4x2048x6144, .f32⟩
  | 59 => ⟨S4x2x6144, .f32⟩
  | 60 => ⟨S4x2048x6144, .f32⟩
  | 61 => ⟨S4x2048x6144, .f32⟩
  | 62 => ⟨S_, .f32⟩
  | 63 => ⟨S4x2048x6144, .f32⟩
  | 64 => ⟨S4x2048x6144, .f32⟩
  | 65 => ⟨S4x2048x6144, .f32⟩
  | 66 => ⟨S_, .f32⟩
  | 67 => ⟨S4x2048x6144, .f32⟩
  | 68 => ⟨S4x2048x6144, .f32⟩
  | 69 => ⟨S4x2048x6144, .f32⟩
  | 70 => ⟨S_, .f32⟩
  | 71 => ⟨S4x2048x6144, .f32⟩
  | 72 => ⟨S4x2048x6144, .f32⟩
  | 73 => ⟨S_, .f32⟩
  | 74 => ⟨S4x2048x6144, .f32⟩
  | 75 => ⟨S4x2048x6144, .f32⟩
  | 76 => ⟨S4x2048x6144, .f32⟩
  | 77 => ⟨S4x2048x6144, .f32⟩
  | 78 => ⟨S1x32x2048, .f32⟩
  | 79 => ⟨S32x2048, .f32⟩
  | 80 => ⟨S32x1x2048, .f32⟩
  | 81 => ⟨S32x2x6144, .f32⟩
  | 82 => ⟨S32x1x2048, .f32⟩
  | 83 => ⟨S_, .f32⟩
  | 84 => ⟨S32x1, .f32⟩
  | 85 => ⟨S32x1x1, .f32⟩
  | 86 => ⟨S_, .f32⟩
  | 87 => ⟨S32x1x1, .f32⟩
  | 88 => ⟨S32x1x1, .f32⟩
  | 89 => ⟨S_, .f32⟩
  | 90 => ⟨S32x1x1, .f32⟩
  | 91 => ⟨S32x1x1, .f32⟩
  | 92 => ⟨S32x1x1, .f32⟩
  | 93 => ⟨S32x1x2048, .f32⟩
  | 94 => ⟨S32x1x2048, .f32⟩
  | 95 => ⟨S1x1x2048, .f32⟩
  | 96 => ⟨S32x1x2048, .f32⟩
  | 97 => ⟨S32x1x2048, .f32⟩
  | 98 => ⟨S1x2048x12288, .f32⟩
  | 99 => ⟨S2048x12288, .f32⟩
  | 100 => ⟨S32x1x12288, .f32⟩
  | 101 => ⟨S32x1x6144, .f32⟩
  | 102 => ⟨S32x1x6144, .f32⟩
  | 103 => ⟨S1x3x6144, .f32⟩
  | 104 => ⟨S3x6144, .f32⟩
  | 105 => ⟨S1x6144, .f32⟩
  | 106 => ⟨S6144, .f32⟩
  | 107 => ⟨S32x3x6144, .f32⟩
  | 108 => ⟨S32x1x6144, .f32⟩
  | 109 => ⟨S1x6144, .f32⟩
  | 110 => ⟨S6144, .f32⟩
  | 111 => ⟨S1x1x6144, .f32⟩
  | 112 => ⟨S32x1x6144, .f32⟩
  | 113 => ⟨S32x1x6144, .f32⟩
  | 114 => ⟨S1x1x6144, .f32⟩
  | 115 => ⟨S32x1x6144, .f32⟩
  | 116 => ⟨S32x1x6144, .f32⟩
  | 117 => ⟨S32x1x6144, .f32⟩
  | 118 => ⟨S1x6144, .f32⟩
  | 119 => ⟨S6144, .f32⟩
  | 120 => ⟨S1x1x6144, .f32⟩
  | 121 => ⟨S32x1x6144, .f32⟩
  | 122 => ⟨S32x1x6144, .f32⟩
  | 123 => ⟨S32x1x6144, .f32⟩
  | 124 => ⟨S32x1x6144, .f32⟩
  | 125 => ⟨S1x6144, .f32⟩
  | 126 => ⟨S6144, .f32⟩
  | 127 => ⟨S1x1x6144, .f32⟩
  | _ => ⟨S8192x2048, .f32⟩

abbrev hbmTy0_1 (i : Nat) : BufTy := match i % 128 with
  | 0 => ⟨S32x1x6144, .f32⟩
  | 1 => ⟨S32x1x6144, .f32⟩
  | 2 => ⟨S32x1x6144, .f32⟩
  | 3 => ⟨S32x2x6144, .f32⟩
  | 4 => ⟨S32x1x6144, .f32⟩
  | 5 => ⟨S32x1x6144, .f32⟩
  | 6 => ⟨S_, .f32⟩
  | 7 => ⟨S32x1x6144, .f32⟩
  | 8 => ⟨S32x1x6144, .f32⟩
  | 9 => ⟨S32x1x6144, .f32⟩
  | 10 => ⟨S_, .f32⟩
  | 11 => ⟨S32x1x6144, .f32⟩
  | 12 => ⟨S32x1x6144, .f32⟩
  | 13 => ⟨S32x1x6144, .f32⟩
  | 14 => ⟨S_, .f32⟩
  | 15 => ⟨S32x1x6144, .f32⟩
  | 16 => ⟨S32x1x6144, .f32⟩
  | 17 => ⟨S_, .f32⟩
  | 18 => ⟨S32x1x6144, .f32⟩
  | 19 => ⟨S32x1x6144, .f32⟩
  | 20 => ⟨S32x1x6144, .f32⟩
  | 21 => ⟨S32x1x6144, .f32⟩
  | 22 => ⟨S8192x6144, .f32⟩
  | 23 => ⟨S8192x6144, .bf16⟩
  | 24 => ⟨S1x32x6144, .f32⟩
  | 25 => ⟨S4x32x6144, .f32⟩
  | 26 => ⟨S4x32x6144, .bf16⟩
  | 27 => ⟨S4x8x6144, .f32⟩
  | 28 => ⟨S1x32x6144, .f32⟩
  | 29 => ⟨S4x32x6144, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_3 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_4 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_5 : Ref sig .tc := ⟨.hbm, 70, rfl⟩
abbrev main_v57 : Ref sig .tc := ⟨.hbm, 71, rfl⟩
abbrev main_v58 : Ref sig .tc := ⟨.hbm, 72, rfl⟩
abbrev main_cst_6 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_7 : Ref sig .tc := ⟨.hbm, 83, rfl⟩
abbrev main_v68 : Ref sig .tc := ⟨.hbm, 84, rfl⟩
abbrev main_v69 : Ref sig .tc := ⟨.hbm, 85, rfl⟩
abbrev main_cst_8 : Ref sig .tc := ⟨.hbm, 86, rfl⟩
abbrev main_v70 : Ref sig .tc := ⟨.hbm, 87, rfl⟩
abbrev main_v71 : Ref sig .tc := ⟨.hbm, 88, rfl⟩
abbrev main_cst_9 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_cst_10 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_cst_11 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_cst_12 : Ref sig .tc := ⟨.hbm, 142, rfl⟩
abbrev main_v122 : Ref sig .tc := ⟨.hbm, 143, rfl⟩
abbrev main_v123 : Ref sig .tc := ⟨.hbm, 144, rfl⟩
abbrev main_cst_13 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩

abbrev nD : Nat := 1
abbrev τ : Topo := Topo.v7x

variable {F : FTy → Type} [FloatOps F]
-- ==== Proof.SwaBlock.lean ====
module

public import proofs.«01_k».proof.Proof.Gen.KernelIdeal.Value
public import Idealize.ShloMosaic.Lib.Pointwise
public import Idealize.ShloMosaic.Lib.Pipeline.ValueKit.Tiles

@[expose] public section

set_option maxRecDepth 16384

/-! What one grid point of the attention kernel computes, as the chain of vector operations of one pair of heads: the
sixteen stored pieces of the output block are one chain at sixteen places. -/

noncomputable section

namespace Cert.KernelIdeal.Swa

open Cert.KernelIdeal Cert.KernelIdeal.Gen Idealize.ShloMosaic Idealize.ShloMosaic.TcCoe Idealize.ShloMosaic.Tactic Idealize.SL.Sem

/-- The rotary embedding of 128 lanes (two heads) by three tables. -/
def ropeK (x co lo hi : FVec Ideal S128x128 .f32) : FVec Ideal S128x128 .f32 :=
  addf (addf (mulf x co) (mulf (dynamicRotate 1 120#32 none x rotates_S128x128_d1) lo))
    (mulf (dynamicRotate 1 8#32 none x rotates_S128x128_d1) hi)

/-- A table as loaded. -/
def tabK (x : Vec Ideal S128x128 .f32) : FVec Ideal S128x128 .f32 :=
  shapeCast S128x128 (View.ld x (Rect.unit ![0, 0] ![128, 128] inb_S128x128_S128x128_0_0)) shapeCasts_S128x128_S128x128

/-- The rotated keys of one block of 128 rows, both halves of the 256 columns. -/
def krotK (x6 x7 x8 : FVec Ideal S128x128 .f32) (x2 : Vec Ideal S128x256 .f32) : FVec Ideal S128x256 .f32 :=
  concatenate S128x256 1
    [⟨S128x128, ropeK (View.ld x2 (Rect.unit ![0, 0] ![128, 128] inb_S128x256_S128x128_0_0)) x6 x7 x8⟩,
     ⟨S128x128, ropeK (View.ld x2 (Rect.unit ![0, 128] ![128, 128] inb_S128x256_S128x128_0_128)) x6 x7 x8⟩]
    concatenates_S128x128_S128x128_S128x256_d1

/-- The scaled keys of the previous and the current block. -/
def keysK (x2 x3 : Vec Ideal S128x256 .f32) (x6 x7 x8 x9 x10 x11 : Vec Ideal S128x128 .f32) : FVec Ideal S256x256 .f32 :=
  mulf (concatenate S256x256 0
      [⟨S128x256, krotK (tabK x6) (tabK x7) (tabK x8) x2⟩, ⟨S128x256, krotK (tabK x9) (tabK x10) (tabK x11) x3⟩]
      concatenates_S128x256_S128x256_S256x256_d0)
    (broadcast S256x256 (Scalar.ofBits .f32 0x3E000000#32 : Ideal .f32))

/-- The values of the previous and the current block. -/
def valuesK (x4 x5 : Vec Ideal S128x256 .f32) : FVec Ideal S256x256 .bf16 :=
  truncf .bf16 (concatenate S256x256 0
      [⟨S128x256, View.ld x4 (Rect.unit ![0, 0] ![128, 256] inb_S128x256_S128x256_0_0)⟩,
       ⟨S128x256, View.ld x5 (Rect.unit ![0, 0] ![128, 256] inb_S128x256_S128x256_0_0)⟩]
      concatenates_S128x256_S128x256_S256x256_d0) bitsLt_bf16_f32

/-- Which of the 256 keys each of the 128 queries sees. -/
def maskK (a : BitVec 32) : IVec S256x128 1 :=
  andi (andi
      (cmpi .sge (subi (addi (broadcast S256x128 128#32) (iota .tc S256x128 32 [1] iota_S256x128_d1_w32))
        (iota .tc S256x128 32 [0] iota_S256x128_d0_w32)) (broadcast S256x128 0#32))
      (cmpi .slt (subi (addi (broadcast S256x128 128#32) (iota .tc S256x128 32 [1] iota_S256x128_d1_w32))
        (iota .tc S256x128 32 [0] iota_S256x128_d0_w32)) (broadcast S256x128 128#32)))
    (ori (broadcast S256x128 (Scalar.cmpi .sgt a 0#32))
      (cmpi .sge (iota .tc S256x128 32 [0] iota_S256x128_d0_w32) (broadcast S256x128 128#32)))

def lowKeys : IVec S256x128 1 := cmpi .slt (iota .tc S256x128 32 [1] iota_S256x128_d1_w32) (broadcast S256x128 64#32)

def lowOut : IVec S128x128 1 := cmpi .slt (iota .tc S128x128 32 [1] iota_S128x128_d1_w32) (broadcast S128x128 64#32)

def zeroK : FVec Ideal S256x128 .f32 := broadcast S256x128 (Scalar.ofBits .f32 0x00000000#32 : Ideal .f32)

/-- The keys of one head in the low 64 lanes, zero above; `kb` holds them low or high. -/
def padLL (kb : FVec Ideal S256x128 .f32) : FVec Ideal S256x128 .bf16 :=
  truncf .bf16 (select lowKeys kb zeroK) bitsLt_bf16_f32
def padLH (kb : FVec Ideal S256x128 .f32) : FVec Ideal S256x128 .bf16 :=
  truncf .bf16 (select lowKeys (dynamicRotate 1 64#32 none kb rotates_S256x128_d1) zeroK) bitsLt_bf16_f32
/-- The same in the high 64 lanes. -/
def padHL (kb : FVec Ideal S256x128 .f32) : FVec Ideal S256x128 .bf16 :=
  truncf .bf16 (select lowKeys zeroK (dynamicRotate 1 64#32 none kb rotates_S256x128_d1)) bitsLt_bf16_f32
def padHH (kb : FVec Ideal S256x128 .f32) : FVec Ideal S256x128 .bf16 :=
  truncf .bf16 (select lowKeys zeroK kb) bitsLt_bf16_f32

/-- The masked scores of one head, keys down and queries across. -/
def scoreK (valid : IVec S256x128 1) (kp : FVec Ideal S256x128 .bf16) (q : FVec Ideal S128x128 .bf16) : FVec Ideal S256x128 .f32 :=
  select valid (matmul dot_S256x128_S128x128_S256x128_1_1_0_0_n_n none kp q (constant S256x128 .f32 0x00000000#32))
    (broadcast S256x128 (Scalar.ofBits .f32 0xFF800000#32 : Ideal .f32))

/-- The row maximum with the sink. -/
def topK (s : FVec Ideal S256x128 .f32) (sink : Ideal .f32) : FVec Ideal S1x128 .f32 :=
  maximumf (shapeCast S1x128 (multiReduction .maximumf [0] S128 s 0xFF800000#32 reduces_S256x128_S128 (.inl rfl) rfl) shapeCasts_S128_S1x128)
    (broadcast S1x128 sink)

/-- The unnormalised weights. -/
def expK (s : FVec Ideal S256x128 .f32) (sink : Ideal .f32) : FVec Ideal S256x128 .f32 :=
  exp (subf s (broadcastTo S256x128 (topK s sink) broadcasts_S1x128_S256x128))

/-- The weights' sum with the sink's. -/
def denK (s : FVec Ideal S256x128 .f32) (sink : Ideal .f32) : FVec Ideal S1x128 .f32 :=
  addf (shapeCast S1x128 (multiReduction .add [0] S128 (expK s sink) 0x00000000#32 reduces_S256x128_S128 (.inl rfl) rfl) shapeCasts_S128_S1x128)
    (exp (subf (broadcast S1x128 sink) (topK s sink)))

/-- One head's output: the normalised weights against the values. -/
def headK (s : FVec Ideal S256x128 .f32) (sink : Ideal .f32) (v : FVec Ideal S256x128 .bf16) : FVec Ideal S128x128 .f32 :=
  matmul dot_S256x128_S256x128_S128x128_0_0_1_1_n_n none
    (truncf .bf16 (mulf (expK s sink)
      (broadcastTo S256x128 (divf (broadcast S1x128 (Scalar.ofBits .f32 0x3F800000#32 : Ideal .f32)) (denK s sink)) broadcasts_S1x128_S256x128)) bitsLt_bf16_f32)
    v (constant S128x128 .f32 0x00000000#32)

/-- Two heads side by side, their keys and values in the low lanes of the block. -/
def pairLow (valid : IVec S256x128 1) (kb : FVec Ideal S256x128 .f32) (vb : FVec Ideal S256x128 .bf16) (q : FVec Ideal S128x128 .bf16)
    (s0 s1 : Ideal .f32) : FVec Ideal S128x128 .bf16 :=
  truncf .bf16 (select lowOut (headK (scoreK valid (padLL kb) q) s0 vb)
    (dynamicRotate 1 64#32 none (headK (scoreK valid (padHL kb) q) s1 vb) rotates_S128x128_d1)) bitsLt_bf16_f32
/-- The same with keys and values in the high lanes. -/
def pairHigh (valid : IVec S256x128 1) (kb : FVec Ideal S256x128 .f32) (vb : FVec Ideal S256x128 .bf16) (q : FVec Ideal S128x128 .bf16)
    (s0 s1 : Ideal .f32) : FVec Ideal S128x128 .bf16 :=
  truncf .bf16 (select lowOut (dynamicRotate 1 64#32 none (headK (scoreK valid (padLH kb) q) s0 vb) rotates_S128x128_d1)
    (headK (scoreK valid (padHH kb) q) s1 vb)) bitsLt_bf16_f32

/-- The rotated queries of one pair of heads. -/
def queryK (q : FVec Ideal S128x128 .f32) (x9 x10 x11 : Vec Ideal S128x128 .f32) : FVec Ideal S128x128 .bf16 :=
  truncf .bf16 (ropeK q (tabK x9) (tabK x10) (tabK x11)) bitsLt_bf16_f32

theorem fold_sink (x0 : Vec Ideal S32 .f32) (k : Fin 32) (h : ∀ d : Fin 1, (![k.val] : Fin 1 → Nat) d + (![1] : Fin 1 → Nat) d ≤ S32.size d)
    (i : (Rect.unit (s := S32) ![k.val] ![1] h).shape.Idx) : View.ld x0 (Rect.unit ![k.val] ![1] h) i = x0 (ix1 k) := by
  show x0 _ = x0 _
  congr 1
  funext d
  apply Fin.ext
  obtain rfl : d = 0 := Subsingleton.elim _ _
  have := (i 0).isLt
  have e : ((Rect.unit (s := S32) ![k.val] ![1] h).emb i 0).val = k.val + 1 * (i 0).val := rfl
  have e' : (i 0).val < 1 := this
  show ((Rect.unit (s := S32) ![k.val] ![1] h).emb i 0).val = k.val
  omega

theorem fold_keys (x2 x3 : Vec Ideal S128x256 .f32) (x6 x7 x8 x9 x10 x11 : Vec Ideal S128x128 .f32) :
    k0_pay8 (tabK x9) (tabK x10) (tabK x11)
            (k0_pay5 (View.ld x6 (Rect.unit ![0, 0] ![128, 128] inb_S128x128_S128x128_0_0))
              (View.ld x7 (Rect.unit ![0, 0] ![128, 128] inb_S128x128_S128x128_0_0))
              (View.ld x8 (Rect.unit ![0, 0] ![128, 128] inb_S128x128_S128x128_0_0))
              (View.ld x2 (Rect.unit ![0, 0] ![128, 128] inb_S128x256_S128x128_0_0))
              (View.ld x2 (Rect.unit ![0, 128] ![128, 128] inb_S128x256_S128x128_0_128)))
            (View.ld x3 (Rect.unit ![0, 0] ![128, 128] inb_S128x256_S128x128_0_0))
            (k0_pay6 (View.ld x9 (Rect.unit ![0, 0] ![128, 128] inb_S128x128_S128x128_0_0))
              (View.ld x10 (Rect.unit ![0, 0] ![128, 128] inb_S128x128_S128x128_0_0))
              (View.ld x3 (Rect.unit ![0, 0] ![128, 128] inb_S128x256_S128x128_0_0)))
            (8#32) (View.ld x3 (Rect.unit ![0, 128] ![128, 128] inb_S128x256_S128x128_0_128))
      = keysK x2 x3 x6 x7 x8 x9 x10 x11 := rfl

theorem fold_values (x4 x5 : Vec Ideal S128x256 .f32) :
    (k0_pay9 (View.ld x4 (Rect.unit ![0, 0] ![128, 256] inb_S128x256_S128x256_0_0))
            (View.ld x5 (Rect.unit ![0, 0] ![128, 256] inb_S128x256_S128x256_0_0)) : FVec Ideal S256x256 .bf16) = valuesK x4 x5 := rfl

theorem fold_mask (a : BitVec 32) : k0_pay10 a = maskK a := rfl

theorem fold_lowKeys : k0_pay11 = lowKeys := rfl

theorem fold_tab2 (x : Vec Ideal S128x128 .f32) : k0_pay2 (View.ld x (Rect.unit ![0, 0] ![128, 128] inb_S128x128_S128x128_0_0)) = tabK x := rfl
theorem fold_tab3 (x : Vec Ideal S128x128 .f32) : k0_pay3 (View.ld x (Rect.unit ![0, 0] ![128, 128] inb_S128x128_S128x128_0_0)) = tabK x := rfl
theorem fold_tab4 (x : Vec Ideal S128x128 .f32) : k0_pay4 (View.ld x (Rect.unit ![0, 0] ![128, 128] inb_S128x128_S128x128_0_0)) = tabK x := rfl

theorem block13 (c : Dev nD) (i : grid0.Coords) (arg2 : Memref sig .tc .smem S32 .f32) (harg2 : arg2.IsWhole) (arg3 : Memref sig .tc .vmem S128x2048 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x2048 .bf16) (harg14 : arg14.IsWhole) (arg15 : Memref sig .tc .vmem S128x256 .f32) (harg15 : arg15.IsWhole)
    (x0 : Vec Ideal S32 .f32) (x1 : Vec Ideal S128x2048 .f32) (x2 x3 x4 x5 : Vec Ideal S128x256 .f32) (x6 x7 x8 x9 x10 x11 : Vec Ideal S128x128 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 = krotK (tabK x9) (tabK x10) (tabK x11) x3 := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread]
  exact View.canon_cons_unit_lit (S := S128x256) (off := ![0, 0]) (Val := Elt Ideal) inb_S128x256_S128x256_0_0 _ _ (by decide)

attribute [local irreducible] keysK valuesK maskK lowKeys tabK

/-- The sixteen stored pieces of the output block at one place of it. -/
def Pieces12 (i : grid0.Coords) (x0 : Vec Ideal S32 .f32) (x1 : Vec Ideal S128x2048 .f32) (x2 x3 x4 x5 : Vec Ideal S128x256 .f32) (x6 x7 x8 x9 x10 x11 : Vec Ideal S128x128 .f32)
    (y : S128x2048.Idx) (v : EReal) : Prop :=
    (∀ x : S128x128.Idx, (y 0).val = (x 0).val → (y 1).val = 0 + (x 1).val → pairLow (maskK (BitVec.ofNat 32 (i 1).val)) (extractStridedSlice S256x128 ![0, 0] (keysK x2 x3 x6 x7 x8 x9 x10 x11) slices_S256x256_o0_0_S256x128) (extractStridedSlice S256x128 ![0, 0] (valuesK x4 x5) slices_S256x256_o0_0_S256x128) (queryK (View.ld x1 (Rect.unit ![0, 0] ![128, 128] inb_S128x2048_S128x128_0_0)) x9 x10 x11) (View.ld x0 (Rect.unit ![0] ![1] inb_S32_S1_0) (Shape.Idx.first (by decide))) (View.ld x0 (Rect.unit ![1] ![1] inb_S32_S1_1) (Shape.Idx.first (by decide))) x = v)
    ∧ (∀ x : S128x128.Idx, (y 0).val = (x 0).val → (y 1).val = 128 + (x 1).val → pairLow (maskK (BitVec.ofNat 32 (i 1).val)) (extractStridedSlice S256x128 ![0, 0] (keysK x2 x3 x6 x7 x8 x9 x10 x11) slices_S256x256_o0_0_S256x128) (extractStridedSlice S256x128 ![0, 0] (valuesK x4 x5) slices_S256x256_o0_0_S256x128) (queryK (View.ld x1 (Rect.unit ![0, 128] ![128, 128] inb_S128x2048_S128x128_0_128)) x9 x10 x11) (View.ld x0 (Rect.unit ![2] ![1] inb_S32_S1_2) (Shape.Idx.first (by decide))) (View.ld x0 (Rect.unit ![3] ![1] inb_S32_S1_3) (Shape.Idx.first (by decide))) x = v)
    ∧ (∀ x : S128x128.Idx, (y 0).val = (x 0).val → (y 1).val = 256 + (x 1).val → pairLow (maskK (BitVec.ofNat 32 (i 1).val)) (extractStridedSlice S256x128 ![0, 0] (keysK x2 x3 x6 x7 x8 x9 x10 x11) slices_S256x256_o0_0_S256x128) (extractStridedSlice S256x128 ![0, 0] (valuesK x4 x5) slices_S256x256_o0_0_S256x128) (queryK (View.ld x1 (Rect.unit ![0, 256] ![128, 128] inb_S128x2048_S128x128_0_256)) x9 x10 x11) (View.ld x0 (Rect.unit ![4] ![1] inb_S32_S1_4) (Shape.Idx.first (by decide))) (View.ld x0 (Rect.unit ![5] ![1] inb_S32_S1_5) (Shape.Idx.first (by decide))) x = v)
    ∧ (∀ x : S128x128.Idx, (y 0).val = (x 0).val → (y 1).val = 384 + (x 1).val → pairLow (maskK (BitVec.ofNat 32 (i 1).val)) (extractStridedSlice S256x128 ![0, 0] (keysK x2 x3 x6 x7 x8 x9 x10 x11) slices_S256x256_o0_0_S256x128) (extractStridedSlice S256x128 ![0, 0] (valuesK x4 x5) slices_S256x256_o0_0_S256x128) (queryK (View.ld x1 (Rect.unit ![0, 384] ![128, 128] inb_S128x2048_S128x128_0_384)) x9 x10 x11) (View.ld x0 (Rect.unit ![6] ![1] inb_S32_S1_6) (Shape.Idx.first (by decide))) (View.ld x0 (Rect.unit ![7] ![1] inb_S32_S1_7) (Shape.Idx.first (by decide))) x = v)
    ∧ (∀ x : S128x128.Idx, (y 0).val = (x 0).val → (y 1).val = 512 + (x 1).val → pairHigh (maskK (BitVec.ofNat 32 (i 1).val)) (extractStridedSlice S256x128 ![0, 0] (keysK x2 x3 x6 x7 x8 x9 x10 x11) slices_S256x256_o0_0_S256x128) (extractStridedSlice S256x128 ![0, 0] (valuesK x4 x5) slices_S256x256_o0_0_S256x128) (queryK (View.ld x1 (Rect.unit ![0, 512] ![128, 128] inb_S128x2048_S128x128_0_512)) x9 x10 x11) (View.ld x0 (Rect.unit ![8] ![1] inb_S32_S1_8) (Shape.Idx.first (by decide))) (View.ld x0 (Rect.unit ![9] ![1] inb_S32_S1_9) (Shape.Idx.first (by decide))) x = v)
    ∧ (∀ x : S128x128.Idx, (y 0).val = (x 0).val → (y 1).val = 640 + (x 1).val → pairHigh (maskK (BitVec.ofNat 32 (i 1).val)) (extractStridedSlice S256x128 ![0, 0] (keysK x2 x3 x6 x7 x8 x9 x10 x11) slices_S256x256_o0_0_S256x128) (extractStridedSlice S256x128 ![0, 0] (valuesK x4 x5) slices_S256x256_o0_0_S256x128) (queryK (View.ld x1 (Rect.unit ![0, 640] ![128, 128] inb_S128x2048_S128x128_0_640)) x9 x10 x11) (View.ld x0 (Rect.unit ![10] ![1] inb_S32_S1_10) (Shape.Idx.first (by decide))) (View.ld x0 (Rect.unit ![11] ![1] inb_S32_S1_11) (Shape.Idx.first (by decide))) x = v)
    ∧ (∀ x : S128x128.Idx, (y 0).val = (x 0).val → (y 1).val = 768 + (x 1).val → pairHigh (maskK (BitVec.ofNat 32 (i 1).val)) (extractStridedSlice S256x128 ![0, 0] (keysK x2 x3 x6 x7 x8 x9 x10 x11) slices_S256x256_o0_0_S256x128) (extractStridedSlice S256x128 ![0, 0] (valuesK x4 x5) slices_S256x256_o0_0_S256x128) (queryK (View.ld x1 (Rect.unit ![0, 768] ![128, 128] inb_S128x2048_S128x128_0_768)) x9 x10 x11) (View.ld x0 (Rect.unit ![12] ![1] inb_S32_S1_12) (Shape.Idx.first (by decide))) (View.ld x0 (Rect.unit ![13] ![1] inb_S32_S1_13) (Shape.Idx.first (by decide))) x = v)
    ∧ (∀ x : S128x128.Idx, (y 0).val = (x 0).val → (y 1).val = 896 + (x 1).val → pairHigh (maskK (BitVec.ofNat 32 (i 1).val)) (extractStridedSlice S256x128 ![0, 0] (keysK x2 x3 x6 x7 x8 x9 x10 x11) slices_S256x256_o0_0_S256x128) (extractStridedSlice S256x128 ![0, 0] (valuesK x4 x5) slices_S256x256_o0_0_S256x128) (queryK (View.ld x1 (Rect.unit ![0, 896] ![128, 128] inb_S128x2048_S128x128_0_896)) x9 x10 x11) (View.ld x0 (Rect.unit ![14] ![1] inb_S32_S1_14) (Shape.Idx.first (by decide))) (View.ld x0 (Rect.unit ![15] ![1] inb_S32_S1_15) (Shape.Idx.first (by decide))) x = v)
    ∧ (∀ x : S128x128.Idx, (y 0).val = (x 0).val → (y 1).val = 1024 + (x 1).val → pairLow (maskK (BitVec.ofNat 32 (i 1).val)) (extractStridedSlice S256x128 ![0, 128] (keysK x2 x3 x6 x7 x8 x9 x10 x11) slices_S256x256_o0_128_S256x128) (extractStridedSlice S256x128 ![0, 128] (valuesK x4 x5) slices_S256x256_o0_128_S256x128) (queryK (View.ld x1 (Rect.unit ![0, 1024] ![128, 128] inb_S128x2048_S128x128_0_1024)) x9 x10 x11) (View.ld x0 (Rect.unit ![16] ![1] inb_S32_S1_16) (Shape.Idx.first (by decide))) (View.ld x0 (Rect.unit ![17] ![1] inb_S32_S1_17) (Shape.Idx.first (by decide))) x = v)
    ∧ (∀ x : S128x128.Idx, (y 0).val = (x 0).val → (y 1).val = 1152 + (x 1).val → pairLow (maskK (BitVec.ofNat 32 (i 1).val)) (extractStridedSlice S256x128 ![0, 128] (keysK x2 x3 x6 x7 x8 x9 x10 x11) slices_S256x256_o0_128_S256x128) (extractStridedSlice S256x128 ![0, 128] (valuesK x4 x5) slices_S256x256_o0_128_S256x128) (queryK (View.ld x1 (Rect.unit ![0, 1152] ![128, 128] inb_S128x2048_S128x128_0_1152)) x9 x10 x11) (View.ld x0 (Rect.unit ![18] ![1] inb_S32_S1_18) (Shape.Idx.first (by decide))) (View.ld x0 (Rect.unit ![19] ![1] inb_S32_S1_19) (Shape.Idx.first (by decide))) x = v)
    ∧ (∀ x : S128x128.Idx, (y 0).val = (x 0).val → (y 1).val = 1280 + (x 1).val → pairLow (maskK (BitVec.ofNat 32 (i 1).val)) (extractStridedSlice S256x128 ![0, 128] (keysK x2 x3 x6 x7 x8 x9 x10 x11) slices_S256x256_o0_128_S256x128) (extractStridedSlice S256x128 ![0, 128] (valuesK x4 x5) slices_S256x256_o0_128_S256x128) (queryK (View.ld x1 (Rect.unit ![0, 1280] ![128, 128] inb_S128x2048_S128x128_0_1280)) x9 x10 x11) (View.ld x0 (Rect.unit ![20] ![1] inb_S32_S1_20) (Shape.Idx.first (by decide))) (View.ld x0 (Rect.unit ![21] ![1] inb_S32_S1_21) (Shape.Idx.first (by decide))) x = v)
    ∧ (∀ x : S128x128.Idx, (y 0).val = (x 0).val → (y 1).val = 1408 + (x 1).val → pairLow (maskK (BitVec.ofNat 32 (i 1).val)) (extractStridedSlice S256x128 ![0, 128] (keysK x2 x3 x6 x7 x8 x9 x10 x11) slices_S256x256_o0_128_S256x128) (extractStridedSlice S256x128 ![0, 128] (valuesK x4 x5) slices_S256x256_o0_128_S256x128) (queryK (View.ld x1 (Rect.unit ![0, 1408] ![128, 128] inb_S128x2048_S128x128_0_1408)) x9 x10 x11) (View.ld x0 (Rect.unit ![22] ![1] inb_S32_S1_22) (Shape.Idx.first (by decide))) (View.ld x0 (Rect.unit ![23] ![1] inb_S32_S1_23) (Shape.Idx.first (by decide))) x = v)
    ∧ (∀ x : S128x128.Idx, (y 0).val = (x 0).val → (y 1).val = 1536 + (x 1).val → pairHigh (maskK (BitVec.ofNat 32 (i 1).val)) (extractStridedSlice S256x128 ![0, 128] (keysK x2 x3 x6 x7 x8 x9 x10 x11) slices_S256x256_o0_128_S256x128) (extractStridedSlice S256x128 ![0, 128] (valuesK x4 x5) slices_S256x256_o0_128_S256x128) (queryK (View.ld x1 (Rect.unit ![0, 1536] ![128, 128] inb_S128x2048_S128x128_0_1536)) x9 x10 x11) (View.ld x0 (Rect.unit ![24] ![1] inb_S32_S1_24) (Shape.Idx.first (by decide))) (View.ld x0 (Rect.unit ![25] ![1] inb_S32_S1_25) (Shape.Idx.first (by decide))) x = v)
    ∧ (∀ x : S128x128.Idx, (y 0).val = (x 0).val → (y 1).val = 1664 + (x 1).val → pairHigh (maskK (BitVec.ofNat 32 (i 1).val)) (extractStridedSlice S256x128 ![0, 128] (keysK x2 x3 x6 x7 x8 x9 x10 x11) slices_S256x256_o0_128_S256x128) (extractStridedSlice S256x128 ![0, 128] (valuesK x4 x5) slices_S256x256_o0_128_S256x128) (queryK (View.ld x1 (Rect.unit ![0, 1664] ![128, 128] inb_S128x2048_S128x128_0_1664)) x9 x10 x11) (View.ld x0 (Rect.unit ![26] ![1] inb_S32_S1_26) (Shape.Idx.first (by decide))) (View.ld x0 (Rect.unit ![27] ![1] inb_S32_S1_27) (Shape.Idx.first (by decide))) x = v)
    ∧ (∀ x : S128x128.Idx, (y 0).val = (x 0).val → (y 1).val = 1792 + (x 1).val → pairHigh (maskK (BitVec.ofNat 32 (i 1).val)) (extractStridedSlice S256x128 ![0, 128] (keysK x2 x3 x6 x7 x8 x9 x10 x11) slices_S256x256_o0_128_S256x128) (extractStridedSlice S256x128 ![0, 128] (valuesK x4 x5) slices_S256x256_o0_128_S256x128) (queryK (View.ld x1 (Rect.unit ![0, 1792] ![128, 128] inb_S128x2048_S128x128_0_1792)) x9 x10 x11) (View.ld x0 (Rect.unit ![28] ![1] inb_S32_S1_28) (Shape.Idx.first (by decide))) (View.ld x0 (Rect.unit ![29] ![1] inb_S32_S1_29) (Shape.Idx.first (by decide))) x = v)
    ∧ (∀ x : S128x128.Idx, (y 0).val = (x 0).val → (y 1).val = 1920 + (x 1).val → pairHigh (maskK (BitVec.ofNat 32 (i 1).val)) (extractStridedSlice S256x128 ![0, 128] (keysK x2 x3 x6 x7 x8 x9 x10 x11) slices_S256x256_o0_128_S256x128) (extractStridedSlice S256x128 ![0, 128] (valuesK x4 x5) slices_S256x256_o0_128_S256x128) (queryK (View.ld x1 (Rect.unit ![0, 1920] ![128, 128] inb_S128x2048_S128x128_0_1920)) x9 x10 x11) (View.ld x0 (Rect.unit ![30] ![1] inb_S32_S1_30) (Shape.Idx.first (by decide))) (View.ld x0 (Rect.unit ![31] ![1] inb_S32_S1_31) (Shape.Idx.first (by decide))) x = v)

theorem block12 (c : Dev nD) (i : grid0.Coords) (arg2 : Memref sig .tc .smem S32 .f32) (harg2 : arg2.IsWhole) (arg3 : Memref sig .tc .vmem S128x2048 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x2048 .bf16) (harg14 : arg14.IsWhole) (arg15 : Memref sig .tc .vmem S128x256 .f32) (harg15 : arg15.IsWhole)
    (x0 : Vec Ideal S32 .f32) (x1 : Vec Ideal S128x2048 .f32) (x2 x3 x4 x5 : Vec Ideal S128x256 .f32) (x6 x7 x8 x9 x10 x11 : Vec Ideal S128x128 .f32) (y : S128x2048.Idx) (v : EReal)
    (hp : Pieces12 i x0 x1 x2 x3 x4 x5 x6 x7 x8 x9 x10 x11 y v)
    : out0_A_12 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 y = v := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread]
  canon_tiles x h
  case piece0 =>
    simp only [fold_keys, fold_values, fold_mask, fold_lowKeys, fold_tab2, fold_tab3, fold_tab4]
    exact hp.2.2.2.2.2.2.2.2.2.2.2.2.2.2.2 x h0 h1
  case piece1 =>
    simp only [fold_keys, fold_values, fold_mask, fold_lowKeys, fold_tab2, fold_tab3, fold_tab4]
    exact hp.2.2.2.2.2.2.2.2.2.2.2.2.2.2.1 x h0 h1
  case piece2 =>
    simp only [fold_keys, fold_values, fold_mask, fold_lowKeys, fold_tab2, fold_tab3, fold_tab4]
    exact hp.2.2.2.2.2.2.2.2.2.2.2.2.2.1 x h0 h1
  case piece3 =>
    simp only [fold_keys, fold_values, fold_mask, fold_lowKeys, fold_tab2, fold_tab3, fold_tab4]
    exact hp.2.2.2.2.2.2.2.2.2.2.2.2.1 x h0 h1
  case piece4 =>
    simp only [fold_keys, fold_values, fold_mask, fold_lowKeys, fold_tab2, fold_tab3, fold_tab4]
    exact hp.2.2.2.2.2.2.2.2.2.2.2.1 x h0 h1
  case piece5 =>
    simp only [fold_keys, fold_values, fold_mask, fold_lowKeys, fold_tab2, fold_tab3, fold_tab4]
    exact hp.2.2.2.2.2.2.2.2.2.2.1 x h0 h1
  case piece6 =>
    simp only [fold_keys, fold_values, fold_mask, fold_lowKeys, fold_tab2, fold_tab3, fold_tab4]
    exact hp.2.2.2.2.2.2.2.2.2.1 x h0 h1
  case piece7 =>
    simp only [fold_keys, fold_values, fold_mask, fold_lowKeys, fold_tab2, fold_tab3, fold_tab4]
    exact hp.2.2.2.2.2.2.2.2.1 x h0 h1
  case piece8 =>
    simp only [fold_keys, fold_values, fold_mask, fold_lowKeys, fold_tab2, fold_tab3, fold_tab4]
    exact hp.2.2.2.2.2.2.2.1 x h0 h1
  case piece9 =>
    simp only [fold_keys, fold_values, fold_mask, fold_lowKeys, fold_tab2, fold_tab3, fold_tab4]
    exact hp.2.2.2.2.2.2.1 x h0 h1
  case piece10 =>
    simp only [fold_keys, fold_values, fold_mask, fold_lowKeys, fold_tab2, fold_tab3, fold_tab4]
    exact hp.2.2.2.2.2.1 x h0 h1
  case piece11 =>
    simp only [fold_keys, fold_values, fold_mask, fold_lowKeys, fold_tab2, fold_tab3, fold_tab4]
    exact hp.2.2.2.2.1 x h0 h1
  case piece12 =>
    simp only [fold_keys, fold_values, fold_mask, fold_lowKeys, fold_tab2, fold_tab3, fold_tab4]
    exact hp.2.2.2.1 x h0 h1
  case piece13 =>
    simp only [fold_keys, fold_values, fold_mask, fold_lowKeys, fold_tab2, fold_tab3, fold_tab4]
    exact hp.2.2.1 x h0 h1
  case piece14 =>
    simp only [fold_keys, fold_values, fold_mask, fold_lowKeys, fold_tab2, fold_tab3, fold_tab4]
    exact hp.2.1 x h0 h1
  case piece15 =>
    simp only [fold_keys, fold_values, fold_mask, fold_lowKeys, fold_tab2, fold_tab3, fold_tab4]
    exact hp.1 x h0 (h1.trans (Nat.zero_add _).symm)

end Cert.KernelIdeal.Swa

end
-- ==== Proof.SwaSpec.lean ====
module

public import Idealize.ShloMosaic.Lib.Pointwise

@[expose] public section

set_option maxRecDepth 16384

/-! The attention with a sink on extended reals: the rotary embedding, the scores, the normalised weights, and the two
ways of normalising them that agree on finite scores. Arrays are read at natural numbers, so that two readings of one
place compare by arithmetic. -/

noncomputable section

namespace Cert.Swa

open Idealize.ShloMosaic

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, by push_cast; rfl⟩

theorem IsReal.add {x y : EReal} (hx : IsReal x) (hy : IsReal y) : IsReal (x + y) := by
  obtain ⟨a, rfl⟩ := hx; obtain ⟨b, rfl⟩ := hy; exact ⟨a + b, by push_cast; rfl⟩

theorem IsReal.sub {x y : EReal} (hx : IsReal x) (hy : IsReal y) : IsReal (x - y) := by
  obtain ⟨a, rfl⟩ := hx; obtain ⟨b, rfl⟩ := hy; exact ⟨a - b, by push_cast; rfl⟩

theorem IsReal.neg {x : EReal} (hx : IsReal x) : IsReal (-x) := by
  obtain ⟨a, rfl⟩ := hx; exact ⟨-a, by push_cast; rfl⟩

theorem IsReal.sum {n : ℕ} (f : Fin n → EReal) (h : ∀ i, IsReal (f i)) : IsReal (∑ i, f i) := by
  classical
  refine Finset.induction_on (motive := fun s => IsReal (∑ i ∈ s, f i)) Finset.univ ⟨0, by simp⟩ ?_
  intro a s ha ih
  rw [Finset.sum_insert ha]
  exact (h a).add ih

theorem ofBits_ninf : Ideal.ofBits .f32 0xFF800000#32 = ⊥ := by simp [Ideal.ofBits, Ideal.ieee]

theorem ofBits_inf : Ideal.ofBits .f32 0x7F800000#32 = ⊤ := by simp [Ideal.ofBits, Ideal.ieee]

/-- The score scale, one over the square root of the head's width. -/
def scale : EReal := Ideal.ofBits .f32 0x3E000000#32

theorem scale_real : ∃ r : ℝ, 0 ≤ r ∧ scale = (r : EReal) := by
  unfold scale
  simp only [Ideal.ofBits, Ideal.ieee]
  rw [if_neg (by decide), if_neg (by decide)]
  exact ⟨_, mul_nonneg (mul_nonneg (by rw [if_neg (by decide)]; norm_num) (by positivity)) (by positivity), rfl⟩

/-- The rotary base. -/
def base : EReal := Ideal.ofBits .f32 0x48F42400#32

theorem base_real : IsReal base := by
  unfold base
  simp only [Ideal.ofBits, Ideal.ieee]
  rw [if_neg (by decide), if_neg (by decide)]
  exact ⟨_, rfl⟩

/-- The angle of position `t` at frequency `e`. -/
def ang (t e : ℕ) : EReal :=
  (((BitVec.ofNat 32 t).toInt : ℝ) : EReal) * Ideal.pow base (-(((BitVec.ofNat 32 e).toInt : ℝ) : EReal) * scale)

theorem ang_real (t e : ℕ) : IsReal (ang t e) := by
  refine IsReal.mul ⟨_, rfl⟩ ?_
  obtain ⟨b, hb⟩ := base_real
  obtain ⟨s, -, hs⟩ := scale_real
  rw [hb, hs, ← EReal.coe_neg, ← EReal.coe_mul, Ideal.pow_coe_coe]
  exact ⟨_, rfl⟩

def cosN (t e : ℕ) : EReal := Ideal.cos (ang t e)
def sinN (t e : ℕ) : EReal := Ideal.sin (ang t e)

theorem cosN_real (t e : ℕ) : IsReal (cosN t e) := by
  obtain ⟨a, ha⟩ := ang_real t e
  exact ⟨_, by rw [cosN, ha]; rfl⟩
theorem sinN_real (t e : ℕ) : IsReal (sinN t e) := by
  obtain ⟨a, ha⟩ := ang_real t e
  exact ⟨_, by rw [sinN, ha]; rfl⟩

/-- One head's lanes rotated at position `t`: the first sixteen in two halves, the others as they are. -/
def rotN (x : ℕ → EReal) (t e : ℕ) : EReal :=
  if e < 8 then x e * cosN t e - x (e + 8) * sinN t e
  else if e < 16 then x e * cosN t (e - 8) + x (e - 8) * sinN t (e - 8) else x e

theorem rotN_real (x : ℕ → EReal) (h : ∀ n, IsReal (x n)) (t e : ℕ) : IsReal (rotN x t e) := by
  unfold rotN
  split_ifs
  · exact ((h _).mul (cosN_real _ _)).sub ((h _).mul (sinN_real _ _))
  · exact ((h _).mul (cosN_real _ _)).add ((h _).mul (sinN_real _ _))
  · exact h _

/-- The three tables the kernel reads, over the lanes of two heads. -/
def tabC (t l : ℕ) : EReal := if l % 64 < 8 then cosN t (l % 64) else if l % 64 < 16 then cosN t (l % 64 - 8) else 1
def tabL (t l : ℕ) : EReal := if l % 64 < 8 then -sinN t (l % 64) else 0
def tabH (t l : ℕ) : EReal := if l % 64 < 8 then 0 else if l % 64 < 16 then sinN t (l % 64 - 8) else 0

/-- The three-term rotation by tables is the rotation of the lane's head. -/
theorem rope_tab (x : ℕ → EReal) (t l : ℕ) (hl : l < 128) :
    x l * tabC t l + x ((l + 128 - 120) % 128) * tabL t l + x ((l + 128 - 8) % 128) * tabH t l
      = rotN (fun e => x (64 * (l / 64) + e)) t (l % 64) := by
  unfold tabC tabL tabH rotN
  dsimp only
  split_ifs with h1 h2
  · have e1 : (l + 128 - 120) % 128 = 64 * (l / 64) + (l % 64 + 8) := by omega
    have e2 : 64 * (l / 64) + l % 64 = l := by omega
    rw [mul_zero, add_zero, e1, e2, mul_neg, sub_eq_add_neg]
  · have e1 : (l + 128 - 8) % 128 = 64 * (l / 64) + (l % 64 - 8) := by omega
    have e2 : 64 * (l / 64) + l % 64 = l := by omega
    rw [mul_zero, add_zero, e1, e2]
  · have e2 : 64 * (l / 64) + l % 64 = l := by omega
    rw [mul_zero, add_zero, mul_zero, add_zero, mul_one, e2]

/-- Rotated queries, rotated keys and values of batch `b`, position `t`, read from the projected array. -/
def qN (A : ℕ → ℕ → EReal) (b t h e : ℕ) : EReal := rotN (fun e' => A (2048 * b + t) (64 * h + e')) t e
def kN (A : ℕ → ℕ → EReal) (b t kh e : ℕ) : EReal := rotN (fun e' => A (2048 * b + t) (2048 + 64 * kh + e')) t e
def vN (A : ℕ → ℕ → EReal) (b t kh e : ℕ) : EReal := A (2048 * b + t) (2304 + 64 * kh + e)

/-- Key `j` of the block's 256 is seen by query `r`: within the window, and not before the sequence. -/
def seen (i r j : ℕ) : Prop := j ≤ 128 + r ∧ r < j ∧ (0 < i ∨ 128 ≤ j)

instance (i r j : ℕ) : Decidable (seen i r j) := by unfold seen; infer_instance

/-- The masked scores, as the reference scales them. -/
def scoreN (A : ℕ → ℕ → EReal) (b i r h : ℕ) (j : Fin 256) : EReal :=
  if seen i r j then (∑ e : Fin 64, kN A b (128 * i + j - 128) (h / 8) e * qN A b (128 * i + r) h e) * scale else ⊥

/-- The maximum of the scores and the sink. -/
def topN {n : ℕ} (s : Fin n → EReal) (sink : EReal) : EReal := max (Finset.univ.fold max ⊥ s) sink

def denN {n : ℕ} (s : Fin n → EReal) (sink : EReal) : EReal :=
  ∑ j, Ideal.exp (s j - topN s sink) + Ideal.exp (sink - topN s sink)

/-- The weighted values, each weight times the reciprocal of the sum. -/
def headS {n : ℕ} (s : Fin n → EReal) (sink : EReal) (v : Fin n → EReal) : EReal :=
  ∑ j, Ideal.exp (s j - topN s sink) * Ideal.div 1 (denN s sink) * v j

/-- The weighted values, each weight divided by the sum. -/
def headR {n : ℕ} (s : Fin n → EReal) (sink : EReal) (v : Fin n → EReal) : EReal :=
  ∑ j, v j * Ideal.div (Ideal.exp (s j - topN s sink)) (denN s sink)

theorem fold_max_ne_top {n : ℕ} (s : Fin n → EReal) (h : ∀ j, s j ≠ ⊤) : Finset.univ.fold max ⊥ s ≠ ⊤ := by
  classical
  refine Finset.induction_on (motive := fun t => Finset.fold max ⊥ s t ≠ ⊤) Finset.univ (by simp) ?_
  intro a t ha ih
  rw [Finset.fold_insert ha]
  rcases max_choice (s a) (Finset.fold max ⊥ s t) with e | e <;> rw [e]
  · exact h a
  · exact ih

theorem exp_nonneg (x : EReal) : 0 ≤ Ideal.exp x := by
  induction x using EReal.rec with
  | bot => exact le_rfl
  | top => exact le_top
  | coe r => rw [Ideal.exp_coe]; exact_mod_cast (Real.exp_pos r).le

theorem topN_real {n : ℕ} (s : Fin n → EReal) (sink : EReal) (h : ∀ j, s j ≠ ⊤) (hk : IsReal sink) : IsReal (topN s sink) := by
  obtain ⟨k, rfl⟩ := hk
  have h1 : topN s (k : EReal) ≠ ⊤ := by
    unfold topN
    rcases max_choice (Finset.univ.fold max ⊥ s) (k : EReal) with e | e <;> rw [e]
    · exact fold_max_ne_top s h
    · exact EReal.coe_ne_top k
  have h2 : topN s (k : EReal) ≠ ⊥ := by
    intro e
    have : (k : EReal) ≤ topN s (k : EReal) := le_max_right _ _
    rw [e] at this
    exact EReal.coe_ne_bot k (le_bot_iff.mp this)
  exact ⟨_, (EReal.coe_toReal h1 h2).symm⟩

theorem denN_ne_zero {n : ℕ} (s : Fin n → EReal) (sink : EReal) (h : ∀ j, s j ≠ ⊤) (hk : IsReal sink) : denN s sink ≠ 0 := by
  obtain ⟨d, hd⟩ := hk.sub (topN_real s sink h hk)
  have h1 : 0 ≤ ∑ j, Ideal.exp (s j - topN s sink) := Finset.sum_nonneg fun j _ => exp_nonneg _
  have h2 : (0 : EReal) < Ideal.exp (sink - topN s sink) := by
    rw [hd, Ideal.exp_coe]; exact_mod_cast Real.exp_pos d
  exact (lt_of_lt_of_le h2 (le_add_of_nonneg_left h1)).ne'

/-- The two normalisations agree when the seen scores are real, whatever stands at an unseen key. -/
theorem head_eq {n : ℕ} (M : Fin n → Prop) (s s' v v' : Fin n → EReal) (sink : EReal)
    (hs : ∀ j, s j = s' j) (hv : ∀ j, M j → v j = v' j) (hM : ∀ j, ¬ M j → s' j = ⊥)
    (hr : ∀ j, M j → IsReal (s' j)) (hk : IsReal sink) : headS s sink v = headR s' sink v' := by
  obtain rfl : s = s' := funext hs
  have ht : ∀ j, s j ≠ ⊤ := by
    intro j
    by_cases h : M j
    · obtain ⟨r, e⟩ := hr j h; rw [e]; exact EReal.coe_ne_top r
    · rw [hM j h]; exact bot_ne_top
  have hd := denN_ne_zero s sink ht hk
  unfold headS headR
  refine Finset.sum_congr rfl fun j _ => ?_
  simp only [Ideal.div, if_neg hd, one_mul]
  by_cases h : M j
  · rw [hv j h, mul_comm]
  · have : s j - topN s sink = ⊥ := by rw [hM j h, EReal.bot_sub]
    rw [this, Ideal.exp_bot, zero_mul, zero_mul, mul_zero]

/-- The scale moved out of a sum. -/
theorem sum_scale {n : ℕ} (f g : Fin n → EReal) : ∑ e, f e * scale * g e = (∑ e, f e * g e) * scale := by
  classical
  obtain ⟨r, hr, hs⟩ := scale_real
  rw [hs]
  refine Finset.induction_on (motive := fun t => ∑ e ∈ t, f e * (r : EReal) * g e = (∑ e ∈ t, f e * g e) * r) Finset.univ (by simp) ?_
  intro a t ha ih
  rw [Finset.sum_insert ha, Finset.sum_insert ha, ih,
    EReal.right_distrib_of_nonneg_of_ne_top (by exact_mod_cast hr) (EReal.coe_ne_top r), mul_right_comm]

/-- The scores with the keys scaled first. -/
def scoreK (A : ℕ → ℕ → EReal) (b i r h : ℕ) (j : Fin 256) : EReal :=
  if seen i r j then ∑ e : Fin 64, kN A b (128 * i + j - 128) (h / 8) e * scale * qN A b (128 * i + r) h e else ⊥

/-- One place of the attention's output, as the kernel and as the reference write it. -/
theorem attn_eq (A : ℕ → ℕ → EReal) (hA : ∀ r c, IsReal (A r c)) (sink : EReal) (hk : IsReal sink) (b i r h : ℕ)
    (v v' : Fin 256 → EReal) (hv : ∀ j : Fin 256, seen i r j → v j = v' j) :
    headS (scoreK A b i r h) sink v = headR (scoreN A b i r h) sink v' := by
  refine head_eq (fun j => seen i r j) _ _ _ _ _ ?_ hv ?_ ?_ hk
  · intro j
    unfold scoreK scoreN
    split_ifs
    · exact sum_scale _ _
    · rfl
  · intro j h; unfold scoreN; rw [if_neg h]
  · intro j h
    unfold scoreN
    rw [if_pos h]
    obtain ⟨s, -, hs⟩ := scale_real
    refine IsReal.mul (IsReal.sum _ fun e => ?_) ⟨s, hs⟩
    exact (rotN_real _ (fun n => hA _ _) _ _).mul (rotN_real _ (fun n => hA _ _) _ _)

end Cert.Swa

end
-- ==== Proof.SwaHead.lean ====
module

public import proofs.«01_k».proof.Proof.SwaBlock
public import proofs.«01_k».proof.Proof.SwaSpec
public import Idealize.ShloMosaic.Lib.WordCmp
public import Idealize.ShloMosaic.Lib.WordArith

@[expose] public section

set_option maxRecDepth 16384

/-! The chain of one pair of heads read at an index, over the plain reading of the arrays. -/

noncomputable section

namespace Cert.KernelIdeal.Swa

open Idealize.ShloMosaic.WordCmp Cert.KernelIdeal Cert.KernelIdeal.Gen Cert.Swa Idealize.ShloMosaic Idealize.ShloMosaic.TcCoe Idealize.ShloMosaic.Tactic Idealize.SL.Sem

theorem select_ofBool (p : Prop) [Decidable p] {α : Type} (x y : α) :
    Scalar.select (BitVec.ofBool (decide p)) x y = if p then x else y := by
  by_cases h : p <;> simp [Scalar.select, h]

theorem toInt_ofNat_small {n : ℕ} (h : n < 4096) : (BitVec.ofNat 32 n).toInt = n := by
  rw [BitVec.toInt_eq_toNat_of_lt (by rw [BitVec.toNat_ofNat]; omega), BitVec.toNat_ofNat, Nat.mod_eq_of_lt (by omega)]

theorem toInt_rel {r j : ℕ} (hr : r < 128) (hj : j < 256) :
    (IntOp.subi (IntOp.addi 128#32 (BitVec.ofNat 32 r)) (BitVec.ofNat 32 j)).toInt = 128 + (r : ℤ) - j := by
  show (128#32 + BitVec.ofNat 32 r - BitVec.ofNat 32 j).toInt = _
  have h128 : (128#32).toInt = 128 := rfl
  have h32 : (2 : ℕ) ^ 32 = 4294967296 := by norm_num
  rw [BitVec.toInt_sub, BitVec.toInt_add, h128, toInt_ofNat_small (by omega), toInt_ofNat_small (by omega), h32,
    Int.bmod_eq_of_le (n := 128 + (r : ℤ)) (by omega) (by omega), Int.bmod_eq_of_le (by omega) (by omega)]

theorem maskK_apply (i : ℕ) (hi : i < 16) (j : Fin 256) (r : Fin 128) :
    maskK (BitVec.ofNat 32 i) (ix2 j r) = BitVec.ofBool (decide (seen i r j)) := by
  pointwise [maskK]
  have h0 : (0#32).toInt = 0 := rfl
  have h1 : (128#32).toInt = 128 := rfl
  show IntOp.andi (IntOp.andi (IntOp.cmpi .sge _ _) (IntOp.cmpi .slt _ _)) (IntOp.ori (IntOp.cmpi .sgt _ _) (IntOp.cmpi .sge _ _)) = _
  simp only [cmpi_sge_eq, cmpi_slt_eq, cmpi_sgt_eq, toInt_rel r.isLt j.isLt, h0, h1, toInt_ofNat_small (show i < 4096 by omega),
    toInt_ofNat_small (show j.val < 4096 by omega), WordArith.andi_ofBool, WordArith.ori_ofBool]
  congr 1
  rw [← Bool.decide_and, ← Bool.decide_or, ← Bool.decide_and]
  refine decide_eq_decide.mpr ?_
  unfold seen
  omega

theorem scoreK_apply (valid : IVec S256x128 1) (kp : FVec Ideal S256x128 .bf16) (q : FVec Ideal S128x128 .bf16) (j : Fin 256) (r : Fin 128) :
    Swa.scoreK valid kp q (ix2 j r) = Scalar.select (valid (ix2 j r)) (∑ x : Fin 128, kp (ix2 j x) * q (ix2 r x)) ⊥ := by
  pointwise [Swa.scoreK]
  rw [ofBits_ninf]

theorem topK_apply (s : FVec Ideal S256x128 .f32) (sink : Ideal .f32) (o : Fin 1) (r : Fin 128) :
    topK s sink (ix2 o r) = topN (fun j : Fin 256 => s (ix2 j r)) sink := by
  pointwise [topK]
  rw [ofBits_ninf]; rfl

theorem expK_apply (s : FVec Ideal S256x128 .f32) (sink : Ideal .f32) (j : Fin 256) (r : Fin 128) :
    expK s sink (ix2 j r) = Ideal.exp (s (ix2 j r) - topN (fun j : Fin 256 => s (ix2 j r)) sink) := by
  pointwise [expK]
  rw [topK_apply]

theorem denK_apply (s : FVec Ideal S256x128 .f32) (sink : Ideal .f32) (o : Fin 1) (r : Fin 128) :
    denK s sink (ix2 o r) = denN (fun j : Fin 256 => s (ix2 j r)) sink := by
  pointwise [denK]
  simp only [topK_apply, expK_apply]
  rfl

theorem headK_apply (s : FVec Ideal S256x128 .f32) (sink : Ideal .f32)  (v : FVec Ideal S256x128 .bf16) (r d : Fin 128) :
    headK s sink v (ix2 r d) = headS (fun j : Fin 256 => s (ix2 j r)) sink (fun j => v (ix2 j d)) := by
  pointwise [headK]
  simp only [expK_apply, denK_apply]
  rfl

theorem ropeK_apply (x co lo hi : FVec Ideal S128x128 .f32) (B : ℕ → EReal) (t : ℕ) (r : Fin 128)
    (hx : ∀ l : Fin 128, x (ix2 r l) = B l) (hc : ∀ l : Fin 128, co (ix2 r l) = tabC t l) (hl : ∀ l : Fin 128, lo (ix2 r l) = tabL t l)
    (hh : ∀ l : Fin 128, hi (ix2 r l) = tabH t l) (l : Fin 128) :
    ropeK x co lo hi (ix2 r l) = rotN (fun e => B (64 * (l / 64) + e)) t (l % 64) := by
  pointwise [ropeK]
  rw [hx, hx, hx, hc, hl, hh]
  exact rope_tab B t l l.isLt

theorem lowLane (l : Fin 128) : IntOp.cmpi CmpIPredicate.slt (BitVec.ofNat 32 l.val) 64#32 = BitVec.ofBool (decide (l.val < 64)) := by
  rw [cmpi_slt_eq, toInt_ofNat_small (by omega)]
  congr 1
  refine decide_eq_decide.mpr ?_
  show (l.val : ℤ) < 64 ↔ _
  omega

/-- A sum over 128 lanes by its halves. -/
theorem sum_halves (f : Fin 128 → EReal) : ∑ l, f l = ∑ e : Fin 64, f ⟨e.val, by omega⟩ + ∑ e : Fin 64, f ⟨64 + e.val, by omega⟩ := by
  rw [Fin.sum_univ_add (a := 64) (b := 64) f]
  rfl

variable (kb : FVec Ideal S256x128 .f32) (q : FVec Ideal S128x128 .bf16) (j : Fin 256) (r : Fin 128)

theorem dotLL : ∑ x : Fin 128, padLL kb (ix2 j x) * q (ix2 r x)
    = ∑ e : Fin 64, kb (ix2 j ⟨e.val, by omega⟩) * q (ix2 r ⟨e.val, by omega⟩) := by
  have h : ∀ l : Fin 128, padLL kb (ix2 j l) = if l.val < 64 then kb (ix2 j l) else 0 := by
    intro l; pointwise [padLL, lowKeys, zeroK]; rw [lowLane, select_ofBool]
  simp only [h]
  rw [sum_halves]
  simp only [Fin.is_lt, if_true, Nat.not_lt.mpr (Nat.le_add_right 64 _), if_false, zero_mul, Finset.sum_const_zero, add_zero]

theorem dotLH : ∑ x : Fin 128, padLH kb (ix2 j x) * q (ix2 r x)
    = ∑ e : Fin 64, kb (ix2 j ⟨64 + e.val, by omega⟩) * q (ix2 r ⟨e.val, by omega⟩) := by
  have h : ∀ l : Fin 128, padLH kb (ix2 j l) = if l.val < 64 then kb (ix2 j ⟨(l.val + 128 - 64) % 128, by omega⟩) else 0 := by
    intro l; pointwise [padLH, lowKeys, zeroK]; rw [lowLane, select_ofBool]
  simp only [h]
  rw [sum_halves]
  simp only [Fin.is_lt, if_true, Nat.not_lt.mpr (Nat.le_add_right 64 _), if_false, zero_mul, Finset.sum_const_zero, add_zero]
  refine Finset.sum_congr rfl fun e _ => ?_
  congr 4
  omega

theorem dotHL : ∑ x : Fin 128, padHL kb (ix2 j x) * q (ix2 r x)
    = ∑ e : Fin 64, kb (ix2 j ⟨e.val, by omega⟩) * q (ix2 r ⟨64 + e.val, by omega⟩) := by
  have h : ∀ l : Fin 128, padHL kb (ix2 j l) = if l.val < 64 then 0 else kb (ix2 j ⟨(l.val + 128 - 64) % 128, by omega⟩) := by
    intro l; pointwise [padHL, lowKeys, zeroK]; rw [lowLane, select_ofBool]
  simp only [h]
  rw [sum_halves]
  simp only [Fin.is_lt, if_true, Nat.not_lt.mpr (Nat.le_add_right 64 _), if_false, zero_mul, Finset.sum_const_zero, zero_add]
  refine Finset.sum_congr rfl fun e _ => ?_
  congr 4
  omega

theorem dotHH : ∑ x : Fin 128, padHH kb (ix2 j x) * q (ix2 r x)
    = ∑ e : Fin 64, kb (ix2 j ⟨64 + e.val, by omega⟩) * q (ix2 r ⟨64 + e.val, by omega⟩) := by
  have h : ∀ l : Fin 128, padHH kb (ix2 j l) = if l.val < 64 then 0 else kb (ix2 j l) := by
    intro l; pointwise [padHH, lowKeys, zeroK]; rw [lowLane, select_ofBool]
  simp only [h]
  rw [sum_halves]
  simp only [Fin.is_lt, if_true, Nat.not_lt.mpr (Nat.le_add_right 64 _), if_false, zero_mul, Finset.sum_const_zero, zero_add]

/-- The scores of one head over plain readings: keys at lanes from `ok`, queries at lanes from `oq`. -/
def dotN (i : ℕ) (K Q : ℕ → ℕ → EReal) (ok oq r : ℕ) (j : Fin 256) : EReal :=
  if seen i r j then ∑ e : Fin 64, K j (ok + e) * Q r (oq + e) else ⊥

/-- A pair's output at lane `l` of row `r`: the head of the lane's half, values from the half `o`. -/
theorem pairLow_apply (i : ℕ) (hi : i < 16) (kb : FVec Ideal S256x128 .f32) (vb : FVec Ideal S256x128 .bf16) (q : FVec Ideal S128x128 .bf16)
    (s0 s1 : Ideal .f32) (K Q : ℕ → ℕ → EReal) (r : Fin 128) (hK : ∀ (j : Fin 256) (l : Fin 128), kb (ix2 j l) = K j l) (hQ : ∀ l : Fin 128, q (ix2 r l) = Q r l)
    (l : Fin 128) :
    pairLow (maskK (BitVec.ofNat 32 i)) kb vb q s0 s1 (ix2 r l)
      = headS (dotN i K Q 0 (64 * (l / 64)) r) (if l.val < 64 then s0 else s1) (fun j => vb (ix2 j ⟨l % 64, by omega⟩)) := by
  pointwise [pairLow, lowOut]
  rw [lowLane, select_ofBool]
  split_ifs with h
  · rw [headK_apply]
    have e : (⟨l.val % 64, by omega⟩ : Fin 128) = l := Fin.ext (by show l.val % 64 = l.val; omega)
    rw [e]
    congr 1
    funext j
    rw [scoreK_apply, maskK_apply i hi, select_ofBool, dotLL]
    have e0 : 64 * (l.val / 64) = 0 := by omega
    simp only [hK, hQ, dotN, e0, Nat.zero_add]
  · rw [headK_apply]
    have e : (⟨(l.val + 128 - 64) % 128, by omega⟩ : Fin 128) = ⟨l.val % 64, by omega⟩ := Fin.ext (by show (l.val + 128 - 64) % 128 = l.val % 64; omega)
    rw [e]
    congr 1
    funext j
    rw [scoreK_apply, maskK_apply i hi, select_ofBool, dotHL]
    have e0 : 64 * (l.val / 64) = 64 := by omega
    simp only [hK, hQ, dotN, e0, Nat.zero_add]

theorem pairHigh_apply (i : ℕ) (hi : i < 16) (kb : FVec Ideal S256x128 .f32) (vb : FVec Ideal S256x128 .bf16) (q : FVec Ideal S128x128 .bf16)
    (s0 s1 : Ideal .f32) (K Q : ℕ → ℕ → EReal) (r : Fin 128) (hK : ∀ (j : Fin 256) (l : Fin 128), kb (ix2 j l) = K j l) (hQ : ∀ l : Fin 128, q (ix2 r l) = Q r l)
    (l : Fin 128) :
    pairHigh (maskK (BitVec.ofNat 32 i)) kb vb q s0 s1 (ix2 r l)
      = headS (dotN i K Q 64 (64 * (l / 64)) r) (if l.val < 64 then s0 else s1) (fun j => vb (ix2 j ⟨64 + l % 64, by omega⟩)) := by
  pointwise [pairHigh, lowOut]
  rw [lowLane, select_ofBool]
  split_ifs with h
  · rw [headK_apply]
    have e : (⟨(l.val + 128 - 64) % 128, by omega⟩ : Fin 128) = ⟨64 + l.val % 64, by omega⟩ := Fin.ext (by show (l.val + 128 - 64) % 128 = 64 + l.val % 64; omega)
    rw [e]
    congr 1
    funext j
    rw [scoreK_apply, maskK_apply i hi, select_ofBool, dotLH]
    have e0 : 64 * (l.val / 64) = 0 := by omega
    simp only [hK, hQ, dotN, e0, Nat.zero_add]
  · rw [headK_apply]
    have e : (⟨64 + l.val % 64, by omega⟩ : Fin 128) = l := Fin.ext (by show 64 + l.val % 64 = l.val; omega)
    rw [e]
    congr 1
    funext j
    rw [scoreK_apply, maskK_apply i hi, select_ofBool, dotHH]
    have e0 : 64 * (l.val / 64) = 64 := by omega
    simp only [hK, hQ, dotN, e0]

theorem tabK_apply (x : Vec Ideal S128x128 .f32) (j l : Fin 128) : tabK x (ix2 j l) = x (ix2 j l) := by
  pointwise [tabK]

theorem krotK_apply (x2 : Vec Ideal S128x256 .f32) (co lo hi : FVec Ideal S128x128 .f32) (B : ℕ → EReal) (t : ℕ) (r : Fin 128)
    (hx : ∀ l : Fin 256, x2 (ix2 r l) = B l) (hc : ∀ l : Fin 128, co (ix2 r l) = tabC t l) (hl : ∀ l : Fin 128, lo (ix2 r l) = tabL t l)
    (hh : ∀ l : Fin 128, hi (ix2 r l) = tabH t l) (l : Fin 256) :
    krotK co lo hi x2 (ix2 r l) = rotN (fun e => B (64 * (l / 64) + e)) t (l % 64) := by
  pointwise [krotK]
  by_cases h : l.val < 128
  · rw [dif_pos h, ropeK_apply _ _ _ _ B t r (fun l => by pointwise; exact hx _) hc hl hh]
  · rw [dif_neg h]
    rw [ropeK_apply _ _ _ _ (fun n => B (128 + n)) t r (fun l => by pointwise; exact hx _) hc hl hh]
    have e1 : (l.val - 128) % 64 = l.val % 64 := by omega
    have e2 : 128 + 64 * ((l.val - 128) / 64) = 64 * (l.val / 64) := by omega
    simp only [e1, ← Nat.add_assoc, e2]

end Cert.KernelIdeal.Swa

end
-- ==== Proof.SwaPoint.lean ====
module

public import proofs.«01_k».proof.Proof.SwaHead

@[expose] public section

set_option maxRecDepth 16384

/-! One grid point's two output blocks, from what its input blocks hold. -/

noncomputable section

namespace Cert.KernelIdeal.Swa

open Cert.KernelIdeal Cert.KernelIdeal.Gen Cert.Swa Idealize.ShloMosaic Idealize.ShloMosaic.TcCoe Idealize.ShloMosaic.Tactic Idealize.SL.Sem

/-- The position of key `j` of block `i` as the kernel reads it: block zero reads itself in place of a block before it. -/
def posN (i j : ℕ) : ℕ := 128 * (if j < 128 then i - 1 else i) + j % 128

theorem posN_seen {i r j : ℕ} (h : seen i r j) : posN i j = 128 * i + j - 128 ∨ 256 ≤ j := by
  unfold seen at h; unfold posN
  split_ifs <;> omega

/-- Column `c` of the values the kernel holds for block `i`. -/
def valN (A : ℕ → ℕ → EReal) (b i : ℕ) (j : Fin 256) (c : ℕ) : EReal := A (2048 * b + posN i j) (2304 + c)

/-- Column `c` of the rotated keys. -/
def keyN (A : ℕ → ℕ → EReal) (b t c : ℕ) : EReal := kN A b t (c / 64) (c % 64)

theorem keysK_apply (A : ℕ → ℕ → EReal) (b i : ℕ) (x2 x3 : Vec Ideal S128x256 .f32) (x6 x7 x8 x9 x10 x11 : Vec Ideal S128x128 .f32)
    (h2 : ∀ (r : Fin 128) (c : Fin 256), x2 (ix2 r c) = A (2048 * b + 128 * (i - 1) + r) (2048 + c))
    (h3 : ∀ (r : Fin 128) (c : Fin 256), x3 (ix2 r c) = A (2048 * b + 128 * i + r) (2048 + c))
    (h6 : ∀ r l : Fin 128, x6 (ix2 r l) = tabC (128 * (i - 1) + r) l) (h7 : ∀ r l : Fin 128, x7 (ix2 r l) = tabL (128 * (i - 1) + r) l)
    (h8 : ∀ r l : Fin 128, x8 (ix2 r l) = tabH (128 * (i - 1) + r) l) (h9 : ∀ r l : Fin 128, x9 (ix2 r l) = tabC (128 * i + r) l)
    (h10 : ∀ r l : Fin 128, x10 (ix2 r l) = tabL (128 * i + r) l) (h11 : ∀ r l : Fin 128, x11 (ix2 r l) = tabH (128 * i + r) l)
    (j l : Fin 256) : keysK x2 x3 x6 x7 x8 x9 x10 x11 (ix2 j l) = keyN A b (posN i j) l * scale := by
  pointwise [keysK]
  unfold keyN kN posN
  by_cases h : j.val < 128
  · rw [dif_pos h, if_pos h]
    rw [krotK_apply x2 _ _ _ (fun c => A (2048 * b + 128 * (i - 1) + j) (2048 + c)) (128 * (i - 1) + j) ⟨j.val, h⟩ (fun c => h2 _ c)
      (fun l => by rw [tabK_apply]; exact h6 _ l) (fun l => by rw [tabK_apply]; exact h7 _ l) (fun l => by rw [tabK_apply]; exact h8 _ l)]
    have e : j.val % 128 = j.val := by omega
    simp only [e, ← Nat.add_assoc]
    rfl
  · rw [dif_neg h, if_neg h]
    have e : j.val % 128 = j.val - 128 := by omega
    rw [krotK_apply x3 _ _ _ (fun c => A (2048 * b + 128 * i + (j.val - 128)) (2048 + c)) (128 * i + (j.val - 128)) ⟨j.val - 128, by omega⟩ (fun c => h3 _ c)
      (fun l => by rw [tabK_apply]; exact h9 _ l) (fun l => by rw [tabK_apply]; exact h10 _ l) (fun l => by rw [tabK_apply]; exact h11 _ l)]
    simp only [e, ← Nat.add_assoc]
    rfl

theorem valuesK_apply (A : ℕ → ℕ → EReal) (b i : ℕ) (x4 x5 : Vec Ideal S128x256 .f32)
    (h4 : ∀ (r : Fin 128) (c : Fin 256), x4 (ix2 r c) = A (2048 * b + 128 * (i - 1) + r) (2304 + c))
    (h5 : ∀ (r : Fin 128) (c : Fin 256), x5 (ix2 r c) = A (2048 * b + 128 * i + r) (2304 + c)) (j l : Fin 256) :
    valuesK x4 x5 (ix2 j l) = valN A b i j l := by
  pointwise [valuesK]
  unfold valN posN
  by_cases h : j.val < 128
  · rw [dif_pos h, if_pos h, h4]
    have e : j.val % 128 = j.val := by omega
    simp only [e, ← Nat.add_assoc]
  · rw [dif_neg h, if_neg h, h5]
    have e : j.val % 128 = j.val - 128 := by omega
    simp only [e, ← Nat.add_assoc]

theorem queryK_apply (q : FVec Ideal S128x128 .f32) (x9 x10 x11 : Vec Ideal S128x128 .f32) (B : ℕ → EReal) (t : ℕ) (r : Fin 128)
    (hx : ∀ l : Fin 128, q (ix2 r l) = B l) (h9 : ∀ l : Fin 128, x9 (ix2 r l) = tabC t l)
    (h10 : ∀ l : Fin 128, x10 (ix2 r l) = tabL t l) (h11 : ∀ l : Fin 128, x11 (ix2 r l) = tabH t l) (l : Fin 128) :
    queryK q x9 x10 x11 (ix2 r l) = rotN (fun e => B (64 * (l / 64) + e)) t (l % 64) := by
  pointwise [queryK]
  exact ropeK_apply _ _ _ _ B t r hx (fun l => by rw [tabK_apply]; exact h9 l) (fun l => by rw [tabK_apply]; exact h10 l)
    (fun l => by rw [tabK_apply]; exact h11 l) l

theorem dotN_eq (A : ℕ → ℕ → EReal) (b i r h o oq p : ℕ) (ho : ∀ e < 64, (o + e) / 64 = h / 8 ∧ (o + e) % 64 = e)
    (hq : ∀ e < 64, (p + (oq + e)) / 64 = h ∧ (oq + e) % 64 = e) (o' ok : ℕ) (hok : o = o' + ok) :
    dotN i (fun j l => keyN A b (posN i j) (o' + l) * scale) (fun r l => qN A b (128 * i + r) ((p + l) / 64) (l % 64)) ok oq r
      = Cert.Swa.scoreK A b i r h := by
  subst hok
  funext j
  unfold dotN Cert.Swa.scoreK
  split_ifs with hs
  · refine Finset.sum_congr rfl fun e _ => ?_
    have hp : posN i j = 128 * i + j - 128 := (posN_seen hs).resolve_right (by omega)
    simp only [keyN]
    rw [← Nat.add_assoc o' ok, (ho e e.isLt).1, (ho e e.isLt).2, (hq e e.isLt).1, (hq e e.isLt).2, hp]
  · rfl

/-- The stored piece `p` when its key head's columns are the low ones of their block. -/
theorem pieceLow (A : ℕ → ℕ → EReal) (S : ℕ → EReal) (b i : ℕ) (hi : i < 16) (p o : ℕ) (ho : 512 * (p / 4) = 8 * o)
    (kb : FVec Ideal S256x128 .f32) (vb : FVec Ideal S256x128 .bf16) (q : FVec Ideal S128x128 .bf16) (s0 s1 : Ideal .f32) (r : Fin 128)
    (hK : ∀ (j : Fin 256) (l : Fin 128), kb (ix2 j l) = keyN A b (posN i j) (o + l) * scale)
    (hV : ∀ (j : Fin 256) (l : Fin 128), vb (ix2 j l) = valN A b i j (o + l))
    (hQ : ∀ l : Fin 128, q (ix2 r l) = qN A b (128 * i + r) ((128 * p + l) / 64) (l % 64))
    (h0 : s0 = S (2 * p)) (h1 : s1 = S (2 * p + 1)) (l : Fin 128) (c : ℕ) (hc : c = 128 * p + l) :
    pairLow (maskK (BitVec.ofNat 32 i)) kb vb q s0 s1 (ix2 r l)
      = headS (Cert.Swa.scoreK A b i r (c / 64)) (S (c / 64)) (fun j => valN A b i j (64 * (c / 512) + c % 64)) := by
  rw [pairLow_apply i hi kb vb q s0 s1 (fun j l => keyN A b (posN i j) (o + l) * scale) (fun r l => qN A b (128 * i + r) ((128 * p + l) / 64) (l % 64)) r hK hQ l,
    dotN_eq A b i r (c / 64) o (64 * (l.val / 64)) (128 * p) (fun e he => by omega) (fun e he => by omega) o 0 rfl]
  congr 1
  · split_ifs with h
    · rw [h0]; congr 1; omega
    · rw [h1]; congr 1; omega
  · funext j
    rw [hV]
    congr 1
    show o + l.val % 64 = _
    omega

/-- The stored piece `p` when its key head's columns are the high ones of their block. -/
theorem pieceHigh (A : ℕ → ℕ → EReal) (S : ℕ → EReal) (b i : ℕ) (hi : i < 16) (p o : ℕ) (ho : 512 * (p / 4) = 8 * (o + 64))
    (kb : FVec Ideal S256x128 .f32) (vb : FVec Ideal S256x128 .bf16) (q : FVec Ideal S128x128 .bf16) (s0 s1 : Ideal .f32) (r : Fin 128)
    (hK : ∀ (j : Fin 256) (l : Fin 128), kb (ix2 j l) = keyN A b (posN i j) (o + l) * scale)
    (hV : ∀ (j : Fin 256) (l : Fin 128), vb (ix2 j l) = valN A b i j (o + l))
    (hQ : ∀ l : Fin 128, q (ix2 r l) = qN A b (128 * i + r) ((128 * p + l) / 64) (l % 64))
    (h0 : s0 = S (2 * p)) (h1 : s1 = S (2 * p + 1)) (l : Fin 128) (c : ℕ) (hc : c = 128 * p + l) :
    pairHigh (maskK (BitVec.ofNat 32 i)) kb vb q s0 s1 (ix2 r l)
      = headS (Cert.Swa.scoreK A b i r (c / 64)) (S (c / 64)) (fun j => valN A b i j (64 * (c / 512) + c % 64)) := by
  rw [pairHigh_apply i hi kb vb q s0 s1 (fun j l => keyN A b (posN i j) (o + l) * scale) (fun r l => qN A b (128 * i + r) ((128 * p + l) / 64) (l % 64)) r hK hQ l,
    dotN_eq A b i r (c / 64) (o + 64) (64 * (l.val / 64)) (128 * p) (fun e he => by omega) (fun e he => by omega) o 64 rfl]
  congr 1
  · split_ifs with h
    · rw [h0]; congr 1; omega
    · rw [h1]; congr 1; omega
  · funext j
    rw [hV]
    congr 1
    show o + (64 + l.val % 64) = _
    omega

set_option maxHeartbeats 4000000 in
/-- The attention block one grid point writes. -/
theorem out12_apply (cd : Dev nD) (i : grid0.Coords) (arg2 : Memref sig .tc .smem S32 .f32) (harg2 : arg2.IsWhole) (arg3 : Memref sig .tc .vmem S128x2048 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x2048 .bf16) (harg14 : arg14.IsWhole) (arg15 : Memref sig .tc .vmem S128x256 .f32) (harg15 : arg15.IsWhole)
    (x0 : Vec Ideal S32 .f32) (x1 : Vec Ideal S128x2048 .f32) (x2 x3 x4 x5 : Vec Ideal S128x256 .f32) (x6 x7 x8 x9 x10 x11 : Vec Ideal S128x128 .f32)
    (A : ℕ → ℕ → EReal) (S : ℕ → EReal) (b n : ℕ) (hn : n < 16) (hin : (i 1).val = n)
    (h0 : ∀ k : Fin 32, x0 (ix1 k) = S k)
    (h1 : ∀ (r : Fin 128) (c : Fin 2048), x1 (ix2 r c) = A (2048 * b + 128 * n + r) c)
    (h2 : ∀ (r : Fin 128) (c : Fin 256), x2 (ix2 r c) = A (2048 * b + 128 * (n - 1) + r) (2048 + c))
    (h3 : ∀ (r : Fin 128) (c : Fin 256), x3 (ix2 r c) = A (2048 * b + 128 * n + r) (2048 + c))
    (h4 : ∀ (r : Fin 128) (c : Fin 256), x4 (ix2 r c) = A (2048 * b + 128 * (n - 1) + r) (2304 + c))
    (h5 : ∀ (r : Fin 128) (c : Fin 256), x5 (ix2 r c) = A (2048 * b + 128 * n + r) (2304 + c))
    (h6 : ∀ r l : Fin 128, x6 (ix2 r l) = tabC (128 * (n - 1) + r) l) (h7 : ∀ r l : Fin 128, x7 (ix2 r l) = tabL (128 * (n - 1) + r) l)
    (h8 : ∀ r l : Fin 128, x8 (ix2 r l) = tabH (128 * (n - 1) + r) l) (h9 : ∀ r l : Fin 128, x9 (ix2 r l) = tabC (128 * n + r) l)
    (h10 : ∀ r l : Fin 128, x10 (ix2 r l) = tabL (128 * n + r) l) (h11 : ∀ r l : Fin 128, x11 (ix2 r l) = tabH (128 * n + r) l)
    (r : Fin 128) (c : Fin 2048) :
    out0_A_12 cd i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 (ix2 r c)
      = headS (Cert.Swa.scoreK A b n r (c / 64)) (S (c / 64)) (fun j => valN A b n j (64 * (c / 512) + c % 64)) := by
  refine block12 cd i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 (ix2 r c) _ ?_
  have hKK := keysK_apply A b n x2 x3 x6 x7 x8 x9 x10 x11 h2 h3 h6 h7 h8 h9 h10 h11
  have hVV := valuesK_apply A b n x4 x5 h4 h5
  have hq : ∀ (p : ℕ) (hp : p < 16) (q : FVec Ideal S128x128 .f32), (∀ l : Fin 128, q (ix2 r l) = x1 (ix2 r ⟨128 * p + l, by omega⟩)) →
      ∀ l : Fin 128, queryK q x9 x10 x11 (ix2 r l) = qN A b (128 * n + r) ((128 * p + l) / 64) (l % 64) := by
    intro p hp q hq l
    rw [queryK_apply q x9 x10 x11 (fun l => A (2048 * b + 128 * n + r) (128 * p + l)) (128 * n + r) r (fun l => by rw [hq, h1]) (h9 r) (h10 r) (h11 r)]
    unfold qN
    have e : (128 * p + l.val) / 64 = 2 * p + l.val / 64 := by omega
    have e' : ∀ x, 128 * p + (64 * (l.val / 64) + x) = 64 * (2 * p + l.val / 64) + x := fun x => by omega
    simp only [e, e', ← Nat.add_assoc]
  subst hin
  refine ⟨fun x e0 e1 => ?_, fun x e0 e1 => ?_, fun x e0 e1 => ?_, fun x e0 e1 => ?_, fun x e0 e1 => ?_, fun x e0 e1 => ?_, fun x e0 e1 => ?_, fun x e0 e1 => ?_, fun x e0 e1 => ?_, fun x e0 e1 => ?_, fun x e0 e1 => ?_, fun x e0 e1 => ?_, fun x e0 e1 => ?_, fun x e0 e1 => ?_, fun x e0 e1 => ?_, fun x e0 e1 => ?_⟩
  · obtain ⟨a, l, rfl⟩ : ∃ a l, x = ix2 a l := ⟨x 0, x 1, (ix2_eta x).symm⟩
    obtain rfl : r = a := Fin.ext e0
    refine pieceLow A S b _ hn 0 0 (by norm_num) _ _ _ _ _ r (fun j l => ?_) (fun j l => ?_)
        (hq 0 (by norm_num) _ (fun l => ?_)) ?_ ?_ l c.val e1
    · pointwise
      exact hKK j _
    · pointwise
      exact hVV j _
    · pointwise
    · exact (fold_sink x0 0 inb_S32_S1_0 _).trans (h0 _)
    · exact (fold_sink x0 1 inb_S32_S1_1 _).trans (h0 _)
  · obtain ⟨a, l, rfl⟩ : ∃ a l, x = ix2 a l := ⟨x 0, x 1, (ix2_eta x).symm⟩
    obtain rfl : r = a := Fin.ext e0
    refine pieceLow A S b _ hn 1 0 (by norm_num) _ _ _ _ _ r (fun j l => ?_) (fun j l => ?_)
        (hq 1 (by norm_num) _ (fun l => ?_)) ?_ ?_ l c.val e1
    · pointwise
      exact hKK j _
    · pointwise
      exact hVV j _
    · pointwise
    · exact (fold_sink x0 2 inb_S32_S1_2 _).trans (h0 _)
    · exact (fold_sink x0 3 inb_S32_S1_3 _).trans (h0 _)
  · obtain ⟨a, l, rfl⟩ : ∃ a l, x = ix2 a l := ⟨x 0, x 1, (ix2_eta x).symm⟩
    obtain rfl : r = a := Fin.ext e0
    refine pieceLow A S b _ hn 2 0 (by norm_num) _ _ _ _ _ r (fun j l => ?_) (fun j l => ?_)
        (hq 2 (by norm_num) _ (fun l => ?_)) ?_ ?_ l c.val e1
    · pointwise
      exact hKK j _
    · pointwise
      exact hVV j _
    · pointwise
    · exact (fold_sink x0 4 inb_S32_S1_4 _).trans (h0 _)
    · exact (fold_sink x0 5 inb_S32_S1_5 _).trans (h0 _)
  · obtain ⟨a, l, rfl⟩ : ∃ a l, x = ix2 a l := ⟨x 0, x 1, (ix2_eta x).symm⟩
    obtain rfl : r = a := Fin.ext e0
    refine pieceLow A S b _ hn 3 0 (by norm_num) _ _ _ _ _ r (fun j l => ?_) (fun j l => ?_)
        (hq 3 (by norm_num) _ (fun l => ?_)) ?_ ?_ l c.val e1
    · pointwise
      exact hKK j _
    · pointwise
      exact hVV j _
    · pointwise
    · exact (fold_sink x0 6 inb_S32_S1_6 _).trans (h0 _)
    · exact (fold_sink x0 7 inb_S32_S1_7 _).trans (h0 _)
  · obtain ⟨a, l, rfl⟩ : ∃ a l, x = ix2 a l := ⟨x 0, x 1, (ix2_eta x).symm⟩
    obtain rfl : r = a := Fin.ext e0
    refine pieceHigh A S b _ hn 4 0 (by norm_num) _ _ _ _ _ r (fun j l => ?_) (fun j l => ?_)
        (hq 4 (by norm_num) _ (fun l => ?_)) ?_ ?_ l c.val e1
    · pointwise
      exact hKK j _
    · pointwise
      exact hVV j _
    · pointwise
    · exact (fold_sink x0 8 inb_S32_S1_8 _).trans (h0 _)
    · exact (fold_sink x0 9 inb_S32_S1_9 _).trans (h0 _)
  · obtain ⟨a, l, rfl⟩ : ∃ a l, x = ix2 a l := ⟨x 0, x 1, (ix2_eta x).symm⟩
    obtain rfl : r = a := Fin.ext e0
    refine pieceHigh A S b _ hn 5 0 (by norm_num) _ _ _ _ _ r (fun j l => ?_) (fun j l => ?_)
        (hq 5 (by norm_num) _ (fun l => ?_)) ?_ ?_ l c.val e1
    · pointwise
      exact hKK j _
    · pointwise
      exact hVV j _
    · pointwise
    · exact (fold_sink x0 10 inb_S32_S1_10 _).trans (h0 _)
    · exact (fold_sink x0 11 inb_S32_S1_11 _).trans (h0 _)
  · obtain ⟨a, l, rfl⟩ : ∃ a l, x = ix2 a l := ⟨x 0, x 1, (ix2_eta x).symm⟩
    obtain rfl : r = a := Fin.ext e0
    refine pieceHigh A S b _ hn 6 0 (by norm_num) _ _ _ _ _ r (fun j l => ?_) (fun j l => ?_)
        (hq 6 (by norm_num) _ (fun l => ?_)) ?_ ?_ l c.val e1
    · pointwise
      exact hKK j _
    · pointwise
      exact hVV j _
    · pointwise
    · exact (fold_sink x0 12 inb_S32_S1_12 _).trans (h0 _)
    · exact (fold_sink x0 13 inb_S32_S1_13 _).trans (h0 _)
  · obtain ⟨a, l, rfl⟩ : ∃ a l, x = ix2 a l := ⟨x 0, x 1, (ix2_eta x).symm⟩
    obtain rfl : r = a := Fin.ext e0
    refine pieceHigh A S b _ hn 7 0 (by norm_num) _ _ _ _ _ r (fun j l => ?_) (fun j l => ?_)
        (hq 7 (by norm_num) _ (fun l => ?_)) ?_ ?_ l c.val e1
    · pointwise
      exact hKK j _
    · pointwise
      exact hVV j _
    · pointwise
    · exact (fold_sink x0 14 inb_S32_S1_14 _).trans (h0 _)
    · exact (fold_sink x0 15 inb_S32_S1_15 _).trans (h0 _)
  · obtain ⟨a, l, rfl⟩ : ∃ a l, x = ix2 a l := ⟨x 0, x 1, (ix2_eta x).symm⟩
    obtain rfl : r = a := Fin.ext e0
    refine pieceLow A S b _ hn 8 128 (by norm_num) _ _ _ _ _ r (fun j l => ?_) (fun j l => ?_)
        (hq 8 (by norm_num) _ (fun l => ?_)) ?_ ?_ l c.val e1
    · pointwise
      exact hKK j _
    · pointwise
      exact hVV j _
    · pointwise
    · exact (fold_sink x0 16 inb_S32_S1_16 _).trans (h0 _)
    · exact (fold_sink x0 17 inb_S32_S1_17 _).trans (h0 _)
  · obtain ⟨a, l, rfl⟩ : ∃ a l, x = ix2 a l := ⟨x 0, x 1, (ix2_eta x).symm⟩
    obtain rfl : r = a := Fin.ext e0
    refine pieceLow A S b _ hn 9 128 (by norm_num) _ _ _ _ _ r (fun j l => ?_) (fun j l => ?_)
        (hq 9 (by norm_num) _ (fun l => ?_)) ?_ ?_ l c.val e1
    · pointwise
      exact hKK j _
    · pointwise
      exact hVV j _
    · pointwise
    · exact (fold_sink x0 18 inb_S32_S1_18 _).trans (h0 _)
    · exact (fold_sink x0 19 inb_S32_S1_19 _).trans (h0 _)
  · obtain ⟨a, l, rfl⟩ : ∃ a l, x = ix2 a l := ⟨x 0, x 1, (ix2_eta x).symm⟩
    obtain rfl : r = a := Fin.ext e0
    refine pieceLow A S b _ hn 10 128 (by norm_num) _ _ _ _ _ r (fun j l => ?_) (fun j l => ?_)
        (hq 10 (by norm_num) _ (fun l => ?_)) ?_ ?_ l c.val e1
    · pointwise
      exact hKK j _
    · pointwise
      exact hVV j _
    · pointwise
    · exact (fold_sink x0 20 inb_S32_S1_20 _).trans (h0 _)
    · exact (fold_sink x0 21 inb_S32_S1_21 _).trans (h0 _)
  · obtain ⟨a, l, rfl⟩ : ∃ a l, x = ix2 a l := ⟨x 0, x 1, (ix2_eta x).symm⟩
    obtain rfl : r = a := Fin.ext e0
    refine pieceLow A S b _ hn 11 128 (by norm_num) _ _ _ _ _ r (fun j l => ?_) (fun j l => ?_)
        (hq 11 (by norm_num) _ (fun l => ?_)) ?_ ?_ l c.val e1
    · pointwise
      exact hKK j _
    · pointwise
      exact hVV j _
    · pointwise
    · exact (fold_sink x0 22 inb_S32_S1_22 _).trans (h0 _)
    · exact (fold_sink x0 23 inb_S32_S1_23 _).trans (h0 _)
  · obtain ⟨a, l, rfl⟩ : ∃ a l, x = ix2 a l := ⟨x 0, x 1, (ix2_eta x).symm⟩
    obtain rfl : r = a := Fin.ext e0
    refine pieceHigh A S b _ hn 12 128 (by norm_num) _ _ _ _ _ r (fun j l => ?_) (fun j l => ?_)
        (hq 12 (by norm_num) _ (fun l => ?_)) ?_ ?_ l c.val e1
    · pointwise
      exact hKK j _
    · pointwise
      exact hVV j _
    · pointwise
    · exact (fold_sink x0 24 inb_S32_S1_24 _).trans (h0 _)
    · exact (fold_sink x0 25 inb_S32_S1_25 _).trans (h0 _)
  · obtain ⟨a, l, rfl⟩ : ∃ a l, x = ix2 a l := ⟨x 0, x 1, (ix2_eta x).symm⟩
    obtain rfl : r = a := Fin.ext e0
    refine pieceHigh A S b _ hn 13 128 (by norm_num) _ _ _ _ _ r (fun j l => ?_) (fun j l => ?_)
        (hq 13 (by norm_num) _ (fun l => ?_)) ?_ ?_ l c.val e1
    · pointwise
      exact hKK j _
    · pointwise
      exact hVV j _
    · pointwise
    · exact (fold_sink x0 26 inb_S32_S1_26 _).trans (h0 _)
    · exact (fold_sink x0 27 inb_S32_S1_27 _).trans (h0 _)
  · obtain ⟨a, l, rfl⟩ : ∃ a l, x = ix2 a l := ⟨x 0, x 1, (ix2_eta x).symm⟩
    obtain rfl : r = a := Fin.ext e0
    refine pieceHigh A S b _ hn 14 128 (by norm_num) _ _ _ _ _ r (fun j l => ?_) (fun j l => ?_)
        (hq 14 (by norm_num) _ (fun l => ?_)) ?_ ?_ l c.val e1
    · pointwise
      exact hKK j _
    · pointwise
      exact hVV j _
    · pointwise
    · exact (fold_sink x0 28 inb_S32_S1_28 _).trans (h0 _)
    · exact (fold_sink x0 29 inb_S32_S1_29 _).trans (h0 _)
  · obtain ⟨a, l, rfl⟩ : ∃ a l, x = ix2 a l := ⟨x 0, x 1, (ix2_eta x).symm⟩
    obtain rfl : r = a := Fin.ext e0
    refine pieceHigh A S b _ hn 15 128 (by norm_num) _ _ _ _ _ r (fun j l => ?_) (fun j l => ?_)
        (hq 15 (by norm_num) _ (fun l => ?_)) ?_ ?_ l c.val e1
    · pointwise
      exact hKK j _
    · pointwise
      exact hVV j _
    · pointwise
    · exact (fold_sink x0 30 inb_S32_S1_30 _).trans (h0 _)
    · exact (fold_sink x0 31 inb_S32_S1_31 _).trans (h0 _)

/-- The rotated keys one grid point writes. -/
theorem out13_apply (cd : Dev nD) (i : grid0.Coords) (arg2 : Memref sig .tc .smem S32 .f32) (harg2 : arg2.IsWhole) (arg3 : Memref sig .tc .vmem S128x2048 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x2048 .bf16) (harg14 : arg14.IsWhole) (arg15 : Memref sig .tc .vmem S128x256 .f32) (harg15 : arg15.IsWhole)
    (x0 : Vec Ideal S32 .f32) (x1 : Vec Ideal S128x2048 .f32) (x2 x3 x4 x5 : Vec Ideal S128x256 .f32) (x6 x7 x8 x9 x10 x11 : Vec Ideal S128x128 .f32)
    (A : ℕ → ℕ → EReal) (b n : ℕ)
    (h3 : ∀ (r : Fin 128) (c : Fin 256), x3 (ix2 r c) = A (2048 * b + 128 * n + r) (2048 + c))
    (h9 : ∀ r l : Fin 128, x9 (ix2 r l) = tabC (128 * n + r) l)
    (h10 : ∀ r l : Fin 128, x10 (ix2 r l) = tabL (128 * n + r) l) (h11 : ∀ r l : Fin 128, x11 (ix2 r l) = tabH (128 * n + r) l)
    (r : Fin 128) (c : Fin 256) :
    out0_A_13 cd i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 (ix2 r c) = kN A b (128 * n + r) (c / 64) (c % 64) := by
  rw [block13]
  rw [krotK_apply x3 _ _ _ (fun c => A (2048 * b + 128 * n + r) (2048 + c)) (128 * n + r) r (h3 r)
    (fun l => by rw [tabK_apply]; exact h9 _ l) (fun l => by rw [tabK_apply]; exact h10 _ l) (fun l => by rw [tabK_apply]; exact h11 _ l)]
  unfold kN
  simp only [← Nat.add_assoc]

end Cert.KernelIdeal.Swa

end
-- ==== Proof.SwaArray.lean ====
module

public import proofs.«01_k».proof.Proof.SwaPoint
public import proofs.«01_k».proof.Proof.Gen.KernelIdeal.Value
public import Idealize.ShloMosaic.Lib.Pipeline.ValueKit
public import Idealize.ShloMosaic.Lib.Claim
public import Idealize.ShloMosaic.Lib.StableHlo.ReadAt

@[expose] public section

set_option maxRecDepth 16384

/-! The kernel's two result arrays, from the arrays the program is given. -/

noncomputable section

namespace Cert.KernelIdeal.Swa

open Cert.KernelIdeal Cert.KernelIdeal.Gen Cert.Swa Idealize.ShloMosaic Idealize.ShloMosaic.TcCoe Idealize.ShloMosaic.Tactic Idealize.SL.Sem

variable (m : (ℓ : Loc nD τ sig) → Buf (Elt Ideal) ℓ)

/-- The projected rows, zero outside the array. -/
def rowsN (c : Dev nD) (R C : ℕ) : EReal :=
  if h : R < 8192 ∧ C < 2560 then (m ((c : Thread nD τ).loc main_arg0) : FVec Ideal S8192x2560 .f32) (ix2 ⟨R, h.1⟩ ⟨C, h.2⟩) else 0

/-- The sinks, zero outside the array. -/
def sinksN (c : Dev nD) (h : ℕ) : EReal :=
  if hh : h < 32 then (m ((c : Thread nD τ).loc main_arg1) : FVec Ideal S32 .f32) (ix1 ⟨h, hh⟩) else 0

theorem idx1 : ∀ t : Fin cfg0.N, win0_1.index t = ![16 * (grid0.coords t 0).val + (grid0.coords t 1).val, 0] :=
  (by decide +kernel : ∀ t : Fin grid0.N, win0_1.index t = ![16 * (grid0.coords t 0).val + (grid0.coords t 1).val, 0])
theorem idx2 : ∀ t : Fin cfg0.N, win0_2.index t = ![16 * (grid0.coords t 0).val + ((grid0.coords t 1).val - 1), 8] :=
  (by decide +kernel : ∀ t : Fin grid0.N, win0_2.index t = ![16 * (grid0.coords t 0).val + ((grid0.coords t 1).val - 1), 8])
theorem idx3 : ∀ t : Fin cfg0.N, win0_3.index t = ![16 * (grid0.coords t 0).val + (grid0.coords t 1).val, 8] :=
  (by decide +kernel : ∀ t : Fin grid0.N, win0_3.index t = ![16 * (grid0.coords t 0).val + (grid0.coords t 1).val, 8])
theorem idx4 : ∀ t : Fin cfg0.N, win0_4.index t = ![16 * (grid0.coords t 0).val + ((grid0.coords t 1).val - 1), 9] :=
  (by decide +kernel : ∀ t : Fin grid0.N, win0_4.index t = ![16 * (grid0.coords t 0).val + ((grid0.coords t 1).val - 1), 9])
theorem idx5 : ∀ t : Fin cfg0.N, win0_5.index t = ![16 * (grid0.coords t 0).val + (grid0.coords t 1).val, 9] :=
  (by decide +kernel : ∀ t : Fin grid0.N, win0_5.index t = ![16 * (grid0.coords t 0).val + (grid0.coords t 1).val, 9])
theorem idx6 : ∀ t : Fin cfg0.N, win0_6.index t = ![(grid0.coords t 1).val - 1, 0] :=
  (by decide +kernel : ∀ t : Fin grid0.N, win0_6.index t = ![(grid0.coords t 1).val - 1, 0])
theorem idx9 : ∀ t : Fin cfg0.N, win0_9.index t = ![(grid0.coords t 1).val, 0] :=
  (by decide +kernel : ∀ t : Fin grid0.N, win0_9.index t = ![(grid0.coords t 1).val, 0])
theorem idx12 : ∀ t : Fin cfg0.N, win0_12.index t = ![16 * (grid0.coords t 0).val + (grid0.coords t 1).val, 0] :=
  (by decide +kernel : ∀ t : Fin grid0.N, win0_12.index t = ![16 * (grid0.coords t 0).val + (grid0.coords t 1).val, 0])
theorem idx13 : ∀ t : Fin cfg0.N, win0_13.index t = ![16 * (grid0.coords t 0).val + (grid0.coords t 1).val, 0] :=
  (by decide +kernel : ∀ t : Fin grid0.N, win0_13.index t = ![16 * (grid0.coords t 0).val + (grid0.coords t 1).val, 0])

theorem c0_lt (t : Fin cfg0.N) : (grid0.coords t 0).val < 4 := (grid0.coords t 0).isLt
theorem c1_lt (t : Fin cfg0.N) : (grid0.coords t 1).val < 16 := (grid0.coords t 1).isLt

theorem idx0 : ∀ t : Fin cfg0.N, win0_0.index t = ![0] := (by decide +kernel : ∀ t : Fin grid0.N, win0_0.index t = ![0])
theorem idx7 : ∀ t : Fin cfg0.N, win0_7.index t = ![(grid0.coords t 1).val - 1, 0] :=
  (by decide +kernel : ∀ t : Fin grid0.N, win0_7.index t = ![(grid0.coords t 1).val - 1, 0])
theorem idx8 : ∀ t : Fin cfg0.N, win0_8.index t = ![(grid0.coords t 1).val - 1, 0] :=
  (by decide +kernel : ∀ t : Fin grid0.N, win0_8.index t = ![(grid0.coords t 1).val - 1, 0])
theorem idx10 : ∀ t : Fin cfg0.N, win0_10.index t = ![(grid0.coords t 1).val, 0] :=
  (by decide +kernel : ∀ t : Fin grid0.N, win0_10.index t = ![(grid0.coords t 1).val, 0])
theorem idx11 : ∀ t : Fin cfg0.N, win0_11.index t = ![(grid0.coords t 1).val, 0] :=
  (by decide +kernel : ∀ t : Fin grid0.N, win0_11.index t = ![(grid0.coords t 1).val, 0])

theorem table23 (c : Dev nD) (t : Fin 2048) (l : Fin 128) : (V m c main_v23 : FVec Ideal S2048x128 .f32) (ix2 t l) = tabC t l := by
  unfold V
  after_reads_at
  after_reads_at
  unfold tabC cosN ang base scale
  by_cases h1 : l.val % 64 < 8
  · rw [dif_pos h1, if_pos h1]
    rfl
  · rw [dif_neg h1, if_neg h1]
    by_cases h2 : l.val % 64 < 16
    · rw [dif_pos (by omega), if_pos h2]
      rfl
    · rw [dif_neg (by omega), if_neg h2]

theorem table26 (c : Dev nD) (t : Fin 2048) (l : Fin 128) : (V m c main_v26 : FVec Ideal S2048x128 .f32) (ix2 t l) = tabL t l := by
  unfold V
  after_reads_at
  after_reads_at
  unfold tabL sinN ang base scale
  by_cases h1 : l.val % 64 < 8
  · rw [dif_pos h1, if_pos h1]
    rfl
  · rw [dif_neg h1, if_neg h1]
    try split_ifs <;> rfl

theorem table29 (c : Dev nD) (t : Fin 2048) (l : Fin 128) : (V m c main_v29 : FVec Ideal S2048x128 .f32) (ix2 t l) = tabH t l := by
  unfold V
  after_reads_at
  after_reads_at
  unfold tabH sinN ang base scale
  by_cases h1 : l.val % 64 < 8
  · rw [dif_pos h1, if_pos h1]
  · rw [dif_neg h1, if_neg h1]
    by_cases h2 : l.val % 64 < 16
    · rw [dif_pos (by omega), if_pos h2]
      rfl
    · rw [dif_neg (by omega), if_neg h2]

theorem blk0 (c : Dev nD) (t : Fin cfg0.N) (k : Fin 32) : iblk m c 0 t (ix1 k) = sinksN m c k := by
  unfold sinksN
  rw [dif_pos k.isLt]
  blk_ext [iblk, V, idx0 t]

theorem blk2 (c : Dev nD) (t : Fin cfg0.N) (r : Fin 128) (l : Fin 256) : iblk m c 2 t (ix2 r l)
    = rowsN m c (2048 * (grid0.coords t 0).val + 128 * ((grid0.coords t 1).val - 1) + r) (2048 + l) := by
  have h0 := c0_lt t
  have h1 := c1_lt t
  unfold rowsN
  rw [dif_pos ⟨by omega, by omega⟩]
  blk_ext [iblk, V, idx2 t]

theorem blk3 (c : Dev nD) (t : Fin cfg0.N) (r : Fin 128) (l : Fin 256) : iblk m c 3 t (ix2 r l)
    = rowsN m c (2048 * (grid0.coords t 0).val + 128 * (grid0.coords t 1).val + r) (2048 + l) := by
  have h0 := c0_lt t
  have h1 := c1_lt t
  unfold rowsN
  rw [dif_pos ⟨by omega, by omega⟩]
  blk_ext [iblk, V, idx3 t]

theorem blk4 (c : Dev nD) (t : Fin cfg0.N) (r : Fin 128) (l : Fin 256) : iblk m c 4 t (ix2 r l)
    = rowsN m c (2048 * (grid0.coords t 0).val + 128 * ((grid0.coords t 1).val - 1) + r) (2304 + l) := by
  have h0 := c0_lt t
  have h1 := c1_lt t
  unfold rowsN
  rw [dif_pos ⟨by omega, by omega⟩]
  blk_ext [iblk, V, idx4 t]

theorem blk5 (c : Dev nD) (t : Fin cfg0.N) (r : Fin 128) (l : Fin 256) : iblk m c 5 t (ix2 r l)
    = rowsN m c (2048 * (grid0.coords t 0).val + 128 * (grid0.coords t 1).val + r) (2304 + l) := by
  have h0 := c0_lt t
  have h1 := c1_lt t
  unfold rowsN
  rw [dif_pos ⟨by omega, by omega⟩]
  blk_ext [iblk, V, idx5 t]

theorem blk1 (c : Dev nD) (t : Fin cfg0.N) (r : Fin 128) (l : Fin 2048) : X0_1 m c t (ix2 r l)
    = rowsN m c (2048 * (grid0.coords t 0).val + 128 * (grid0.coords t 1).val + r) l := by
  have h0 := c0_lt t
  have h1 := c1_lt t
  unfold X0_1 Pipeline.Window.fill
  rw [dif_pos (moved0_1 t _)]
  unfold rowsN
  rw [dif_pos ⟨by omega, by omega⟩]
  blk_ext [iblk, V, idx1 t]

theorem blk6 (c : Dev nD) (t : Fin cfg0.N) (r l : Fin 128) : iblk m c 6 t (ix2 r l) = tabC (128 * ((grid0.coords t 1).val - 1) + r) l := by
  have h1 := c1_lt t
  refine Eq.trans ?_ (table23 m c ⟨128 * ((grid0.coords t 1).val - 1) + r.val, by omega⟩ l)
  unfold iblk
  show V m c main_v23 _ = V m c main_v23 _
  congr 1
  blk_ext [idx6 t]

theorem blk7 (c : Dev nD) (t : Fin cfg0.N) (r l : Fin 128) : iblk m c 7 t (ix2 r l) = tabL (128 * ((grid0.coords t 1).val - 1) + r) l := by
  have h1 := c1_lt t
  refine Eq.trans ?_ (table26 m c ⟨128 * ((grid0.coords t 1).val - 1) + r.val, by omega⟩ l)
  unfold iblk
  show V m c main_v26 _ = V m c main_v26 _
  congr 1
  blk_ext [idx7 t]

theorem blk8 (c : Dev nD) (t : Fin cfg0.N) (r l : Fin 128) : iblk m c 8 t (ix2 r l) = tabH (128 * ((grid0.coords t 1).val - 1) + r) l := by
  have h1 := c1_lt t
  refine Eq.trans ?_ (table29 m c ⟨128 * ((grid0.coords t 1).val - 1) + r.val, by omega⟩ l)
  unfold iblk
  show V m c main_v29 _ = V m c main_v29 _
  congr 1
  blk_ext [idx8 t]

theorem blk9 (c : Dev nD) (t : Fin cfg0.N) (r l : Fin 128) : iblk m c 9 t (ix2 r l) = tabC (128 * (grid0.coords t 1).val + r) l := by
  have h1 := c1_lt t
  refine Eq.trans ?_ (table23 m c ⟨128 * (grid0.coords t 1).val + r.val, by omega⟩ l)
  unfold iblk
  show V m c main_v23 _ = V m c main_v23 _
  congr 1
  blk_ext [idx9 t]

theorem blk10 (c : Dev nD) (t : Fin cfg0.N) (r l : Fin 128) : iblk m c 10 t (ix2 r l) = tabL (128 * (grid0.coords t 1).val + r) l := by
  have h1 := c1_lt t
  refine Eq.trans ?_ (table26 m c ⟨128 * (grid0.coords t 1).val + r.val, by omega⟩ l)
  unfold iblk
  show V m c main_v26 _ = V m c main_v26 _
  congr 1
  blk_ext [idx10 t]

theorem blk11 (c : Dev nD) (t : Fin cfg0.N) (r l : Fin 128) : iblk m c 11 t (ix2 r l) = tabH (128 * (grid0.coords t 1).val + r) l := by
  have h1 := c1_lt t
  refine Eq.trans ?_ (table29 m c ⟨128 * (grid0.coords t 1).val + r.val, by omega⟩ l)
  unfold iblk
  show V m c main_v29 _ = V m c main_v29 _
  congr 1
  blk_ext [idx11 t]

/-- The attention array as a function of the arrays the program is given. -/
def outN (c : Dev nD) (R C : ℕ) : EReal :=
  headS (Cert.Swa.scoreK (rowsN m c) (R / 2048) (R % 2048 / 128) (R % 128) (C / 64)) (sinksN m c (C / 64))
    (fun j => valN (rowsN m c) (R / 2048) (R % 2048 / 128) j (64 * (C / 512) + C % 64))

/-- The rotated keys as a function of the array the program is given. -/
def keysN (c : Dev nD) (R C : ℕ) : EReal := kN (rowsN m c) (R / 2048) (R % 2048) (C / 64) (C % 64)

theorem final12 (c : Dev nD) : (dats m 0 c).arrAt 12 cfg0.N = fun y : S8192x2048.Idx => outN m c (y 0).val (y 1).val := by
  refine (dats m 0 c).arrAt_eq_of_covers 12 _ (by decide +kernel) fun t hf y => ?_
  show (dats m 0 c).flushed 12 t y = _
  rw [Value.flushed12_A]
  obtain ⟨r, l, rfl⟩ : ∃ (r : Fin 128) (l : Fin 2048), y = ix2 r l := ⟨y 0, y 1, (ix2_eta y).symm⟩
  have h0 := c0_lt t
  have h1 := c1_lt t
  have e0 : ((((cfg0.win 12).blk t).view.emb (ix2 r l)) 0).val = 2048 * (grid0.coords t 0).val + 128 * (grid0.coords t 1).val + r := by
    blk_simp [idx12 t]
    omega
  have e1 : ((((cfg0.win 12).blk t).view.emb (ix2 r l)) 1).val = l := by
    blk_simp [idx12 t]
  refine Eq.trans ?_ ((out12_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t)
    (rowsN m c) (sinksN m c) (grid0.coords t 0).val (grid0.coords t 1).val h1 rfl (blk0 m c t) (blk1 m c t) (blk2 m c t) (blk3 m c t) (blk4 m c t) (blk5 m c t) (blk6 m c t) (blk7 m c t) (blk8 m c t) (blk9 m c t) (blk10 m c t) (blk11 m c t) r l).trans ?_)
  · rfl
  · show _ = outN m c _ _
    rw [e0, e1]
    unfold outN
    have q0 : (2048 * (grid0.coords t 0).val + 128 * (grid0.coords t 1).val + r.val) / 2048 = (grid0.coords t 0).val := by omega
    have q1 : (2048 * (grid0.coords t 0).val + 128 * (grid0.coords t 1).val + r.val) % 2048 / 128 = (grid0.coords t 1).val := by omega
    have q2 : (2048 * (grid0.coords t 0).val + 128 * (grid0.coords t 1).val + r.val) % 128 = r.val := by omega
    rw [q0, q1, q2]

theorem final13 (c : Dev nD) : (dats m 0 c).arrAt 13 cfg0.N = fun y : S8192x256.Idx => keysN m c (y 0).val (y 1).val := by
  refine (dats m 0 c).arrAt_eq_of_covers 13 _ (by decide +kernel) fun t hf y => ?_
  show (dats m 0 c).flushed 13 t y = _
  rw [Value.flushed13_A]
  obtain ⟨r, l, rfl⟩ : ∃ (r : Fin 128) (l : Fin 256), y = ix2 r l := ⟨y 0, y 1, (ix2_eta y).symm⟩
  have h0 := c0_lt t
  have h1 := c1_lt t
  have e0 : ((((cfg0.win 13).blk t).view.emb (ix2 r l)) 0).val = 2048 * (grid0.coords t 0).val + 128 * (grid0.coords t 1).val + r := by
    blk_simp [idx13 t]
    omega
  have e1 : ((((cfg0.win 13).blk t).view.emb (ix2 r l)) 1).val = l := by
    blk_simp [idx13 t]
  refine Eq.trans ?_ ((out13_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t)
    (rowsN m c) (grid0.coords t 0).val (grid0.coords t 1).val (blk3 m c t) (blk9 m c t) (blk10 m c t) (blk11 m c t) r l).trans ?_)
  · rfl
  · show _ = keysN m c _ _
    rw [e0, e1]
    unfold keysN
    have q0 : (2048 * (grid0.coords t 0).val + 128 * (grid0.coords t 1).val + r.val) / 2048 = (grid0.coords t 0).val := by omega
    have q1 : (2048 * (grid0.coords t 0).val + 128 * (grid0.coords t 1).val + r.val) % 2048 = 128 * (grid0.coords t 1).val + r.val := by omega
    rw [q0, q1]

/-- The kernel's run: both results by the functions above. -/
theorem run_kernel (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v30_0) = (fun y : S8192x2048.Idx => outN m c (y 0).val (y 1).val)
      ∧ r.2.mem ((c : Thread nD τ).loc main_v30_1) = (fun y : S8192x256.Idx => keysN m c (y 0).val (y 1).val)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final12 m c), (h c).2.1.trans (final13 m c), (h c).2.2⟩) (Value.run_blocks m ρ)

end Cert.KernelIdeal.Swa

end
-- ==== Proof.SwaRef.lean ====
module

public import proofs.«01_k».proof.Proof.SwaSpec
public import proofs.«01_k».proof.Proof.Gen.ReferenceIdeal.Read
public import Idealize.ShloMosaic.Lib.Pointwise
public import Idealize.ShloMosaic.Lib.WordCmp
public import Idealize.ShloMosaic.Lib.WordArith

@[expose] public section

set_option maxRecDepth 16384

/-! The reference's two results, read at an index. -/

noncomputable section

namespace Cert.ReferenceIdeal.Swa

open Idealize.ShloMosaic.WordCmp Cert.ReferenceIdeal Cert.ReferenceIdeal.Gen Cert.ReferenceIdeal.Read Cert.Swa Idealize.ShloMosaic Idealize.ShloMosaic.TcCoe Idealize.ShloMosaic.Tactic Idealize.SL.Sem

/-- The projected rows, zero outside the array. -/
def rowsN (x0 : FVec Ideal S8192x2560 .f32) (R C : ℕ) : EReal :=
  if h : R < 8192 ∧ C < 2560 then x0 (ix2 ⟨R, h.1⟩ ⟨C, h.2⟩) else 0

theorem v8_at (x0 : FVec Ideal S8192x2560 .f32) (b : Fin 4) (t : Fin 2048) (h : Fin 32) (e : Fin 64) :
    val_main_v8 (F := Ideal) x0 (ix4 b t h e) = rowsN x0 (2048 * b + t) (64 * h + e) := by
  unfold rowsN
  rw [dif_pos ⟨by omega, by omega⟩]
  pointwise [val_main_v8, val_main_v1, val_main_v0]
  congr 2 <;> exact Fin.ext (by dsimp only; omega)

theorem v40_at (x0 : FVec Ideal S8192x2560 .f32) (b : Fin 4) (t : Fin 2048) (h : Fin 4) (e : Fin 64) :
    val_main_v40 (F := Ideal) x0 (ix4 b t h e) = rowsN x0 (2048 * b + t) (2048 + 64 * h + e) := by
  unfold rowsN
  rw [dif_pos ⟨by omega, by omega⟩]
  pointwise [val_main_v40, val_main_v2, val_main_v0]
  congr 2 <;> exact Fin.ext (by dsimp only; omega)

theorem v72_at (x0 : FVec Ideal S8192x2560 .f32) (b : Fin 4) (t : Fin 2048) (h : Fin 4) (e : Fin 64) :
    val_main_v72 (F := Ideal) x0 (ix4 b t h e) = vN (rowsN x0) b t h e := by
  unfold vN rowsN
  rw [dif_pos ⟨by omega, by omega⟩]
  pointwise [val_main_v72, val_main_v3, val_main_v0]
  congr 2 <;> exact Fin.ext (by dsimp only; omega)

theorem zero_addi (w : BitVec 32) : IntOp.addi (0#32) w = w := BitVec.zero_add w

theorem v20_at (t : Fin 2048) (e : Fin 8) : val_main_v20 (F := Ideal) (ix2 t e) = cosN t e := by
  pointwise [val_main_v20, val_main_v19, val_main_v18, val_main_v17, val_main_v16, val_main_v15, val_main_v14, val_main_v13, val_main_v12, val_main_v11, val_main_v10, val_main_v9, val_main_v7, val_main_v6, val_main_v5, val_main_v4, val_main_c, val_main_cst, val_main_cst_0]
  rw [zero_addi]
  rfl

theorem v22_at (t : Fin 2048) (e : Fin 8) : val_main_v22 (F := Ideal) (ix2 t e) = sinN t e := by
  pointwise [val_main_v22, val_main_v19, val_main_v18, val_main_v17, val_main_v16, val_main_v15, val_main_v14, val_main_v13, val_main_v12, val_main_v11, val_main_v10, val_main_v9, val_main_v7, val_main_v6, val_main_v5, val_main_v4, val_main_c, val_main_cst, val_main_cst_0]
  rw [zero_addi]
  rfl

theorem v52_at (t : Fin 2048) (e : Fin 8) : val_main_v52 (F := Ideal) (ix2 t e) = cosN t e := by
  pointwise [val_main_v52, val_main_v51, val_main_v50, val_main_v49, val_main_v48, val_main_v47, val_main_v46, val_main_v45, val_main_v44, val_main_v43, val_main_v42, val_main_v41, val_main_v7, val_main_v6, val_main_v5, val_main_v4, val_main_c, val_main_cst_1, val_main_cst_2]
  rw [zero_addi]
  rfl

theorem v54_at (t : Fin 2048) (e : Fin 8) : val_main_v54 (F := Ideal) (ix2 t e) = sinN t e := by
  pointwise [val_main_v54, val_main_v51, val_main_v50, val_main_v49, val_main_v48, val_main_v47, val_main_v46, val_main_v45, val_main_v44, val_main_v43, val_main_v42, val_main_v41, val_main_v7, val_main_v6, val_main_v5, val_main_v4, val_main_c, val_main_cst_1, val_main_cst_2]
  rw [zero_addi]
  rfl

theorem v39_at (x0 : FVec Ideal S8192x2560 .f32) (b : Fin 4) (t : Fin 2048) (h : Fin 32) (e : Fin 64) :
    val_main_v39 (F := Ideal) x0 (ix4 b t h e) = qN (rowsN x0) b t h e := by
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v21]
  simp only [v8_at, v20_at, v22_at]
  unfold qN rotN
  by_cases h1 : e.val < 8
  · rw [dif_pos (by omega), dif_pos h1, if_pos h1, Nat.add_comm 8 e.val]
  · rw [if_neg h1]
    by_cases h2 : e.val < 16
    · have e1 : 8 + (e.val - 8) = e.val := by omega
      rw [dif_pos h2, dif_neg h1, if_pos h2, e1]
    · have e1 : 16 + (e.val - 16) = e.val := by omega
      rw [dif_neg h2, if_neg h2, e1]

theorem v71_at (x0 : FVec Ideal S8192x2560 .f32) (b : Fin 4) (t : Fin 2048) (h : Fin 4) (e : Fin 64) :
    val_main_v71 (F := Ideal) x0 (ix4 b t h e) = kN (rowsN x0) b t h e := by
  pointwise [val_main_v71, val_main_v70, val_main_v69, val_main_v68, val_main_v67, val_main_v66, val_main_v65, val_main_v64, val_main_v63, val_main_v62, val_main_v61, val_main_v60, val_main_v59, val_main_v58, val_main_v57, val_main_v56, val_main_v55, val_main_v53]
  simp only [v40_at, v52_at, v54_at]
  unfold kN rotN
  by_cases h1 : e.val < 8
  · rw [dif_pos (by omega), dif_pos h1, if_pos h1, Nat.add_comm 8 e.val]
  · rw [if_neg h1]
    by_cases h2 : e.val < 16
    · have e1 : 8 + (e.val - 8) = e.val := by omega
      rw [dif_pos h2, dif_neg h1, if_pos h2, e1]
    · have e1 : 16 + (e.val - 16) = e.val := by omega
      rw [dif_neg h2, if_neg h2, e1]

theorem toInt_small {n : ℕ} (h : n < 4096) : (BitVec.ofNat 32 n).toInt = n := by
  rw [BitVec.toInt_eq_toNat_of_lt (by rw [BitVec.toNat_ofNat]; omega), BitVec.toNat_ofNat, Nat.mod_eq_of_lt (by omega)]

theorem word_kidx (i j : ℕ) : IntOp.addi (IntOp.muli (BitVec.ofNat 32 i) 128#32) (BitVec.ofNat 32 j) = BitVec.ofNat 32 (128 * i + j) := by
  show BitVec.ofNat 32 i * BitVec.ofNat 32 128 + BitVec.ofNat 32 j = _
  rw [← BitVec.ofNat_mul, ← BitVec.ofNat_add, Nat.mul_comm]

theorem toInt_kpos {n : ℕ} (h : n < 4096) : (IntOp.addi (4294967168#32) (BitVec.ofNat 32 n)).toInt = (n : ℤ) - 128 := by
  show (4294967168#32 + BitVec.ofNat 32 n).toInt = _
  have h0 : (4294967168#32).toInt = -128 := rfl
  have h32 : (2 : ℕ) ^ 32 = 4294967296 := by norm_num
  rw [BitVec.toInt_add, h0, toInt_small h, h32, Int.bmod_eq_of_le (by omega) (by omega)]
  omega

theorem toInt_gap {p n : ℕ} (hp : p < 4096) (h : n < 4096) :
    (IntOp.subi (BitVec.ofNat 32 p) (IntOp.addi (4294967168#32) (BitVec.ofNat 32 n))).toInt = (p : ℤ) - n + 128 := by
  show (BitVec.ofNat 32 p - IntOp.addi (4294967168#32) (BitVec.ofNat 32 n)).toInt = _
  have h32 : (2 : ℕ) ^ 32 = 4294967296 := by norm_num
  rw [BitVec.toInt_sub, toInt_kpos h, toInt_small hp, h32, Int.bmod_eq_of_le (by omega) (by omega)]
  omega

theorem v120_at (i : Fin 16) (r : Fin 128) (j : Fin 256) :
    val_main_v120 (F := Ideal) (ix3 i r j) = BitVec.ofBool (decide (seen i r j)) := by
  pointwise [val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v84, val_main_v83, val_main_v82, val_main_v81, val_main_v80, val_main_v79, val_main_v78, val_main_v77, val_main_v76, val_main_c_4, val_main_c_9, val_main_c_10, val_main_c_11, val_main_c_12, val_main_c_13]
  have h0 : (0#32).toInt = 0 := rfl
  have h1 : (128#32).toInt = 128 := rfl
  simp only [zero_addi, word_kidx, cmpi_sge_eq, cmpi_slt_eq, h0, h1, toInt_gap (show i.val * 128 + r.val < 4096 by omega) (show 128 * i.val + j.val < 4096 by omega),
    toInt_kpos (show 128 * i.val + j.val < 4096 by omega), WordArith.andi_ofBool]
  congr 1
  rw [← Bool.decide_and, ← Bool.decide_and]
  refine decide_eq_decide.mpr ?_
  unfold seen
  omega

theorem gather_keys (x : FVec Ideal S4x2176x4x64 .f32) (idx : IVec S16x256x1 32) (b : Fin 4) (i : Fin 16) (j : Fin 256) (h : Fin 4) (e : Fin 64)
    (n : ℕ) (hn : n < 2176) (hi : (idx (ix3 i j 0)).toInt = n) :
    Host.gather gather_S4x2176x4x64_S16x256x1_S4x16x256x4x64_034_1_n_n_1_2_41464 x idx (ix5 b i j h e) = x (ix4 b ⟨n, hn⟩ h e) := by
  unfold Host.gather
  congr 1
  funext a
  apply Fin.ext
  match a with
  | ⟨0, _⟩ => show 0 + 0 + b.val = b.val; omega
  | ⟨1, _⟩ =>
    show min (idx _).toInt.toNat (2176 - 1) + 0 + 0 = n
    have e : ∀ k : S16x256x1.Idx, k = ix3 i j 0 → min (idx k).toInt.toNat (2176 - 1) + 0 + 0 = n := by
      rintro k rfl
      rw [hi]
      omega
    refine e _ ?_
    funext a
    apply Fin.ext
    match a with
    | ⟨0, _⟩ => rfl
    | ⟨1, _⟩ => rfl
    | ⟨2, _⟩ => rfl
  | ⟨2, _⟩ => show 0 + 0 + h.val = h.val; omega
  | ⟨3, _⟩ => show 0 + 0 + e.val = e.val; omega

theorem idx_word {n : ℕ} (h : n < 4096) :
    (Scalar.select (IntOp.cmpi .slt (BitVec.ofNat 32 n) (0#32)) (IntOp.addi (BitVec.ofNat 32 n) (2176#32)) (BitVec.ofNat 32 n)).toInt = n := by
  have h0 : (0#32).toInt = 0 := rfl
  rw [cmpi_slt_eq, toInt_small h, h0, decide_eq_false (by omega)]
  exact toInt_small h

theorem v90_at (i : Fin 16) (j : Fin 256) : (val_main_v90 (F := Ideal) (ix3 i j 0)).toInt = (128 * i.val + j.val : ℕ) := by
  pointwise [val_main_v90, val_main_v89, val_main_v88, val_main_v87, val_main_v86, val_main_v85, val_main_v84, val_main_v83, val_main_v82, val_main_v81, val_main_v80, val_main_v79, val_main_v78, val_main_v77, val_main_v76, val_main_c_4, val_main_c_5, val_main_c_6]
  simp only [word_kidx]
  exact idx_word (by omega)

theorem v97_at (i : Fin 16) (j : Fin 256) : (val_main_v97 (F := Ideal) (ix3 i j 0)).toInt = (128 * i.val + j.val : ℕ) := by
  pointwise [val_main_v97, val_main_v96, val_main_v95, val_main_v94, val_main_v93, val_main_v92, val_main_v84, val_main_v83, val_main_v82, val_main_v81, val_main_v80, val_main_v79, val_main_v78, val_main_v77, val_main_v76, val_main_c_4, val_main_c_7, val_main_c_8]
  simp only [word_kidx]
  exact idx_word (by omega)

/-- A seen key of the gathered block is the rotated key at its position. -/
theorem v91_at (x0 : FVec Ideal S8192x2560 .f32) (b : Fin 4) (i : Fin 16) (j : Fin 256) (h : Fin 4) (e : Fin 64) (hs : 128 ≤ 128 * i.val + j.val) :
    val_main_v91 (F := Ideal) x0 (ix5 b i j h e) = kN (rowsN x0) b (128 * i + j - 128) h e := by
  unfold val_main_v91
  rw [gather_keys _ _ b i j h e (128 * i + j) (by omega) (v90_at i j)]
  pointwise [val_main_v74]
  rw [dif_neg (by omega), v71_at]

theorem v98_at (x0 : FVec Ideal S8192x2560 .f32) (b : Fin 4) (i : Fin 16) (j : Fin 256) (h : Fin 4) (e : Fin 64) (hs : 128 ≤ 128 * i.val + j.val) :
    val_main_v98 (F := Ideal) x0 (ix5 b i j h e) = vN (rowsN x0) b (128 * i + j - 128) h e := by
  unfold val_main_v98
  rw [gather_keys _ _ b i j h e (128 * i + j) (by omega) (v97_at i j)]
  pointwise [val_main_v75]
  rw [dif_neg (by omega), v72_at]

theorem seen_pos {i r j : ℕ} (h : seen i r j) : 128 ≤ 128 * i + j := by
  unfold seen at h
  omega

theorem v99_at (x0 : FVec Ideal S8192x2560 .f32) (b : Fin 4) (i : Fin 16) (r : Fin 128) (h : Fin 4) (g : Fin 8) (e : Fin 64) :
    val_main_v99 (F := Ideal) x0 (ix6 b i r h g e) = qN (rowsN x0) b (128 * i + r) (8 * h + g) e := by
  pointwise [val_main_v99]
  rw [v39_at]
  have e1 : i.val * 128 + r.val = 128 * i + r := by omega
  have e2 : h.val * 8 + g.val = 8 * h + g := by omega
  dsimp only
  rw [e1, e2]

theorem v126_at (x0 : FVec Ideal S8192x2560 .f32) (b : Fin 4) (i : Fin 16) (r : Fin 128) (h : Fin 4) (g : Fin 8) (j : Fin 256) :
    val_main_v126 (F := Ideal) x0 (ix6 b i h g r j) = scoreN (rowsN x0) b i r (8 * h + g) j := by
  pointwise [val_main_v126, val_main_call0_v1, val_main_call0_v2, val_main_call0_v0, val_main_cst_15, val_main_v125, val_main_v124, val_main_v123, val_main_cst_14, val_main_v122, val_main_v121]
  rw [v120_at]
  unfold scoreN
  by_cases hs : seen i r j
  · rw [decide_eq_true hs, if_pos hs]
    show (∑ x : Fin 64, _) * scale = _
    refine congrArg (· * scale) (Finset.sum_congr rfl fun e _ => ?_)
    rw [v91_at x0 b i j h e (seen_pos hs), v99_at]
    have e1 : (8 * h.val + g.val) / 8 = h := by omega
    rw [e1]
  · rw [decide_eq_false hs, if_neg hs]
    exact ofBits_ninf

/-- The largest of the last axis, from −∞. -/
theorem fold_of (y : FVec Ideal S4x16x4x8x128x256 .f32) (b : Fin 4) (i : Fin 16) (h : Fin 4) (g : Fin 8) (r : Fin 128) :
    Host.reduce FloatOps.maximumf y (val_main_cst_16 (F := Ideal)) reducesTo_S4x16x4x8x128x256_S4x16x4x8x128_d5 h_S_ (ix5 b i h g r)
      = Finset.univ.fold max ⊥ (fun j : Fin 256 => y (ix6 b i h g r j)) := by
  have hr : S4x16x4x8x128x256.Reduces [5] S4x16x4x8x128 := by decide
  rw [Host.reduce_eq_fold_single FloatOps.maximumf y (val_main_cst_16 (F := Ideal)) reducesTo_S4x16x4x8x128x256_S4x16x4x8x128_d5 hr h_S_]
  have hb : val_main_cst_16 (F := Ideal) (Shape.Idx.first h_S_) = ⊥ := ofBits_ninf
  rw [hb]
  have hl : (y ∘ hr.lift (ix5 b i h g r)) = fun j : Fin 256 => y (ix6 b i h g r j) := funext fun k =>
    congrArg y (funext fun a => Fin.ext (by match a with | ⟨0, _⟩ => rfl | ⟨1, _⟩ => rfl | ⟨2, _⟩ => rfl | ⟨3, _⟩ => rfl | ⟨4, _⟩ => rfl | ⟨5, _⟩ => rfl))
  exact congrArg (fun f => Finset.fold max (⊥ : EReal) f (Finset.univ : Finset (Fin 256))) hl

theorem v129_at (x0 : FVec Ideal S8192x2560 .f32) (b : Fin 4) (i : Fin 16) (r : Fin 128) (h : Fin 4) (g : Fin 8) :
    val_main_v129 (F := Ideal) x0 (ix5 b i h g r) = Finset.univ.fold max ⊥ (scoreN (rowsN x0) b i r (8 * h + g)) := by
  unfold val_main_v129
  have e : (fun j : Fin 256 => val_main_v126 (F := Ideal) x0 (ix6 b i h g r j)) = scoreN (rowsN x0) b i r (8 * h + g) := funext fun j => v126_at x0 b i r h g j
  rw [← e]
  exact fold_of (val_main_v126 (F := Ideal) x0) b i h g r

/-- The sink of head `h`. -/
def sinkN (x1 : FVec Ideal S32 .f32) (h : ℕ) : EReal := if hh : h < 32 then x1 (ix1 ⟨h, hh⟩) else 0

theorem sink_at (x1 : FVec Ideal S32 .f32) (h : Fin 4) (g : Fin 8) (hh : h.val * 8 + g.val < 32) : x1 (ix1 ⟨h.val * 8 + g.val, hh⟩) = sinkN x1 (8 * h + g) := by
  unfold sinkN
  rw [dif_pos (by omega)]
  congr 2
  exact Fin.ext (by dsimp only; omega)

theorem v130_at (x0 : FVec Ideal S8192x2560 .f32) (b : Fin 4) (i : Fin 16) (r : Fin 128) (h : Fin 4) (g : Fin 8) (o : Fin 1) :
    val_main_v130 (F := Ideal) x0 (ix6 b i h g r o) = val_main_v129 (F := Ideal) x0 (ix5 b i h g r) := by
  rw [val_main_v130_apply]
  exact congrArg (val_main_v129 (F := Ideal) x0) (funext fun a => Fin.ext (by match a with | ⟨0, _⟩ => rfl | ⟨1, _⟩ => rfl | ⟨2, _⟩ => rfl | ⟨3, _⟩ => rfl | ⟨4, _⟩ => rfl))

theorem v131_at (x1 : FVec Ideal S32 .f32) (b : Fin 4) (i : Fin 16) (r : Fin 128) (h : Fin 4) (g : Fin 8) (o : Fin 1) :
    val_main_v131 (F := Ideal) x1 (ix6 b i h g r o) = sinkN x1 (8 * h + g) := by
  pointwise [val_main_v131, val_main_v128, val_main_v127]
  exact sink_at x1 h g _

theorem v138_at (x1 : FVec Ideal S32 .f32) (b : Fin 4) (i : Fin 16) (r : Fin 128) (h : Fin 4) (g : Fin 8) (o : Fin 1) :
    val_main_v138 (F := Ideal) x1 (ix6 b i h g r o) = sinkN x1 (8 * h + g) := by
  pointwise [val_main_v138, val_main_v128, val_main_v127]
  exact sink_at x1 h g _

theorem v132_at (x0 : FVec Ideal S8192x2560 .f32) (x1 : FVec Ideal S32 .f32) (b : Fin 4) (i : Fin 16) (r : Fin 128) (h : Fin 4) (g : Fin 8) (o : Fin 1) :
    val_main_v132 (F := Ideal) x0 x1 (ix6 b i h g r o) = topN (scoreN (rowsN x0) b i r (8 * h + g)) (sinkN x1 (8 * h + g)) := by
  rw [val_main_v132_apply, v130_at, v131_at, v129_at]
  rfl

theorem v135_at (x0 : FVec Ideal S8192x2560 .f32) (x1 : FVec Ideal S32 .f32) (b : Fin 4) (i : Fin 16) (r : Fin 128) (h : Fin 4) (g : Fin 8) (j : Fin 256) :
    val_main_v135 (F := Ideal) x0 x1 (ix6 b i h g r j)
      = Ideal.exp (scoreN (rowsN x0) b i r (8 * h + g) j - topN (scoreN (rowsN x0) b i r (8 * h + g)) (sinkN x1 (8 * h + g))) := by
  pointwise [val_main_v135, val_main_v134, val_main_v133]
  rw [v126_at, v132_at]

theorem v136_at (x0 : FVec Ideal S8192x2560 .f32) (x1 : FVec Ideal S32 .f32) (b : Fin 4) (i : Fin 16) (r : Fin 128) (h : Fin 4) (g : Fin 8) :
    val_main_v136 (F := Ideal) x0 x1 (ix5 b i h g r)
      = ∑ j : Fin 256, Ideal.exp (scoreN (rowsN x0) b i r (8 * h + g) j - topN (scoreN (rowsN x0) b i r (8 * h + g)) (sinkN x1 (8 * h + g))) := by
  rw [val_main_v136_apply]
  have hb : val_main_cst_17 (F := Ideal) (Shape.Idx.first h_S_) = 0 := Ideal.ofBits_zero_f32
  rw [hb, zero_add]
  refine Finset.sum_congr rfl fun j _ => ?_
  rw [← v135_at]
  exact congrArg (val_main_v135 (F := Ideal) x0 x1) (funext fun a => Fin.ext (by match a with | ⟨0, _⟩ => rfl | ⟨1, _⟩ => rfl | ⟨2, _⟩ => rfl | ⟨3, _⟩ => rfl | ⟨4, _⟩ => rfl | ⟨5, _⟩ => rfl))

theorem v143_at (x0 : FVec Ideal S8192x2560 .f32) (x1 : FVec Ideal S32 .f32) (b : Fin 4) (i : Fin 16) (r : Fin 128) (h : Fin 4) (g : Fin 8) (j : Fin 256) :
    val_main_v143 (F := Ideal) x0 x1 (ix6 b i h g r j)
      = Ideal.div (Ideal.exp (scoreN (rowsN x0) b i r (8 * h + g) j - topN (scoreN (rowsN x0) b i r (8 * h + g)) (sinkN x1 (8 * h + g))))
          (denN (scoreN (rowsN x0) b i r (8 * h + g)) (sinkN x1 (8 * h + g))) := by
  pointwise [val_main_v143, val_main_v142, val_main_v141, val_main_v140, val_main_v139, val_main_v137]
  rw [v135_at, v136_at, v132_at, v138_at]
  rfl

/-- The attention, read at a row and a column. -/
theorem v147_at (x0 : FVec Ideal S8192x2560 .f32) (x1 : FVec Ideal S32 .f32) (R : Fin 8192) (C : Fin 2048) :
    ∃ v : Fin 256 → EReal, (∀ j : Fin 256, seen (R % 2048 / 128) (R % 128) j → v j = vN (rowsN x0) (R / 2048) (128 * (R % 2048 / 128) + j - 128) (C / 512) (C % 64)) ∧
    val_main_v147 (F := Ideal) x0 x1 (ix2 R C) = headR (scoreN (rowsN x0) (R / 2048) (R % 2048 / 128) (R % 128) (C / 64)) (sinkN x1 (C / 64)) v := by
  have e1 : R.val / 128 % 16 = R.val % 2048 / 128 := by omega
  have e2 : 8 * (C.val / 512) + C.val / 64 % 8 = C.val / 64 := by omega
  refine ⟨fun j => val_main_v98 (F := Ideal) x0 (ix5 ⟨R.val / 2048, by omega⟩ ⟨R.val / 128 % 16, by omega⟩ j ⟨C.val / 512, by omega⟩ ⟨C.val % 64, by omega⟩), ?_, ?_⟩
  · intro j hs
    have hp := seen_pos hs
    refine (v98_at x0 _ _ j _ _ ?_).trans ?_
    · show 128 ≤ 128 * (R.val / 128 % 16) + j.val
      omega
    · show vN (rowsN x0) (R.val / 2048) (128 * (R.val / 128 % 16) + j.val - 128) _ _ = _
      rw [e1]
  · pointwise [val_main_v147, val_main_v146, val_main_v145, val_main_v144]
    unfold headR
    refine Finset.sum_congr rfl fun j _ => ?_
    rw [v143_at]
    dsimp only
    simp only [e1, e2]

/-- The rotated keys, read at a row and a column. -/
theorem v148_at (x0 : FVec Ideal S8192x2560 .f32) (R : Fin 8192) (C : Fin 256) :
    val_main_v148 (F := Ideal) x0 (ix2 R C) = kN (rowsN x0) (R / 2048) (R % 2048) (C / 64) (C % 64) := by
  pointwise [val_main_v148]
  rw [v71_at]

end Cert.ReferenceIdeal.Swa

end
-- ==== Proof.SwaClaim.lean ====
module

public import proofs.«01_k».proof.Defs
public import proofs.«01_k».proof.Proof.SwaArray
public import proofs.«01_k».proof.Proof.SwaRef
public import proofs.«01_k».proof.Proof.Gen.ReferenceIdeal.Run
public import Idealize.ShloMosaic.Lib.StableHlo.Predicate

@[expose] public section

set_option maxRecDepth 16384

/-! The attention call's claims. -/

noncomputable section

namespace Cert.SwaClaim

open Idealize.ShloMosaic Idealize.ShloMosaic.TcCoe Idealize.SL.Sem Cert.Swa
open Cert.KernelIdeal.Swa (valN posN_seen)

theorem preFacts : Cert.Pre_finite.Facts := ⟨by decide, by decide⟩

/-- An entry the precondition holds of is a real number. -/
theorem real_of_lt {x : EReal} (h : max x (-x) < ⊤) : IsReal x := by
  induction x using EReal.rec with
  | bot => exact absurd h (by simp)
  | coe r => exact ⟨r, rfl⟩
  | top => exact absurd h (by simp)

theorem real_of_bit {x : EReal} (h : Ideal.cmp .olt (max x (-x)) (Ideal.ofBits .f32 0x7F800000#32) = 1#1) : IsReal x := by
  rw [ofBits_inf] at h
  refine real_of_lt ?_
  by_contra hn
  have : Ideal.cmp .olt (max x (-x)) ⊤ = BitVec.ofBool (decide (max x (-x) < ⊤)) := rfl
  rw [this, decide_eq_false hn] at h
  exact absurd h (by decide)

section
open Cert.KernelIdeal Cert.KernelIdeal.Swa

variable [hP : Cert.Pre_finite.Facts] (m : (ℓ : Loc nD τ sig) → Buf (Elt Ideal) ℓ)

theorem rows_real (h : Cert.Pre_KernelIdeal_finite m) (c : Dev nD) (R C : ℕ) : IsReal (rowsN m c R C) := by
  unfold rowsN
  split_ifs with hb
  · exact real_of_bit (congrFun (h c).1 (ix2 ⟨R, hb.1⟩ ⟨C, hb.2⟩))
  · exact ⟨0, rfl⟩

theorem sinks_real (h : Cert.Pre_KernelIdeal_finite m) (c : Dev nD) (k : ℕ) : IsReal (sinksN m c k) := by
  unfold sinksN
  split_ifs with hb
  · exact real_of_bit (congrFun (h c).2 (ix1 ⟨k, hb⟩))
  · exact ⟨0, rfl⟩

end

/-- The two programs' attention outputs are the same function of the projected rows and the sinks. -/
theorem out_eq [hP : Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) :
    Cert.ReferenceIdeal.Read.val_main_v147 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1))
      = fun y : Cert.KernelIdeal.S8192x2048.Idx => Cert.KernelIdeal.Swa.outN m c (y 0).val (y 1).val := by
  funext y
  obtain ⟨R, C, rfl⟩ : ∃ (R : Fin 8192) (C : Fin 2048), y = ix2 R C := ⟨y 0, y 1, (ix2_eta y).symm⟩
  obtain ⟨v, hv, e⟩ := Cert.ReferenceIdeal.Swa.v147_at (m ((c : Thread Cert.KernelIdeal.nD Cert.KernelIdeal.τ).loc Cert.KernelIdeal.main_arg0)) (m ((c : Thread Cert.KernelIdeal.nD Cert.KernelIdeal.τ).loc Cert.KernelIdeal.main_arg1)) R C
  refine e.trans ?_
  show headR (scoreN (Cert.KernelIdeal.Swa.rowsN m c) _ _ _ _) (Cert.KernelIdeal.Swa.sinksN m c _) v = Cert.KernelIdeal.Swa.outN m c R.val C.val
  unfold Cert.KernelIdeal.Swa.outN
  refine (attn_eq (Cert.KernelIdeal.Swa.rowsN m c) (rows_real m h c) _ (sinks_real m h c _) _ _ _ _ _ v fun j hs => ?_).symm
  rw [hv j hs]
  show valN (Cert.KernelIdeal.Swa.rowsN m c) _ _ j _ = vN (Cert.KernelIdeal.Swa.rowsN m c) _ _ _ _
  unfold valN vN
  rw [(posN_seen hs).resolve_right (by omega), Nat.add_assoc 2304]

theorem keys_eq (m : (ℓ : Loc Cert.KernelIdeal.nD Cert.KernelIdeal.τ Cert.KernelIdeal.sig) → Buf (Elt Ideal) ℓ) (c : Dev Cert.KernelIdeal.nD) :
    Cert.ReferenceIdeal.Read.val_main_v148 (F := Ideal) (m ((c : Thread Cert.KernelIdeal.nD Cert.KernelIdeal.τ).loc Cert.KernelIdeal.main_arg0))
      = fun y : Cert.KernelIdeal.S8192x256.Idx => Cert.KernelIdeal.Swa.keysN m c (y 0).val (y 1).val := by
  funext y
  obtain ⟨R, C, rfl⟩ : ∃ (R : Fin 8192) (C : Fin 256), y = ix2 R C := ⟨y 0, y 1, (ix2_eta y).symm⟩
  exact Cert.ReferenceIdeal.Swa.v148_at (m ((c : Thread Cert.KernelIdeal.nD Cert.KernelIdeal.τ).loc Cert.KernelIdeal.main_arg0)) R C

theorem algebraic : Cert.algebraic_KernelIdeal_ReferenceIdeal_pre_finite (hKernelIdeal := Cert.KernelIdeal.Gen.facts) (hReferenceIdeal := Cert.ReferenceIdeal.Gen.facts) (hPre_finite := preFacts) := by
  intro m g m' g' hpre hag
  refine ⟨fun c => fun y : Cert.KernelIdeal.S8192x2048.Idx => Cert.KernelIdeal.Swa.outN m c (y 0).val (y 1).val,
    fun c => fun y : Cert.KernelIdeal.S8192x256.Idx => Cert.KernelIdeal.Swa.keysN m c (y 0).val (y 1).val, Cert.KernelIdeal.Swa.run_kernel m g, ?_⟩
  refine (θ_run _ _ _).mono (fun r h c => ⟨(h c).1.trans ?_, (h c).2.1.trans ?_, (h c).2.2⟩) (Cert.ReferenceIdeal.Value.run (F := Ideal) m' g')
  · rw [Cert.ReferenceIdeal.Read.val_main_v147_eq, (hag c).1, (hag c).2]
    exact out_eq (hP := preFacts) m hpre c
  · rw [Cert.ReferenceIdeal.Read.val_main_v148_eq, (hag c).1]
    exact keys_eq m c

theorem frame_ref : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run (F := Ideal) m g)

end Cert.SwaClaim

end
-- ==== Proof.OutMix.lean ====
module

public import proofs.«01_k».proof.Defs
public import proofs.«01_k».proof.Proof.Gen.OutMixIdeal.Value
public import proofs.«01_k».proof.Proof.Gen.OutMixReferenceIdeal.Run
public import proofs.«01_k».proof.Proof.Gen.OutMixReferenceIdeal.Read
public import Idealize.ShloMosaic.Lib.Pipeline.ValueKit
public import Idealize.ShloMosaic.Lib.Claim
public import Idealize.ShloMosaic.Lib.StableHlo.ReadAt

@[expose] public section

set_option maxRecDepth 16384

/-! The output projection with the residual of the other two mixers. -/

noncomputable section

namespace Cert.OutMixIdeal.Out

open Cert.OutMixIdeal Cert.OutMixIdeal.Gen Idealize.ShloMosaic Idealize.ShloMosaic.TcCoe Idealize.ShloMosaic.Tactic Idealize.SL.Sem

/-- One element of a block: the residual plus the row's product with the column plus the bias. -/
def rowN (x0 : Vec Ideal S2048x2048 .bf16) (x2 : Vec Ideal S1x2048x512 .f32) (x3 : Vec Ideal S1x512 .f32) (x4 : Vec Ideal S2048x512 .f32) : Vec Ideal S2048x512 .f32 := fun y =>
  x4 y + (∑ k : Fin 2048, x0 (ix2 (y 0) k) * x2 (ix3 0 k (y 1)) + x3 (ix2 0 (y 1)))

theorem out6_apply (x0 : Vec Ideal S2048x2048 .bf16) (x1 : Vec Ideal S1x32x2048 .bf16) (x2 : Vec Ideal S1x2048x512 .f32) (x3 : Vec Ideal S1x512 .f32)
    (x4 : Vec Ideal S2048x512 .f32) (x5 : Vec Ideal S1x32x512 .f32) (y : S2048x512.Idx) :
    out0_6 x0 x1 x2 x3 x4 x5 y = rowN x0 x2 x3 x4 y := by
  unfold_out out0_6
  refine View.canon_apply_of_pieces (Val := Elt Ideal) (rowN x0 x2 x3 x4) _ ?_ y (cover0_6 _ _ _ _ _ _ _ _ y)
  intro pc hpc
  simp only [List.mem_cons, List.not_mem_nil, or_false] at hpc
  rcases hpc with rfl | rfl | rfl | rfl | rfl | rfl | rfl | rfl
  all_goals
    intro x
    obtain ⟨a, l, rfl⟩ : ∃ (a : Fin 256) (l : Fin 512), x = ix2 a l := ⟨x 0, x 1, (ix2_eta x).symm⟩
    pointwise [k0_pay1, k0_pay2, k0_pay3, k0_pay4, k0_pay5, k0_pay6, k0_pay7, k0_pay8, k0_pay9, k0_pay10, k0_pay11, rowN]
    refine congrArg (rowN x0 x2 x3 x4) (a₁ := ix2 _ l) (funext fun d => Fin.ext ?_)
    match d with
    | ⟨0, _⟩ => simp [Rect.emb, Rect.unit, ix2]; done
    | ⟨1, _⟩ => simp [Rect.emb, Rect.unit, ix2]; done

/-- One element of a block of the sample's result. -/
def sampN (x1 : Vec Ideal S1x32x2048 .bf16) (x2 : Vec Ideal S1x2048x512 .f32) (x3 : Vec Ideal S1x512 .f32) (x5 : Vec Ideal S1x32x512 .f32) : Vec Ideal S1x32x512 .f32 := fun y =>
  x5 y + (∑ k : Fin 2048, x1 (ix3 0 (y 1) k) * x2 (ix3 0 k (y 2)) + x3 (ix2 0 (y 2)))

theorem out7_apply (x0 : Vec Ideal S2048x2048 .bf16) (x1 : Vec Ideal S1x32x2048 .bf16) (x2 : Vec Ideal S1x2048x512 .f32) (x3 : Vec Ideal S1x512 .f32)
    (x4 : Vec Ideal S2048x512 .f32) (x5 : Vec Ideal S1x32x512 .f32) (y : S1x32x512.Idx) :
    out0_7 x0 x1 x2 x3 x4 x5 y = sampN x1 x2 x3 x5 y := by
  unfold_out out0_7
  refine View.canon_apply_of_pieces (Val := Elt Ideal) (sampN x1 x2 x3 x5) _ ?_ y (cover0_7 _ y)
  intro pc hpc
  simp only [List.mem_cons, List.not_mem_nil, or_false] at hpc
  obtain rfl := hpc
  intro x
  obtain ⟨z, a, l, rfl⟩ : ∃ (z : Fin 1) (a : Fin 32) (l : Fin 512), x = ix3 z a l := ⟨x 0, x 1, x 2, (ix3_eta x).symm⟩
  obtain rfl : z = 0 := Subsingleton.elim _ _
  pointwise [k0_pay1, k0_pay10, k0_pay12, sampN]
  refine congrArg (sampN x1 x2 x3 x5) (a₁ := ix3 0 a l) (funext fun d => Fin.ext ?_)
  match d with
  | ⟨0, _⟩ => simp [Rect.emb, Rect.unit, ix3]; done
  | ⟨1, _⟩ => simp [Rect.emb, Rect.unit, ix3]; done
  | ⟨2, _⟩ => simp [Rect.emb, Rect.unit, ix3]; done

variable (m : (ℓ : Loc nD τ sig) → Buf (Elt Ideal) ℓ)

theorem c0_lt (t : Fin cfg0.N) : (grid0.coords t 0).val < 4 := (grid0.coords t 0).isLt
theorem c1_lt (t : Fin cfg0.N) : (grid0.coords t 1).val < 4 := (grid0.coords t 1).isLt

theorem idx0 : ∀ t : Fin cfg0.N, win0_0.index t = ![(grid0.coords t 0).val, 0] :=
  (by decide +kernel : ∀ t : Fin grid0.N, win0_0.index t = ![(grid0.coords t 0).val, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![0, 0, (grid0.coords t 1).val] :=
  (by decide +kernel : ∀ t : Fin grid0.N, win0_2.index t = ![0, 0, (grid0.coords t 1).val])
theorem idx3 : ∀ t : Fin cfg0.N, win0_3.index t = ![0, (grid0.coords t 1).val] :=
  (by decide +kernel : ∀ t : Fin grid0.N, win0_3.index t = ![0, (grid0.coords t 1).val])
theorem idx4 : ∀ t : Fin cfg0.N, win0_4.index t = ![(grid0.coords t 0).val, (grid0.coords t 1).val] :=
  (by decide +kernel : ∀ t : Fin grid0.N, win0_4.index t = ![(grid0.coords t 0).val, (grid0.coords t 1).val])
theorem idx5 : ∀ t : Fin cfg0.N, win0_5.index t = ![0, 0, (grid0.coords t 1).val] :=
  (by decide +kernel : ∀ t : Fin grid0.N, win0_5.index t = ![0, 0, (grid0.coords t 1).val])
theorem idx6 : ∀ t : Fin cfg0.N, win0_6.index t = ![(grid0.coords t 0).val, (grid0.coords t 1).val] :=
  (by decide +kernel : ∀ t : Fin grid0.N, win0_6.index t = ![(grid0.coords t 0).val, (grid0.coords t 1).val])
theorem idx7 : ∀ t : Fin cfg0.N, win0_7.index t = ![(grid0.coords t 0).val, 0, (grid0.coords t 1).val] :=
  (by decide +kernel : ∀ t : Fin grid0.N, win0_7.index t = ![(grid0.coords t 0).val, 0, (grid0.coords t 1).val])

/-- A row of the array under a block's row. -/
def row (t : Fin cfg0.N) (r : Fin 2048) : Fin 8192 := ⟨2048 * (grid0.coords t 0).val + r, by have := c0_lt t; omega⟩
/-- A column of the array under a block's column. -/
def col (t : Fin cfg0.N) (l : Fin 512) : Fin 2048 := ⟨512 * (grid0.coords t 1).val + l, by have := c1_lt t; omega⟩
theorem blk0 (c : Dev nD) (t : Fin cfg0.N) (r : Fin 2048) (k : Fin 2048) :
    iblk m c 0 t (ix2 r k) = (m ((c : Thread nD τ).loc main_arg0) : FVec Ideal S8192x2048 .bf16) (ix2 (row t r) k) := by
  refine Eq.trans ?_ (congrFun (V_main_arg0 m c) _)
  unfold iblk row
  show V m c main_arg0 _ = V m c main_arg0 _
  congr 1
  blk_ext [idx0 t]

theorem blk1 (c : Dev nD) (t : Fin cfg0.N) (r : Fin 32) (k : Fin 2048) :
    iblk m c 1 t (ix3 0 r k) = (m ((c : Thread nD τ).loc main_arg1) : FVec Ideal S1x32x2048 .bf16) (ix3 0 r k) := by
  refine Eq.trans ?_ (congrFun (V_main_arg1 m c) _)
  unfold iblk
  show V m c main_arg1 _ = V m c main_arg1 _
  congr 1
  blk_ext [idx1 t]

theorem blk2 (c : Dev nD) (t : Fin cfg0.N) (k : Fin 2048) (l : Fin 512) :
    iblk m c 2 t (ix3 0 k l) = (m ((c : Thread nD τ).loc main_arg2) : FVec Ideal S1x2048x2048 .f32) (ix3 0 k (col t l)) := by
  refine Eq.trans ?_ (congrFun (V_main_arg2 m c) _)
  unfold iblk col
  show V m c main_arg2 _ = V m c main_arg2 _
  congr 1
  blk_ext [idx2 t]

theorem bias_at (c : Dev nD) (l : Fin 2048) :
    (V m c main_v0 : FVec Ideal S1x2048 .f32) (ix2 0 l) = (m ((c : Thread nD τ).loc main_arg3) : FVec Ideal S2048 .f32) (ix1 l) := by
  unfold V
  after_reads_at

theorem blk3 (c : Dev nD) (t : Fin cfg0.N) (l : Fin 512) :
    iblk m c 3 t (ix2 0 l) = (m ((c : Thread nD τ).loc main_arg3) : FVec Ideal S2048 .f32) (ix1 (col t l)) := by
  refine Eq.trans ?_ (bias_at m c (col t l))
  unfold iblk col
  show V m c main_v0 _ = V m c main_v0 _
  congr 1
  blk_ext [idx3 t]

theorem blk4 (c : Dev nD) (t : Fin cfg0.N) (r : Fin 2048) (l : Fin 512) :
    iblk m c 4 t (ix2 r l) = (m ((c : Thread nD τ).loc main_arg4) : FVec Ideal S8192x2048 .f32) (ix2 (row t r) (col t l)) := by
  refine Eq.trans ?_ (congrFun (V_main_arg4 m c) _)
  unfold iblk row col
  show V m c main_arg4 _ = V m c main_arg4 _
  congr 1
  blk_ext [idx4 t]

theorem blk5 (c : Dev nD) (t : Fin cfg0.N) (r : Fin 32) (l : Fin 512) :
    iblk m c 5 t (ix3 0 r l) = (m ((c : Thread nD τ).loc main_arg5) : FVec Ideal S4x32x2048 .f32) (ix3 0 r (col t l)) := by
  refine Eq.trans ?_ (congrFun (V_main_arg5 m c) _)
  unfold iblk col
  show V m c main_arg5 _ = V m c main_arg5 _
  congr 1
  blk_ext [idx5 t]

section
open Cert.OutMixReferenceIdeal.Read

theorem prompt_at (x0 : FVec Ideal S8192x2048 .bf16) (x2 : FVec Ideal S1x2048x2048 .f32) (x3 : FVec Ideal S2048 .f32) (x4 : FVec Ideal S8192x2048 .f32) (R : Fin 8192) (C : Fin 2048) :
    val_main_v5 (F := Ideal) x0 x2 x3 x4 (ix2 R C) = x4 (ix2 R C) + (∑ k : Fin 2048, x0 (ix2 R k) * x2 (ix3 0 k C) + x3 (ix1 C)) := by
  pointwise [val_main_v5, val_main_v4, val_main_v3, val_main_v2, val_main_v1, val_main_v0]

theorem sample_at (x1 : FVec Ideal S1x32x2048 .bf16) (x2 : FVec Ideal S1x2048x2048 .f32) (x3 : FVec Ideal S2048 .f32) (x5 : FVec Ideal S4x32x2048 .f32) (g : Fin 4) (R : Fin 32) (C : Fin 2048) :
    val_main_v15 (F := Ideal) x1 x2 x3 x5 (ix3 g R C) = x5 (ix3 0 R C) + (∑ k : Fin 2048, x1 (ix3 0 R k) * x2 (ix3 0 k C) + x3 (ix1 C)) := by
  pointwise [val_main_v15, val_main_v14, val_main_v13, val_main_v12, val_main_v11, val_main_v10, val_main_v9, val_main_v8, val_main_v7, val_main_v6]

/-- The prompt's result is the reference's. -/
theorem final6 (c : Dev nD) : (dats m 0 c).arrAt 6 cfg0.N = val_main_v5 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 6 _ (by decide +kernel) fun t hf y => ?_
  show (dats m 0 c).flushed 6 t y = _
  rw [Value.flushed6]
  obtain ⟨r, l, rfl⟩ : ∃ (r : Fin 2048) (l : Fin 512), y = ix2 r l := ⟨y 0, y 1, (ix2_eta y).symm⟩
  have e : (((cfg0.win 6).blk t).view.emb (ix2 r l) : S8192x2048.Idx) = ix2 (row t r) (col t l) := by
    unfold row col
    blk_ext [idx6 t]
  refine (out6_apply _ _ _ _ _ _ (ix2 r l)).trans ?_
  show _ = val_main_v5 (F := Ideal) _ _ _ _ (((cfg0.win 6).blk t).view.emb (ix2 r l))
  rw [e, prompt_at]
  exact congrArg₂ (· + ·) (blk4 m c t r l) (congrArg₂ (· + ·) (Finset.sum_congr rfl fun k _ => congrArg₂ (· * ·) (blk0 m c t r k) (blk2 m c t k l)) (blk3 m c t l))

/-- The sample's result is the reference's. -/
theorem final7 (c : Dev nD) : (dats m 0 c).arrAt 7 cfg0.N = val_main_v15 (F := Ideal) (m ((c : Thread nD τ).loc main_arg1)) (m ((c : Thread nD τ).loc main_arg2)) (m ((c : Thread nD τ).loc main_arg3)) (m ((c : Thread nD τ).loc main_arg5)) := by
  refine (dats m 0 c).arrAt_eq_of_covers 7 _ (by decide +kernel) fun t hf y => ?_
  show (dats m 0 c).flushed 7 t y = _
  rw [Value.flushed7]
  obtain ⟨z, r, l, rfl⟩ : ∃ (z : Fin 1) (r : Fin 32) (l : Fin 512), y = ix3 z r l := ⟨y 0, y 1, y 2, (ix3_eta y).symm⟩
  obtain rfl : z = 0 := Subsingleton.elim _ _
  have e : (((cfg0.win 7).blk t).view.emb (ix3 0 r l) : S4x32x2048.Idx) = ix3 ⟨(grid0.coords t 0).val, c0_lt t⟩ r (col t l) := by
    unfold col
    blk_ext [idx7 t]
  refine (out7_apply _ _ _ _ _ _ (ix3 0 r l)).trans ?_
  show _ = val_main_v15 (F := Ideal) _ _ _ _ (((cfg0.win 7).blk t).view.emb (ix3 0 r l))
  rw [e, sample_at]
  exact congrArg₂ (· + ·) (blk5 m c t r l) (congrArg₂ (· + ·) (Finset.sum_congr rfl fun k _ => congrArg₂ (· * ·) (blk1 m c t r k) (blk2 m c t k l)) (blk3 m c t l))

end

theorem algebraic : Cert.algebraic_OutMixIdeal_OutMixReferenceIdeal (hOutMixIdeal := Cert.OutMixIdeal.Gen.facts) (hOutMixReferenceIdeal := Cert.OutMixReferenceIdeal.Gen.facts) := by
  intro m g m' g' _ hag
  refine ⟨_, _, (θ_run defs _ _).mono (fun r h c => ⟨(h c).1.trans (final6 m c), (h c).2.1.trans (final7 m c), (h c).2.2⟩) (Value.run_blocks m g), ?_⟩
  refine (θ_run _ _ _).mono (fun r h c => ⟨(h c).1.trans ?_, (h c).2.1.trans ?_, (h c).2.2⟩) (Cert.OutMixReferenceIdeal.Value.run (F := Ideal) m' g')
  · rw [Cert.OutMixReferenceIdeal.Read.val_main_v5_eq, (hag c).1, (hag c).2.2.1, (hag c).2.2.2.1, (hag c).2.2.2.2.1]
  · rw [Cert.OutMixReferenceIdeal.Read.val_main_v15_eq, (hag c).2.1, (hag c).2.2.1, (hag c).2.2.2.1, (hag c).2.2.2.2.2]

theorem frame_ref : Cert.quiescent_OutMixReferenceIdeal (hOutMixReferenceIdeal := Cert.OutMixReferenceIdeal.Gen.facts) := fun m g _ =>
  (θ_run Cert.OutMixReferenceIdeal.defs _ _).mono (fun r h => ⟨fun c => (h c).2.2, sem_eq_zero_of_no_sems (by decide) r.2⟩)
    (Cert.OutMixReferenceIdeal.Value.run (F := Ideal) m g)

end Cert.OutMixIdeal.Out

end
-- ==== Proof.OutLru.lean ====
module

public import proofs.«01_k».proof.Defs
public import proofs.«01_k».proof.Proof.Gen.OutLruIdeal.Value
public import proofs.«01_k».proof.Proof.Gen.OutLruReferenceIdeal.Run
public import proofs.«01_k».proof.Proof.Gen.OutLruReferenceIdeal.Read
public import Idealize.ShloMosaic.Lib.Pipeline.ValueKit
public import Idealize.ShloMosaic.Lib.Claim
public import Idealize.ShloMosaic.Lib.StableHlo.ReadAt

@[expose] public section

set_option maxRecDepth 16384

/-! The output projection with the residual of the linear recurrence. -/

noncomputable section

namespace Cert.OutLruIdeal.Out

open Cert.OutLruIdeal Cert.OutLruIdeal.Gen Idealize.ShloMosaic Idealize.ShloMosaic.TcCoe Idealize.ShloMosaic.Tactic Idealize.SL.Sem

/-- One element of a block: the residual plus the row's product with the column plus the bias. -/
def rowN (x0 : Vec Ideal S2048x2560 .bf16) (x2 : Vec Ideal S1x2560x512 .f32) (x3 : Vec Ideal S1x512 .f32) (x4 : Vec Ideal S2048x512 .f32) : Vec Ideal S2048x512 .f32 := fun y =>
  x4 y + (∑ k : Fin 2560, x0 (ix2 (y 0) k) * x2 (ix3 0 k (y 1)) + x3 (ix2 0 (y 1)))

theorem out6_apply (x0 : Vec Ideal S2048x2560 .bf16) (x1 : Vec Ideal S1x32x2560 .bf16) (x2 : Vec Ideal S1x2560x512 .f32) (x3 : Vec Ideal S1x512 .f32)
    (x4 : Vec Ideal S2048x512 .f32) (x5 : Vec Ideal S1x32x512 .f32) (y : S2048x512.Idx) :
    out0_6 x0 x1 x2 x3 x4 x5 y = rowN x0 x2 x3 x4 y := by
  unfold_out out0_6
  refine View.canon_apply_of_pieces (Val := Elt Ideal) (rowN x0 x2 x3 x4) _ ?_ y (cover0_6 _ _ _ _ _ _ _ _ y)
  intro pc hpc
  simp only [List.mem_cons, List.not_mem_nil, or_false] at hpc
  rcases hpc with rfl | rfl | rfl | rfl | rfl | rfl | rfl | rfl
  all_goals
    intro x
    obtain ⟨a, l, rfl⟩ : ∃ (a : Fin 256) (l : Fin 512), x = ix2 a l := ⟨x 0, x 1, (ix2_eta x).symm⟩
    pointwise [k0_pay1, k0_pay2, k0_pay3, k0_pay4, k0_pay5, k0_pay6, k0_pay7, k0_pay8, k0_pay9, k0_pay10, k0_pay11, rowN]
    refine congrArg (rowN x0 x2 x3 x4) (a₁ := ix2 _ l) (funext fun d => Fin.ext ?_)
    match d with
    | ⟨0, _⟩ => simp [Rect.emb, Rect.unit, ix2]; done
    | ⟨1, _⟩ => simp [Rect.emb, Rect.unit, ix2]; done

/-- One element of a block of the sample's result. -/
def sampN (x1 : Vec Ideal S1x32x2560 .bf16) (x2 : Vec Ideal S1x2560x512 .f32) (x3 : Vec Ideal S1x512 .f32) (x5 : Vec Ideal S1x32x512 .f32) : Vec Ideal S1x32x512 .f32 := fun y =>
  x5 y + (∑ k : Fin 2560, x1 (ix3 0 (y 1) k) * x2 (ix3 0 k (y 2)) + x3 (ix2 0 (y 2)))

theorem out7_apply (x0 : Vec Ideal S2048x2560 .bf16) (x1 : Vec Ideal S1x32x2560 .bf16) (x2 : Vec Ideal S1x2560x512 .f32) (x3 : Vec Ideal S1x512 .f32)
    (x4 : Vec Ideal S2048x512 .f32) (x5 : Vec Ideal S1x32x512 .f32) (y : S1x32x512.Idx) :
    out0_7 x0 x1 x2 x3 x4 x5 y = sampN x1 x2 x3 x5 y := by
  unfold_out out0_7
  refine View.canon_apply_of_pieces (Val := Elt Ideal) (sampN x1 x2 x3 x5) _ ?_ y (cover0_7 _ y)
  intro pc hpc
  simp only [List.mem_cons, List.not_mem_nil, or_false] at hpc
  obtain rfl := hpc
  intro x
  obtain ⟨z, a, l, rfl⟩ : ∃ (z : Fin 1) (a : Fin 32) (l : Fin 512), x = ix3 z a l := ⟨x 0, x 1, x 2, (ix3_eta x).symm⟩
  obtain rfl : z = 0 := Subsingleton.elim _ _
  pointwise [k0_pay1, k0_pay10, k0_pay12, sampN]
  refine congrArg (sampN x1 x2 x3 x5) (a₁ := ix3 0 a l) (funext fun d => Fin.ext ?_)
  match d with
  | ⟨0, _⟩ => simp [Rect.emb, Rect.unit, ix3]; done
  | ⟨1, _⟩ => simp [Rect.emb, Rect.unit, ix3]; done
  | ⟨2, _⟩ => simp [Rect.emb, Rect.unit, ix3]; done

variable (m : (ℓ : Loc nD τ sig) → Buf (Elt Ideal) ℓ)

theorem c0_lt (t : Fin cfg0.N) : (grid0.coords t 0).val < 4 := (grid0.coords t 0).isLt
theorem c1_lt (t : Fin cfg0.N) : (grid0.coords t 1).val < 4 := (grid0.coords t 1).isLt

theorem idx0 : ∀ t : Fin cfg0.N, win0_0.index t = ![(grid0.coords t 0).val, 0] :=
  (by decide +kernel : ∀ t : Fin grid0.N, win0_0.index t = ![(grid0.coords t 0).val, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![0, 0, (grid0.coords t 1).val] :=
  (by decide +kernel : ∀ t : Fin grid0.N, win0_2.index t = ![0, 0, (grid0.coords t 1).val])
theorem idx3 : ∀ t : Fin cfg0.N, win0_3.index t = ![0, (grid0.coords t 1).val] :=
  (by decide +kernel : ∀ t : Fin grid0.N, win0_3.index t = ![0, (grid0.coords t 1).val])
theorem idx4 : ∀ t : Fin cfg0.N, win0_4.index t = ![(grid0.coords t 0).val, (grid0.coords t 1).val] :=
  (by decide +kernel : ∀ t : Fin grid0.N, win0_4.index t = ![(grid0.coords t 0).val, (grid0.coords t 1).val])
theorem idx5 : ∀ t : Fin cfg0.N, win0_5.index t = ![0, 0, (grid0.coords t 1).val] :=
  (by decide +kernel : ∀ t : Fin grid0.N, win0_5.index t = ![0, 0, (grid0.coords t 1).val])
theorem idx6 : ∀ t : Fin cfg0.N, win0_6.index t = ![(grid0.coords t 0).val, (grid0.coords t 1).val] :=
  (by decide +kernel : ∀ t : Fin grid0.N, win0_6.index t = ![(grid0.coords t 0).val, (grid0.coords t 1).val])
theorem idx7 : ∀ t : Fin cfg0.N, win0_7.index t = ![(grid0.coords t 0).val, 0, (grid0.coords t 1).val] :=
  (by decide +kernel : ∀ t : Fin grid0.N, win0_7.index t = ![(grid0.coords t 0).val, 0, (grid0.coords t 1).val])

/-- A row of the array under a block's row. -/
def row (t : Fin cfg0.N) (r : Fin 2048) : Fin 8192 := ⟨2048 * (grid0.coords t 0).val + r, by have := c0_lt t; omega⟩
/-- A column of the array under a block's column. -/
def col (t : Fin cfg0.N) (l : Fin 512) : Fin 2048 := ⟨512 * (grid0.coords t 1).val + l, by have := c1_lt t; omega⟩
theorem blk0 (c : Dev nD) (t : Fin cfg0.N) (r : Fin 2048) (k : Fin 2560) :
    iblk m c 0 t (ix2 r k) = (m ((c : Thread nD τ).loc main_arg0) : FVec Ideal S8192x2560 .bf16) (ix2 (row t r) k) := by
  refine Eq.trans ?_ (congrFun (V_main_arg0 m c) _)
  unfold iblk row
  show V m c main_arg0 _ = V m c main_arg0 _
  congr 1
  blk_ext [idx0 t]

theorem blk1 (c : Dev nD) (t : Fin cfg0.N) (r : Fin 32) (k : Fin 2560) :
    iblk m c 1 t (ix3 0 r k) = (m ((c : Thread nD τ).loc main_arg1) : FVec Ideal S1x32x2560 .bf16) (ix3 0 r k) := by
  refine Eq.trans ?_ (congrFun (V_main_arg1 m c) _)
  unfold iblk
  show V m c main_arg1 _ = V m c main_arg1 _
  congr 1
  blk_ext [idx1 t]

theorem blk2 (c : Dev nD) (t : Fin cfg0.N) (k : Fin 2560) (l : Fin 512) :
    iblk m c 2 t (ix3 0 k l) = (m ((c : Thread nD τ).loc main_arg2) : FVec Ideal S2x2560x2048 .f32) (ix3 0 k (col t l)) := by
  refine Eq.trans ?_ (congrFun (V_main_arg2 m c) _)
  unfold iblk col
  show V m c main_arg2 _ = V m c main_arg2 _
  congr 1
  blk_ext [idx2 t]

theorem bias_at (c : Dev nD) (l : Fin 2048) :
    (V m c main_v0 : FVec Ideal S1x2048 .f32) (ix2 0 l) = (m ((c : Thread nD τ).loc main_arg3) : FVec Ideal S2048 .f32) (ix1 l) := by
  unfold V
  after_reads_at

theorem blk3 (c : Dev nD) (t : Fin cfg0.N) (l : Fin 512) :
    iblk m c 3 t (ix2 0 l) = (m ((c : Thread nD τ).loc main_arg3) : FVec Ideal S2048 .f32) (ix1 (col t l)) := by
  refine Eq.trans ?_ (bias_at m c (col t l))
  unfold iblk col
  show V m c main_v0 _ = V m c main_v0 _
  congr 1
  blk_ext [idx3 t]

theorem blk4 (c : Dev nD) (t : Fin cfg0.N) (r : Fin 2048) (l : Fin 512) :
    iblk m c 4 t (ix2 r l) = (m ((c : Thread nD τ).loc main_arg4) : FVec Ideal S8192x2048 .f32) (ix2 (row t r) (col t l)) := by
  refine Eq.trans ?_ (congrFun (V_main_arg4 m c) _)
  unfold iblk row col
  show V m c main_arg4 _ = V m c main_arg4 _
  congr 1
  blk_ext [idx4 t]

theorem blk5 (c : Dev nD) (t : Fin cfg0.N) (r : Fin 32) (l : Fin 512) :
    iblk m c 5 t (ix3 0 r l) = (m ((c : Thread nD τ).loc main_arg5) : FVec Ideal S4x32x2048 .f32) (ix3 0 r (col t l)) := by
  refine Eq.trans ?_ (congrFun (V_main_arg5 m c) _)
  unfold iblk col
  show V m c main_arg5 _ = V m c main_arg5 _
  congr 1
  blk_ext [idx5 t]

section
open Cert.OutLruReferenceIdeal.Read

theorem prompt_at (x0 : FVec Ideal S8192x2560 .bf16) (x2 : FVec Ideal S2x2560x2048 .f32) (x3 : FVec Ideal S2048 .f32) (x4 : FVec Ideal S8192x2048 .f32) (R : Fin 8192) (C : Fin 2048) :
    val_main_v6 (F := Ideal) x0 x2 x3 x4 (ix2 R C) = x4 (ix2 R C) + (∑ k : Fin 2560, x0 (ix2 R k) * x2 (ix3 0 k C) + x3 (ix1 C)) := by
  pointwise [val_main_v6, val_main_v5, val_main_v4, val_main_v3, val_main_v2, val_main_v1, val_main_v0]

theorem sample_at (x1 : FVec Ideal S1x32x2560 .bf16) (x2 : FVec Ideal S2x2560x2048 .f32) (x3 : FVec Ideal S2048 .f32) (x5 : FVec Ideal S4x32x2048 .f32) (g : Fin 4) (R : Fin 32) (C : Fin 2048) :
    val_main_v17 (F := Ideal) x1 x2 x3 x5 (ix3 g R C) = x5 (ix3 0 R C) + (∑ k : Fin 2560, x1 (ix3 0 R k) * x2 (ix3 0 k C) + x3 (ix1 C)) := by
  pointwise [val_main_v17, val_main_v16, val_main_v15, val_main_v14, val_main_v13, val_main_v12, val_main_v11, val_main_v10, val_main_v9, val_main_v8, val_main_v7]

/-- The prompt's result is the reference's. -/
theorem final6 (c : Dev nD) : (dats m 0 c).arrAt 6 cfg0.N = val_main_v6 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 6 _ (by decide +kernel) fun t hf y => ?_
  show (dats m 0 c).flushed 6 t y = _
  rw [Value.flushed6]
  obtain ⟨r, l, rfl⟩ : ∃ (r : Fin 2048) (l : Fin 512), y = ix2 r l := ⟨y 0, y 1, (ix2_eta y).symm⟩
  have e : (((cfg0.win 6).blk t).view.emb (ix2 r l) : S8192x2048.Idx) = ix2 (row t r) (col t l) := by
    unfold row col
    blk_ext [idx6 t]
  refine (out6_apply _ _ _ _ _ _ (ix2 r l)).trans ?_
  show _ = val_main_v6 (F := Ideal) _ _ _ _ (((cfg0.win 6).blk t).view.emb (ix2 r l))
  rw [e, prompt_at]
  exact congrArg₂ (· + ·) (blk4 m c t r l) (congrArg₂ (· + ·) (Finset.sum_congr rfl fun k _ => congrArg₂ (· * ·) (blk0 m c t r k) (blk2 m c t k l)) (blk3 m c t l))

/-- The sample's result is the reference's. -/
theorem final7 (c : Dev nD) : (dats m 0 c).arrAt 7 cfg0.N = val_main_v17 (F := Ideal) (m ((c : Thread nD τ).loc main_arg1)) (m ((c : Thread nD τ).loc main_arg2)) (m ((c : Thread nD τ).loc main_arg3)) (m ((c : Thread nD τ).loc main_arg5)) := by
  refine (dats m 0 c).arrAt_eq_of_covers 7 _ (by decide +kernel) fun t hf y => ?_
  show (dats m 0 c).flushed 7 t y = _
  rw [Value.flushed7]
  obtain ⟨z, r, l, rfl⟩ : ∃ (z : Fin 1) (r : Fin 32) (l : Fin 512), y = ix3 z r l := ⟨y 0, y 1, y 2, (ix3_eta y).symm⟩
  obtain rfl : z = 0 := Subsingleton.elim _ _
  have e : (((cfg0.win 7).blk t).view.emb (ix3 0 r l) : S4x32x2048.Idx) = ix3 ⟨(grid0.coords t 0).val, c0_lt t⟩ r (col t l) := by
    unfold col
    blk_ext [idx7 t]
  refine (out7_apply _ _ _ _ _ _ (ix3 0 r l)).trans ?_
  show _ = val_main_v17 (F := Ideal) _ _ _ _ (((cfg0.win 7).blk t).view.emb (ix3 0 r l))
  rw [e, sample_at]
  exact congrArg₂ (· + ·) (blk5 m c t r l) (congrArg₂ (· + ·) (Finset.sum_congr rfl fun k _ => congrArg₂ (· * ·) (blk1 m c t r k) (blk2 m c t k l)) (blk3 m c t l))

end

theorem algebraic : Cert.algebraic_OutLruIdeal_OutLruReferenceIdeal (hOutLruIdeal := Cert.OutLruIdeal.Gen.facts) (hOutLruReferenceIdeal := Cert.OutLruReferenceIdeal.Gen.facts) := by
  intro m g m' g' _ hag
  refine ⟨_, _, (θ_run defs _ _).mono (fun r h c => ⟨(h c).1.trans (final6 m c), (h c).2.1.trans (final7 m c), (h c).2.2⟩) (Value.run_blocks m g), ?_⟩
  refine (θ_run _ _ _).mono (fun r h c => ⟨(h c).1.trans ?_, (h c).2.1.trans ?_, (h c).2.2⟩) (Cert.OutLruReferenceIdeal.Value.run (F := Ideal) m' g')
  · rw [Cert.OutLruReferenceIdeal.Read.val_main_v6_eq, (hag c).1, (hag c).2.2.1, (hag c).2.2.2.1, (hag c).2.2.2.2.1]
  · rw [Cert.OutLruReferenceIdeal.Read.val_main_v17_eq, (hag c).2.1, (hag c).2.2.1, (hag c).2.2.2.1, (hag c).2.2.2.2.2]

theorem frame_ref : Cert.quiescent_OutLruReferenceIdeal (hOutLruReferenceIdeal := Cert.OutLruReferenceIdeal.Gen.facts) := fun m g _ =>
  (θ_run Cert.OutLruReferenceIdeal.defs _ _).mono (fun r h => ⟨fun c => (h c).2.2, sem_eq_zero_of_no_sems (by decide) r.2⟩)
    (Cert.OutLruReferenceIdeal.Value.run (F := Ideal) m g)

end Cert.OutLruIdeal.Out

end
-- ==== Proof.OutB.lean ====
module

public import proofs.«01_k».proof.Defs
public import proofs.«01_k».proof.Proof.Gen.OutBIdeal.Value
public import proofs.«01_k».proof.Proof.Gen.OutBReferenceIdeal.Run
public import proofs.«01_k».proof.Proof.Gen.OutBReferenceIdeal.Read
public import Idealize.ShloMosaic.Lib.Pipeline.ValueKit
public import Idealize.ShloMosaic.Lib.Claim
public import Idealize.ShloMosaic.Lib.StableHlo.ReadAt

@[expose] public section

set_option maxRecDepth 16384

/-! The output projection with the residual over the second half of the inner columns. -/

noncomputable section

namespace Cert.OutBIdeal.Out

open Cert.OutBIdeal Cert.OutBIdeal.Gen Idealize.ShloMosaic Idealize.ShloMosaic.TcCoe Idealize.ShloMosaic.Tactic Idealize.SL.Sem

/-- One element of a block: the residual plus the row's product with the column plus the bias. -/
def rowN (x0 : Vec Ideal S2048x3072 .bf16) (x2 : Vec Ideal S1x3072x512 .f32) (x3 : Vec Ideal S1x512 .f32) (x4 : Vec Ideal S2048x512 .f32) : Vec Ideal S2048x512 .f32 := fun y =>
  x4 y + (∑ k : Fin 3072, x0 (ix2 (y 0) k) * x2 (ix3 0 k (y 1)) + x3 (ix2 0 (y 1)))

theorem out6_apply (x0 : Vec Ideal S2048x3072 .bf16) (x1 : Vec Ideal S1x32x3072 .bf16) (x2 : Vec Ideal S1x3072x512 .f32) (x3 : Vec Ideal S1x512 .f32)
    (x4 : Vec Ideal S2048x512 .f32) (x5 : Vec Ideal S1x32x512 .f32) (y : S2048x512.Idx) :
    out0_6 x0 x1 x2 x3 x4 x5 y = rowN x0 x2 x3 x4 y := by
  unfold_out out0_6
  refine View.canon_apply_of_pieces (Val := Elt Ideal) (rowN x0 x2 x3 x4) _ ?_ y (cover0_6 _ _ _ _ _ _ _ _ y)
  intro pc hpc
  simp only [List.mem_cons, List.not_mem_nil, or_false] at hpc
  rcases hpc with rfl | rfl | rfl | rfl | rfl | rfl | rfl | rfl
  all_goals
    intro x
    obtain ⟨a, l, rfl⟩ : ∃ (a : Fin 256) (l : Fin 512), x = ix2 a l := ⟨x 0, x 1, (ix2_eta x).symm⟩
    pointwise [k0_pay1, k0_pay2, k0_pay3, k0_pay4, k0_pay5, k0_pay6, k0_pay7, k0_pay8, k0_pay9, k0_pay10, k0_pay11, rowN]
    refine congrArg (rowN x0 x2 x3 x4) (a₁ := ix2 _ l) (funext fun d => Fin.ext ?_)
    match d with
    | ⟨0, _⟩ => simp [Rect.emb, Rect.unit, ix2]; done
    | ⟨1, _⟩ => simp [Rect.emb, Rect.unit, ix2]; done

/-- One element of a block of the sample's result. -/
def sampN (x1 : Vec Ideal S1x32x3072 .bf16) (x2 : Vec Ideal S1x3072x512 .f32) (x3 : Vec Ideal S1x512 .f32) (x5 : Vec Ideal S1x32x512 .f32) : Vec Ideal S1x32x512 .f32 := fun y =>
  x5 y + (∑ k : Fin 3072, x1 (ix3 0 (y 1) k) * x2 (ix3 0 k (y 2)) + x3 (ix2 0 (y 2)))

theorem out7_apply (x0 : Vec Ideal S2048x3072 .bf16) (x1 : Vec Ideal S1x32x3072 .bf16) (x2 : Vec Ideal S1x3072x512 .f32) (x3 : Vec Ideal S1x512 .f32)
    (x4 : Vec Ideal S2048x512 .f32) (x5 : Vec Ideal S1x32x512 .f32) (y : S1x32x512.Idx) :
    out0_7 x0 x1 x2 x3 x4 x5 y = sampN x1 x2 x3 x5 y := by
  unfold_out out0_7
  refine View.canon_apply_of_pieces (Val := Elt Ideal) (sampN x1 x2 x3 x5) _ ?_ y (cover0_7 _ y)
  intro pc hpc
  simp only [List.mem_cons, List.not_mem_nil, or_false] at hpc
  obtain rfl := hpc
  intro x
  obtain ⟨z, a, l, rfl⟩ : ∃ (z : Fin 1) (a : Fin 32) (l : Fin 512), x = ix3 z a l := ⟨x 0, x 1, x 2, (ix3_eta x).symm⟩
  obtain rfl : z = 0 := Subsingleton.elim _ _
  pointwise [k0_pay1, k0_pay10, k0_pay12, sampN]
  refine congrArg (sampN x1 x2 x3 x5) (a₁ := ix3 0 a l) (funext fun d => Fin.ext ?_)
  match d with
  | ⟨0, _⟩ => simp [Rect.emb, Rect.unit, ix3]; done
  | ⟨1, _⟩ => simp [Rect.emb, Rect.unit, ix3]; done
  | ⟨2, _⟩ => simp [Rect.emb, Rect.unit, ix3]; done

variable (m : (ℓ : Loc nD τ sig) → Buf (Elt Ideal) ℓ)

theorem c0_lt (t : Fin cfg0.N) : (grid0.coords t 0).val < 4 := (grid0.coords t 0).isLt
theorem c1_lt (t : Fin cfg0.N) : (grid0.coords t 1).val < 4 := (grid0.coords t 1).isLt

theorem idx0 : ∀ t : Fin cfg0.N, win0_0.index t = ![(grid0.coords t 0).val, 1] :=
  (by decide +kernel : ∀ t : Fin grid0.N, win0_0.index t = ![(grid0.coords t 0).val, 1])
theorem idx1 : ∀ t : Fin cfg0.N, win0_1.index t = ![0, 0, 1] := (by decide +kernel : ∀ t : Fin grid0.N, win0_1.index t = ![0, 0, 1])
theorem idx2 : ∀ t : Fin cfg0.N, win0_2.index t = ![0, 1, (grid0.coords t 1).val] :=
  (by decide +kernel : ∀ t : Fin grid0.N, win0_2.index t = ![0, 1, (grid0.coords t 1).val])
theorem idx3 : ∀ t : Fin cfg0.N, win0_3.index t = ![0, (grid0.coords t 1).val] :=
  (by decide +kernel : ∀ t : Fin grid0.N, win0_3.index t = ![0, (grid0.coords t 1).val])
theorem idx4 : ∀ t : Fin cfg0.N, win0_4.index t = ![(grid0.coords t 0).val, (grid0.coords t 1).val] :=
  (by decide +kernel : ∀ t : Fin grid0.N, win0_4.index t = ![(grid0.coords t 0).val, (grid0.coords t 1).val])
theorem idx5 : ∀ t : Fin cfg0.N, win0_5.index t = ![0, 0, (grid0.coords t 1).val] :=
  (by decide +kernel : ∀ t : Fin grid0.N, win0_5.index t = ![0, 0, (grid0.coords t 1).val])
theorem idx6 : ∀ t : Fin cfg0.N, win0_6.index t = ![(grid0.coords t 0).val, (grid0.coords t 1).val] :=
  (by decide +kernel : ∀ t : Fin grid0.N, win0_6.index t = ![(grid0.coords t 0).val, (grid0.coords t 1).val])
theorem idx7 : ∀ t : Fin cfg0.N, win0_7.index t = ![(grid0.coords t 0).val, 0, (grid0.coords t 1).val] :=
  (by decide +kernel : ∀ t : Fin grid0.N, win0_7.index t = ![(grid0.coords t 0).val, 0, (grid0.coords t 1).val])

/-- A row of the array under a block's row. -/
def row (t : Fin cfg0.N) (r : Fin 2048) : Fin 8192 := ⟨2048 * (grid0.coords t 0).val + r, by have := c0_lt t; omega⟩
/-- A column of the array under a block's column. -/
def col (t : Fin cfg0.N) (l : Fin 512) : Fin 2048 := ⟨512 * (grid0.coords t 1).val + l, by have := c1_lt t; omega⟩
/-- An inner column of the array under a block's inner column. -/
def inner (k : Fin 3072) : Fin 6144 := ⟨3072 + k, by omega⟩

theorem blk0 (c : Dev nD) (t : Fin cfg0.N) (r : Fin 2048) (k : Fin 3072) :
    iblk m c 0 t (ix2 r k) = (m ((c : Thread nD τ).loc main_arg0) : FVec Ideal S8192x6144 .bf16) (ix2 (row t r) (inner k)) := by
  refine Eq.trans ?_ (congrFun (V_main_arg0 m c) _)
  unfold iblk row inner
  show V m c main_arg0 _ = V m c main_arg0 _
  congr 1
  blk_ext [idx0 t]

theorem blk1 (c : Dev nD) (t : Fin cfg0.N) (r : Fin 32) (k : Fin 3072) :
    iblk m c 1 t (ix3 0 r k) = (m ((c : Thread nD τ).loc main_arg1) : FVec Ideal S4x32x6144 .bf16) (ix3 0 r (inner k)) := by
  refine Eq.trans ?_ (congrFun (V_main_arg1 m c) _)
  unfold iblk inner
  show V m c main_arg1 _ = V m c main_arg1 _
  congr 1
  blk_ext [idx1 t]

theorem blk2 (c : Dev nD) (t : Fin cfg0.N) (k : Fin 3072) (l : Fin 512) :
    iblk m c 2 t (ix3 0 k l) = (m ((c : Thread nD τ).loc main_arg2) : FVec Ideal S4x6144x2048 .f32) (ix3 0 (inner k) (col t l)) := by
  refine Eq.trans ?_ (congrFun (V_main_arg2 m c) _)
  unfold iblk inner col
  show V m c main_arg2 _ = V m c main_arg2 _
  congr 1
  blk_ext [idx2 t]

theorem bias_at (c : Dev nD) (l : Fin 2048) :
    (V m c main_v0 : FVec Ideal S1x2048 .f32) (ix2 0 l) = (m ((c : Thread nD τ).loc main_arg3) : FVec Ideal S2048 .f32) (ix1 l) := by
  unfold V
  after_reads_at

theorem blk3 (c : Dev nD) (t : Fin cfg0.N) (l : Fin 512) :
    iblk m c 3 t (ix2 0 l) = (m ((c : Thread nD τ).loc main_arg3) : FVec Ideal S2048 .f32) (ix1 (col t l)) := by
  refine Eq.trans ?_ (bias_at m c (col t l))
  unfold iblk col
  show V m c main_v0 _ = V m c main_v0 _
  congr 1
  blk_ext [idx3 t]

theorem blk4 (c : Dev nD) (t : Fin cfg0.N) (r : Fin 2048) (l : Fin 512) :
    iblk m c 4 t (ix2 r l) = (m ((c : Thread nD τ).loc main_arg4) : FVec Ideal S8192x2048 .f32) (ix2 (row t r) (col t l)) := by
  refine Eq.trans ?_ (congrFun (V_main_arg4 m c) _)
  unfold iblk row col
  show V m c main_arg4 _ = V m c main_arg4 _
  congr 1
  blk_ext [idx4 t]

theorem blk5 (c : Dev nD) (t : Fin cfg0.N) (r : Fin 32) (l : Fin 512) :
    iblk m c 5 t (ix3 0 r l) = (m ((c : Thread nD τ).loc main_arg5) : FVec Ideal S4x32x2048 .f32) (ix3 0 r (col t l)) := by
  refine Eq.trans ?_ (congrFun (V_main_arg5 m c) _)
  unfold iblk col
  show V m c main_arg5 _ = V m c main_arg5 _
  congr 1
  blk_ext [idx5 t]

section
open Cert.OutBReferenceIdeal.Read

theorem prompt_at (x0 : FVec Ideal S8192x6144 .bf16) (x2 : FVec Ideal S4x6144x2048 .f32) (x3 : FVec Ideal S2048 .f32) (x4 : FVec Ideal S8192x2048 .f32) (R : Fin 8192) (C : Fin 2048) :
    val_main_v9 (F := Ideal) x0 x2 x3 x4 (ix2 R C) = x4 (ix2 R C) + (∑ k : Fin 3072, x0 (ix2 R (inner k)) * x2 (ix3 0 (inner k) C) + x3 (ix1 C)) := by
  unfold inner
  pointwise [val_main_v9, val_main_v8, val_main_v7, val_main_v6, val_main_v5, val_main_v4, val_main_v3, val_main_v2, val_main_v0]

theorem sample_at (x1 : FVec Ideal S4x32x6144 .bf16) (x2 : FVec Ideal S4x6144x2048 .f32) (x3 : FVec Ideal S2048 .f32) (x5 : FVec Ideal S4x32x2048 .f32) (g : Fin 4) (R : Fin 32) (C : Fin 2048) :
    val_main_v21 (F := Ideal) x1 x2 x3 x5 (ix3 g R C) = x5 (ix3 0 R C) + (∑ k : Fin 3072, x1 (ix3 0 R (inner k)) * x2 (ix3 0 (inner k) C) + x3 (ix1 C)) := by
  unfold inner
  pointwise [val_main_v21, val_main_v20, val_main_v19, val_main_v18, val_main_v17, val_main_v16, val_main_v15, val_main_v14, val_main_v13, val_main_v12, val_main_v11, val_main_v10, val_main_v2, val_main_v1]

/-- The prompt's result is the reference's. -/
theorem final6 (c : Dev nD) : (dats m 0 c).arrAt 6 cfg0.N = val_main_v9 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 6 _ (by decide +kernel) fun t hf y => ?_
  show (dats m 0 c).flushed 6 t y = _
  rw [Value.flushed6]
  obtain ⟨r, l, rfl⟩ : ∃ (r : Fin 2048) (l : Fin 512), y = ix2 r l := ⟨y 0, y 1, (ix2_eta y).symm⟩
  have e : (((cfg0.win 6).blk t).view.emb (ix2 r l) : S8192x2048.Idx) = ix2 (row t r) (col t l) := by
    unfold row col
    blk_ext [idx6 t]
  refine (out6_apply _ _ _ _ _ _ (ix2 r l)).trans ?_
  show _ = val_main_v9 (F := Ideal) _ _ _ _ (((cfg0.win 6).blk t).view.emb (ix2 r l))
  rw [e, prompt_at]
  exact congrArg₂ (· + ·) (blk4 m c t r l) (congrArg₂ (· + ·) (Finset.sum_congr rfl fun k _ => congrArg₂ (· * ·) (blk0 m c t r k) (blk2 m c t k l)) (blk3 m c t l))

/-- The sample's result is the reference's. -/
theorem final7 (c : Dev nD) : (dats m 0 c).arrAt 7 cfg0.N = val_main_v21 (F := Ideal) (m ((c : Thread nD τ).loc main_arg1)) (m ((c : Thread nD τ).loc main_arg2)) (m ((c : Thread nD τ).loc main_arg3)) (m ((c : Thread nD τ).loc main_arg5)) := by
  refine (dats m 0 c).arrAt_eq_of_covers 7 _ (by decide +kernel) fun t hf y => ?_
  show (dats m 0 c).flushed 7 t y = _
  rw [Value.flushed7]
  obtain ⟨z, r, l, rfl⟩ : ∃ (z : Fin 1) (r : Fin 32) (l : Fin 512), y = ix3 z r l := ⟨y 0, y 1, y 2, (ix3_eta y).symm⟩
  obtain rfl : z = 0 := Subsingleton.elim _ _
  have e : (((cfg0.win 7).blk t).view.emb (ix3 0 r l) : S4x32x2048.Idx) = ix3 ⟨(grid0.coords t 0).val, c0_lt t⟩ r (col t l) := by
    unfold col
    blk_ext [idx7 t]
  refine (out7_apply _ _ _ _ _ _ (ix3 0 r l)).trans ?_
  show _ = val_main_v21 (F := Ideal) _ _ _ _ (((cfg0.win 7).blk t).view.emb (ix3 0 r l))
  rw [e, sample_at]
  exact congrArg₂ (· + ·) (blk5 m c t r l) (congrArg₂ (· + ·) (Finset.sum_congr rfl fun k _ => congrArg₂ (· * ·) (blk1 m c t r k) (blk2 m c t k l)) (blk3 m c t l))

end

theorem algebraic : Cert.algebraic_OutBIdeal_OutBReferenceIdeal (hOutBIdeal := Cert.OutBIdeal.Gen.facts) (hOutBReferenceIdeal := Cert.OutBReferenceIdeal.Gen.facts) := by
  intro m g m' g' _ hag
  refine ⟨_, _, (θ_run defs _ _).mono (fun r h c => ⟨(h c).1.trans (final6 m c), (h c).2.1.trans (final7 m c), (h c).2.2⟩) (Value.run_blocks m g), ?_⟩
  refine (θ_run _ _ _).mono (fun r h c => ⟨(h c).1.trans ?_, (h c).2.1.trans ?_, (h c).2.2⟩) (Cert.OutBReferenceIdeal.Value.run (F := Ideal) m' g')
  · rw [Cert.OutBReferenceIdeal.Read.val_main_v9_eq, (hag c).1, (hag c).2.2.1, (hag c).2.2.2.1, (hag c).2.2.2.2.1]
  · rw [Cert.OutBReferenceIdeal.Read.val_main_v21_eq, (hag c).2.1, (hag c).2.2.1, (hag c).2.2.2.1, (hag c).2.2.2.2.2]

theorem frame_ref : Cert.quiescent_OutBReferenceIdeal (hOutBReferenceIdeal := Cert.OutBReferenceIdeal.Gen.facts) := fun m g _ =>
  (θ_run Cert.OutBReferenceIdeal.defs _ _).mono (fun r h => ⟨fun c => (h c).2.2, sem_eq_zero_of_no_sems (by decide) r.2⟩)
    (Cert.OutBReferenceIdeal.Value.run (F := Ideal) m g)

end Cert.OutBIdeal.Out

end
-- ==== Proof.OutA.lean ====
module

public import proofs.«01_k».proof.Defs
public import proofs.«01_k».proof.Proof.Gen.OutAIdeal.Value
public import proofs.«01_k».proof.Proof.Gen.OutAReferenceIdeal.Run
public import proofs.«01_k».proof.Proof.Gen.OutAReferenceIdeal.Read
public import Idealize.ShloMosaic.Lib.Pipeline.ValueKit
public import Idealize.ShloMosaic.Lib.Claim
public import Idealize.ShloMosaic.Lib.StableHlo.ReadAt

@[expose] public section

set_option maxRecDepth 16384

/-! The output projection with the residual over the first half of the inner columns. -/

noncomputable section

namespace Cert.OutAIdeal.Out

open Cert.OutAIdeal Cert.OutAIdeal.Gen Idealize.ShloMosaic Idealize.ShloMosaic.TcCoe Idealize.ShloMosaic.Tactic Idealize.SL.Sem

/-- One element of a block: the residual plus the row's product with the column plus the bias. -/
def rowN (x0 : Vec Ideal S2048x3072 .bf16) (x2 : Vec Ideal S1x3072x512 .f32) (x3 : Vec Ideal S1x512 .f32) (x4 : Vec Ideal S2048x512 .f32) : Vec Ideal S2048x512 .f32 := fun y =>
  x4 y + (∑ k : Fin 3072, x0 (ix2 (y 0) k) * x2 (ix3 0 k (y 1)) + x3 (ix2 0 (y 1)))

theorem out6_apply (x0 : Vec Ideal S2048x3072 .bf16) (x1 : Vec Ideal S1x32x3072 .bf16) (x2 : Vec Ideal S1x3072x512 .f32) (x3 : Vec Ideal S1x512 .f32)
    (x4 : Vec Ideal S2048x512 .f32) (x5 : Vec Ideal S1x32x512 .f32) (y : S2048x512.Idx) :
    out0_6 x0 x1 x2 x3 x4 x5 y = rowN x0 x2 x3 x4 y := by
  unfold_out out0_6
  refine View.canon_apply_of_pieces (Val := Elt Ideal) (rowN x0 x2 x3 x4) _ ?_ y (cover0_6 _ _ _ _ _ _ _ _ y)
  intro pc hpc
  simp only [List.mem_cons, List.not_mem_nil, or_false] at hpc
  rcases hpc with rfl | rfl | rfl | rfl | rfl | rfl | rfl | rfl
  all_goals
    intro x
    obtain ⟨a, l, rfl⟩ : ∃ (a : Fin 256) (l : Fin 512), x = ix2 a l := ⟨x 0, x 1, (ix2_eta x).symm⟩
    pointwise [k0_pay1, k0_pay2, k0_pay3, k0_pay4, k0_pay5, k0_pay6, k0_pay7, k0_pay8, k0_pay9, k0_pay10, k0_pay11, rowN]
    refine congrArg (rowN x0 x2 x3 x4) (a₁ := ix2 _ l) (funext fun d => Fin.ext ?_)
    match d with
    | ⟨0, _⟩ => simp [Rect.emb, Rect.unit, ix2]; done
    | ⟨1, _⟩ => simp [Rect.emb, Rect.unit, ix2]; done

/-- One element of a block of the sample's result. -/
def sampN (x1 : Vec Ideal S1x32x3072 .bf16) (x2 : Vec Ideal S1x3072x512 .f32) (x3 : Vec Ideal S1x512 .f32) (x5 : Vec Ideal S1x32x512 .f32) : Vec Ideal S1x32x512 .f32 := fun y =>
  x5 y + (∑ k : Fin 3072, x1 (ix3 0 (y 1) k) * x2 (ix3 0 k (y 2)) + x3 (ix2 0 (y 2)))

theorem out7_apply (x0 : Vec Ideal S2048x3072 .bf16) (x1 : Vec Ideal S1x32x3072 .bf16) (x2 : Vec Ideal S1x3072x512 .f32) (x3 : Vec Ideal S1x512 .f32)
    (x4 : Vec Ideal S2048x512 .f32) (x5 : Vec Ideal S1x32x512 .f32) (y : S1x32x512.Idx) :
    out0_7 x0 x1 x2 x3 x4 x5 y = sampN x1 x2 x3 x5 y := by
  unfold_out out0_7
  refine View.canon_apply_of_pieces (Val := Elt Ideal) (sampN x1 x2 x3 x5) _ ?_ y (cover0_7 _ y)
  intro pc hpc
  simp only [List.mem_cons, List.not_mem_nil, or_false] at hpc
  obtain rfl := hpc
  intro x
  obtain ⟨z, a, l, rfl⟩ : ∃ (z : Fin 1) (a : Fin 32) (l : Fin 512), x = ix3 z a l := ⟨x 0, x 1, x 2, (ix3_eta x).symm⟩
  obtain rfl : z = 0 := Subsingleton.elim _ _
  pointwise [k0_pay1, k0_pay10, k0_pay12, sampN]
  refine congrArg (sampN x1 x2 x3 x5) (a₁ := ix3 0 a l) (funext fun d => Fin.ext ?_)
  match d with
  | ⟨0, _⟩ => simp [Rect.emb, Rect.unit, ix3]; done
  | ⟨1, _⟩ => simp [Rect.emb, Rect.unit, ix3]; done
  | ⟨2, _⟩ => simp [Rect.emb, Rect.unit, ix3]; done

variable (m : (ℓ : Loc nD τ sig) → Buf (Elt Ideal) ℓ)

theorem c0_lt (t : Fin cfg0.N) : (grid0.coords t 0).val < 4 := (grid0.coords t 0).isLt
theorem c1_lt (t : Fin cfg0.N) : (grid0.coords t 1).val < 4 := (grid0.coords t 1).isLt

theorem idx0 : ∀ t : Fin cfg0.N, win0_0.index t = ![(grid0.coords t 0).val, 0] :=
  (by decide +kernel : ∀ t : Fin grid0.N, win0_0.index t = ![(grid0.coords t 0).val, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![0, 0, (grid0.coords t 1).val] :=
  (by decide +kernel : ∀ t : Fin grid0.N, win0_2.index t = ![0, 0, (grid0.coords t 1).val])
theorem idx3 : ∀ t : Fin cfg0.N, win0_3.index t = ![0, (grid0.coords t 1).val] :=
  (by decide +kernel : ∀ t : Fin grid0.N, win0_3.index t = ![0, (grid0.coords t 1).val])
theorem idx4 : ∀ t : Fin cfg0.N, win0_4.index t = ![(grid0.coords t 0).val, (grid0.coords t 1).val] :=
  (by decide +kernel : ∀ t : Fin grid0.N, win0_4.index t = ![(grid0.coords t 0).val, (grid0.coords t 1).val])
theorem idx5 : ∀ t : Fin cfg0.N, win0_5.index t = ![0, 0, (grid0.coords t 1).val] :=
  (by decide +kernel : ∀ t : Fin grid0.N, win0_5.index t = ![0, 0, (grid0.coords t 1).val])
theorem idx6 : ∀ t : Fin cfg0.N, win0_6.index t = ![(grid0.coords t 0).val, (grid0.coords t 1).val] :=
  (by decide +kernel : ∀ t : Fin grid0.N, win0_6.index t = ![(grid0.coords t 0).val, (grid0.coords t 1).val])
theorem idx7 : ∀ t : Fin cfg0.N, win0_7.index t = ![(grid0.coords t 0).val, 0, (grid0.coords t 1).val] :=
  (by decide +kernel : ∀ t : Fin grid0.N, win0_7.index t = ![(grid0.coords t 0).val, 0, (grid0.coords t 1).val])

/-- A row of the array under a block's row. -/
def row (t : Fin cfg0.N) (r : Fin 2048) : Fin 8192 := ⟨2048 * (grid0.coords t 0).val + r, by have := c0_lt t; omega⟩
/-- A column of the array under a block's column. -/
def col (t : Fin cfg0.N) (l : Fin 512) : Fin 2048 := ⟨512 * (grid0.coords t 1).val + l, by have := c1_lt t; omega⟩
/-- An inner column of the array under a block's inner column. -/
def inner (k : Fin 3072) : Fin 6144 := ⟨k, by omega⟩

theorem blk0 (c : Dev nD) (t : Fin cfg0.N) (r : Fin 2048) (k : Fin 3072) :
    iblk m c 0 t (ix2 r k) = (m ((c : Thread nD τ).loc main_arg0) : FVec Ideal S8192x6144 .bf16) (ix2 (row t r) (inner k)) := by
  refine Eq.trans ?_ (congrFun (V_main_arg0 m c) _)
  unfold iblk row inner
  show V m c main_arg0 _ = V m c main_arg0 _
  congr 1
  blk_ext [idx0 t]

theorem blk1 (c : Dev nD) (t : Fin cfg0.N) (r : Fin 32) (k : Fin 3072) :
    iblk m c 1 t (ix3 0 r k) = (m ((c : Thread nD τ).loc main_arg1) : FVec Ideal S4x32x6144 .bf16) (ix3 0 r (inner k)) := by
  refine Eq.trans ?_ (congrFun (V_main_arg1 m c) _)
  unfold iblk inner
  show V m c main_arg1 _ = V m c main_arg1 _
  congr 1
  blk_ext [idx1 t]

theorem blk2 (c : Dev nD) (t : Fin cfg0.N) (k : Fin 3072) (l : Fin 512) :
    iblk m c 2 t (ix3 0 k l) = (m ((c : Thread nD τ).loc main_arg2) : FVec Ideal S4x6144x2048 .f32) (ix3 0 (inner k) (col t l)) := by
  refine Eq.trans ?_ (congrFun (V_main_arg2 m c) _)
  unfold iblk inner col
  show V m c main_arg2 _ = V m c main_arg2 _
  congr 1
  blk_ext [idx2 t]

theorem bias_at (c : Dev nD) (l : Fin 2048) :
    (V m c main_v0 : FVec Ideal S1x2048 .f32) (ix2 0 l) = (m ((c : Thread nD τ).loc main_arg3) : FVec Ideal S2048 .f32) (ix1 l) := by
  unfold V
  after_reads_at

theorem blk3 (c : Dev nD) (t : Fin cfg0.N) (l : Fin 512) :
    iblk m c 3 t (ix2 0 l) = (m ((c : Thread nD τ).loc main_arg3) : FVec Ideal S2048 .f32) (ix1 (col t l)) := by
  refine Eq.trans ?_ (bias_at m c (col t l))
  unfold iblk col
  show V m c main_v0 _ = V m c main_v0 _
  congr 1
  blk_ext [idx3 t]

theorem blk4 (c : Dev nD) (t : Fin cfg0.N) (r : Fin 2048) (l : Fin 512) :
    iblk m c 4 t (ix2 r l) = (m ((c : Thread nD τ).loc main_arg4) : FVec Ideal S8192x2048 .f32) (ix2 (row t r) (col t l)) := by
  refine Eq.trans ?_ (congrFun (V_main_arg4 m c) _)
  unfold iblk row col
  show V m c main_arg4 _ = V m c main_arg4 _
  congr 1
  blk_ext [idx4 t]

theorem blk5 (c : Dev nD) (t : Fin cfg0.N) (r : Fin 32) (l : Fin 512) :
    iblk m c 5 t (ix3 0 r l) = (m ((c : Thread nD τ).loc main_arg5) : FVec Ideal S4x32x2048 .f32) (ix3 0 r (col t l)) := by
  refine Eq.trans ?_ (congrFun (V_main_arg5 m c) _)
  unfold iblk col
  show V m c main_arg5 _ = V m c main_arg5 _
  congr 1
  blk_ext [idx5 t]

section
open Cert.OutAReferenceIdeal.Read

theorem prompt_at (x0 : FVec Ideal S8192x6144 .bf16) (x2 : FVec Ideal S4x6144x2048 .f32) (x3 : FVec Ideal S2048 .f32) (x4 : FVec Ideal S8192x2048 .f32) (R : Fin 8192) (C : Fin 2048) :
    val_main_v9 (F := Ideal) x0 x2 x3 x4 (ix2 R C) = x4 (ix2 R C) + (∑ k : Fin 3072, x0 (ix2 R (inner k)) * x2 (ix3 0 (inner k) C) + x3 (ix1 C)) := by
  unfold inner
  pointwise [val_main_v9, val_main_v8, val_main_v7, val_main_v6, val_main_v5, val_main_v4, val_main_v3, val_main_v2, val_main_v0]

theorem sample_at (x1 : FVec Ideal S4x32x6144 .bf16) (x2 : FVec Ideal S4x6144x2048 .f32) (x3 : FVec Ideal S2048 .f32) (x5 : FVec Ideal S4x32x2048 .f32) (g : Fin 4) (R : Fin 32) (C : Fin 2048) :
    val_main_v21 (F := Ideal) x1 x2 x3 x5 (ix3 g R C) = x5 (ix3 0 R C) + (∑ k : Fin 3072, x1 (ix3 0 R (inner k)) * x2 (ix3 0 (inner k) C) + x3 (ix1 C)) := by
  unfold inner
  pointwise [val_main_v21, val_main_v20, val_main_v19, val_main_v18, val_main_v17, val_main_v16, val_main_v15, val_main_v14, val_main_v13, val_main_v12, val_main_v11, val_main_v10, val_main_v2, val_main_v1]

/-- The prompt's result is the reference's. -/
theorem final6 (c : Dev nD) : (dats m 0 c).arrAt 6 cfg0.N = val_main_v9 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 6 _ (by decide +kernel) fun t hf y => ?_
  show (dats m 0 c).flushed 6 t y = _
  rw [Value.flushed6]
  obtain ⟨r, l, rfl⟩ : ∃ (r : Fin 2048) (l : Fin 512), y = ix2 r l := ⟨y 0, y 1, (ix2_eta y).symm⟩
  have e : (((cfg0.win 6).blk t).view.emb (ix2 r l) : S8192x2048.Idx) = ix2 (row t r) (col t l) := by
    unfold row col
    blk_ext [idx6 t]
  refine (out6_apply _ _ _ _ _ _ (ix2 r l)).trans ?_
  show _ = val_main_v9 (F := Ideal) _ _ _ _ (((cfg0.win 6).blk t).view.emb (ix2 r l))
  rw [e, prompt_at]
  exact congrArg₂ (· + ·) (blk4 m c t r l) (congrArg₂ (· + ·) (Finset.sum_congr rfl fun k _ => congrArg₂ (· * ·) (blk0 m c t r k) (blk2 m c t k l)) (blk3 m c t l))

/-- The sample's result is the reference's. -/
theorem final7 (c : Dev nD) : (dats m 0 c).arrAt 7 cfg0.N = val_main_v21 (F := Ideal) (m ((c : Thread nD τ).loc main_arg1)) (m ((c : Thread nD τ).loc main_arg2)) (m ((c : Thread nD τ).loc main_arg3)) (m ((c : Thread nD τ).loc main_arg5)) := by
  refine (dats m 0 c).arrAt_eq_of_covers 7 _ (by decide +kernel) fun t hf y => ?_
  show (dats m 0 c).flushed 7 t y = _
  rw [Value.flushed7]
  obtain ⟨z, r, l, rfl⟩ : ∃ (z : Fin 1) (r : Fin 32) (l : Fin 512), y = ix3 z r l := ⟨y 0, y 1, y 2, (ix3_eta y).symm⟩
  obtain rfl : z = 0 := Subsingleton.elim _ _
  have e : (((cfg0.win 7).blk t).view.emb (ix3 0 r l) : S4x32x2048.Idx) = ix3 ⟨(grid0.coords t 0).val, c0_lt t⟩ r (col t l) := by
    unfold col
    blk_ext [idx7 t]
  refine (out7_apply _ _ _ _ _ _ (ix3 0 r l)).trans ?_
  show _ = val_main_v21 (F := Ideal) _ _ _ _ (((cfg0.win 7).blk t).view.emb (ix3 0 r l))
  rw [e, sample_at]
  exact congrArg₂ (· + ·) (blk5 m c t r l) (congrArg₂ (· + ·) (Finset.sum_congr rfl fun k _ => congrArg₂ (· * ·) (blk1 m c t r k) (blk2 m c t k l)) (blk3 m c t l))

end

theorem algebraic : Cert.algebraic_OutAIdeal_OutAReferenceIdeal (hOutAIdeal := Cert.OutAIdeal.Gen.facts) (hOutAReferenceIdeal := Cert.OutAReferenceIdeal.Gen.facts) := by
  intro m g m' g' _ hag
  refine ⟨_, _, (θ_run defs _ _).mono (fun r h c => ⟨(h c).1.trans (final6 m c), (h c).2.1.trans (final7 m c), (h c).2.2⟩) (Value.run_blocks m g), ?_⟩
  refine (θ_run _ _ _).mono (fun r h c => ⟨(h c).1.trans ?_, (h c).2.1.trans ?_, (h c).2.2⟩) (Cert.OutAReferenceIdeal.Value.run (F := Ideal) m' g')
  · rw [Cert.OutAReferenceIdeal.Read.val_main_v9_eq, (hag c).1, (hag c).2.2.1, (hag c).2.2.2.1, (hag c).2.2.2.2.1]
  · rw [Cert.OutAReferenceIdeal.Read.val_main_v21_eq, (hag c).2.1, (hag c).2.2.1, (hag c).2.2.2.1, (hag c).2.2.2.2.2]

theorem frame_ref : Cert.quiescent_OutAReferenceIdeal (hOutAReferenceIdeal := Cert.OutAReferenceIdeal.Gen.facts) := fun m g _ =>
  (θ_run Cert.OutAReferenceIdeal.defs _ _).mono (fun r h => ⟨fun c => (h c).2.2, sem_eq_zero_of_no_sems (by decide) r.2⟩)
    (Cert.OutAReferenceIdeal.Value.run (F := Ideal) m g)

end Cert.OutAIdeal.Out

end
-- ==== Proof.FfnPay.lean ====
module

public import proofs.«01_k».proof.Proof.Gen.FfnIdeal.Skeleton
public import Idealize.ShloMosaic.Lib.Pipeline.ValueKit

@[expose] public section

set_option maxRecDepth 16384

/-! What one block of rows of the feed-forward call's first half computes, element by element. -/

noncomputable section

namespace Cert.FfnIdeal.Own

open Cert.FfnIdeal Cert.FfnIdeal.Gen
open Idealize.ShloMosaic Idealize.ShloMosaic.TcCoe Idealize.ShloMosaic.Tactic

/-- A row over its root mean square, times a gain. -/
def unitN (u : Fin 2048 → EReal) (g : EReal) (k : Fin 2048) : EReal :=
  u k * Ideal.rsqrt (Ideal.div (∑ x, u x * u x) (Ideal.ofBits FTy.f32 1157627904#32) + Ideal.ofBits FTy.f32 897988541#32) * g

/-- Three taps and a bias. -/
def convN (b g w2 p2 w0 p1 w1 : EReal) : EReal := b + g * w2 + p2 * w0 + p1 * w1

/-- The smooth gate. -/
def geluN (c : EReal) : EReal :=
  c * (Ideal.ofBits FTy.f32 1056964608#32 * (1 + Ideal.tanh (Ideal.ofBits FTy.f32 1061962282#32 * (c + Ideal.ofBits FTy.f32 1027024659#32 * (c * (c * c))))))

/-- A row times a column of weights. -/
def gateN (H : Vec Ideal S2080x2048 .bf16) (W : Vec Ideal S1x2048x512 .f32) (q : Fin 2080) (l : Fin 512) : EReal :=
  ∑ k : Fin 2048, H (ix2 q k) * W (ix3 0 k l)

/-- The gate's rows of the prompt after eight rows of zeros. -/
def extN (H : Vec Ideal S2080x2048 .bf16) (W : Vec Ideal S1x2048x512 .f32) : Vec Ideal S2056x512 .f32 := fun y =>
  if (y 0).val < 8 then 0 else gateN H W ⟨(y 0).val - 8, by have h : (y 0).val < 2056 := (y 0).isLt; omega⟩ (y 1)

/-- An activation of the prompt. -/
def actN (H : Vec Ideal S2080x2048 .bf16) (W2 W3 : Vec Ideal S1x2048x512 .f32) (w : Vec Ideal S1x3x512 .f32) (b : Vec Ideal S1x1x512 .f32) :
    Vec Ideal S2048x512 .bf16 := fun y =>
  have h : (y 0).val < 2048 := (y 0).isLt
  geluN (convN (b (ix3 0 0 (y 1))) (gateN H W2 ⟨(y 0).val, by omega⟩ (y 1)) (w (ix3 0 2 (y 1)))
    (extN H W2 (ix2 ⟨(y 0).val + 6, by omega⟩ (y 1))) (w (ix3 0 0 (y 1)))
    (extN H W2 (ix2 ⟨(y 0).val + 7, by omega⟩ (y 1))) (w (ix3 0 1 (y 1)))) * gateN H W3 ⟨(y 0).val, by omega⟩ (y 1)

/-- The prompt's last eight rows of the gate. -/
def lastN (H : Vec Ideal S2080x2048 .bf16) (W : Vec Ideal S1x2048x512 .f32) : Vec Ideal S1x8x512 .f32 := fun y =>
  gateN H W ⟨2040 + (y 1).val, by have h : (y 1).val < 8 := (y 1).isLt; omega⟩ (y 2)

/-- The sample's rows of the gate. -/
def sgateN (H : Vec Ideal S2080x2048 .bf16) (W : Vec Ideal S1x2048x512 .f32) : Vec Ideal S1x32x512 .f32 := fun y =>
  gateN H W ⟨2048 + (y 1).val, by have h : (y 1).val < 32 := (y 1).isLt; omega⟩ (y 2)

/-- An activation of the sample. -/
def sactN (H : Vec Ideal S2080x2048 .bf16) (W2 W3 : Vec Ideal S1x2048x512 .f32) (w : Vec Ideal S1x3x512 .f32) (b : Vec Ideal S1x1x512 .f32)
    (e : Vec Ideal S2x32x512 .f32) : Vec Ideal S1x32x512 .bf16 := fun y =>
  geluN (convN (b (ix3 0 0 (y 2))) (sgateN H W2 (ix3 0 (y 1) (y 2))) (w (ix3 0 2 (y 2)))
    (e (ix3 0 (y 1) (y 2))) (w (ix3 0 0 (y 2))) (e (ix3 1 (y 1) (y 2))) (w (ix3 0 1 (y 2)))) * sgateN H W3 (ix3 0 (y 1) (y 2))

/-! ### Rows of a block -/

theorem emb_rows {N M n : ℕ} (o : ℕ)
    (inb : ∀ a, (![o, 0] : Fin 2 → ℕ) a + (⟨2, ![n, M]⟩ : Shape).size a ≤ (⟨2, ![N, M]⟩ : Shape).size a) (a : Fin n) (k : Fin M) (h : o + a.val < N) :
    (Rect.unit (s := ⟨2, ![N, M]⟩) ![o, 0] (⟨2, ![n, M]⟩ : Shape).size inb).emb (ix2 a k) = ix2 ⟨o + a.val, h⟩ k := by
  funext d
  refine Fin.ext ?_
  match d with
  | ⟨0, _⟩ => simp [Rect.emb, Rect.unit, ix2]
  | ⟨1, _⟩ => simp [Rect.emb, Rect.unit, ix2]

theorem ld_rows {e : EltTy} {N M n : ℕ} (X : (⟨2, ![N, M]⟩ : Shape).Idx → Elt Ideal e) (o : ℕ)
    (inb : ∀ a, (![o, 0] : Fin 2 → ℕ) a + (⟨2, ![n, M]⟩ : Shape).size a ≤ (⟨2, ![N, M]⟩ : Shape).size a) (a : Fin n) (k : Fin M) (h : o + a.val < N) :
    View.ld X (Rect.unit (s := ⟨2, ![N, M]⟩) ![o, 0] (⟨2, ![n, M]⟩ : Shape).size inb) (ix2 a k) = X (ix2 ⟨o + a.val, h⟩ k) :=
  congrArg X (emb_rows o inb a k h)

theorem mem_rows {N M n : ℕ} (o : ℕ)
    (inb : ∀ a, (![o, 0] : Fin 2 → ℕ) a + (⟨2, ![n, M]⟩ : Shape).size a ≤ (⟨2, ![N, M]⟩ : Shape).size a) (p : Fin N) (k : Fin M)
    (h0 : o ≤ p.val) (h1 : p.val < o + n) : ix2 p k ∈ (Rect.unit (s := ⟨2, ![N, M]⟩) ![o, 0] (⟨2, ![n, M]⟩ : Shape).size inb).set := by
  have hy := emb_rows o inb (⟨p.val - o, by omega⟩ : Fin n) k (by have := p.isLt; show o + (p.val - o) < N; omega)
  have e : (⟨o + (p.val - o), by have := p.isLt; omega⟩ : Fin N) = p := Fin.ext (by show o + (p.val - o) = p.val; omega)
  have hm : ∀ r : Rect (⟨2, ![N, M]⟩ : Shape), ∀ x, r.emb x ∈ r.set := fun r x => by
    rw [← r.map_emb_univ]
    exact Finset.mem_map_of_mem _ (Finset.mem_univ _)
  have h2 := hm (Rect.unit (s := ⟨2, ![N, M]⟩) ![o, 0] (⟨2, ![n, M]⟩ : Shape).size inb) (ix2 (⟨p.val - o, by omega⟩ : Fin n) k)
  rw [hy, e] at h2
  exact h2

theorem extN_low (H : Vec Ideal S2080x2048 .bf16) (W : Vec Ideal S1x2048x512 .f32) (y : S2056x512.Idx) (h : (y 0).val < 8) : extN H W y = 0 := if_pos h

theorem extN_row (H : Vec Ideal S2080x2048 .bf16) (W : Vec Ideal S1x2048x512 .f32) (q : Fin 2080) (p : Fin 2056) (l : Fin 512) (h : p.val = q.val + 8) :
    extN H W (ix2 p l) = gateN H W q l := by
  unfold extN
  rw [if_neg (by show ¬ p.val < 8; omega)]
  exact congrArg (fun z => gateN H W z l) (Fin.ext (by show p.val - 8 = q.val; omega))

/-! ### The payloads -/

theorem pay7_at (X : Vec Ideal S1x32x2048 .f32) (g : Vec Ideal S1x2048 .f32) (a : Fin 32) (k : Fin 2048) :
    k0_pay7 X g (ix2 a k) = unitN (fun k => X (ix3 0 a k)) (g (ix2 0 k)) k := by
  pointwise [k0_pay7, unitN]

theorem pay8_at (X : Vec Ideal S1x256x2048 .f32) (g : Vec Ideal S1x2048 .f32) (a : Fin 256) (k : Fin 2048) :
    k0_pay8 X g (ix2 a k) = unitN (fun k => X (ix3 0 a k)) (g (ix2 0 k)) k := by
  pointwise [k0_pay8, unitN]

theorem pay9_at (W : Vec Ideal S1x2048x512 .f32) (H : Vec Ideal S256x2048 .bf16) (a : Fin 256) (l : Fin 512) :
    k0_pay9 (k0_pay1 W) H (ix2 a l) = ∑ x : Fin 2048, H (ix2 a x) * W (ix3 0 x l) := by
  pointwise [k0_pay9, k0_pay1]

theorem pay10_at (W : Vec Ideal S1x2048x512 .f32) (H : Vec Ideal S256x2048 .bf16) (a : Fin 256) (l : Fin 512) :
    k0_pay10 (k0_pay9 (k0_pay1 W) H) (ix2 a l) = ∑ x : Fin 2048, H (ix2 a x) * W (ix3 0 x l) := by
  pointwise [k0_pay10, k0_pay9, k0_pay1]

theorem pay39_at (W : Vec Ideal S1x2048x512 .f32) (H : Vec Ideal S288x2048 .bf16) (a : Fin 256) (l : Fin 512) :
    k0_pay39 (k0_pay1 W) H (ix2 a l) = ∑ x : Fin 2048, H (ix2 ⟨a.val, by omega⟩ x) * W (ix3 0 x l) := by
  pointwise [k0_pay39, k0_pay37, k0_pay1]

theorem pay37_at (W : Vec Ideal S1x2048x512 .f32) (H : Vec Ideal S288x2048 .bf16) (a : Fin 288) (l : Fin 512) :
    k0_pay37 (k0_pay1 W) H (ix2 a l) = ∑ x : Fin 2048, H (ix2 a x) * W (ix3 0 x l) := by
  pointwise [k0_pay37, k0_pay1]

theorem pay38_at (W : Vec Ideal S1x2048x512 .f32) (H : Vec Ideal S288x2048 .bf16) (a : Fin 288) (l : Fin 512) :
    k0_pay38 (k0_pay2 W) H (ix2 a l) = ∑ x : Fin 2048, H (ix2 a x) * W (ix3 0 x l) := by
  pointwise [k0_pay38, k0_pay2]

theorem pay11_at (W : Vec Ideal S1x2048x512 .f32) (w : Vec Ideal S1x3x512 .f32) (H : Vec Ideal S256x2048 .bf16) (G p1 p2 : Vec Ideal S256x512 .f32)
    (b : Vec Ideal S1x1x512 .f32) (a : Fin 256) (l : Fin 512) :
    k0_pay11 (k0_pay2 W) (k0_pay3 w) H G p1 p2 b (ix2 a l)
      = geluN (convN (b (ix3 0 0 l)) (G (ix2 a l)) (w (ix3 0 2 l)) (p2 (ix2 a l)) (w (ix3 0 0 l)) (p1 (ix2 a l)) (w (ix3 0 1 l)))
        * ∑ x : Fin 2048, H (ix2 a x) * W (ix3 0 x l) := by
  pointwise [k0_pay11, k0_pay2, k0_pay3, geluN, convN]

theorem pay40_at (w : Vec Ideal S1x3x512 .f32) (G U : FVec Ideal S288x512 .f32) (p1 p2 : Vec Ideal S256x512 .f32)
    (b : Vec Ideal S1x1x512 .f32) (a : Fin 256) (l : Fin 512) :
    k0_pay40 (k0_pay3 w) G U p1 p2 b (ix2 a l)
      = geluN (convN (b (ix3 0 0 l)) (G (ix2 ⟨a.val, by omega⟩ l)) (w (ix3 0 2 l)) (p2 (ix2 a l)) (w (ix3 0 0 l)) (p1 (ix2 a l)) (w (ix3 0 1 l)))
        * U (ix2 ⟨a.val, by omega⟩ l) := by
  pointwise [k0_pay40, k0_pay3, geluN, convN]

theorem pay41_at (G : FVec Ideal S288x512 .f32) (a : Fin 8) (l : Fin 512) : k0_pay41 G (ix3 0 a l) = G (ix2 ⟨248 + a.val, by omega⟩ l) := by
  pointwise [k0_pay41]

theorem pay43_at (G : FVec Ideal S288x512 .f32) (a : Fin 32) (l : Fin 512) : k0_pay43 (k0_pay42 G) (ix3 0 a l) = G (ix2 ⟨256 + a.val, by omega⟩ l) := by
  pointwise [k0_pay43, k0_pay42]

theorem pay44_at (w : Vec Ideal S1x3x512 .f32) (G U : FVec Ideal S288x512 .f32) (e1 e0 : Vec Ideal S1x32x512 .f32)
    (b : Vec Ideal S1x1x512 .f32) (a : Fin 32) (l : Fin 512) :
    k0_pay4 (k0_pay44 (k0_pay3 w) G U e1 e0 b) (ix3 0 a l)
      = geluN (convN (b (ix3 0 0 l)) (G (ix2 ⟨256 + a.val, by omega⟩ l)) (w (ix3 0 2 l)) (e0 (ix3 0 a l)) (w (ix3 0 0 l)) (e1 (ix3 0 a l)) (w (ix3 0 1 l)))
        * U (ix2 ⟨256 + a.val, by omega⟩ l) := by
  pointwise [k0_pay4, k0_pay44, k0_pay3, geluN, convN]

/-! ### The same payload, wherever a block of rows stands -/

theorem fold12 (X : Vec Ideal S1x256x2048 .f32) (g : Vec Ideal S1x2048 .f32) : k0_pay12 X g = k0_pay8 X g := rfl
theorem fold16 (X : Vec Ideal S1x256x2048 .f32) (g : Vec Ideal S1x2048 .f32) : k0_pay16 X g = k0_pay8 X g := rfl
theorem fold20 (X : Vec Ideal S1x256x2048 .f32) (g : Vec Ideal S1x2048 .f32) : k0_pay20 X g = k0_pay8 X g := rfl
theorem fold24 (X : Vec Ideal S1x256x2048 .f32) (g : Vec Ideal S1x2048 .f32) : k0_pay24 X g = k0_pay8 X g := rfl
theorem fold28 (X : Vec Ideal S1x256x2048 .f32) (g : Vec Ideal S1x2048 .f32) : k0_pay28 X g = k0_pay8 X g := rfl
theorem fold32 (X : Vec Ideal S1x256x2048 .f32) (g : Vec Ideal S1x2048 .f32) : k0_pay32 X g = k0_pay8 X g := rfl
theorem fold36 (X : Vec Ideal S1x256x2048 .f32) (g : Vec Ideal S1x2048 .f32) : k0_pay36 X g = k0_pay8 X g := rfl
theorem fold14 (v2 : FVec Ideal S2048x512 .bf16) (H : Vec Ideal S256x2048 .bf16) : k0_pay14 v2 H (constant S256x512 FTy.f32 0#32) = k0_pay10 (k0_pay9 v2 H) := rfl
theorem fold18 (v2 : FVec Ideal S2048x512 .bf16) (H : Vec Ideal S256x2048 .bf16) : k0_pay18 v2 H = k0_pay10 (k0_pay9 v2 H) := rfl
theorem fold22 (v2 : FVec Ideal S2048x512 .bf16) (H : Vec Ideal S256x2048 .bf16) : k0_pay22 v2 H = k0_pay10 (k0_pay9 v2 H) := rfl
theorem fold26 (v2 : FVec Ideal S2048x512 .bf16) (H : Vec Ideal S256x2048 .bf16) : k0_pay26 v2 H = k0_pay10 (k0_pay9 v2 H) := rfl
theorem fold30 (v2 : FVec Ideal S2048x512 .bf16) (H : Vec Ideal S256x2048 .bf16) : k0_pay30 v2 H = k0_pay10 (k0_pay9 v2 H) := rfl
theorem fold34 (v2 : FVec Ideal S2048x512 .bf16) (H : Vec Ideal S256x2048 .bf16) : k0_pay34 v2 H = k0_pay10 (k0_pay9 v2 H) := rfl
theorem fold46 (v2 : FVec Ideal S2048x512 .bf16) (H : Vec Ideal S256x2048 .bf16) : k0_pay46 v2 H = k0_pay10 (k0_pay9 v2 H) := rfl
theorem fold49 (v2 : FVec Ideal S2048x512 .bf16) (H : Vec Ideal S256x2048 .bf16) : k0_pay49 v2 H = k0_pay10 (k0_pay9 v2 H) := rfl
theorem fold52 (v2 : FVec Ideal S2048x512 .bf16) (H : Vec Ideal S256x2048 .bf16) : k0_pay52 v2 H = k0_pay10 (k0_pay9 v2 H) := rfl
theorem fold55 (v2 : FVec Ideal S2048x512 .bf16) (H : Vec Ideal S256x2048 .bf16) : k0_pay55 v2 H = k0_pay10 (k0_pay9 v2 H) := rfl
theorem fold58 (v2 : FVec Ideal S2048x512 .bf16) (H : Vec Ideal S256x2048 .bf16) : k0_pay58 v2 H = k0_pay10 (k0_pay9 v2 H) := rfl
theorem fold61 (v2 : FVec Ideal S2048x512 .bf16) (H : Vec Ideal S256x2048 .bf16) : k0_pay61 v2 H = k0_pay10 (k0_pay9 v2 H) := rfl
theorem fold64 (v2 : FVec Ideal S2048x512 .bf16) (H : Vec Ideal S256x2048 .bf16) : k0_pay64 v2 H = k0_pay10 (k0_pay9 v2 H) := rfl
theorem fold15 (v2 v5 : FVec Ideal S2048x512 .bf16) (v7 : FVec Ideal S3x512 .f32) (H : Vec Ideal S256x2048 .bf16) (p1 p2 : Vec Ideal S256x512 .f32) (b : Vec Ideal S1x1x512 .f32) :
    k0_pay15 v2 v5 v7 H (constant S256x512 FTy.f32 0#32) p1 p2 b = k0_pay11 v5 v7 H (k0_pay9 v2 H) p1 p2 b := rfl
theorem fold19 (v2 v5 : FVec Ideal S2048x512 .bf16) (v7 : FVec Ideal S3x512 .f32) (H : Vec Ideal S256x2048 .bf16) (p1 p2 : Vec Ideal S256x512 .f32) (b : Vec Ideal S1x1x512 .f32) :
    k0_pay19 v2 v5 v7 H p1 p2 b = k0_pay11 v5 v7 H (k0_pay9 v2 H) p1 p2 b := rfl
theorem fold23 (v2 v5 : FVec Ideal S2048x512 .bf16) (v7 : FVec Ideal S3x512 .f32) (H : Vec Ideal S256x2048 .bf16) (p1 p2 : Vec Ideal S256x512 .f32) (b : Vec Ideal S1x1x512 .f32) :
    k0_pay23 v2 v5 v7 H p1 p2 b = k0_pay11 v5 v7 H (k0_pay9 v2 H) p1 p2 b := rfl
theorem fold27 (v2 v5 : FVec Ideal S2048x512 .bf16) (v7 : FVec Ideal S3x512 .f32) (H : Vec Ideal S256x2048 .bf16) (p1 p2 : Vec Ideal S256x512 .f32) (b : Vec Ideal S1x1x512 .f32) :
    k0_pay27 v2 v5 v7 H p1 p2 b = k0_pay11 v5 v7 H (k0_pay9 v2 H) p1 p2 b := rfl
theorem fold31 (v2 v5 : FVec Ideal S2048x512 .bf16) (v7 : FVec Ideal S3x512 .f32) (H : Vec Ideal S256x2048 .bf16) (p1 p2 : Vec Ideal S256x512 .f32) (b : Vec Ideal S1x1x512 .f32) :
    k0_pay31 v2 v5 v7 H p1 p2 b = k0_pay11 v5 v7 H (k0_pay9 v2 H) p1 p2 b := rfl
theorem fold35 (v2 v5 : FVec Ideal S2048x512 .bf16) (v7 : FVec Ideal S3x512 .f32) (H : Vec Ideal S256x2048 .bf16) (p1 p2 : Vec Ideal S256x512 .f32) (b : Vec Ideal S1x1x512 .f32) :
    k0_pay35 v2 v5 v7 H p1 p2 b = k0_pay11 v5 v7 H (k0_pay9 v2 H) p1 p2 b := rfl
theorem fold47 (v2 v5 : FVec Ideal S2048x512 .bf16) (v7 : FVec Ideal S3x512 .f32) (H : Vec Ideal S256x2048 .bf16) (p1 p2 : Vec Ideal S256x512 .f32) (b : Vec Ideal S1x1x512 .f32) :
    k0_pay47 v2 v5 v7 H p1 p2 b = k0_pay11 v5 v7 H (k0_pay9 v2 H) p1 p2 b := rfl
theorem fold50 (v2 v5 : FVec Ideal S2048x512 .bf16) (v7 : FVec Ideal S3x512 .f32) (H : Vec Ideal S256x2048 .bf16) (p1 p2 : Vec Ideal S256x512 .f32) (b : Vec Ideal S1x1x512 .f32) :
    k0_pay50 v2 v5 v7 H p1 p2 b = k0_pay11 v5 v7 H (k0_pay9 v2 H) p1 p2 b := rfl
theorem fold53 (v2 v5 : FVec Ideal S2048x512 .bf16) (v7 : FVec Ideal S3x512 .f32) (H : Vec Ideal S256x2048 .bf16) (p1 p2 : Vec Ideal S256x512 .f32) (b : Vec Ideal S1x1x512 .f32) :
    k0_pay53 v2 v5 v7 H p1 p2 b = k0_pay11 v5 v7 H (k0_pay9 v2 H) p1 p2 b := rfl
theorem fold56 (v2 v5 : FVec Ideal S2048x512 .bf16) (v7 : FVec Ideal S3x512 .f32) (H : Vec Ideal S256x2048 .bf16) (p1 p2 : Vec Ideal S256x512 .f32) (b : Vec Ideal S1x1x512 .f32) :
    k0_pay56 v2 v5 v7 H p1 p2 b = k0_pay11 v5 v7 H (k0_pay9 v2 H) p1 p2 b := rfl
theorem fold59 (v2 v5 : FVec Ideal S2048x512 .bf16) (v7 : FVec Ideal S3x512 .f32) (H : Vec Ideal S256x2048 .bf16) (p1 p2 : Vec Ideal S256x512 .f32) (b : Vec Ideal S1x1x512 .f32) :
    k0_pay59 v2 v5 v7 H p1 p2 b = k0_pay11 v5 v7 H (k0_pay9 v2 H) p1 p2 b := rfl
theorem fold62 (v2 v5 : FVec Ideal S2048x512 .bf16) (v7 : FVec Ideal S3x512 .f32) (H : Vec Ideal S256x2048 .bf16) (p1 p2 : Vec Ideal S256x512 .f32) (b : Vec Ideal S1x1x512 .f32) :
    k0_pay62 v2 v5 v7 H p1 p2 b = k0_pay11 v5 v7 H (k0_pay9 v2 H) p1 p2 b := rfl
theorem fold65 (v2 v5 : FVec Ideal S2048x512 .bf16) (v7 : FVec Ideal S3x512 .f32) (H : Vec Ideal S256x2048 .bf16) (p1 p2 : Vec Ideal S256x512 .f32) (b : Vec Ideal S1x1x512 .f32) :
    k0_pay65 v2 v5 v7 H p1 p2 b = k0_pay11 v5 v7 H (k0_pay9 v2 H) p1 p2 b := rfl
theorem fold66 (v2 : FVec Ideal S2048x512 .bf16) (H : Vec Ideal S288x2048 .bf16) : k0_pay66 v2 H = k0_pay37 v2 H := rfl
theorem fold68 (v2 : FVec Ideal S2048x512 .bf16) (H : Vec Ideal S288x2048 .bf16) : k0_pay68 v2 H = k0_pay39 v2 H := rfl
theorem fold70 (G : FVec Ideal S288x512 .f32) : k0_pay70 G = k0_pay41 G := rfl
theorem fold71 (G : FVec Ideal S288x512 .f32) : k0_pay71 G = k0_pay43 (k0_pay42 G) := rfl
theorem fold69 (v2 v5 : FVec Ideal S2048x512 .bf16) (v7 : FVec Ideal S3x512 .f32) (H : Vec Ideal S288x2048 .bf16) (p1 p2 : Vec Ideal S256x512 .f32) (b : Vec Ideal S1x1x512 .f32) :
    k0_pay69 v2 v5 v7 H p1 p2 b = k0_pay40 v7 (k0_pay37 v2 H) (k0_pay38 v5 H) p1 p2 b := rfl
theorem fold5 (v5 : FVec Ideal S2048x512 .bf16) (v7 : FVec Ideal S3x512 .f32) (H : Vec Ideal S288x2048 .bf16) (G : FVec Ideal S288x512 .f32) (e1 e0 : Vec Ideal S1x32x512 .f32) (b : Vec Ideal S1x1x512 .f32) :
    k0_pay5 (k0_pay72 (k0_pay67 v5 H)) (k0_pay73 v7 G e1 e0 b) (k0_pay74 v7 G e1 e0 b) (FloatOps.ofBits FTy.f32 1065353216#32) = k0_pay4 (k0_pay44 v7 G (k0_pay38 v5 H) e1 e0 b) := rfl

/-! ### A block of rows at its offset -/

theorem gate_piece (x2 : Vec Ideal S1x2048x512 .f32) (H : Vec Ideal S2080x2048 .bf16) (o p : ℕ) (hp : p = o + 8)
    (inbH : ∀ a, (![o, 0] : Fin 2 → ℕ) a + S256x2048.size a ≤ S2080x2048.size a)
    (inbE : ∀ a, (![p, 0] : Fin 2 → ℕ) a + S256x512.size a ≤ S2056x512.size a) (x : S256x512.Idx) :
    k0_pay10 (k0_pay9 (k0_pay1 x2) (View.ld H (Rect.unit ![o, 0] S256x2048.size inbH))) x
      = extN H x2 ((Rect.unit (s := S2056x512) ![p, 0] S256x512.size inbE).emb x) := by
  obtain ⟨a, l, rfl⟩ : ∃ (a : Fin 256) (l : Fin 512), x = ix2 a l := ⟨x 0, x 1, (ix2_eta x).symm⟩
  have hH : o + 256 ≤ 2080 := inbH 0
  have hE : p + 256 ≤ 2056 := inbE 0
  rw [pay10_at, emb_rows p inbE a l (by omega), extN_row H x2 ⟨o + a.val, by omega⟩ _ l (by show p + a.val = o + a.val + 8; omega)]
  exact Finset.sum_congr rfl fun k _ => congrArg (· * x2 (ix3 0 k l)) (ld_rows H o inbH a k (by omega))

theorem gate_last (x2 : Vec Ideal S1x2048x512 .f32) (H : Vec Ideal S2080x2048 .bf16) (x : S256x512.Idx)
    (inbH : ∀ a, (![1792, 0] : Fin 2 → ℕ) a + S288x2048.size a ≤ S2080x2048.size a)
    (inbE : ∀ a, (![1800, 0] : Fin 2 → ℕ) a + S256x512.size a ≤ S2056x512.size a) :
    k0_pay39 (k0_pay1 x2) (View.ld H (Rect.unit ![1792, 0] S288x2048.size inbH)) x
      = extN H x2 ((Rect.unit (s := S2056x512) ![1800, 0] S256x512.size inbE).emb x) := by
  obtain ⟨a, l, rfl⟩ : ∃ (a : Fin 256) (l : Fin 512), x = ix2 a l := ⟨x 0, x 1, (ix2_eta x).symm⟩
  rw [pay39_at, emb_rows 1800 inbE a l (by omega), extN_row H x2 ⟨1792 + a.val, by omega⟩ _ l (by show 1800 + a.val = 1792 + a.val + 8; omega)]
  exact Finset.sum_congr rfl fun k _ => congrArg (· * x2 (ix3 0 k l)) (ld_rows H 1792 inbH (⟨a.val, by omega⟩ : Fin 288) k (by show 1792 + a.val < 2080; omega))

theorem act_piece (x2 x3 : Vec Ideal S1x2048x512 .f32) (x4 : Vec Ideal S1x3x512 .f32) (x5 : Vec Ideal S1x1x512 .f32) (H : Vec Ideal S2080x2048 .bf16)
    (o p q : ℕ) (hp : p = o + 7) (hq : q = o + 6) (inbH : ∀ a, (![o, 0] : Fin 2 → ℕ) a + S256x2048.size a ≤ S2080x2048.size a)
    (inbP : ∀ a, (![p, 0] : Fin 2 → ℕ) a + S256x512.size a ≤ S2056x512.size a) (inbQ : ∀ a, (![q, 0] : Fin 2 → ℕ) a + S256x512.size a ≤ S2056x512.size a)
    (inbO : ∀ a, (![o, 0] : Fin 2 → ℕ) a + S256x512.size a ≤ S2048x512.size a) (x : S256x512.Idx) :
    k0_pay11 (k0_pay2 x3) (k0_pay3 x4) (View.ld H (Rect.unit ![o, 0] S256x2048.size inbH))
        (k0_pay9 (k0_pay1 x2) (View.ld H (Rect.unit ![o, 0] S256x2048.size inbH)))
        (View.ld (extN H x2) (Rect.unit ![p, 0] S256x512.size inbP)) (View.ld (extN H x2) (Rect.unit ![q, 0] S256x512.size inbQ)) x5 x
      = actN H x2 x3 x4 x5 ((Rect.unit (s := S2048x512) ![o, 0] S256x512.size inbO).emb x) := by
  obtain ⟨a, l, rfl⟩ : ∃ (a : Fin 256) (l : Fin 512), x = ix2 a l := ⟨x 0, x 1, (ix2_eta x).symm⟩
  have hO : o + 256 ≤ 2048 := inbO 0
  rw [pay11_at, pay9_at, emb_rows o inbO a l (by omega)]
  have g : ∀ W : Vec Ideal S1x2048x512 .f32, ∑ k : Fin 2048, View.ld H (Rect.unit ![o, 0] S256x2048.size inbH) (ix2 a k) * W (ix3 0 k l) = gateN H W ⟨o + a.val, by omega⟩ l :=
    fun W => Finset.sum_congr rfl fun k _ => congrArg (· * W (ix3 0 k l)) (ld_rows H o inbH a k (by omega))
  have e7 : View.ld (extN H x2) (Rect.unit ![p, 0] S256x512.size inbP) (ix2 a l) = extN H x2 (ix2 ⟨o + a.val + 7, by omega⟩ l) :=
    (ld_rows (e := .f32) (extN H x2) p inbP a l (by omega)).trans (congrArg (fun z => extN H x2 (ix2 z l)) (Fin.ext (by show p + a.val = o + a.val + 7; omega)))
  have e6 : View.ld (extN H x2) (Rect.unit ![q, 0] S256x512.size inbQ) (ix2 a l) = extN H x2 (ix2 ⟨o + a.val + 6, by omega⟩ l) :=
    (ld_rows (e := .f32) (extN H x2) q inbQ a l (by omega)).trans (congrArg (fun z => extN H x2 (ix2 z l)) (Fin.ext (by show q + a.val = o + a.val + 6; omega)))
  rw [g x2, g x3, e7, e6]
  rfl

theorem act_last (x2 x3 : Vec Ideal S1x2048x512 .f32) (x4 : Vec Ideal S1x3x512 .f32) (x5 : Vec Ideal S1x1x512 .f32) (H : Vec Ideal S2080x2048 .bf16)
    (inbH : ∀ a, (![1792, 0] : Fin 2 → ℕ) a + S288x2048.size a ≤ S2080x2048.size a)
    (inbP : ∀ a, (![1799, 0] : Fin 2 → ℕ) a + S256x512.size a ≤ S2056x512.size a) (inbQ : ∀ a, (![1798, 0] : Fin 2 → ℕ) a + S256x512.size a ≤ S2056x512.size a)
    (inbO : ∀ a, (![1792, 0] : Fin 2 → ℕ) a + S256x512.size a ≤ S2048x512.size a) (x : S256x512.Idx) :
    k0_pay40 (k0_pay3 x4) (k0_pay37 (k0_pay1 x2) (View.ld H (Rect.unit ![1792, 0] S288x2048.size inbH)))
        (k0_pay38 (k0_pay2 x3) (View.ld H (Rect.unit ![1792, 0] S288x2048.size inbH)))
        (View.ld (extN H x2) (Rect.unit ![1799, 0] S256x512.size inbP)) (View.ld (extN H x2) (Rect.unit ![1798, 0] S256x512.size inbQ)) x5 x
      = actN H x2 x3 x4 x5 ((Rect.unit (s := S2048x512) ![1792, 0] S256x512.size inbO).emb x) := by
  obtain ⟨a, l, rfl⟩ : ∃ (a : Fin 256) (l : Fin 512), x = ix2 a l := ⟨x 0, x 1, (ix2_eta x).symm⟩
  rw [pay40_at, pay37_at, pay38_at, emb_rows 1792 inbO a l (by omega)]
  have g : ∀ W : Vec Ideal S1x2048x512 .f32, ∑ k : Fin 2048, View.ld H (Rect.unit ![1792, 0] S288x2048.size inbH) (ix2 (⟨a.val, by omega⟩ : Fin 288) k) * W (ix3 0 k l) = gateN H W ⟨1792 + a.val, by omega⟩ l :=
    fun W => Finset.sum_congr rfl fun k _ => congrArg (· * W (ix3 0 k l)) (ld_rows H 1792 inbH (⟨a.val, by omega⟩ : Fin 288) k (by show 1792 + a.val < 2080; omega))
  have e7 : View.ld (extN H x2) (Rect.unit ![1799, 0] S256x512.size inbP) (ix2 a l) = extN H x2 (ix2 ⟨1792 + a.val + 7, by omega⟩ l) :=
    (ld_rows (e := .f32) (extN H x2) 1799 inbP a l (by omega)).trans (congrArg (fun z => extN H x2 (ix2 z l)) (Fin.ext (by show 1799 + a.val = 1792 + a.val + 7; omega)))
  have e6 : View.ld (extN H x2) (Rect.unit ![1798, 0] S256x512.size inbQ) (ix2 a l) = extN H x2 (ix2 ⟨1792 + a.val + 6, by omega⟩ l) :=
    (ld_rows (e := .f32) (extN H x2) 1798 inbQ a l (by omega)).trans (congrArg (fun z => extN H x2 (ix2 z l)) (Fin.ext (by show 1798 + a.val = 1792 + a.val + 6; omega)))
  rw [g x2, g x3, e7, e6]
  rfl

theorem big_row (W : Vec Ideal S1x2048x512 .f32) (H : Vec Ideal S2080x2048 .bf16) (inbH : ∀ a, (![1792, 0] : Fin 2 → ℕ) a + S288x2048.size a ≤ S2080x2048.size a)
    (r : Fin 288) (q : Fin 2080) (h : q.val = 1792 + r.val) (l : Fin 512) :
    ∑ k : Fin 2048, View.ld H (Rect.unit ![1792, 0] S288x2048.size inbH) (ix2 r k) * W (ix3 0 k l) = gateN H W q l := by
  obtain ⟨q, hq⟩ := q
  obtain rfl : q = 1792 + r.val := h
  exact Finset.sum_congr rfl fun k _ => congrArg (· * W (ix3 0 k l)) (ld_rows H 1792 inbH r k (by omega))

theorem last_piece (x2 : Vec Ideal S1x2048x512 .f32) (H : Vec Ideal S2080x2048 .bf16) (inbH : ∀ a, (![1792, 0] : Fin 2 → ℕ) a + S288x2048.size a ≤ S2080x2048.size a) :
    k0_pay41 (k0_pay37 (k0_pay1 x2) (View.ld H (Rect.unit ![1792, 0] S288x2048.size inbH))) = lastN H x2 := by
  funext y
  obtain ⟨z, a, l, rfl⟩ : ∃ (z : Fin 1) (a : Fin 8) (l : Fin 512), y = ix3 z a l := ⟨y 0, y 1, y 2, (ix3_eta y).symm⟩
  obtain rfl : z = 0 := Subsingleton.elim _ _
  rw [pay41_at, pay37_at]
  exact big_row x2 H inbH _ ⟨2040 + a.val, by omega⟩ (by show 2040 + a.val = 1792 + (248 + a.val); omega) l

theorem sgate_piece (x2 : Vec Ideal S1x2048x512 .f32) (H : Vec Ideal S2080x2048 .bf16) (inbH : ∀ a, (![1792, 0] : Fin 2 → ℕ) a + S288x2048.size a ≤ S2080x2048.size a) :
    k0_pay43 (k0_pay42 (k0_pay37 (k0_pay1 x2) (View.ld H (Rect.unit ![1792, 0] S288x2048.size inbH)))) = sgateN H x2 := by
  funext y
  obtain ⟨z, a, l, rfl⟩ : ∃ (z : Fin 1) (a : Fin 32) (l : Fin 512), y = ix3 z a l := ⟨y 0, y 1, y 2, (ix3_eta y).symm⟩
  obtain rfl : z = 0 := Subsingleton.elim _ _
  rw [pay43_at, pay37_at]
  exact big_row x2 H inbH _ ⟨2048 + a.val, by omega⟩ (by show 2048 + a.val = 1792 + (256 + a.val); omega) l

theorem sact_piece (x2 x3 : Vec Ideal S1x2048x512 .f32) (x4 : Vec Ideal S1x3x512 .f32) (x5 : Vec Ideal S1x1x512 .f32) (x6 : Vec Ideal S2x32x512 .f32)
    (H : Vec Ideal S2080x2048 .bf16) (inbH : ∀ a, (![1792, 0] : Fin 2 → ℕ) a + S288x2048.size a ≤ S2080x2048.size a)
    (i1 : ∀ a, (![1, 0, 0] : Fin 3 → ℕ) a + S1x32x512.size a ≤ S2x32x512.size a) (i0 : ∀ a, (![0, 0, 0] : Fin 3 → ℕ) a + S1x32x512.size a ≤ S2x32x512.size a) :
    k0_pay4 (k0_pay44 (k0_pay3 x4) (k0_pay37 (k0_pay1 x2) (View.ld H (Rect.unit ![1792, 0] S288x2048.size inbH)))
        (k0_pay38 (k0_pay2 x3) (View.ld H (Rect.unit ![1792, 0] S288x2048.size inbH)))
        (View.ld x6 (Rect.unit ![1, 0, 0] S1x32x512.size i1)) (View.ld x6 (Rect.unit ![0, 0, 0] S1x32x512.size i0)) x5) = sactN H x2 x3 x4 x5 x6 := by
  funext y
  obtain ⟨z, a, l, rfl⟩ : ∃ (z : Fin 1) (a : Fin 32) (l : Fin 512), y = ix3 z a l := ⟨y 0, y 1, y 2, (ix3_eta y).symm⟩
  obtain rfl : z = 0 := Subsingleton.elim _ _
  have r1 : View.ld x6 (Rect.unit ![1, 0, 0] S1x32x512.size i1) (ix3 0 a l) = x6 (ix3 1 a l) := by
    refine congrArg x6 (funext fun d => Fin.ext ?_)
    match d with
    | ⟨0, _⟩ => simp [Rect.unit, ix3]; done
    | ⟨1, _⟩ => simp [Rect.unit, ix3]; done
    | ⟨2, _⟩ => simp [Rect.unit, ix3]; done
  have r0 : View.ld x6 (Rect.unit ![0, 0, 0] S1x32x512.size i0) (ix3 0 a l) = x6 (ix3 0 a l) := by
    refine congrArg x6 (funext fun d => Fin.ext ?_)
    match d with
    | ⟨0, _⟩ => simp [Rect.unit, ix3]; done
    | ⟨1, _⟩ => simp [Rect.unit, ix3]; done
    | ⟨2, _⟩ => simp [Rect.unit, ix3]; done
  have h : (256 + a.val : ℕ) < 288 := by omega
  rw [pay44_at, pay37_at, pay38_at, r1, r0,
    big_row x2 H inbH ⟨256 + a.val, h⟩ ⟨2048 + a.val, by omega⟩ (by show 2048 + a.val = 1792 + (256 + a.val); omega) l,
    big_row x3 H inbH ⟨256 + a.val, h⟩ ⟨2048 + a.val, by omega⟩ (by show 2048 + a.val = 1792 + (256 + a.val); omega) l]
  rfl

end Cert.FfnIdeal.Own

end
-- ==== Proof.FfnRuns.lean ====
module

public import proofs.«01_k».proof.Proof.Gen.FfnIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

/-! What the two cases of the feed-forward call's body share. -/

noncomputable section

namespace Cert.FfnIdeal.Own

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_FfnIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).1 0).trans (((dats 0 c).arrAt_in 0 rfl _).trans ((hA c 0).trans (V_main_arg1 m c))),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).2 main_arg5 (Pipeline.mem_restRefs_of main_arg5 (by decide) (by decide))).trans (V_main_arg5 m c),
      ((h c).1 6).trans (((dats 0 c).arrAt_in 6 rfl _).trans ((hA c 6).trans (V_main_arg6 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 12) — by arithmetic of the point. -/
theorem hcond0_0 : ∀ t : Fin cfg0.N, cond0_0 (grid0.coords t) ↔ t.val % 12 = 0 :=
  (fun t => by
    have ht : t.val < 48 := Nat.lt_of_lt_of_eq t.isLt N_0
    have e0 : (grid0.coords t 0).val = t.val / 12 % 4 := Pipeline.Grid.coords_val t 0 (by decide) rfl
    have e1 : (grid0.coords t 1).val = t.val / 1 % 12 := Pipeline.Grid.coords_val t 1 (by decide) rfl
    simp only [cond0_0, k0_cond1, e0, e1]
    word_cmp
   : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — decided over the grid. -/
theorem hcond0_1 : ∀ t : Fin cfg0.N, cond0_1 (grid0.coords t) ↔ 1 ≤ t.val % 12 :=
  (by decide +kernel : ∀ t : Fin grid0.N, cond0_1 (grid0.coords t) ↔ 1 ≤ t.val % 12)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- At the points of case A the printed configuration (`Cfg.idle`) calls output 7 live: the case stores into it. -/
theorem liveAt0_7_A : ∀ t : Fin cfg0.N, cond0_0 (grid0.coords t) → ¬cond0_1 (grid0.coords t) → cfg0.idle 7 (grid0.coords t) = false := by decide +kernel
/-- At the points of case B the printed configuration (`Cfg.idle`) calls output 7 live: the case stores into it. -/
theorem liveAt0_7_B : ∀ t : Fin cfg0.N, ¬cond0_0 (grid0.coords t) → cond0_1 (grid0.coords t) → cfg0.idle 7 (grid0.coords t) = false := by decide +kernel
/-- At the points of case A the printed configuration (`Cfg.idle`) calls output 8 live: the case stores into it. -/
theorem liveAt0_8_A : ∀ t : Fin cfg0.N, cond0_0 (grid0.coords t) → ¬cond0_1 (grid0.coords t) → cfg0.idle 8 (grid0.coords t) = false := by decide +kernel
/-- At the points of case B the printed configuration (`Cfg.idle`) calls output 8 live: the case stores into it. -/
theorem liveAt0_8_B : ∀ t : Fin cfg0.N, ¬cond0_0 (grid0.coords t) → cond0_1 (grid0.coords t) → cfg0.idle 8 (grid0.coords t) = false := by decide +kernel
/-- At the points of case A the printed configuration (`Cfg.idle`) calls output 9 live: the case stores into it. -/
theorem liveAt0_9_A : ∀ t : Fin cfg0.N, cond0_0 (grid0.coords t) → ¬cond0_1 (grid0.coords t) → cfg0.idle 9 (grid0.coords t) = false := by decide +kernel
/-- At the points of case B the printed configuration (`Cfg.idle`) calls output 9 live: the case stores into it. -/
theorem liveAt0_9_B : ∀ t : Fin cfg0.N, ¬cond0_0 (grid0.coords t) → cond0_1 (grid0.coords t) → cfg0.idle 9 (grid0.coords t) = false := by decide +kernel
/-- At the points of case A the printed configuration (`Cfg.idle`) calls output 10 live: the case stores into it. -/
theorem liveAt0_10_A : ∀ t : Fin cfg0.N, cond0_0 (grid0.coords t) → ¬cond0_1 (grid0.coords t) → cfg0.idle 10 (grid0.coords t) = false := by decide +kernel
/-- At the points of case B the printed configuration (`Cfg.idle`) calls output 10 live: the case stores into it. -/
theorem liveAt0_10_B : ∀ t : Fin cfg0.N, ¬cond0_0 (grid0.coords t) → cond0_1 (grid0.coords t) → cfg0.idle 10 (grid0.coords t) = false := by decide +kernel

/-! ## The kernel body on any staging memrefs: a subtype the run finds -/

/-- One staging buffer of output window 7, through which its contents are stated (`View.read_writes_of_cover`: the
    choice does not matter). -/
abbrev VO0_7 : View sig .tc .vmem S2048x512 .bf16 := (Memref.whole cc0_stg7_0 : Memref sig .tc .vmem S2048x512 .bf16).view
/-- One staging buffer of output window 8, through which its contents are stated (`View.read_writes_of_cover`: the
    choice does not matter). -/
abbrev VO0_8 : View sig .tc .vmem S1x32x512 .bf16 := (Memref.whole cc0_stg8_0 : Memref sig .tc .vmem S1x32x512 .bf16).view
/-- One staging buffer of output window 9, through which its contents are stated (`View.read_writes_of_cover`: the
    choice does not matter). -/
abbrev VO0_9 : View sig .tc .vmem S1x8x512 .f32 := (Memref.whole cc0_stg9_0 : Memref sig .tc .vmem S1x8x512 .f32).view
/-- One staging buffer of output window 10, through which its contents are stated (`View.read_writes_of_cover`: the
    choice does not matter). -/
abbrev VO0_10 : View sig .tc .vmem S1x32x512 .f32 := (Memref.whole cc0_stg10_0 : Memref sig .tc .vmem S1x32x512 .f32).view
/-- Each window's current staging memref at point `t`, spelled as the pipeline passes it (`bodyAt0`), and its wholeness. -/
abbrev ms0_0 (t : Fin cfg0.N) : Memref sig .tc .vmem S1x32x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x32x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x32x512 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S2080x2048 .bf16 := Memref.whole cc0_scratch0
abbrev scM0_1 : Memref sig .tc .vmem S2056x512 .f32 := Memref.whole cc0_scratch1
abbrev scM0_2 : Memref sig .tc .vmem S2x256x2048 .f32 := Memref.whole cc0_scratch2
/-- The scratch `arg14` the kernel carries between points, as a view: what it holds is stated through it. -/
abbrev VS0_0 : View sig .tc .vmem S2080x2048 .bf16 := scM0_0.view
/-- The scratch `arg15` the kernel carries between points, as a view: what it holds is stated through it. -/
abbrev VS0_1 : View sig .tc .vmem S2056x512 .f32 := scM0_1.view
/-- The operands left in HBM that the body copies into scratch itself, whole. -/
abbrev hbM0_0 : Memref sig .tc .hbm S8192x2048 .f32 := Memref.whole main_arg0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 20, SemLoc.dma 21] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 20) 0 ∗ semVal ((c : Thread nD τ), SemLoc.dma 21) 0) := by
  rw [Pipeline.ownSems0_eq_of_list c osem0 [0, 1] (by decide) (by decide)]; rfl
/-- The HBM operands the body moves, as references: unscoped, no window's array (`Pipeline.restRefs`). -/
def H0 : Finset (Ref sig .tc) := {main_arg0}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 20) 0 ∗ semVal ((c : Thread nD τ), SemLoc.dma 21) 0) ∗ iprop(hbPt0 c hbM0_0 (V m c main_arg0))) := by
  rw [Pipeline.ΦD_eq, scopedRest0_eq, ownSems00_eq, hbmPts0_eq]; simp only [scM0_0, scM0_1, scM0_2, owns_whole]; try rfl

end Cert.FfnIdeal.Own

end
-- ==== Proof.FfnRunA.lean ====
module

public import proofs.«01_k».proof.Proof.Gen.FfnIdeal.Skeleton
public import proofs.«01_k».proof.Proof.FfnRuns

@[expose] public section

set_option maxRecDepth 16384

/-! The run of the body at the points where the rows are copied in and normalised. -/

noncomputable section

namespace Cert.FfnIdeal.Own

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1228000 in set_option sl_exec.dmaWindow true in set_option sl_exec.dmaWindowSet true in
/-- What the body leaves in each buffer in this case, as pieces, with its run. -/
noncomputable def kernelRun0_A (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : cond0_0 i) (hc1 : ¬cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (xs2 : Vec F S2x256x2048 .f32) (fh0 : HbBuf0 (F := F) c hbM0_0) :
    Σ' (L7 : List (View.Piece (Elt F) S2048x512 .bf16)), Σ' (L8 : List (View.Piece (Elt F) S1x32x512 .bf16)), Σ' (L9 : List (View.Piece (Elt F) S1x8x512 .f32)), Σ' (L10 : List (View.Piece (Elt F) S1x32x512 .f32)), Σ' (LS0 : List (View.Piece (Elt F) S2080x2048 .bf16)), { LS1 : List (View.Piece (Elt F) S2056x512 .f32) //
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs2 ∗ semVal ((c : Thread nD τ), SemLoc.dma 20) 0 ∗ semVal ((c : Thread nD τ), SemLoc.dma 21) 0 ∗ hbPt0 c hbM0_0 fh0 ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ d, owns (c : Thread nD τ) arg16 fullShare d) ∗ semVal ((c : Thread nD τ), SemLoc.dma 20) 0 ∗ semVal ((c : Thread nD τ), SemLoc.dma 21) 0 ∗ hbPt0 c hbM0_0 fh0 ∗ (∃ W', owes (c : Thread nD τ) 0 W')) -∗ K ⟨⟩))
          ⊢ wp frame (wpE (defs₀ (F := F)) Variants.none c none) Set.univ (cc0_ffn_in i (Memref.whole main_arg0) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 cc0_scratch3) K } := by
  refine ⟨?_, ?_, ?_, ?_, ?_, ?_, fun W K => ?run⟩
  case run =>
    simp only [cc0_ffn_in_eq_skeleton]; unfold cc0_ffn_in_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%fs2, %hfs2, HS2⟩, Hq0, Hq1, Hh0, HW, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg16.eq_unread hfs2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]; · iexists _; iexact H8
    isplitl [H9]; · iexists _; iexact H9
    isplitl [H10]; · iexists _; iexact H10
    isplitl [HS0]; · iexists _; iexact HS0
    isplitl [HS1]; · iexists _; iexact HS1
    isplitl [HS2]
    · iexists _, _; isplitr; swap; · iexact HS2
      ipureintro; rfl
    isplitl [Hq0]; · iexact Hq0
    isplitl [Hq1]; · iexact Hq1
    isplitl [Hh0]; · iexact Hh0
    iexists _; iexact HW

end Cert.FfnIdeal.Own

end
-- ==== Proof.FfnRunB.lean ====
module

public import proofs.«01_k».proof.Proof.FfnRunA

@[expose] public section

set_option maxRecDepth 16384

/-! The run of the body at the points that use the normalised rows again. -/

noncomputable section

namespace Cert.FfnIdeal.Own

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body leaves in each buffer in this case, as pieces, with its run. -/
noncomputable def kernelRun0_B (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : ¬cond0_0 i) (hc1 : cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (xs0 : Vec F S2080x2048 .bf16) (xs1 : Vec F S2056x512 .f32) (fh0 : HbBuf0 (F := F) c hbM0_0) :
    Σ' (L7 : List (View.Piece (Elt F) S2048x512 .bf16)), Σ' (L8 : List (View.Piece (Elt F) S1x32x512 .bf16)), Σ' (L9 : List (View.Piece (Elt F) S1x8x512 .f32)), Σ' (L10 : List (View.Piece (Elt F) S1x32x512 .f32)), Σ' (LS0 : List (View.Piece (Elt F) S2080x2048 .bf16)), Σ' (LS1 : List (View.Piece (Elt F) S2056x512 .f32)), { LT2 : List (View.Piece (Elt F) S2x256x2048 .f32) //
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1 ∗ (∃ d, owns (c : Thread nD τ) arg16 fullShare d) ∗ semVal ((c : Thread nD τ), SemLoc.dma 20) 0 ∗ semVal ((c : Thread nD τ), SemLoc.dma 21) 0 ∗ hbPt0 c hbM0_0 fh0 ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ owns (c : Thread nD τ) arg14 fullShare xs0 ∗ (arg15.view.loc (c : Thread nD τ) ↦[arg15.view.set]{fullShare} arg15.view.writes (Elt F) (harg15.unread xs1) LS1) ∗ (∃ d, owns (c : Thread nD τ) arg16 fullShare d) ∗ semVal ((c : Thread nD τ), SemLoc.dma 20) 0 ∗ semVal ((c : Thread nD τ), SemLoc.dma 21) 0 ∗ hbPt0 c hbM0_0 fh0 ∗ (∃ W', owes (c : Thread nD τ) 0 W')) -∗ K ⟨⟩))
          ⊢ wp frame (wpE (defs₀ (F := F)) Variants.none c none) Set.univ (cc0_ffn_in i (Memref.whole main_arg0) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 cc0_scratch3) K } := by
  refine ⟨?_, ?_, ?_, ?_, [], ?_, [], fun W K => ?run⟩
  case run =>
    simp only [cc0_ffn_in_eq_skeleton]; unfold cc0_ffn_in_skel
    simp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%fs0, %hfs0, HS0⟩, ⟨%fs1, %hfs1, HS1⟩, ⟨%ds2, %fs2, -, HS2⟩, Hq0, Hq1, Hh0, HW, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg14.eq_unread hfs0; obtain rfl := harg15.eq_unread hfs1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]; · iexists _; iexact H8
    isplitl [H9]; · iexists _; iexact H9
    isplitl [H10]; · iexists _; iexact H10
    isplitl [HS0]
    · iexists _; isplitr; · ipureintro; exact harg14.read_unread _
      iexact HS0
    isplitl [HS1]; · iexact HS1
    isplitl [HS2]
    · iexists _, _; isplitr; swap; · iexact HS2
      ipureintro; rfl
    isplitl [Hq0]; · iexact Hq0
    isplitl [Hq1]; · iexact Hq1
    isplitl [Hh0]; · iexact Hh0
    iexists _; iexact HW

end Cert.FfnIdeal.Own

end
-- ==== Proof.FfnCopy.lean ====
module

public import proofs.«01_k».proof.Proof.FfnRunB

@[expose] public section

set_option maxRecDepth 16384

/-! What the body reads back of the rows it copies into its two row buffers. -/

noncomputable section

namespace Cert.FfnIdeal.Own

open Cert.FfnIdeal Cert.FfnIdeal.Gen
open Idealize.ShloMosaic Idealize.ShloMosaic.TcCoe

variable {F : FTy → Type} [FloatOps F]

variable (M : Memref sig .tc .vmem S2x256x2048 .f32)

/-- Rows copied into a row buffer are read back as they were. -/
theorem same_of (o : Fin 3 → ℕ) (inb : ∀ a, o a + S1x256x2048.size a ≤ S2x256x2048.size a)
    (h : ∀ a, (Rect.unit (s := S2x256x2048) o S1x256x2048.size inb).stride a = 1) (f : M.view.ty.Contents (Elt F)) (w : S256x2048.Idx → Elt F .f32) :
    View.readAt (Elt F) M.view (Rect.unit (s := S2x256x2048) o S1x256x2048.size inb).toLoadRect
      (View.write (Elt F) ((M.slice (Rect.unit (s := S2x256x2048) o S1x256x2048.size inb) h).squeeze S256x2048 squeezes_S1x256x2048_S256x2048).view f w Finset.univ)
      = shapeCast S1x256x2048 w := by
  funext x
  obtain ⟨y, rfl⟩ := (Shape.reshapeEquiv squeezes_S1x256x2048_S256x2048.numel_eq).surjective x
  have e := View.write_emb_of_mem (v := ((M.slice (Rect.unit (s := S2x256x2048) o S1x256x2048.size inb) h).squeeze S256x2048 squeezes_S1x256x2048_S256x2048).view) (Val := Elt F) f w (Finset.mem_univ y)
  refine (congrArg (fun z => cast _ z) e).trans ?_
  rw [cast_cast, cast_eq]
  unfold shapeCast
  rw [Shape.reshapeEquiv_reshapeEquiv, Shape.reshapeEquiv_self]

/-- Rows copied into the other row buffer are not seen. -/
theorem other_of (o o' : Fin 3 → ℕ) (inb : ∀ a, o a + S1x256x2048.size a ≤ S2x256x2048.size a) (inb' : ∀ a, o' a + S1x256x2048.size a ≤ S2x256x2048.size a)
    (h : ∀ a, (Rect.unit (s := S2x256x2048) o S1x256x2048.size inb).stride a = 1) (hne : o 0 ≠ o' 0) (f : M.view.ty.Contents (Elt F)) (w : S256x2048.Idx → Elt F .f32) :
    View.readAt (Elt F) M.view (Rect.unit (s := S2x256x2048) o' S1x256x2048.size inb').toLoadRect
      (View.write (Elt F) ((M.slice (Rect.unit (s := S2x256x2048) o S1x256x2048.size inb) h).squeeze S256x2048 squeezes_S1x256x2048_S256x2048).view f w Finset.univ)
      = View.readAt (Elt F) M.view (Rect.unit (s := S2x256x2048) o' S1x256x2048.size inb').toLoadRect f := by
  funext x
  refine congrArg (fun z => cast _ z) (View.write_of_not_mem _ _ _ fun hm => hne ?_)
  obtain ⟨y, -, hy⟩ := Finset.mem_map.mp hm
  have hz := congrFun (M.view.emb.injective hy) 0
  have h0 := congrArg Fin.val hz
  generalize hq : (Shape.reshapeEquiv squeezes_S1x256x2048_S256x2048.numel_eq) y = q at h0
  have a1 : (q 0).val < 1 := (q 0).isLt
  have a2 : (x 0).val < 1 := (x 0).isLt
  have h1 : o 0 + 1 * (q 0).val = o' 0 + 1 * (x 0).val := h0
  omega

variable {M}

theorem numel_rows : S256x2048.ShapeCasts S1x256x2048 := by decide

section
variable {c : Dev nD} {i : grid0.Coords} {arg16 : Memref sig .tc .vmem S2x256x2048 .f32} {harg16 : arg16.IsWhole} {hc0 : cond0_0 i}
  {xs2 : Vec F S2x256x2048 .f32} {fh0 : HbBuf0 (F := F) c hbM0_0}

/-- Block 0 of the rows, as read back. -/
theorem rows0 : kernelRun0_A.sl.v59 c i arg16 harg16 hc0 xs2 fh0 = shapeCast S1x256x2048 (kernelRun0_A.sl.dma3 c i hc0 fh0) numel_rows := by
  unfold kernelRun0_A.sl.v59
  refine (other_of _ _ _ _ _ _ (by decide) _ _).trans ?_
  exact same_of _ _ _ _ _ _
/-- Block 1 of the rows, as read back. -/
theorem rows1 : kernelRun0_A.sl.v132 c i arg16 harg16 hc0 xs2 fh0 = shapeCast S1x256x2048 (kernelRun0_A.sl.dma9 c i hc0 fh0) numel_rows := by
  unfold kernelRun0_A.sl.v132
  refine (other_of _ _ _ _ _ _ (by decide) _ _).trans ?_
  exact same_of _ _ _ _ _ _
/-- Block 2 of the rows, as read back. -/
theorem rows2 : kernelRun0_A.sl.v205 c i arg16 harg16 hc0 xs2 fh0 = shapeCast S1x256x2048 (kernelRun0_A.sl.dma21 c i hc0 fh0) numel_rows := by
  unfold kernelRun0_A.sl.v205
  refine (other_of _ _ _ _ _ _ (by decide) _ _).trans ?_
  exact same_of _ _ _ _ _ _
/-- Block 3 of the rows, as read back. -/
theorem rows3 : kernelRun0_A.sl.v278 c i arg16 harg16 hc0 xs2 fh0 = shapeCast S1x256x2048 (kernelRun0_A.sl.dma33 c i hc0 fh0) numel_rows := by
  unfold kernelRun0_A.sl.v278
  refine (other_of _ _ _ _ _ _ (by decide) _ _).trans ?_
  exact same_of _ _ _ _ _ _
/-- Block 4 of the rows, as read back. -/
theorem rows4 : kernelRun0_A.sl.v351 c i arg16 harg16 hc0 xs2 fh0 = shapeCast S1x256x2048 (kernelRun0_A.sl.dma45 c i hc0 fh0) numel_rows := by
  unfold kernelRun0_A.sl.v351
  refine (other_of _ _ _ _ _ _ (by decide) _ _).trans ?_
  exact same_of _ _ _ _ _ _
/-- Block 5 of the rows, as read back. -/
theorem rows5 : kernelRun0_A.sl.v424 c i arg16 harg16 hc0 xs2 fh0 = shapeCast S1x256x2048 (kernelRun0_A.sl.dma57 c i hc0 fh0) numel_rows := by
  unfold kernelRun0_A.sl.v424
  refine (other_of _ _ _ _ _ _ (by decide) _ _).trans ?_
  exact same_of _ _ _ _ _ _
/-- Block 6 of the rows, as read back. -/
theorem rows6 : kernelRun0_A.sl.v497 c i arg16 harg16 hc0 xs2 fh0 = shapeCast S1x256x2048 (kernelRun0_A.sl.dma69 c i hc0 fh0) numel_rows := by
  unfold kernelRun0_A.sl.v497
  refine (other_of _ _ _ _ _ _ (by decide) _ _).trans ?_
  exact same_of _ _ _ _ _ _
/-- Block 7 of the rows, as read back. -/
theorem rows7 : kernelRun0_A.sl.v563 c i arg16 harg16 hc0 xs2 fh0 = shapeCast S1x256x2048 (kernelRun0_A.sl.dma81 c i hc0 fh0) numel_rows := by
  unfold kernelRun0_A.sl.v563
  exact same_of _ _ _ _ _ _
end

set_option maxHeartbeats 2000000 in
/-- What the rest of the body leaves does not depend on what the row buffers held before. -/
theorem indep (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : cond0_0 i) (hc1 : ¬cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (xs2 xs2' : Vec F S2x256x2048 .f32) (fh0 : HbBuf0 (F := F) c hbM0_0) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs2 fh0).1 = (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs2' fh0).1
    ∧ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs2 fh0).2.1 = (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs2' fh0).2.1
    ∧ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs2 fh0).2.2.1 = (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs2' fh0).2.2.1
    ∧ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs2 fh0).2.2.2.1 = (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs2' fh0).2.2.2.1
    ∧ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs2 fh0).2.2.2.2.1 = (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs2' fh0).2.2.2.2.1
    ∧ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs2 fh0).2.2.2.2.2.1 = (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs2' fh0).2.2.2.2.2.1 := by
  simp only [kernelRun0_A, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS1_2, kernelRun0_A.sl.HS1_3, kernelRun0_A.sl.HS1_4, kernelRun0_A.sl.HS1_5, kernelRun0_A.sl.HS1_6, kernelRun0_A.sl.HS1_7, kernelRun0_A.sl.HS1_8, kernelRun0_A.sl.HS1_9, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.v, kernelRun0_A.sl.v152, kernelRun0_A.sl.v158, kernelRun0_A.sl.v159, kernelRun0_A.sl.v231, kernelRun0_A.sl.v232, kernelRun0_A.sl.v298, kernelRun0_A.sl.v304, kernelRun0_A.sl.v305, kernelRun0_A.sl.v371, kernelRun0_A.sl.v377, kernelRun0_A.sl.v378, kernelRun0_A.sl.v444, kernelRun0_A.sl.v450, kernelRun0_A.sl.v451, kernelRun0_A.sl.v517, kernelRun0_A.sl.v523, kernelRun0_A.sl.v524, kernelRun0_A.sl.v583, kernelRun0_A.sl.v590, kernelRun0_A.sl.v591, kernelRun0_A.sl.v79, kernelRun0_A.sl.v85, kernelRun0_A.sl.v86, rows0, rows1, rows2, rows3, rows4, rows5, rows6, rows7, and_self]

end Cert.FfnIdeal.Own

end
-- ==== Proof.FfnRunC.lean ====
module

public import proofs.«01_k».proof.Proof.FfnCopy

@[expose] public section

set_option maxRecDepth 16384

/-! The run of the feed-forward call. -/

noncomputable section

namespace Cert.FfnIdeal.Own

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The row buffers' contents the run is stated at. -/
def zrows : Vec F S2x256x2048 .f32 := constant S2x256x2048 .f32 0#32

/-- A fact of six things is a fact of six equal ones. -/
theorem pick {A₁ A₂ A₃ A₄ A₅ A₆ : Type*} {Q : A₁ → A₂ → A₃ → A₄ → A₅ → A₆ → Prop} {a₁ b₁ : A₁} {a₂ b₂ : A₂} {a₃ b₃ : A₃} {a₄ b₄ : A₄} {a₅ b₅ : A₅} {a₆ b₆ : A₆}
    (e : a₁ = b₁ ∧ a₂ = b₂ ∧ a₃ = b₃ ∧ a₄ = b₄ ∧ a₅ = b₅ ∧ a₆ = b₆) (h : Q a₁ a₂ a₃ a₄ a₅ a₆) : Q b₁ b₂ b₃ b₄ b₅ b₆ := by
  obtain ⟨rfl, rfl, rfl, rfl, rfl, rfl⟩ := e
  exact h

/-- The run from the row buffers at `d`, leaving these pieces. -/
def RunAt (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : cond0_0 i) (hc1 : ¬cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (fh0 : HbBuf0 (F := F) c hbM0_0) (d : Vec F S2x256x2048 .f32) (L7 : List (View.Piece (Elt F) S2048x512 .bf16)) (L8 : List (View.Piece (Elt F) S1x32x512 .bf16)) (L9 : List (View.Piece (Elt F) S1x8x512 .f32)) (L10 : List (View.Piece (Elt F) S1x32x512 .f32)) (LS0 : List (View.Piece (Elt F) S2080x2048 .bf16)) (LS1 : List (View.Piece (Elt F) S2056x512 .f32)) : Prop :=

      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare d ∗ semVal ((c : Thread nD τ), SemLoc.dma 20) 0 ∗ semVal ((c : Thread nD τ), SemLoc.dma 21) 0 ∗ hbPt0 c hbM0_0 fh0 ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ d, owns (c : Thread nD τ) arg16 fullShare d) ∗ semVal ((c : Thread nD τ), SemLoc.dma 20) 0 ∗ semVal ((c : Thread nD τ), SemLoc.dma 21) 0 ∗ hbPt0 c hbM0_0 fh0 ∗ (∃ W', owes (c : Thread nD τ) 0 W')) -∗ K ⟨⟩))
          ⊢ wp frame (wpE (defs₀ (F := F)) Variants.none c none) Set.univ (cc0_ffn_in i (Memref.whole main_arg0) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 cc0_scratch3) K

/-- The pieces left from any contents of the row buffers are those left from one. -/
theorem runAt_any (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : cond0_0 i) (hc1 : ¬cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (fh0 : HbBuf0 (F := F) c hbM0_0) (d : Vec F S2x256x2048 .f32) :
    RunAt c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0 d ((kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 zrows fh0).1) ((kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 zrows fh0).2.1) ((kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 zrows fh0).2.2.1) ((kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 zrows fh0).2.2.2.1) ((kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 zrows fh0).2.2.2.2.1) ((kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 zrows fh0).2.2.2.2.2.1) :=
  pick (Q := RunAt c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0 d) (indep c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 d zrows fh0) (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 d fh0).2.2.2.2.2.2

set_option maxHeartbeats 400000 in
/-- A run from every contents of the row buffers is a run from some contents. -/
theorem runAt_some (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : cond0_0 i) (hc1 : ¬cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (fh0 : HbBuf0 (F := F) c hbM0_0) (L7 : List (View.Piece (Elt F) S2048x512 .bf16)) (L8 : List (View.Piece (Elt F) S1x32x512 .bf16)) (L9 : List (View.Piece (Elt F) S1x8x512 .f32)) (L10 : List (View.Piece (Elt F) S1x32x512 .f32)) (LS0 : List (View.Piece (Elt F) S2080x2048 .bf16)) (LS1 : List (View.Piece (Elt F) S2056x512 .f32))
    (h : ∀ d, RunAt c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0 d L7 L8 L9 L10 LS0 LS1) :

      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ semVal ((c : Thread nD τ), SemLoc.dma 20) 0 ∗ semVal ((c : Thread nD τ), SemLoc.dma 21) 0 ∗ hbPt0 c hbM0_0 fh0 ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ d, owns (c : Thread nD τ) arg16 fullShare d) ∗ semVal ((c : Thread nD τ), SemLoc.dma 20) 0 ∗ semVal ((c : Thread nD τ), SemLoc.dma 21) 0 ∗ hbPt0 c hbM0_0 fh0 ∗ (∃ W', owes (c : Thread nD τ) 0 W')) -∗ K ⟨⟩))
          ⊢ wp frame (wpE (defs₀ (F := F)) Variants.none c none) Set.univ (cc0_ffn_in i (Memref.whole main_arg0) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 cc0_scratch3) K := by
  intro W K
  iintro ⟨H0, H1, H2, H3, H4, H5, H6, H7, H8, H9, H10, HS0, HS1, ⟨%d, HS2⟩, Hq0, Hq1, Hh0, HW, Hk⟩
  iapply (h d W K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [Hq0]; · iexact Hq0
  isplitl [Hq1]; · iexact Hq1
  isplitl [Hh0]; · iexact Hh0
  isplitl [HW]; · iexact HW
  iexact Hk

/-- What the body leaves at the points where the rows are copied in, with its run. -/
noncomputable def runA (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : cond0_0 i) (hc1 : ¬cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (fh0 : HbBuf0 (F := F) c hbM0_0) :
    Σ' (L7 : List (View.Piece (Elt F) S2048x512 .bf16)), Σ' (L8 : List (View.Piece (Elt F) S1x32x512 .bf16)), Σ' (L9 : List (View.Piece (Elt F) S1x8x512 .f32)), Σ' (L10 : List (View.Piece (Elt F) S1x32x512 .f32)), Σ' (LS0 : List (View.Piece (Elt F) S2080x2048 .bf16)), { LS1 : List (View.Piece (Elt F) S2056x512 .f32) //
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ semVal ((c : Thread nD τ), SemLoc.dma 20) 0 ∗ semVal ((c : Thread nD τ), SemLoc.dma 21) 0 ∗ hbPt0 c hbM0_0 fh0 ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ d, owns (c : Thread nD τ) arg16 fullShare d) ∗ semVal ((c : Thread nD τ), SemLoc.dma 20) 0 ∗ semVal ((c : Thread nD τ), SemLoc.dma 21) 0 ∗ hbPt0 c hbM0_0 fh0 ∗ (∃ W', owes (c : Thread nD τ) 0 W')) -∗ K ⟨⟩))
          ⊢ wp frame (wpE (defs₀ (F := F)) Variants.none c none) Set.univ (cc0_ffn_in i (Memref.whole main_arg0) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 cc0_scratch3) K } :=
  ⟨(kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 zrows fh0).1, (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 zrows fh0).2.1, (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 zrows fh0).2.2.1, (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 zrows fh0).2.2.2.1, (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 zrows fh0).2.2.2.2.1, (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 zrows fh0).2.2.2.2.2.1, runAt_some c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0 _ _ _ _ _ _ fun d => runAt_any c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0 d⟩

end Cert.FfnIdeal.Own

end
-- ==== Proof.FfnFrame.lean ====
module

public import proofs.«01_k».proof.Proof.FfnRunC
public import Idealize.ShloMosaic.Lib.Claim

@[expose] public section

set_option maxRecDepth 16384

/-! What the feed-forward call leaves at every point, and that its arguments end as they began. -/

noncomputable section

namespace Cert.FfnIdeal.Own

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- The pieces written to output 7 fill it (case A). -/
theorem cover0_A_7 (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : cond0_0 i) (hc1 : ¬cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (fh0 : HbBuf0 (F := F) c hbM0_0) (y : S2048x512.Idx) :
    ∃ pc ∈ (runA c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0).1, y ∈ pc.1.set :=
  View.cover_of_tiledL (runA c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0).1 S256x512.size (by sl_kernel_rfl) y

/-- What case A leaves in output 7's staging buffer: its pieces read back over junk. -/
def out0_A_7 (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : cond0_0 i) (hc1 : ¬cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (fh0 : HbBuf0 (F := F) c hbM0_0) : Vec F S2048x512 .bf16 :=
  VO0_7.read (Elt F) (VO0_7.writes (Elt F) VO0_7.junk (runA c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0).1)

/-- The pieces written to output 8 fill it (case A). -/
theorem cover0_A_8 (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : cond0_0 i) (hc1 : ¬cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (fh0 : HbBuf0 (F := F) c hbM0_0) (y : S1x32x512.Idx) :
    ∃ pc ∈ (runA c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0).2.1, y ∈ pc.1.set :=
  View.cover_of_tiledL (runA c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0).2.1 S1x32x512.size (by sl_kernel_rfl) y

/-- What case A leaves in output 8's staging buffer: its pieces read back over junk. -/
def out0_A_8 (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : cond0_0 i) (hc1 : ¬cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (fh0 : HbBuf0 (F := F) c hbM0_0) : Vec F S1x32x512 .bf16 :=
  VO0_8.read (Elt F) (VO0_8.writes (Elt F) VO0_8.junk (runA c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0).2.1)

/-- The pieces written to output 9 fill it (case A). -/
theorem cover0_A_9 (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : cond0_0 i) (hc1 : ¬cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (fh0 : HbBuf0 (F := F) c hbM0_0) (y : S1x8x512.Idx) :
    ∃ pc ∈ (runA c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0).2.2.1, y ∈ pc.1.set :=
  View.cover_of_tiledL (runA c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0).2.2.1 S1x8x512.size (by sl_kernel_rfl) y

/-- What case A leaves in output 9's staging buffer: its pieces read back over junk. -/
def out0_A_9 (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : cond0_0 i) (hc1 : ¬cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (fh0 : HbBuf0 (F := F) c hbM0_0) : Vec F S1x8x512 .f32 :=
  VO0_9.read (Elt F) (VO0_9.writes (Elt F) VO0_9.junk (runA c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0).2.2.1)

/-- The pieces written to output 10 fill it (case A). -/
theorem cover0_A_10 (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : cond0_0 i) (hc1 : ¬cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (fh0 : HbBuf0 (F := F) c hbM0_0) (y : S1x32x512.Idx) :
    ∃ pc ∈ (runA c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0).2.2.2.1, y ∈ pc.1.set :=
  View.cover_of_tiledL (runA c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0).2.2.2.1 S1x32x512.size (by sl_kernel_rfl) y

/-- What case A leaves in output 10's staging buffer: its pieces read back over junk. -/
def out0_A_10 (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : cond0_0 i) (hc1 : ¬cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (fh0 : HbBuf0 (F := F) c hbM0_0) : Vec F S1x32x512 .f32 :=
  VO0_10.read (Elt F) (VO0_10.writes (Elt F) VO0_10.junk (runA c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0).2.2.2.1)

/-- Case A's pieces for scratch `arg14`, which the kernel carries between points, cover it: 9 pieces (stores and landed copies) of several sizes (`S256x2048`, `S32x2048`) tiling it when cut into blocks of `![32, 2048]` (Lib/Ring.lean `Piece.tiledBy`). -/
theorem scover0_A_0 (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : cond0_0 i) (hc1 : ¬cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (fh0 : HbBuf0 (F := F) c hbM0_0) (y : S2080x2048.Idx) :
    ∃ pc ∈ (runA c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0).2.2.2.2.1, y ∈ pc.1.set :=
  View.cover_of_tiledBy (runA c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0).2.2.2.2.1 ![32, 2048] (by sl_kernel_rfl) y

/-- What case A leaves in scratch `arg14`: its pieces read back over junk. -/
def sout0_A_0 (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : cond0_0 i) (hc1 : ¬cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (fh0 : HbBuf0 (F := F) c hbM0_0) : Vec F S2080x2048 .bf16 :=
  VS0_0.read (Elt F) (VS0_0.writes (Elt F) VS0_0.junk (runA c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0).2.2.2.2.1)

/-- Case A's pieces for scratch `arg15`, which the kernel carries between points, cover it: 9 pieces (stores and landed copies) of several sizes (`S256x512`, `S8x512`) tiling it when cut into blocks of `![8, 512]` (Lib/Ring.lean `Piece.tiledBy`). -/
theorem scover0_A_1 (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : cond0_0 i) (hc1 : ¬cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (fh0 : HbBuf0 (F := F) c hbM0_0) (y : S2056x512.Idx) :
    ∃ pc ∈ (runA c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0).2.2.2.2.2.1, y ∈ pc.1.set :=
  View.cover_of_tiledBy (runA c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0).2.2.2.2.2.1 ![8, 512] (by sl_kernel_rfl) y

/-- What case A leaves in scratch `arg15`: its pieces read back over junk. -/
def sout0_A_1 (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : cond0_0 i) (hc1 : ¬cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (fh0 : HbBuf0 (F := F) c hbM0_0) : Vec F S2056x512 .f32 :=
  VS0_1.read (Elt F) (VS0_1.writes (Elt F) VS0_1.junk (runA c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0).2.2.2.2.2.1)

/-- The pieces written to output 7 fill it (case B). -/
theorem cover0_B_7 (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : ¬cond0_0 i) (hc1 : cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (xs0 : Vec F S2080x2048 .bf16) (xs1 : Vec F S2056x512 .f32) (fh0 : HbBuf0 (F := F) c hbM0_0) (y : S2048x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 fh0).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 fh0).1 S256x512.size (by sl_kernel_rfl) y

/-- What case B leaves in output 7's staging buffer: its pieces read back over junk. -/
def out0_B_7 (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : ¬cond0_0 i) (hc1 : cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (xs0 : Vec F S2080x2048 .bf16) (xs1 : Vec F S2056x512 .f32) (fh0 : HbBuf0 (F := F) c hbM0_0) : Vec F S2048x512 .bf16 :=
  VO0_7.read (Elt F) (VO0_7.writes (Elt F) VO0_7.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 fh0).1)

/-- The pieces written to output 8 fill it (case B). -/
theorem cover0_B_8 (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : ¬cond0_0 i) (hc1 : cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (xs0 : Vec F S2080x2048 .bf16) (xs1 : Vec F S2056x512 .f32) (fh0 : HbBuf0 (F := F) c hbM0_0) (y : S1x32x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 fh0).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 fh0).2.1 S1x32x512.size (by sl_kernel_rfl) y

/-- What case B leaves in output 8's staging buffer: its pieces read back over junk. -/
def out0_B_8 (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : ¬cond0_0 i) (hc1 : cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (xs0 : Vec F S2080x2048 .bf16) (xs1 : Vec F S2056x512 .f32) (fh0 : HbBuf0 (F := F) c hbM0_0) : Vec F S1x32x512 .bf16 :=
  VO0_8.read (Elt F) (VO0_8.writes (Elt F) VO0_8.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 fh0).2.1)

/-- The pieces written to output 9 fill it (case B). -/
theorem cover0_B_9 (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : ¬cond0_0 i) (hc1 : cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (xs0 : Vec F S2080x2048 .bf16) (xs1 : Vec F S2056x512 .f32) (fh0 : HbBuf0 (F := F) c hbM0_0) (y : S1x8x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 fh0).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 fh0).2.2.1 S1x8x512.size (by sl_kernel_rfl) y

/-- What case B leaves in output 9's staging buffer: its pieces read back over junk. -/
def out0_B_9 (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : ¬cond0_0 i) (hc1 : cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (xs0 : Vec F S2080x2048 .bf16) (xs1 : Vec F S2056x512 .f32) (fh0 : HbBuf0 (F := F) c hbM0_0) : Vec F S1x8x512 .f32 :=
  VO0_9.read (Elt F) (VO0_9.writes (Elt F) VO0_9.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 fh0).2.2.1)

/-- The pieces written to output 10 fill it (case B). -/
theorem cover0_B_10 (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : ¬cond0_0 i) (hc1 : cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (xs0 : Vec F S2080x2048 .bf16) (xs1 : Vec F S2056x512 .f32) (fh0 : HbBuf0 (F := F) c hbM0_0) (y : S1x32x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 fh0).2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 fh0).2.2.2.1 S1x32x512.size (by sl_kernel_rfl) y

/-- What case B leaves in output 10's staging buffer: its pieces read back over junk. -/
def out0_B_10 (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : ¬cond0_0 i) (hc1 : cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (xs0 : Vec F S2080x2048 .bf16) (xs1 : Vec F S2056x512 .f32) (fh0 : HbBuf0 (F := F) c hbM0_0) : Vec F S1x32x512 .f32 :=
  VO0_10.read (Elt F) (VO0_10.writes (Elt F) VO0_10.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 fh0).2.2.2.1)

/-- Case B stores nothing into scratch `arg14`: it holds what the point before left. -/
def sout0_B_0 (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : ¬cond0_0 i) (hc1 : cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (xs0 : Vec F S2080x2048 .bf16) (xs1 : Vec F S2056x512 .f32) (fh0 : HbBuf0 (F := F) c hbM0_0) : Vec F S2080x2048 .bf16 := xs0

/-- What case B leaves in scratch `arg15`: its pieces (stores, a counted loop's segment) read back over what the point before left there, which it read first. -/
def sout0_B_1 (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S2x32x512 .f32) (harg9 : arg9.IsWhole) (arg10 : Memref sig .tc .vmem S2048x512 .bf16) (harg10 : arg10.IsWhole) (arg11 : Memref sig .tc .vmem S1x32x512 .bf16) (harg11 : arg11.IsWhole) (arg12 : Memref sig .tc .vmem S1x8x512 .f32) (harg12 : arg12.IsWhole) (arg13 : Memref sig .tc .vmem S1x32x512 .f32) (harg13 : arg13.IsWhole) (arg14 : Memref sig .tc .vmem S2080x2048 .bf16) (harg14 : arg14.IsWhole) (arg15 : Memref sig .tc .vmem S2056x512 .f32) (harg15 : arg15.IsWhole) (arg16 : Memref sig .tc .vmem S2x256x2048 .f32) (harg16 : arg16.IsWhole) (hc0 : ¬cond0_0 i) (hc1 : cond0_1 i)
    (x0 : Vec F S1x32x2048 .f32) (x1 : Vec F S1x2048 .f32) (x2 : Vec F S1x2048x512 .f32) (x3 : Vec F S1x2048x512 .f32) (x4 : Vec F S1x3x512 .f32) (x5 : Vec F S1x1x512 .f32) (x6 : Vec F S2x32x512 .f32) (xs0 : Vec F S2080x2048 .bf16) (xs1 : Vec F S2056x512 .f32) (fh0 : HbBuf0 (F := F) c hbM0_0) : Vec F S2056x512 .f32 :=
  arg15.view.read (Elt F) (arg15.view.writes (Elt F) (harg15.unread xs1) (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 fh0).2.2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2048x512 .bf16 × Vec F S1x32x512 .bf16 × Vec F S1x8x512 .f32 × Vec F S1x32x512 .f32 × Vec F S2080x2048 .bf16 × Vec F S2056x512 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (V m c main_arg0), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (V m c main_arg0), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (V m c main_arg0), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (V m c main_arg0), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (V m c main_arg0), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (V m c main_arg0))
  | n + 1, hn =>
    if h0 : (n + 1) % 12 = 0 then
      if h1 : 1 ≤ (n + 1) % 12 then
        False.elim (by have hN : n + 1 < 48 := lt_of_lt_of_eq hn (show cfg0.N = 48 from N_0); omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (V m c main_arg0), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (V m c main_arg0), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (V m c main_arg0), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (V m c main_arg0), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (V m c main_arg0), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (V m c main_arg0))
    else
      if h1 : 1 ≤ (n + 1) % 12 then
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.1 (outsAt0 c n (Nat.lt_of_succ_lt hn)).2.2.2.2.2 (V m c main_arg0), out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.1 (outsAt0 c n (Nat.lt_of_succ_lt hn)).2.2.2.2.2 (V m c main_arg0), out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.1 (outsAt0 c n (Nat.lt_of_succ_lt hn)).2.2.2.2.2 (V m c main_arg0), out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.1 (outsAt0 c n (Nat.lt_of_succ_lt hn)).2.2.2.2.2 (V m c main_arg0), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.1 (outsAt0 c n (Nat.lt_of_succ_lt hn)).2.2.2.2.2 (V m c main_arg0), sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.1 (outsAt0 c n (Nat.lt_of_succ_lt hn)).2.2.2.2.2 (V m c main_arg0))
      else
        False.elim (by have hN : n + 1 < 48 := lt_of_lt_of_eq hn (show cfg0.N = 48 from N_0); omega)

/-- `outsAt0` at a point of case A: that case's contents. -/
theorem outsAt0_A (c : Dev nD) (t : Fin cfg0.N) (h0 : t.val % 12 = 0) (h1 : ¬1 ≤ t.val % 12) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (V m c main_arg0), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (V m c main_arg0), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (V m c main_arg0), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (V m c main_arg0), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (V m c main_arg0), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (V m c main_arg0)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 12 = 0) (h1 : 1 ≤ t.val % 12) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg0), out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg0), out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg0), out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg0), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg0), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg0)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.1) ∗ owns (c : Thread nD τ) scM0_1 fullShare ((outsAt0 m c n hn).2.2.2.2.2) ∗ (∃ d, owns (c : Thread nD τ) scM0_2 fullShare d)) ∗ (∃ r, prngReg c r) ∗ iprop(semVal ((c : Thread nD τ), SemLoc.dma 20) 0 ∗ semVal ((c : Thread nD τ), SemLoc.dma 21) 0) ∗ iprop(hbPt0 c hbM0_0 (V m c main_arg0)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2) ∗ (∃ d, owns (c : Thread nD τ) scM0_2 fullShare d)) ∗ (∃ r, prngReg c r) ∗ iprop(semVal ((c : Thread nD τ), SemLoc.dma 20) 0 ∗ semVal ((c : Thread nD τ), SemLoc.dma 21) 0) ∗ iprop(hbPt0 c hbM0_0 (V m c main_arg0))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2) ∗ (∃ d, owns (c : Thread nD τ) scM0_2 fullShare d)) ∗ (∃ r, prngReg c r) ∗ iprop(semVal ((c : Thread nD τ), SemLoc.dma 20) 0 ∗ semVal ((c : Thread nD τ), SemLoc.dma 21) 0) ∗ iprop(hbPt0 c hbM0_0 (V m c main_arg0))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; each input's share of its array
    (`Pipeline.shareOf`: the full share of an array several windows stage, dealt among them). -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
    | ⟨10, _⟩ => (outsAt0 m c t.val t.isLt).2.2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]
theorem after0_10 (c : Dev nD) (t : Fin cfg0.N) : (dats m 0 c).after 10 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 48 := lt_of_lt_of_eq t.isLt (show cfg0.N = 48 from N_0)
  by_cases h0 : t.val % 12 = 0
  · by_cases h1 : 1 ≤ t.val % 12
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_A t ((hcond0_0 t).mpr h0) (fun h => h1 ((hcond0_1 t).mp h))], after0_7]
      rw [show (dats m 0 c).leavesExact 8 t = owns (c : Thread nD τ) (ms0_8 t) fullShare ((dats m 0 c).after 8 t) from by
      unfold Dat.leavesExact; rw [liveAt0_8_A t ((hcond0_0 t).mpr h0) (fun h => h1 ((hcond0_1 t).mp h))], after0_8]
      rw [show (dats m 0 c).leavesExact 9 t = owns (c : Thread nD τ) (ms0_9 t) fullShare ((dats m 0 c).after 9 t) from by
      unfold Dat.leavesExact; rw [liveAt0_9_A t ((hcond0_0 t).mpr h0) (fun h => h1 ((hcond0_1 t).mp h))], after0_9]
      rw [show (dats m 0 c).leavesExact 10 t = owns (c : Thread nD τ) (ms0_10 t) fullShare ((dats m 0 c).after 10 t) from by
      unfold Dat.leavesExact; rw [liveAt0_10_A t ((hcond0_0 t).mpr h0) (fun h => h1 ((hcond0_1 t).mp h))], after0_10]
      by_cases hz : t.val = 0
      · rw [PhiS_castSucc m c t, PhiS_zero m c _ _ hz, PhiD0_eq]
        rw [outsAt0_A m c t h0 h1]
        unfold out0_A_7 out0_A_8 out0_A_9 out0_A_10 sout0_A_0 sout0_A_1; (try dsimp only)
        iintro ⟨⟨⟨HS0, HS1, HS2⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((runA c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (V m c main_arg0)).2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        isplitl [Hq0]; · iexact Hq0
        isplitl [Hq1]; · iexact Hq1
        isplitl [Hh0]; · iexact Hh0
        isplitl [HW]; · iexact HW
        iintro ⟨H0, H1, H2, H3, H4, H5, H6, ⟨%e7, H7⟩, ⟨%e8, H8⟩, ⟨%e9, H9⟩, ⟨%e10, H10⟩, ⟨%es0, HS0⟩, ⟨%es1, HS1⟩, HS2, Hq0, Hq1, Hh0, ⟨%W', HW'⟩⟩
        isplitl [HS0 HS1 HS2 Hg Hq0 Hq1 Hh0]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _)
            iexact HS2
          isplitl [Hg]
          · iexact Hg
          isplitl [Hq0 Hq1]
          · isplitl [Hq0]; · iexact Hq0
            iexact Hq1
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _)
      · rw [PhiS_castSucc m c t, PhiS_pos m c _ _ hz]
        rw [outsAt0_A m c t h0 h1]
        unfold out0_A_7 out0_A_8 out0_A_9 out0_A_10 sout0_A_0 sout0_A_1; (try dsimp only)
        iintro ⟨⟨⟨HS0, HS1, HS2⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((runA c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (V m c main_arg0)).2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexists _; iexact H10
        isplitl [HS0]; · iexists _; iexact HS0
        isplitl [HS1]; · iexists _; iexact HS1
        isplitl [HS2]; · iexact HS2
        isplitl [Hq0]; · iexact Hq0
        isplitl [Hq1]; · iexact Hq1
        isplitl [Hh0]; · iexact Hh0
        isplitl [HW]; · iexact HW
        iintro ⟨H0, H1, H2, H3, H4, H5, H6, ⟨%e7, H7⟩, ⟨%e8, H8⟩, ⟨%e9, H9⟩, ⟨%e10, H10⟩, ⟨%es0, HS0⟩, ⟨%es1, HS1⟩, HS2, Hq0, Hq1, Hh0, ⟨%W', HW'⟩⟩
        isplitl [HS0 HS1 HS2 Hg Hq0 Hq1 Hh0]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _)
            iexact HS2
          isplitl [Hg]
          · iexact Hg
          isplitl [Hq0 Hq1]
          · isplitl [Hq0]; · iexact Hq0
            iexact Hq1
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _)
  · by_cases h1 : 1 ≤ t.val % 12
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_B t (fun h => h0 ((hcond0_0 t).mp h)) ((hcond0_1 t).mpr h1)], after0_7]
      rw [show (dats m 0 c).leavesExact 8 t = owns (c : Thread nD τ) (ms0_8 t) fullShare ((dats m 0 c).after 8 t) from by
      unfold Dat.leavesExact; rw [liveAt0_8_B t (fun h => h0 ((hcond0_0 t).mp h)) ((hcond0_1 t).mpr h1)], after0_8]
      rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_1 t).mpr h1)], after0_9]
      rw [show (dats m 0 c).leavesExact 10 t = owns (c : Thread nD τ) (ms0_10 t) fullShare ((dats m 0 c).after 10 t) from by
      unfold Dat.leavesExact; rw [liveAt0_10_B t (fun h => h0 ((hcond0_0 t).mp h)) ((hcond0_1 t).mpr h1)], after0_10]
      by_cases hz : t.val = 0
      · exfalso; have hN : t.val < 48 := lt_of_lt_of_eq t.isLt (show cfg0.N = 48 from N_0); omega
      · rw [PhiS_castSucc m c t, PhiS_pos m c _ _ hz]
        rw [outsAt0_B m c t h0 h1]
        unfold out0_B_7 out0_B_8 out0_B_9 out0_B_10 sout0_B_0 sout0_B_1; (try dsimp only)
        iintro ⟨⟨⟨HS0, HS1, HS2⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _ _ (V m c main_arg0)).2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        isplitl [Hq0]; · iexact Hq0
        isplitl [Hq1]; · iexact Hq1
        isplitl [Hh0]; · iexact Hh0
        isplitl [HW]; · iexact HW
        iintro ⟨H0, H1, H2, H3, H4, H5, H6, ⟨%e7, H7⟩, ⟨%e8, H8⟩, ⟨%e9, H9⟩, ⟨%e10, H10⟩, HS0, HS1, HS2, Hq0, Hq1, Hh0, ⟨%W', HW'⟩⟩
        isplitl [HS0 HS1 HS2 Hg Hq0 Hq1 Hh0]
        · isplitl [HS0 HS1 HS2]
          · isplitl [HS0]; · iexact HS0
            isplitl [HS1]
            · unfold owns; iexists _; isplitr
              swap; · iexact HS1
              ipureintro; rfl
            iexact HS2
          isplitl [Hg]
          · iexact Hg
          isplitl [Hq0 Hq1]
          · isplitl [Hq0]; · iexact Hq0
            iexact Hq1
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2⟩, Hg, ⟨Hq0, Hq1⟩, Hh0⟩
  isplitl [HS0 HS1 HS2]
  · isplitl [HS0]
    · iexists _; iexact HS0
    isplitl [HS1]
    · iexists _; iexact HS1
    iexact HS2
  isplitl [Hg]; · iexact Hg
  isplitl [Hq0 Hq1]
  · isplitl [Hq0]; · iexact Hq0
    iexact Hq1
  iexact Hh0

/-- The same after the last point. -/
theorem hout (c : Dev nD) : (dats m 0 c).Φ (Fin.last cfg0.N) ⊢ Pipeline.ΦD osem0 spec0 H0 (V m) c :=
  Phi_out m c _ (by rw [Fin.val_last]; have : cfg0.N = 48 := N_0; omega)

/-! ## The run and the frame -/

-- `θ_run_frame_dma_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- Every run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.FfnIdeal.Own

end
-- ==== Proof.FfnBlock.lean ====
module

public import proofs.«01_k».proof.Proof.FfnPay
public import proofs.«01_k».proof.Proof.FfnFrame

@[expose] public section

set_option maxRecDepth 16384

/-! What the first point of a tile of rows stores and reads back, as rows of whole blocks. -/

noncomputable section

namespace Cert.FfnIdeal.Own

open Cert.FfnIdeal Cert.FfnIdeal.Gen
open Idealize.ShloMosaic Idealize.ShloMosaic.TcCoe Idealize.ShloMosaic.Tactic

section
variable {S : Shape} {e : EltTy}

/-- Every piece of a list of writes holds the values of one function at its places. -/
def Agree (L : List (View.Piece (Elt Ideal) S e)) (G : S.Idx → Elt Ideal e) : Prop := ∀ p ∈ L, ∀ x : p.1.shape.Idx, p.2 x = G (p.1.emb x)

theorem Agree.nil (G : S.Idx → Elt Ideal e) : Agree [] G := fun p hp => absurd hp (List.not_mem_nil)

theorem Agree.cons {p : View.Piece (Elt Ideal) S e} {L : List (View.Piece (Elt Ideal) S e)} {G : S.Idx → Elt Ideal e}
    (h : ∀ x : p.1.shape.Idx, p.2 x = G (p.1.emb x)) (hL : Agree L G) : Agree (p :: L) G := fun q hq => by
  rcases List.mem_cons.mp hq with rfl | hq
  · exact h
  · exact hL q hq

theorem Agree.tail {p : View.Piece (Elt Ideal) S e} {L : List (View.Piece (Elt Ideal) S e)} {G : S.Idx → Elt Ideal e} (h : Agree (p :: L) G) : Agree L G :=
  fun q hq => h q (List.mem_cons_of_mem _ hq)

theorem agree_read {κ : Kind} {sp : Space} (v : View sig κ sp S e) (L : List (View.Piece (Elt Ideal) S e)) (G : S.Idx → Elt Ideal e) (h : Agree L G) (r : Rect S)
    (hc : ∀ x : r.shape.Idx, ∃ p ∈ L, r.emb x ∈ p.1.set) : v.readCov L r.toLoadRect = View.ld G r := by
  rw [View.readCov_eq_canon']
  funext x
  exact View.canon_apply_of_pieces (Val := Elt Ideal) G L h _ (hc x)

theorem head_read {κ : Kind} {sp : Space} (v : View sig κ sp S e) (r : Rect S) (w : r.shape.Idx → Elt Ideal e) (L : List (View.Piece (Elt Ideal) S e)) (G : S.Idx → Elt Ideal e)
    (h : Agree (⟨r, w⟩ :: L) G) : v.readCov (⟨r, w⟩ :: L) r.toLoadRect = View.ld G r := by
  rw [View.readCov_cons_toLoadRect]
  funext x
  exact h ⟨r, w⟩ List.mem_cons_self x
end

/-- A read of rows that the last two writes cover. -/
theorem ext_read {κ : Kind} {sp : Space} (v : View sig κ sp S2056x512 .f32) (G : Vec Ideal S2056x512 .f32) (o o' n q : ℕ) (hn : o' + n = o) (h1 : o' ≤ q) (h2 : q ≤ o)
    (inb0 : ∀ a, (![o, 0] : Fin 2 → ℕ) a + S256x512.size a ≤ S2056x512.size a)
    (inb1 : ∀ a, (![o', 0] : Fin 2 → ℕ) a + (⟨2, ![n, 512]⟩ : Shape).size a ≤ S2056x512.size a)
    (inbq : ∀ a, (![q, 0] : Fin 2 → ℕ) a + S256x512.size a ≤ S2056x512.size a)
    (w0 : (Rect.unit (s := S2056x512) ![o, 0] S256x512.size inb0).shape.Idx → Elt Ideal .f32)
    (w1 : (Rect.unit (s := S2056x512) ![o', 0] (⟨2, ![n, 512]⟩ : Shape).size inb1).shape.Idx → Elt Ideal .f32)
    (L : List (View.Piece (Elt Ideal) S2056x512 .f32))
    (h : Agree (⟨Rect.unit (s := S2056x512) ![o, 0] S256x512.size inb0, w0⟩ :: ⟨Rect.unit (s := S2056x512) ![o', 0] (⟨2, ![n, 512]⟩ : Shape).size inb1, w1⟩ :: L) G) :
    v.readCov (⟨Rect.unit (s := S2056x512) ![o, 0] S256x512.size inb0, w0⟩ :: ⟨Rect.unit (s := S2056x512) ![o', 0] (⟨2, ![n, 512]⟩ : Shape).size inb1, w1⟩ :: L)
      (Rect.unit (s := S2056x512) ![q, 0] S256x512.size inbq).toLoadRect = View.ld G (Rect.unit (s := S2056x512) ![q, 0] S256x512.size inbq) := by
  refine agree_read v _ G h _ fun x => ?_
  obtain ⟨a, l, rfl⟩ : ∃ (a : Fin 256) (l : Fin 512), x = ix2 a l := ⟨x 0, x 1, (ix2_eta x).symm⟩
  have hq : q + 256 ≤ 2056 := inbq 0
  rw [emb_rows q inbq a l (by omega)]
  by_cases hlt : o ≤ q + a.val
  · exact ⟨_, .head _, mem_rows o inb0 _ l hlt (by show q + a.val < o + 256; omega)⟩
  · exact ⟨_, .tail _ (.head _), mem_rows o' inb1 _ l (by show o' ≤ q + a.val; omega) (by show q + a.val < o' + n; omega)⟩

/-! ### The normalized rows -/

theorem i0_lt (i : grid0.Coords) : (i 0).val < 4 := (i 0).isLt

/-- A tile's rows of the prompt and then the sample's, each over its root mean square times the gain. -/
def hnN (i : grid0.Coords) (x0 : Vec Ideal S1x32x2048 .f32) (x1 : Vec Ideal S1x2048 .f32) (X : Vec Ideal S8192x2048 .f32) : Vec Ideal S2080x2048 .bf16 := fun y =>
  if h : (y 0).val < 2048 then unitN (fun k => X (ix2 ⟨2048 * (i 0).val + (y 0).val, by have := i0_lt i; omega⟩ k)) (x1 (ix2 0 (y 1))) (y 1)
  else unitN (fun k => x0 (ix3 0 ⟨(y 0).val - 2048, by have h : (y 0).val < 2080 := (y 0).isLt; omega⟩ k)) (x1 (ix2 0 (y 1))) (y 1)

theorem off_row : ∀ z : Fin 4, ∀ b : Fin 8, (Scalar.addi (Scalar.muli (BitVec.ofNat 32 z.val) 2048#32) (BitVec.ofNat 32 (256 * b.val))).toNat = 2048 * z.val + 256 * b.val := by
  decide +kernel

theorem cast_at (D : S256x2048.Idx → Elt Ideal .f32) (a : Fin 256) (k : Fin 2048) : shapeCast S1x256x2048 D numel_rows (ix3 0 a k) = D (ix2 a k) := by
  pointwise

theorem dma_at (c : Dev nD) (i : grid0.Coords) (fh0 : HbBuf0 (F := Ideal) c hbM0_0) (w : BitVec 32) (b : Fin 8) (hw : w = BitVec.ofNat 32 (256 * b.val))
    (inb : ∀ a, k0_off1 i w a + S256x2048.size a ≤ S8192x2048.size a) (h : ∀ a, (Rect.unit (s := S8192x2048) (k0_off1 i w) S256x2048.size inb).stride a = 1) (a : Fin 256) (k : Fin 2048) :
    View.read (Elt Ideal) ((Memref.whole main_arg0).slice (Rect.unit (s := S8192x2048) (k0_off1 i w) S256x2048.size inb) h).view fh0 (ix2 a k)
      = (fh0 : Vec Ideal S8192x2048 .f32) (ix2 ⟨2048 * (i 0).val + (256 * b.val + a.val), by have := i0_lt i; omega⟩ k) := by
  subst hw
  refine congrArg (fh0 : Vec Ideal S8192x2048 .f32) (a₁ := (Rect.unit (s := S8192x2048) (k0_off1 i (BitVec.ofNat 32 (256 * b.val))) S256x2048.size inb).emb (ix2 a k)) (funext fun d => Fin.ext ?_)
  match d with
  | ⟨0, _⟩ =>
    show (Scalar.addi (Scalar.muli (BitVec.ofNat 32 (i 0).val) 2048#32) (BitVec.ofNat 32 (256 * b.val))).toNat + 1 * a.val = 2048 * (i 0).val + (256 * b.val + a.val)
    rw [off_row (i 0) b]; omega
  | ⟨1, _⟩ =>
    show 0 + 1 * k.val = k.val
    omega

theorem hn_piece (i : grid0.Coords) (x0 : Vec Ideal S1x32x2048 .f32) (x1 : Vec Ideal S1x2048 .f32) (X : Vec Ideal S8192x2048 .f32) (b : Fin 8)
    (D : S256x2048.Idx → Elt Ideal .f32)
    (hD : ∀ (a : Fin 256) (k : Fin 2048), D (ix2 a k) = X (ix2 ⟨2048 * (i 0).val + (256 * b.val + a.val), by have := i0_lt i; omega⟩ k)) (o : ℕ) (ho : o = 256 * b.val)
    (inb : ∀ a, (![o, 0] : Fin 2 → ℕ) a + S256x2048.size a ≤ S2080x2048.size a) (x : S256x2048.Idx) :
    k0_pay8 (shapeCast S1x256x2048 D numel_rows) x1 x = hnN i x0 x1 X ((Rect.unit (s := S2080x2048) ![o, 0] S256x2048.size inb).emb x) := by
  subst ho
  obtain ⟨a, k, rfl⟩ : ∃ (a : Fin 256) (k : Fin 2048), x = ix2 a k := ⟨x 0, x 1, (ix2_eta x).symm⟩
  have hb : b.val < 8 := b.isLt
  rw [pay8_at, emb_rows (256 * b.val) inb a k (by omega)]
  refine Eq.trans ?_ (dif_pos (show 256 * b.val + a.val < 2048 by omega)).symm
  exact congrArg (fun u => unitN u (x1 (ix2 0 k)) k) (funext fun k' => (cast_at D a k').trans (hD a k'))

theorem hn_samp (i : grid0.Coords) (x0 : Vec Ideal S1x32x2048 .f32) (x1 : Vec Ideal S1x2048 .f32) (X : Vec Ideal S8192x2048 .f32)
    (inb : ∀ a, (![2048, 0] : Fin 2 → ℕ) a + S32x2048.size a ≤ S2080x2048.size a) (x : S32x2048.Idx) :
    k0_pay7 x0 x1 x = hnN i x0 x1 X ((Rect.unit (s := S2080x2048) ![2048, 0] S32x2048.size inb).emb x) := by
  obtain ⟨a, k, rfl⟩ : ∃ (a : Fin 32) (k : Fin 2048), x = ix2 a k := ⟨x 0, x 1, (ix2_eta x).symm⟩
  rw [pay7_at, emb_rows 2048 inb a k (by omega)]
  refine Eq.trans ?_ (dif_neg (show ¬ 2048 + a.val < 2048 by omega)).symm
  exact congrArg (fun u => unitN u (x1 (ix2 0 k)) k) (funext fun k' => congrArg (fun z => x0 (ix3 0 z k')) (Fin.ext (by show a.val = 2048 + a.val - 2048; omega)))

/-! ### Blocks read whole -/

theorem whole0 (x0 : Vec Ideal S1x32x2048 .f32) (inb) : View.ld x0 (Rect.unit ![0, 0, 0] ![1, 32, 2048] inb) = x0 := View.ld_unit_lit (S := S1x32x2048) inb x0 (by decide)
theorem whole1 (x1 : Vec Ideal S1x2048 .f32) (inb) : View.ld x1 (Rect.unit ![0, 0] ![1, 2048] inb) = x1 := View.ld_unit_lit (S := S1x2048) inb x1 (by decide)
theorem whole2 (x2 : Vec Ideal S1x2048x512 .f32) (inb) : View.ld x2 (Rect.unit ![0, 0, 0] ![1, 2048, 512] inb) = x2 := View.ld_unit_lit (S := S1x2048x512) inb x2 (by decide)
theorem whole4 (x4 : Vec Ideal S1x3x512 .f32) (inb) : View.ld x4 (Rect.unit ![0, 0, 0] ![1, 3, 512] inb) = x4 := View.ld_unit_lit (S := S1x3x512) inb x4 (by decide)
theorem whole5 (x5 : Vec Ideal S1x1x512 .f32) (inb) : View.ld x5 (Rect.unit ![0, 0, 0] ![1, 1, 512] inb) = x5 := View.ld_unit_lit (S := S1x1x512) inb x5 (by decide)

section
variable {c : Dev nD} {i : grid0.Coords} {arg3 : Memref sig .tc .vmem S1x32x2048 .f32} {harg3 : arg3.IsWhole} {arg4 : Memref sig .tc .vmem S1x2048 .f32} {harg4 : arg4.IsWhole} {arg5 : Memref sig .tc .vmem S1x2048x512 .f32} {harg5 : arg5.IsWhole} {arg6 : Memref sig .tc .vmem S1x2048x512 .f32} {harg6 : arg6.IsWhole} {arg7 : Memref sig .tc .vmem S1x3x512 .f32} {harg7 : arg7.IsWhole} {arg8 : Memref sig .tc .vmem S1x1x512 .f32} {harg8 : arg8.IsWhole} {arg9 : Memref sig .tc .vmem S2x32x512 .f32} {harg9 : arg9.IsWhole} {arg10 : Memref sig .tc .vmem S2048x512 .bf16} {harg10 : arg10.IsWhole} {arg11 : Memref sig .tc .vmem S1x32x512 .bf16} {harg11 : arg11.IsWhole} {arg12 : Memref sig .tc .vmem S1x8x512 .f32} {harg12 : arg12.IsWhole} {arg13 : Memref sig .tc .vmem S1x32x512 .f32} {harg13 : arg13.IsWhole} {arg14 : Memref sig .tc .vmem S2080x2048 .bf16} {harg14 : arg14.IsWhole} {arg15 : Memref sig .tc .vmem S2056x512 .f32} {harg15 : arg15.IsWhole} {arg16 : Memref sig .tc .vmem S2x256x2048 .f32} {harg16 : arg16.IsWhole} {hc0 : cond0_0 i}
  {x0 : Vec Ideal S1x32x2048 .f32} {x1 : Vec Ideal S1x2048 .f32} {x2 x3 : Vec Ideal S1x2048x512 .f32} {x4 : Vec Ideal S1x3x512 .f32} {x5 : Vec Ideal S1x1x512 .f32} {x6 : Vec Ideal S2x32x512 .f32}
  {xs2 : Vec Ideal S2x256x2048 .f32} {fh0 : HbBuf0 (F := Ideal) c hbM0_0}

theorem ag0_2 : Agree (kernelRun0_A.sl.HS0_2 c i arg3 harg3 arg4 harg4 arg16 harg16 hc0 x0 x1 xs2 fh0) (hnN i x0 x1 fh0) := by
  refine .cons ?_ (.cons ?_ (.nil _))
  · simp only [View.readAt_eq_ld, harg4.read_unread, whole1, rows0]
    exact hn_piece i x0 x1 fh0 0 (kernelRun0_A.sl.dma3 c i hc0 fh0) (fun a k => dma_at c i fh0 _ 0 rfl _ _ a k) 0 rfl _
  · simp only [View.readAt_eq_ld, harg3.read_unread, harg4.read_unread, whole0, whole1]
    exact hn_samp i x0 x1 fh0 _
theorem ag0_3 : Agree (kernelRun0_A.sl.HS0_3 c i arg3 harg3 arg4 harg4 arg16 harg16 hc0 x0 x1 xs2 fh0) (hnN i x0 x1 fh0) := by
  refine .cons ?_ ag0_2
  simp only [View.readAt_eq_ld, harg4.read_unread, whole1, rows1, fold12]
  exact hn_piece i x0 x1 fh0 1 (kernelRun0_A.sl.dma9 c i hc0 fh0) (fun a k => dma_at c i fh0 _ 1 rfl _ _ a k) 256 rfl _
theorem ag0_4 : Agree (kernelRun0_A.sl.HS0_4 c i arg3 harg3 arg4 harg4 arg16 harg16 hc0 x0 x1 xs2 fh0) (hnN i x0 x1 fh0) := by
  refine .cons ?_ ag0_3
  simp only [View.readAt_eq_ld, harg4.read_unread, whole1, rows2, fold16]
  exact hn_piece i x0 x1 fh0 2 (kernelRun0_A.sl.dma21 c i hc0 fh0) (fun a k => dma_at c i fh0 _ 2 rfl _ _ a k) 512 rfl _
theorem ag0_5 : Agree (kernelRun0_A.sl.HS0_5 c i arg3 harg3 arg4 harg4 arg16 harg16 hc0 x0 x1 xs2 fh0) (hnN i x0 x1 fh0) := by
  refine .cons ?_ ag0_4
  simp only [View.readAt_eq_ld, harg4.read_unread, whole1, rows3, fold20]
  exact hn_piece i x0 x1 fh0 3 (kernelRun0_A.sl.dma33 c i hc0 fh0) (fun a k => dma_at c i fh0 _ 3 rfl _ _ a k) 768 rfl _
theorem ag0_6 : Agree (kernelRun0_A.sl.HS0_6 c i arg3 harg3 arg4 harg4 arg16 harg16 hc0 x0 x1 xs2 fh0) (hnN i x0 x1 fh0) := by
  refine .cons ?_ ag0_5
  simp only [View.readAt_eq_ld, harg4.read_unread, whole1, rows4, fold24]
  exact hn_piece i x0 x1 fh0 4 (kernelRun0_A.sl.dma45 c i hc0 fh0) (fun a k => dma_at c i fh0 _ 4 rfl _ _ a k) 1024 rfl _
theorem ag0_7 : Agree (kernelRun0_A.sl.HS0_7 c i arg3 harg3 arg4 harg4 arg16 harg16 hc0 x0 x1 xs2 fh0) (hnN i x0 x1 fh0) := by
  refine .cons ?_ ag0_6
  simp only [View.readAt_eq_ld, harg4.read_unread, whole1, rows5, fold28]
  exact hn_piece i x0 x1 fh0 5 (kernelRun0_A.sl.dma57 c i hc0 fh0) (fun a k => dma_at c i fh0 _ 5 rfl _ _ a k) 1280 rfl _
theorem ag0_8 : Agree (kernelRun0_A.sl.HS0_8 c i arg3 harg3 arg4 harg4 arg16 harg16 hc0 x0 x1 xs2 fh0) (hnN i x0 x1 fh0) := by
  refine .cons ?_ ag0_7
  simp only [kernelRun0_A.sl.r_1, View.readAt_eq_ld, harg4.read_unread, whole1, rows6, fold32]
  exact hn_piece i x0 x1 fh0 6 (kernelRun0_A.sl.dma69 c i hc0 fh0) (fun a k => dma_at c i fh0 _ 6 rfl _ _ a k) 1536 rfl _
theorem ag0_9 : Agree (kernelRun0_A.sl.HS0_9 c i arg3 harg3 arg4 harg4 arg16 harg16 hc0 x0 x1 xs2 fh0) (hnN i x0 x1 fh0) := by
  refine .cons ?_ ag0_8
  simp only [View.readAt_eq_ld, harg4.read_unread, whole1, rows7, fold36]
  exact hn_piece i x0 x1 fh0 7 (kernelRun0_A.sl.dma81 c i hc0 fh0) (fun a k => dma_at c i fh0 _ 7 rfl _ _ a k) 1792 rfl _

theorem hn0 : kernelRun0_A.sl.v79 c i arg3 harg3 arg4 harg4 arg14 arg16 harg16 hc0 x0 x1 xs2 fh0 = View.ld (hnN i x0 x1 fh0) (Rect.unit ![0, 0] S256x2048.size inb_S2080x2048_S256x2048_0_0) := head_read _ _ _ _ _ ag0_2
theorem hn1 : kernelRun0_A.sl.v152 c i arg3 harg3 arg4 harg4 arg14 arg16 harg16 hc0 x0 x1 xs2 fh0 = View.ld (hnN i x0 x1 fh0) (Rect.unit ![256, 0] S256x2048.size inb_S2080x2048_S256x2048_256_0) := head_read _ _ _ _ _ ag0_3
theorem hn2 : kernelRun0_A.sl.v c i arg3 harg3 arg4 harg4 arg14 arg16 harg16 hc0 x0 x1 xs2 fh0 = View.ld (hnN i x0 x1 fh0) (Rect.unit ![512, 0] S256x2048.size inb_S2080x2048_S256x2048_512_0) := head_read _ _ _ _ _ ag0_4
theorem hn3 : kernelRun0_A.sl.v298 c i arg3 harg3 arg4 harg4 arg14 arg16 harg16 hc0 x0 x1 xs2 fh0 = View.ld (hnN i x0 x1 fh0) (Rect.unit ![768, 0] S256x2048.size inb_S2080x2048_S256x2048_768_0) := head_read _ _ _ _ _ ag0_5
theorem hn4 : kernelRun0_A.sl.v371 c i arg3 harg3 arg4 harg4 arg14 arg16 harg16 hc0 x0 x1 xs2 fh0 = View.ld (hnN i x0 x1 fh0) (Rect.unit ![1024, 0] S256x2048.size inb_S2080x2048_S256x2048_1024_0) := head_read _ _ _ _ _ ag0_6
theorem hn5 : kernelRun0_A.sl.v444 c i arg3 harg3 arg4 harg4 arg14 arg16 harg16 hc0 x0 x1 xs2 fh0 = View.ld (hnN i x0 x1 fh0) (Rect.unit ![1280, 0] S256x2048.size inb_S2080x2048_S256x2048_1280_0) := head_read _ _ _ _ _ ag0_7
theorem hn6 : kernelRun0_A.sl.v517 c i arg3 harg3 arg4 harg4 arg14 arg16 harg16 hc0 x0 x1 xs2 fh0 = View.ld (hnN i x0 x1 fh0) (Rect.unit ![1536, 0] S256x2048.size inb_S2080x2048_S256x2048_1536_0) := head_read _ _ _ _ _ ag0_8
theorem hn7 : kernelRun0_A.sl.v583 c i arg3 harg3 arg4 harg4 arg14 arg16 harg16 hc0 x0 x1 xs2 fh0 = View.ld (hnN i x0 x1 fh0) (Rect.unit ![1792, 0] S288x2048.size inb_S2080x2048_S288x2048_1792_0) := by
  refine agree_read _ _ _ ag0_9 _ fun x => ?_
  obtain ⟨a, l, rfl⟩ : ∃ (a : Fin 288) (l : Fin 2048), x = ix2 a l := ⟨x 0, x 1, (ix2_eta x).symm⟩
  rw [emb_rows 1792 _ a l (by omega)]
  by_cases hlt : 1792 + a.val < 2048
  · exact ⟨_, .head _, mem_rows 1792 inb_S2080x2048_S256x2048_1792_0 _ l (by show 1792 ≤ 1792 + a.val; omega) hlt⟩
  · exact ⟨_, .tail _ (.tail _ (.tail _ (.tail _ (.tail _ (.tail _ (.tail _ (.tail _ (.head _)))))))), mem_rows 2048 inb_S2080x2048_S32x2048_2048_0 _ l (by show 2048 ≤ 1792 + a.val; omega) (by show 1792 + a.val < 2048 + 32; omega)⟩

theorem zero_piece (H : Vec Ideal S2080x2048 .bf16) (inb : ∀ a, (![0, 0] : Fin 2 → ℕ) a + S8x512.size a ≤ S2056x512.size a) (x : S8x512.Idx) :
    (k0_pay6 : FVec Ideal S8x512 .f32) x = extN H x2 ((Rect.unit (s := S2056x512) ![0, 0] S8x512.size inb).emb x) := by
  obtain ⟨a, l, rfl⟩ : ∃ (a : Fin 8) (l : Fin 512), x = ix2 a l := ⟨x 0, x 1, (ix2_eta x).symm⟩
  rw [emb_rows 0 inb a l (by omega), extN_low _ _ _ (by show 0 + a.val < 8; omega)]
  pointwise [k0_pay6]

theorem ag1_2 : Agree (kernelRun0_A.sl.HS1_2 c i arg3 harg3 arg4 harg4 arg5 harg5 arg14 arg16 harg16 hc0 x0 x1 x2 xs2 fh0) (extN (hnN i x0 x1 fh0) x2) := by
  refine .cons ?_ (.cons ?_ (.nil _))
  · simp only [kernelRun0_A.sl.r, View.readAt_eq_ld, harg5.read_unread, whole2, hn0]
    exact gate_piece x2 _ 0 8 rfl _ _
  · exact zero_piece _ inb_S2056x512_S8x512_0_0
theorem ag1_3 : Agree (kernelRun0_A.sl.HS1_3 c i arg3 harg3 arg4 harg4 arg5 harg5 arg14 arg16 harg16 hc0 x0 x1 x2 xs2 fh0) (extN (hnN i x0 x1 fh0) x2) := by
  refine .cons ?_ ag1_2
  simp only [kernelRun0_A.sl.cst_88, View.readAt_eq_ld, harg5.read_unread, whole2, hn1, fold14]
  exact gate_piece x2 _ 256 264 rfl _ _
theorem ag1_4 : Agree (kernelRun0_A.sl.HS1_4 c i arg3 harg3 arg4 harg4 arg5 harg5 arg14 arg16 harg16 hc0 x0 x1 x2 xs2 fh0) (extN (hnN i x0 x1 fh0) x2) := by
  refine .cons ?_ ag1_3
  simp only [View.readAt_eq_ld, harg5.read_unread, whole2, hn2, fold18]
  exact gate_piece x2 _ 512 520 rfl _ _
theorem ag1_5 : Agree (kernelRun0_A.sl.HS1_5 c i arg3 harg3 arg4 harg4 arg5 harg5 arg14 arg16 harg16 hc0 x0 x1 x2 xs2 fh0) (extN (hnN i x0 x1 fh0) x2) := by
  refine .cons ?_ ag1_4
  simp only [View.readAt_eq_ld, harg5.read_unread, whole2, hn3, fold22]
  exact gate_piece x2 _ 768 776 rfl _ _
theorem ag1_6 : Agree (kernelRun0_A.sl.HS1_6 c i arg3 harg3 arg4 harg4 arg5 harg5 arg14 arg16 harg16 hc0 x0 x1 x2 xs2 fh0) (extN (hnN i x0 x1 fh0) x2) := by
  refine .cons ?_ ag1_5
  simp only [View.readAt_eq_ld, harg5.read_unread, whole2, hn4, fold26]
  exact gate_piece x2 _ 1024 1032 rfl _ _
theorem ag1_7 : Agree (kernelRun0_A.sl.HS1_7 c i arg3 harg3 arg4 harg4 arg5 harg5 arg14 arg16 harg16 hc0 x0 x1 x2 xs2 fh0) (extN (hnN i x0 x1 fh0) x2) := by
  refine .cons ?_ ag1_6
  simp only [View.readAt_eq_ld, harg5.read_unread, whole2, hn5, fold30]
  exact gate_piece x2 _ 1280 1288 rfl _ _
theorem ag1_8 : Agree (kernelRun0_A.sl.HS1_8 c i arg3 harg3 arg4 harg4 arg5 harg5 arg14 arg16 harg16 hc0 x0 x1 x2 xs2 fh0) (extN (hnN i x0 x1 fh0) x2) := by
  refine .cons ?_ ag1_7
  simp only [View.readAt_eq_ld, harg5.read_unread, whole2, hn6, fold34]
  exact gate_piece x2 _ 1536 1544 rfl _ _
theorem ag1_9 : Agree (kernelRun0_A.sl.HS1_9 c i arg3 harg3 arg4 harg4 arg5 harg5 arg14 arg16 harg16 hc0 x0 x1 x2 xs2 fh0) (extN (hnN i x0 x1 fh0) x2) := by
  refine .cons ?_ ag1_8
  simp only [kernelRun0_A.sl.r_5, View.readAt_eq_ld, harg5.read_unread, whole2, hn7]
  exact fun x => gate_last x2 _ x _ _

theorem exp0 : kernelRun0_A.sl.v85 c i arg3 harg3 arg4 harg4 arg5 harg5 arg14 arg15 arg16 harg16 hc0 x0 x1 x2 xs2 fh0 = View.ld (extN (hnN i x0 x1 fh0) x2) (Rect.unit ![7, 0] S256x512.size inb_S2056x512_S256x512_7_0) :=
  ext_read _ _ 8 0 8 7 (by decide) (by decide) (by decide) _ _ _ _ _ _ ag1_2
theorem exq0 : kernelRun0_A.sl.v86 c i arg3 harg3 arg4 harg4 arg5 harg5 arg14 arg15 arg16 harg16 hc0 x0 x1 x2 xs2 fh0 = View.ld (extN (hnN i x0 x1 fh0) x2) (Rect.unit ![6, 0] S256x512.size inb_S2056x512_S256x512_6_0) :=
  ext_read _ _ 8 0 8 6 (by decide) (by decide) (by decide) _ _ _ _ _ _ ag1_2
theorem exp1 : kernelRun0_A.sl.v158 c i arg3 harg3 arg4 harg4 arg5 harg5 arg14 arg15 arg16 harg16 hc0 x0 x1 x2 xs2 fh0 = View.ld (extN (hnN i x0 x1 fh0) x2) (Rect.unit ![263, 0] S256x512.size inb_S2056x512_S256x512_263_0) :=
  ext_read _ _ 264 8 256 263 (by decide) (by decide) (by decide) _ _ _ _ _ _ ag1_3
theorem exq1 : kernelRun0_A.sl.v159 c i arg3 harg3 arg4 harg4 arg5 harg5 arg14 arg15 arg16 harg16 hc0 x0 x1 x2 xs2 fh0 = View.ld (extN (hnN i x0 x1 fh0) x2) (Rect.unit ![262, 0] S256x512.size inb_S2056x512_S256x512_262_0) :=
  ext_read _ _ 264 8 256 262 (by decide) (by decide) (by decide) _ _ _ _ _ _ ag1_3
theorem exp2 : kernelRun0_A.sl.v231 c i arg3 harg3 arg4 harg4 arg5 harg5 arg14 arg15 arg16 harg16 hc0 x0 x1 x2 xs2 fh0 = View.ld (extN (hnN i x0 x1 fh0) x2) (Rect.unit ![519, 0] S256x512.size inb_S2056x512_S256x512_519_0) :=
  ext_read _ _ 520 264 256 519 (by decide) (by decide) (by decide) _ _ _ _ _ _ ag1_4
theorem exq2 : kernelRun0_A.sl.v232 c i arg3 harg3 arg4 harg4 arg5 harg5 arg14 arg15 arg16 harg16 hc0 x0 x1 x2 xs2 fh0 = View.ld (extN (hnN i x0 x1 fh0) x2) (Rect.unit ![518, 0] S256x512.size inb_S2056x512_S256x512_518_0) :=
  ext_read _ _ 520 264 256 518 (by decide) (by decide) (by decide) _ _ _ _ _ _ ag1_4
theorem exp3 : kernelRun0_A.sl.v304 c i arg3 harg3 arg4 harg4 arg5 harg5 arg14 arg15 arg16 harg16 hc0 x0 x1 x2 xs2 fh0 = View.ld (extN (hnN i x0 x1 fh0) x2) (Rect.unit ![775, 0] S256x512.size inb_S2056x512_S256x512_775_0) :=
  ext_read _ _ 776 520 256 775 (by decide) (by decide) (by decide) _ _ _ _ _ _ ag1_5
theorem exq3 : kernelRun0_A.sl.v305 c i arg3 harg3 arg4 harg4 arg5 harg5 arg14 arg15 arg16 harg16 hc0 x0 x1 x2 xs2 fh0 = View.ld (extN (hnN i x0 x1 fh0) x2) (Rect.unit ![774, 0] S256x512.size inb_S2056x512_S256x512_774_0) :=
  ext_read _ _ 776 520 256 774 (by decide) (by decide) (by decide) _ _ _ _ _ _ ag1_5
theorem exp4 : kernelRun0_A.sl.v377 c i arg3 harg3 arg4 harg4 arg5 harg5 arg14 arg15 arg16 harg16 hc0 x0 x1 x2 xs2 fh0 = View.ld (extN (hnN i x0 x1 fh0) x2) (Rect.unit ![1031, 0] S256x512.size inb_S2056x512_S256x512_1031_0) :=
  ext_read _ _ 1032 776 256 1031 (by decide) (by decide) (by decide) _ _ _ _ _ _ ag1_6
theorem exq4 : kernelRun0_A.sl.v378 c i arg3 harg3 arg4 harg4 arg5 harg5 arg14 arg15 arg16 harg16 hc0 x0 x1 x2 xs2 fh0 = View.ld (extN (hnN i x0 x1 fh0) x2) (Rect.unit ![1030, 0] S256x512.size inb_S2056x512_S256x512_1030_0) :=
  ext_read _ _ 1032 776 256 1030 (by decide) (by decide) (by decide) _ _ _ _ _ _ ag1_6
theorem exp5 : kernelRun0_A.sl.v450 c i arg3 harg3 arg4 harg4 arg5 harg5 arg14 arg15 arg16 harg16 hc0 x0 x1 x2 xs2 fh0 = View.ld (extN (hnN i x0 x1 fh0) x2) (Rect.unit ![1287, 0] S256x512.size inb_S2056x512_S256x512_1287_0) :=
  ext_read _ _ 1288 1032 256 1287 (by decide) (by decide) (by decide) _ _ _ _ _ _ ag1_7
theorem exq5 : kernelRun0_A.sl.v451 c i arg3 harg3 arg4 harg4 arg5 harg5 arg14 arg15 arg16 harg16 hc0 x0 x1 x2 xs2 fh0 = View.ld (extN (hnN i x0 x1 fh0) x2) (Rect.unit ![1286, 0] S256x512.size inb_S2056x512_S256x512_1286_0) :=
  ext_read _ _ 1288 1032 256 1286 (by decide) (by decide) (by decide) _ _ _ _ _ _ ag1_7
theorem exp6 : kernelRun0_A.sl.v523 c i arg3 harg3 arg4 harg4 arg5 harg5 arg14 arg15 arg16 harg16 hc0 x0 x1 x2 xs2 fh0 = View.ld (extN (hnN i x0 x1 fh0) x2) (Rect.unit ![1543, 0] S256x512.size inb_S2056x512_S256x512_1543_0) :=
  ext_read _ _ 1544 1288 256 1543 (by decide) (by decide) (by decide) _ _ _ _ _ _ ag1_8
theorem exq6 : kernelRun0_A.sl.v524 c i arg3 harg3 arg4 harg4 arg5 harg5 arg14 arg15 arg16 harg16 hc0 x0 x1 x2 xs2 fh0 = View.ld (extN (hnN i x0 x1 fh0) x2) (Rect.unit ![1542, 0] S256x512.size inb_S2056x512_S256x512_1542_0) :=
  ext_read _ _ 1544 1288 256 1542 (by decide) (by decide) (by decide) _ _ _ _ _ _ ag1_8
theorem exp7 : kernelRun0_A.sl.v590 c i arg3 harg3 arg4 harg4 arg5 harg5 arg14 arg15 arg16 harg16 hc0 x0 x1 x2 xs2 fh0 = View.ld (extN (hnN i x0 x1 fh0) x2) (Rect.unit ![1799, 0] S256x512.size inb_S2056x512_S256x512_1799_0) :=
  ext_read _ _ 1800 1544 256 1799 (by decide) (by decide) (by decide) _ _ _ _ _ _ ag1_9
theorem exq7 : kernelRun0_A.sl.v591 c i arg3 harg3 arg4 harg4 arg5 harg5 arg14 arg15 arg16 harg16 hc0 x0 x1 x2 xs2 fh0 = View.ld (extN (hnN i x0 x1 fh0) x2) (Rect.unit ![1798, 0] S256x512.size inb_S2056x512_S256x512_1798_0) :=
  ext_read _ _ 1800 1544 256 1798 (by decide) (by decide) (by decide) _ _ _ _ _ _ ag1_9

end

end Cert.FfnIdeal.Own

end
-- ==== Proof.FfnOut.lean ====
module

public import proofs.«01_k».proof.Proof.FfnBlock

@[expose] public section

set_option maxRecDepth 16384

/-! What every point leaves in its outputs and in the scratch, as functions of its input blocks. -/

noncomputable section

namespace Cert.FfnIdeal.Own

open Cert.FfnIdeal Cert.FfnIdeal.Gen
open Idealize.ShloMosaic Idealize.ShloMosaic.TcCoe Idealize.ShloMosaic.Tactic

theorem whole_write {S : Shape} {e : EltTy} {κ : Kind} {sp : Space} (v : View sig κ sp S e) (off : Fin S.rank → ℕ) (inb : ∀ a, off a + S.size a ≤ S.size a)
    (h : ∀ a, off a = 0) (w : S.Idx → Elt Ideal e) (L : List (View.Piece (Elt Ideal) S e)) :
    v.read (Elt Ideal) (v.writes (Elt Ideal) v.junk ((⟨Rect.unit off S.size inb, w⟩ : View.Piece (Elt Ideal) S e) :: L)) = w := by
  rw [View.read_writes_junk_eq_canon]
  exact View.canon_cons_unit_lit (Val := Elt Ideal) inb w L h

/-- Writes that leave the eight rows before the gate's alone. -/
def Above (L : List (View.Piece (Elt Ideal) S2056x512 .f32)) : Prop := ∀ p ∈ L, ∀ y : S2056x512.Idx, (y 0).val < 8 → y ∉ p.1.set

theorem Above.nil : Above [] := fun _ h => absurd h List.not_mem_nil

theorem Above.cons {p : View.Piece (Elt Ideal) S2056x512 .f32} {L : List (View.Piece (Elt Ideal) S2056x512 .f32)}
    (h : ∀ y : S2056x512.Idx, (y 0).val < 8 → y ∉ p.1.set) (hL : Above L) : Above (p :: L) := fun q hq => by
  rcases List.mem_cons.mp hq with rfl | hq
  · exact h
  · exact hL q hq

theorem agree_write {S : Shape} {e : EltTy} {κ : Kind} {sp : Space} (v : View sig κ sp S e) (L : List (View.Piece (Elt Ideal) S e)) (G : S.Idx → Elt Ideal e)
    (h : Agree L G) (hc : ∀ y, ∃ p ∈ L, y ∈ p.1.set) : v.read (Elt Ideal) (v.writes (Elt Ideal) v.junk L) = G := by
  rw [View.read_writes_junk_eq_canon]
  funext y
  exact View.canon_apply_of_pieces (Val := Elt Ideal) G L h y (hc y)

section
variable {c : Dev nD} {i : grid0.Coords} {arg3 : Memref sig .tc .vmem S1x32x2048 .f32} {harg3 : arg3.IsWhole} {arg4 : Memref sig .tc .vmem S1x2048 .f32} {harg4 : arg4.IsWhole} {arg5 : Memref sig .tc .vmem S1x2048x512 .f32} {harg5 : arg5.IsWhole} {arg6 : Memref sig .tc .vmem S1x2048x512 .f32} {harg6 : arg6.IsWhole} {arg7 : Memref sig .tc .vmem S1x3x512 .f32} {harg7 : arg7.IsWhole} {arg8 : Memref sig .tc .vmem S1x1x512 .f32} {harg8 : arg8.IsWhole} {arg9 : Memref sig .tc .vmem S2x32x512 .f32} {harg9 : arg9.IsWhole} {arg10 : Memref sig .tc .vmem S2048x512 .bf16} {harg10 : arg10.IsWhole} {arg11 : Memref sig .tc .vmem S1x32x512 .bf16} {harg11 : arg11.IsWhole} {arg12 : Memref sig .tc .vmem S1x8x512 .f32} {harg12 : arg12.IsWhole} {arg13 : Memref sig .tc .vmem S1x32x512 .f32} {harg13 : arg13.IsWhole} {arg14 : Memref sig .tc .vmem S2080x2048 .bf16} {harg14 : arg14.IsWhole} {arg15 : Memref sig .tc .vmem S2056x512 .f32} {harg15 : arg15.IsWhole} {arg16 : Memref sig .tc .vmem S2x256x2048 .f32} {harg16 : arg16.IsWhole} {hc0 : cond0_0 i}
  {x0 : Vec Ideal S1x32x2048 .f32} {x1 : Vec Ideal S1x2048 .f32} {x2 x3 : Vec Ideal S1x2048x512 .f32} {x4 : Vec Ideal S1x3x512 .f32} {x5 : Vec Ideal S1x1x512 .f32} {x6 : Vec Ideal S2x32x512 .f32}
  {xs2 : Vec Ideal S2x256x2048 .f32} {fh0 : HbBuf0 (F := Ideal) c hbM0_0}
variable {hc1 : ¬cond0_1 i}

theorem ag7_A : Agree (runA c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0).1 (actN (hnN i x0 x1 fh0) x2 x3 x4 x5) := by
  show Agree (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 zrows fh0).1 _
  unfold kernelRun0_A
  dsimp only
  refine .cons ?_ (.cons ?_ (.cons ?_ (.cons ?_ (.cons ?_ (.cons ?_ (.cons ?_ (.cons ?_ (.nil _))))))))
  · simp only [kernelRun0_A.sl.r_3, kernelRun0_A.sl.r_4, View.readAt_eq_ld, harg5.read_unread, harg6.read_unread, harg7.read_unread, harg8.read_unread, whole2, whole4, whole5, hn7, exp7, exq7]
    exact act_last x2 x3 x4 x5 _ _ _ _ _
  · simp only [kernelRun0_A.sl.r_2, View.readAt_eq_ld, harg5.read_unread, harg6.read_unread, harg7.read_unread, harg8.read_unread, whole2, whole4, whole5, hn6, exp6, exq6, fold35]
    exact act_piece x2 x3 x4 x5 _ 1536 1543 1542 rfl rfl _ _ _ _
  · simp only [View.readAt_eq_ld, harg5.read_unread, harg6.read_unread, harg7.read_unread, harg8.read_unread, whole2, whole4, whole5, hn5, exp5, exq5, fold31]
    exact act_piece x2 x3 x4 x5 _ 1280 1287 1286 rfl rfl _ _ _ _
  · simp only [View.readAt_eq_ld, harg5.read_unread, harg6.read_unread, harg7.read_unread, harg8.read_unread, whole2, whole4, whole5, hn4, exp4, exq4, fold27]
    exact act_piece x2 x3 x4 x5 _ 1024 1031 1030 rfl rfl _ _ _ _
  · simp only [View.readAt_eq_ld, harg5.read_unread, harg6.read_unread, harg7.read_unread, harg8.read_unread, whole2, whole4, whole5, hn3, exp3, exq3, fold23]
    exact act_piece x2 x3 x4 x5 _ 768 775 774 rfl rfl _ _ _ _
  · simp only [View.readAt_eq_ld, harg5.read_unread, harg6.read_unread, harg7.read_unread, harg8.read_unread, whole2, whole4, whole5, hn2, exp2, exq2, fold19]
    exact act_piece x2 x3 x4 x5 _ 512 519 518 rfl rfl _ _ _ _
  · simp only [kernelRun0_A.sl.cst_88, View.readAt_eq_ld, harg5.read_unread, harg6.read_unread, harg7.read_unread, harg8.read_unread, whole2, whole4, whole5, hn1, exp1, exq1, fold15]
    exact act_piece x2 x3 x4 x5 _ 256 263 262 rfl rfl _ _ _ _
  · simp only [kernelRun0_A.sl.r, View.readAt_eq_ld, harg5.read_unread, harg6.read_unread, harg7.read_unread, harg8.read_unread, whole2, whole4, whole5, hn0, exp0, exq0]
    exact act_piece x2 x3 x4 x5 _ 0 7 6 rfl rfl _ _ _ _

theorem outA7 : out0_A_7 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0 = actN (hnN i x0 x1 fh0) x2 x3 x4 x5 := agree_write _ _ _ ag7_A (cover0_A_7 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0)

theorem outA8 : out0_A_8 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0 = sactN (hnN i x0 x1 fh0) x2 x3 x4 x5 x6 := by
  refine (whole_write (S := S1x32x512) VO0_8 ![0, 0, 0] inb_S1x32x512_S1x32x512_0_0_0 (by decide) _ _).trans ?_
  simp only [kernelRun0_A.sl.r_7, kernelRun0_A.sl.r_3, kernelRun0_A.sl.r_4, View.readAt_eq_ld, harg5.read_unread, harg6.read_unread, harg7.read_unread, harg8.read_unread, harg9.read_unread, whole2, whole4, whole5, hn7]
  exact sact_piece x2 x3 x4 x5 x6 _ _ _ _

theorem outA9 : out0_A_9 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0 = lastN (hnN i x0 x1 fh0) x2 := by
  refine (whole_write (S := S1x8x512) VO0_9 ![0, 0, 0] inb_S1x8x512_S1x8x512_0_0_0 (by decide) _ _).trans ?_
  simp only [kernelRun0_A.sl.r_3, View.readAt_eq_ld, harg5.read_unread, whole2, hn7]
  exact last_piece x2 _ _

theorem outA10 : out0_A_10 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0 = sgateN (hnN i x0 x1 fh0) x2 := by
  refine (whole_write (S := S1x32x512) VO0_10 ![0, 0, 0] inb_S1x32x512_S1x32x512_0_0_0 (by decide) _ _).trans ?_
  simp only [kernelRun0_A.sl.r_6, kernelRun0_A.sl.r_3, View.readAt_eq_ld, harg5.read_unread, whole2, hn7]
  exact sgate_piece x2 _ _

theorem scrA0 : sout0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0 = (hnN i x0 x1 fh0) := agree_write _ _ _ ag0_9 (scover0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0)

theorem scrA1 : sout0_A_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0 = extN (hnN i x0 x1 fh0) x2 := agree_write _ _ _ ag1_9 (scover0_A_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 fh0)
end

section
variable {c : Dev nD} {i : grid0.Coords} {arg3 : Memref sig .tc .vmem S1x32x2048 .f32} {harg3 : arg3.IsWhole} {arg4 : Memref sig .tc .vmem S1x2048 .f32} {harg4 : arg4.IsWhole} {arg5 : Memref sig .tc .vmem S1x2048x512 .f32} {harg5 : arg5.IsWhole} {arg6 : Memref sig .tc .vmem S1x2048x512 .f32} {harg6 : arg6.IsWhole} {arg7 : Memref sig .tc .vmem S1x3x512 .f32} {harg7 : arg7.IsWhole} {arg8 : Memref sig .tc .vmem S1x1x512 .f32} {harg8 : arg8.IsWhole} {arg9 : Memref sig .tc .vmem S2x32x512 .f32} {harg9 : arg9.IsWhole} {arg10 : Memref sig .tc .vmem S2048x512 .bf16} {harg10 : arg10.IsWhole} {arg11 : Memref sig .tc .vmem S1x32x512 .bf16} {harg11 : arg11.IsWhole} {arg12 : Memref sig .tc .vmem S1x8x512 .f32} {harg12 : arg12.IsWhole} {arg13 : Memref sig .tc .vmem S1x32x512 .f32} {harg13 : arg13.IsWhole} {arg14 : Memref sig .tc .vmem S2080x2048 .bf16} {harg14 : arg14.IsWhole} {arg15 : Memref sig .tc .vmem S2056x512 .f32} {harg15 : arg15.IsWhole} {arg16 : Memref sig .tc .vmem S2x256x2048 .f32} {harg16 : arg16.IsWhole} {hc0 : ¬cond0_0 i} {hc1 : cond0_1 i}
  {x0 : Vec Ideal S1x32x2048 .f32} {x1 : Vec Ideal S1x2048 .f32} {x2 x3 : Vec Ideal S1x2048x512 .f32} {x4 : Vec Ideal S1x3x512 .f32} {x5 : Vec Ideal S1x1x512 .f32} {x6 : Vec Ideal S2x32x512 .f32}
  {xs0 : Vec Ideal S2080x2048 .bf16} {xs1 : Vec Ideal S2056x512 .f32} {fh0 : HbBuf0 (F := Ideal) c hbM0_0}

theorem bg1 : Agree (kernelRun0_B.sl.HS1_1 c arg5 harg5 arg14 harg14 x2 xs0) (extN xs0 x2) := by
  refine .cons ?_ (.nil _)
  simp only [View.readAt_eq_ld, harg5.read_unread, harg14.read_unread, whole2, fold46]
  exact gate_piece x2 _ 0 8 rfl _ _
theorem bg2 : Agree (kernelRun0_B.sl.HS1_2 c arg5 harg5 arg14 harg14 x2 xs0) (extN xs0 x2) := by
  refine .cons ?_ bg1
  simp only [View.readAt_eq_ld, harg5.read_unread, harg14.read_unread, whole2, fold49]
  exact gate_piece x2 _ 256 264 rfl _ _
theorem bg3 : Agree (kernelRun0_B.sl.HS1_3 c arg5 harg5 arg14 harg14 x2 xs0) (extN xs0 x2) := by
  refine .cons ?_ bg2
  simp only [View.readAt_eq_ld, harg5.read_unread, harg14.read_unread, whole2, fold52]
  exact gate_piece x2 _ 512 520 rfl _ _
theorem bg4 : Agree (kernelRun0_B.sl.HS1_4 c arg5 harg5 arg14 harg14 x2 xs0) (extN xs0 x2) := by
  refine .cons ?_ bg3
  simp only [View.readAt_eq_ld, harg5.read_unread, harg14.read_unread, whole2, fold55]
  exact gate_piece x2 _ 768 776 rfl _ _
theorem bg5 : Agree (kernelRun0_B.sl.HS1_5 c arg5 harg5 arg14 harg14 x2 xs0) (extN xs0 x2) := by
  refine .cons ?_ bg4
  simp only [View.readAt_eq_ld, harg5.read_unread, harg14.read_unread, whole2, fold58]
  exact gate_piece x2 _ 1024 1032 rfl _ _
theorem bg6 : Agree (kernelRun0_B.sl.HS1_6 c arg5 harg5 arg14 harg14 x2 xs0) (extN xs0 x2) := by
  refine .cons ?_ bg5
  simp only [View.readAt_eq_ld, harg5.read_unread, harg14.read_unread, whole2, fold61]
  exact gate_piece x2 _ 1280 1288 rfl _ _
theorem bg7 : Agree (kernelRun0_B.sl.HS1_7 c arg5 harg5 arg14 harg14 x2 xs0) (extN xs0 x2) := by
  refine .cons ?_ bg6
  simp only [View.readAt_eq_ld, harg5.read_unread, harg14.read_unread, whole2, fold64]
  exact gate_piece x2 _ 1536 1544 rfl _ _
theorem bg8 : Agree (kernelRun0_B.sl.HS1_8 c arg5 harg5 arg14 harg14 x2 xs0) (extN xs0 x2) := by
  refine .cons ?_ bg7
  simp only [View.readAt_eq_ld, harg5.read_unread, harg14.read_unread, whole2, fold68]
  exact fun x => gate_last x2 _ x _ _

theorem bxp1 : kernelRun0_B.sl.v59 c arg5 harg5 arg14 harg14 arg15 x2 xs0 = View.ld (extN xs0 x2) (Rect.unit ![263, 0] S256x512.size inb_S2056x512_S256x512_263_0) :=
  ext_read _ _ 264 8 256 263 (by decide) (by decide) (by decide) _ _ _ _ _ _ bg2
theorem bxq1 : kernelRun0_B.sl.v60 c arg5 harg5 arg14 harg14 arg15 x2 xs0 = View.ld (extN xs0 x2) (Rect.unit ![262, 0] S256x512.size inb_S2056x512_S256x512_262_0) :=
  ext_read _ _ 264 8 256 262 (by decide) (by decide) (by decide) _ _ _ _ _ _ bg2
theorem bxp2 : kernelRun0_B.sl.v98 c arg5 harg5 arg14 harg14 arg15 x2 xs0 = View.ld (extN xs0 x2) (Rect.unit ![519, 0] S256x512.size inb_S2056x512_S256x512_519_0) :=
  ext_read _ _ 520 264 256 519 (by decide) (by decide) (by decide) _ _ _ _ _ _ bg3
theorem bxq2 : kernelRun0_B.sl.v99 c arg5 harg5 arg14 harg14 arg15 x2 xs0 = View.ld (extN xs0 x2) (Rect.unit ![518, 0] S256x512.size inb_S2056x512_S256x512_518_0) :=
  ext_read _ _ 520 264 256 518 (by decide) (by decide) (by decide) _ _ _ _ _ _ bg3
theorem bxp3 : kernelRun0_B.sl.v137 c arg5 harg5 arg14 harg14 arg15 x2 xs0 = View.ld (extN xs0 x2) (Rect.unit ![775, 0] S256x512.size inb_S2056x512_S256x512_775_0) :=
  ext_read _ _ 776 520 256 775 (by decide) (by decide) (by decide) _ _ _ _ _ _ bg4
theorem bxq3 : kernelRun0_B.sl.v138 c arg5 harg5 arg14 harg14 arg15 x2 xs0 = View.ld (extN xs0 x2) (Rect.unit ![774, 0] S256x512.size inb_S2056x512_S256x512_774_0) :=
  ext_read _ _ 776 520 256 774 (by decide) (by decide) (by decide) _ _ _ _ _ _ bg4
theorem bxp4 : kernelRun0_B.sl.v176 c arg5 harg5 arg14 harg14 arg15 x2 xs0 = View.ld (extN xs0 x2) (Rect.unit ![1031, 0] S256x512.size inb_S2056x512_S256x512_1031_0) :=
  ext_read _ _ 1032 776 256 1031 (by decide) (by decide) (by decide) _ _ _ _ _ _ bg5
theorem bxq4 : kernelRun0_B.sl.v177 c arg5 harg5 arg14 harg14 arg15 x2 xs0 = View.ld (extN xs0 x2) (Rect.unit ![1030, 0] S256x512.size inb_S2056x512_S256x512_1030_0) :=
  ext_read _ _ 1032 776 256 1030 (by decide) (by decide) (by decide) _ _ _ _ _ _ bg5
theorem bxp5 : kernelRun0_B.sl.v215 c arg5 harg5 arg14 harg14 arg15 x2 xs0 = View.ld (extN xs0 x2) (Rect.unit ![1287, 0] S256x512.size inb_S2056x512_S256x512_1287_0) :=
  ext_read _ _ 1288 1032 256 1287 (by decide) (by decide) (by decide) _ _ _ _ _ _ bg6
theorem bxq5 : kernelRun0_B.sl.v216 c arg5 harg5 arg14 harg14 arg15 x2 xs0 = View.ld (extN xs0 x2) (Rect.unit ![1286, 0] S256x512.size inb_S2056x512_S256x512_1286_0) :=
  ext_read _ _ 1288 1032 256 1286 (by decide) (by decide) (by decide) _ _ _ _ _ _ bg6
theorem bxp6 : kernelRun0_B.sl.v254 c arg5 harg5 arg14 harg14 arg15 x2 xs0 = View.ld (extN xs0 x2) (Rect.unit ![1543, 0] S256x512.size inb_S2056x512_S256x512_1543_0) :=
  ext_read _ _ 1544 1288 256 1543 (by decide) (by decide) (by decide) _ _ _ _ _ _ bg7
theorem bxq6 : kernelRun0_B.sl.v255 c arg5 harg5 arg14 harg14 arg15 x2 xs0 = View.ld (extN xs0 x2) (Rect.unit ![1542, 0] S256x512.size inb_S2056x512_S256x512_1542_0) :=
  ext_read _ _ 1544 1288 256 1542 (by decide) (by decide) (by decide) _ _ _ _ _ _ bg7
theorem bxp7 : kernelRun0_B.sl.v294 c arg5 harg5 arg14 harg14 arg15 x2 xs0 = View.ld (extN xs0 x2) (Rect.unit ![1799, 0] S256x512.size inb_S2056x512_S256x512_1799_0) :=
  ext_read _ _ 1800 1544 256 1799 (by decide) (by decide) (by decide) _ _ _ _ _ _ bg8
theorem bxq7 : kernelRun0_B.sl.v295 c arg5 harg5 arg14 harg14 arg15 x2 xs0 = View.ld (extN xs0 x2) (Rect.unit ![1798, 0] S256x512.size inb_S2056x512_S256x512_1798_0) :=
  ext_read _ _ 1800 1544 256 1798 (by decide) (by decide) (by decide) _ _ _ _ _ _ bg8

theorem below_rows (o n : ℕ) (inb : ∀ a, (![o, 0] : Fin 2 → ℕ) a + (![n, 512] : Fin 2 → ℕ) a ≤ S2056x512.size a) (y : S2056x512.Idx) (h : (y 0).val < o) :
    y ∉ (Rect.unit (s := S2056x512) ![o, 0] ![n, 512] inb).set := by
  intro hm
  obtain ⟨x, rfl⟩ := LoadRect.exists_idx_of_mem (Rect.unit (s := S2056x512) ![o, 0] ![n, 512] inb).toLoadRect hm
  have e : o + 1 * (x 0).val < o := h
  omega

/-- The writes of a later point leave the eight rows before the gate's as they were. -/
theorem kept_low (y : S2056x512.Idx) (h : (y 0).val < 8) (L : List (View.Piece (Elt Ideal) S2056x512 .f32))
    (hL : ∀ p ∈ L, y ∉ p.1.set) : View.read (Elt Ideal) arg15.view (arg15.view.writes (Elt Ideal) (harg15.unread xs1) L) y = xs1 y := by
  rw [View.read_writes_apply_of_forall_not_mem _ _ _ _ hL, harg15.read_unread]

theorem first_read (hz : ∀ y : S2056x512.Idx, (y 0).val < 8 → xs1 y = 0) (q : ℕ) (hq : q ≤ 8) (inb : ∀ a, (![q, 0] : Fin 2 → ℕ) a + S256x512.size a ≤ S2056x512.size a) :
    View.ld (View.read (Elt Ideal) arg15.view (arg15.view.writes (Elt Ideal) (harg15.unread xs1) (kernelRun0_B.sl.HS1_1 c arg5 harg5 arg14 harg14 x2 xs0))) (Rect.unit (s := S2056x512) ![q, 0] ![256, 512] inb)
      = View.ld (extN xs0 x2) (Rect.unit (s := S2056x512) ![q, 0] ![256, 512] inb) := by
  funext x
  obtain ⟨a, l, rfl⟩ : ∃ (a : Fin 256) (l : Fin 512), x = ix2 a l := ⟨x 0, x 1, (ix2_eta x).symm⟩
  refine (ld_rows (e := .f32) _ q inb a l (by omega)).trans (Eq.trans ?_ (ld_rows (e := .f32) _ q inb a l (by omega)).symm)
  by_cases hlt : 8 ≤ q + a.val
  · have hc : ∃ p ∈ (kernelRun0_B.sl.HS1_1 c arg5 harg5 arg14 harg14 x2 xs0), (ix2 (⟨q + a.val, by omega⟩ : Fin 2056) l) ∈ p.1.set :=
      ⟨_, .head _, mem_rows 8 inb_S2056x512_S256x512_8_0 _ l hlt (by show q + a.val < 8 + 256; omega)⟩
    rw [View.read_writes_apply_eq_canon _ _ _ _ hc]
    exact View.canon_apply_of_pieces (Val := Elt Ideal) _ _ bg1 _ hc
  · have h8 : q + a.val < 8 := by omega
    rw [kept_low _ h8 _ (fun p hp => by
      obtain rfl := List.mem_singleton.mp hp
      exact below_rows 8 256 inb_S2056x512_S256x512_8_0 _ h8), hz _ h8]
    exact (extN_low _ _ _ h8).symm

theorem ag7_B (hz : ∀ y : S2056x512.Idx, (y 0).val < 8 → xs1 y = 0) : Agree (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 fh0).1 (actN xs0 x2 x3 x4 x5) := by
  unfold kernelRun0_B
  dsimp only
  refine .cons ?_ (.cons ?_ (.cons ?_ (.cons ?_ (.cons ?_ (.cons ?_ (.cons ?_ (.cons ?_ (.nil _))))))))
  · simp only [kernelRun0_B.sl.r_2, View.readAt_eq_ld, harg5.read_unread, harg6.read_unread, harg7.read_unread, harg8.read_unread, harg14.read_unread, whole2, whole4, whole5, bxp7, bxq7, fold69]
    exact act_last x2 x3 x4 x5 _ _ _ _ _
  · simp only [View.readAt_eq_ld, harg5.read_unread, harg6.read_unread, harg7.read_unread, harg8.read_unread, harg14.read_unread, whole2, whole4, whole5, bxp6, bxq6, fold65]
    exact act_piece x2 x3 x4 x5 _ 1536 1543 1542 rfl rfl _ _ _ _
  · simp only [View.readAt_eq_ld, harg5.read_unread, harg6.read_unread, harg7.read_unread, harg8.read_unread, harg14.read_unread, whole2, whole4, whole5, bxp5, bxq5, fold62]
    exact act_piece x2 x3 x4 x5 _ 1280 1287 1286 rfl rfl _ _ _ _
  · simp only [View.readAt_eq_ld, harg5.read_unread, harg6.read_unread, harg7.read_unread, harg8.read_unread, harg14.read_unread, whole2, whole4, whole5, bxp4, bxq4, fold59]
    exact act_piece x2 x3 x4 x5 _ 1024 1031 1030 rfl rfl _ _ _ _
  · simp only [View.readAt_eq_ld, harg5.read_unread, harg6.read_unread, harg7.read_unread, harg8.read_unread, harg14.read_unread, whole2, whole4, whole5, bxp3, bxq3, fold56]
    exact act_piece x2 x3 x4 x5 _ 768 775 774 rfl rfl _ _ _ _
  · simp only [View.readAt_eq_ld, harg5.read_unread, harg6.read_unread, harg7.read_unread, harg8.read_unread, harg14.read_unread, whole2, whole4, whole5, bxp2, bxq2, fold53]
    exact act_piece x2 x3 x4 x5 _ 512 519 518 rfl rfl _ _ _ _
  · simp only [View.readAt_eq_ld, harg5.read_unread, harg6.read_unread, harg7.read_unread, harg8.read_unread, harg14.read_unread, whole2, whole4, whole5, bxp1, bxq1, fold50]
    exact act_piece x2 x3 x4 x5 _ 256 263 262 rfl rfl _ _ _ _
  · simp only [View.readAt_eq_ld, harg5.read_unread, harg6.read_unread, harg7.read_unread, harg8.read_unread, harg14.read_unread, whole2, whole4, whole5, first_read hz 7 (by decide), first_read hz 6 (by decide), fold47]
    exact act_piece x2 x3 x4 x5 _ 0 7 6 rfl rfl _ _ _ _

theorem outB7 (hz : ∀ y : S2056x512.Idx, (y 0).val < 8 → xs1 y = 0) : out0_B_7 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 fh0 = actN xs0 x2 x3 x4 x5 := agree_write _ _ _ (ag7_B hz) (cover0_B_7 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 fh0)

theorem outB8 : out0_B_8 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 fh0 = sactN xs0 x2 x3 x4 x5 x6 := by
  refine (whole_write (S := S1x32x512) VO0_8 ![0, 0, 0] inb_S1x32x512_S1x32x512_0_0_0 (by decide) _ _).trans ?_
  simp only [kernelRun0_B.sl.r_3, kernelRun0_B.sl.r_4, kernelRun0_B.sl.r_5, kernelRun0_B.sl.r, kernelRun0_B.sl.r_1, kernelRun0_B.sl.cst_146, View.readAt_eq_ld, harg5.read_unread, harg6.read_unread, harg7.read_unread, harg8.read_unread, harg9.read_unread, harg14.read_unread, whole2, whole4, whole5, fold66, fold5]
  exact sact_piece x2 x3 x4 x5 x6 _ _ _ _

theorem outB9 : out0_B_9 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 fh0 = lastN xs0 x2 := by
  refine (whole_write (S := S1x8x512) VO0_9 ![0, 0, 0] inb_S1x8x512_S1x8x512_0_0_0 (by decide) _ _).trans ?_
  simp only [kernelRun0_B.sl.r, View.readAt_eq_ld, harg5.read_unread, harg14.read_unread, whole2, fold66, fold70]
  exact last_piece x2 _ _

theorem outB10 : out0_B_10 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 fh0 = sgateN xs0 x2 := by
  refine (whole_write (S := S1x32x512) VO0_10 ![0, 0, 0] inb_S1x32x512_S1x32x512_0_0_0 (by decide) _ _).trans ?_
  simp only [kernelRun0_B.sl.r, View.readAt_eq_ld, harg5.read_unread, harg14.read_unread, whole2, fold66, fold71]
  exact sgate_piece x2 _ _

theorem ab1 : Above (kernelRun0_B.sl.HS1_1 c arg5 harg5 arg14 harg14 x2 xs0) := .cons (fun y h => below_rows 8 256 inb_S2056x512_S256x512_8_0 y (lt_of_lt_of_le h (by decide))) .nil
theorem ab2 : Above (kernelRun0_B.sl.HS1_2 c arg5 harg5 arg14 harg14 x2 xs0) := .cons (fun y h => below_rows 264 256 inb_S2056x512_S256x512_264_0 y (lt_of_lt_of_le h (by decide))) ab1
theorem ab3 : Above (kernelRun0_B.sl.HS1_3 c arg5 harg5 arg14 harg14 x2 xs0) := .cons (fun y h => below_rows 520 256 inb_S2056x512_S256x512_520_0 y (lt_of_lt_of_le h (by decide))) ab2
theorem ab4 : Above (kernelRun0_B.sl.HS1_4 c arg5 harg5 arg14 harg14 x2 xs0) := .cons (fun y h => below_rows 776 256 inb_S2056x512_S256x512_776_0 y (lt_of_lt_of_le h (by decide))) ab3
theorem ab5 : Above (kernelRun0_B.sl.HS1_5 c arg5 harg5 arg14 harg14 x2 xs0) := .cons (fun y h => below_rows 1032 256 inb_S2056x512_S256x512_1032_0 y (lt_of_lt_of_le h (by decide))) ab4
theorem ab6 : Above (kernelRun0_B.sl.HS1_6 c arg5 harg5 arg14 harg14 x2 xs0) := .cons (fun y h => below_rows 1288 256 inb_S2056x512_S256x512_1288_0 y (lt_of_lt_of_le h (by decide))) ab5
theorem ab7 : Above (kernelRun0_B.sl.HS1_7 c arg5 harg5 arg14 harg14 x2 xs0) := .cons (fun y h => below_rows 1544 256 inb_S2056x512_S256x512_1544_0 y (lt_of_lt_of_le h (by decide))) ab6
theorem ab8 : Above (kernelRun0_B.sl.HS1_8 c arg5 harg5 arg14 harg14 x2 xs0) := .cons (fun y h => below_rows 1800 256 inb_S2056x512_S256x512_1800_0 y (lt_of_lt_of_le h (by decide))) ab7

theorem scrB1 (y : S2056x512.Idx) (h : (y 0).val < 8) : sout0_B_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 fh0 y = xs1 y := by
  exact kept_low y h (kernelRun0_B.sl.HS1_8 c arg5 harg5 arg14 harg14 x2 xs0) fun p hp => ab8 p hp y h
end

end Cert.FfnIdeal.Own

end
-- ==== Proof.FfnSpec.lean ====
module

public import proofs.«01_k».proof.Proof.FfnPay

@[expose] public section

/-! What the feed-forward call computes, element by element, from the arrays it is given. -/

noncomputable section

namespace Cert.FfnIdeal.Own

open Cert.FfnIdeal Cert.FfnIdeal.Gen
open Idealize.ShloMosaic Idealize.ShloMosaic.TcCoe Idealize.ShloMosaic.Tactic

/-- A row of the prompt under a sequence and a position. -/
def rowR (b : Fin 4) (s : Fin 2048) : Fin 8192 := ⟨b.val * 2048 + s.val, by omega⟩
/-- The gate's column of the weights. -/
def lo (C : Fin 6144) : Fin 12288 := ⟨C.val, by omega⟩
/-- The other half's column. -/
def hi (C : Fin 6144) : Fin 12288 := ⟨6144 + C.val, by omega⟩

/-- The prompt's normalized rows. -/
def hpN (x : FVec Ideal S8192x2048 .f32) (g : FVec Ideal S2048 .f32) (R : Fin 8192) (k : Fin 2048) : EReal := unitN (fun k => x (ix2 R k)) (g (ix1 k)) k
/-- The sample's normalized rows. -/
def hsN (xs : FVec Ideal S4x32x2048 .f32) (g : FVec Ideal S2048 .f32) (r : Fin 32) (k : Fin 2048) : EReal := unitN (fun k => xs (ix3 0 r k)) (g (ix1 k)) k

/-- The prompt's product with the weights. -/
def gpN (x : FVec Ideal S8192x2048 .f32) (g : FVec Ideal S2048 .f32) (W : FVec Ideal S4x2048x12288 .f32) (R : Fin 8192) (C : Fin 12288) : EReal :=
  ∑ k : Fin 2048, hpN x g R k * W (ix3 0 k C)
/-- The sample's product with the weights. -/
def gsN (xs : FVec Ideal S4x32x2048 .f32) (g : FVec Ideal S2048 .f32) (W : FVec Ideal S4x2048x12288 .f32) (r : Fin 32) (C : Fin 12288) : EReal :=
  ∑ k : Fin 2048, hsN xs g r k * W (ix3 0 k C)

/-- The gate some positions earlier in the sequence, and zero before its start. -/
def backN (x : FVec Ideal S8192x2048 .f32) (g : FVec Ideal S2048 .f32) (W : FVec Ideal S4x2048x12288 .f32) (b : Fin 4) (s : Fin 2048) (C : Fin 12288) (d : ℕ) : EReal :=
  if h : s.val < d then 0 else gpN x g W (rowR b ⟨s.val - d, by omega⟩) C

/-- The prompt's activations. -/
def actP (x : FVec Ideal S8192x2048 .f32) (g : FVec Ideal S2048 .f32) (W : FVec Ideal S4x2048x12288 .f32) (w : FVec Ideal S4x3x6144 .f32) (v : FVec Ideal S4x6144 .f32)
    (b : Fin 4) (s : Fin 2048) (C : Fin 6144) : EReal :=
  geluN (convN (v (ix2 0 C)) (gpN x g W (rowR b s) (lo C)) (w (ix3 0 2 C)) (backN x g W b s (lo C) 2) (w (ix3 0 0 C)) (backN x g W b s (lo C) 1) (w (ix3 0 1 C)))
    * gpN x g W (rowR b s) (hi C)

/-- The sample's activations. -/
def actS (xs : FVec Ideal S4x32x2048 .f32) (g : FVec Ideal S2048 .f32) (W : FVec Ideal S4x2048x12288 .f32) (w : FVec Ideal S4x3x6144 .f32) (v : FVec Ideal S4x6144 .f32)
    (p : FVec Ideal S2x32x6144 .f32) (r : Fin 32) (C : Fin 6144) : EReal :=
  geluN (convN (v (ix2 0 C)) (gsN xs g W r (lo C)) (w (ix3 0 2 C)) (p (ix3 0 r C)) (w (ix3 0 0 C)) (p (ix3 1 r C)) (w (ix3 0 1 C))) * gsN xs g W r (hi C)

end Cert.FfnIdeal.Own

end
-- ==== Proof.FfnValue.lean ====
module

public import proofs.«01_k».proof.Proof.FfnOut
public import proofs.«01_k».proof.Proof.FfnSpec
public import Idealize.ShloMosaic.Lib.Pipeline.Value
public import Idealize.ShloMosaic.Lib.Pipeline.ValueKit
public import Idealize.ShloMosaic.Lib.Claim
public import Idealize.ShloMosaic.Lib.StableHlo.ReadAt

@[expose] public section

set_option maxRecDepth 16384

/-! The feed-forward call's four arrays, from what every point writes back. -/

noncomputable section

namespace Cert.FfnIdeal.Own

open Cert.FfnIdeal Cert.FfnIdeal.Gen
open Idealize.ShloMosaic Idealize.ShloMosaic.TcCoe Idealize.ShloMosaic.Tactic Idealize.SL.Sem
open Idealize.ShloMosaic.Pipeline (Dat)

section
variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the run's contents for that window after the body (`outsAt0`: its component 0), read through the window's block. -/
theorem flushed7 (c : Dev nD) (t : Fin cfg0.N) :
    (dats m 0 c).flushed 7 t = (cfg0.win 7).cut (grid0.coords t) ((outsAt0 m c t.val t.isLt).1) := by
  show (cfg0.win 7).cut (grid0.coords t) ((dats m 0 c).after 7 t) = _
  rw [after0_7]

/-- WHAT POINT `t` WRITES BACK to output window 8's array: the run's contents for that window after the body (`outsAt0`: its component 1), read through the window's block. -/
theorem flushed8 (c : Dev nD) (t : Fin cfg0.N) :
    (dats m 0 c).flushed 8 t = (cfg0.win 8).cut (grid0.coords t) ((outsAt0 m c t.val t.isLt).2.1) := by
  show (cfg0.win 8).cut (grid0.coords t) ((dats m 0 c).after 8 t) = _
  rw [after0_8]

/-- WHAT POINT `t` WRITES BACK to output window 9's array: the run's contents for that window after the body (`outsAt0`: its component 2), read through the window's block. -/
theorem flushed9 (c : Dev nD) (t : Fin cfg0.N) :
    (dats m 0 c).flushed 9 t = (cfg0.win 9).cut (grid0.coords t) ((outsAt0 m c t.val t.isLt).2.2.1) := by
  show (cfg0.win 9).cut (grid0.coords t) ((dats m 0 c).after 9 t) = _
  rw [after0_9]

/-- WHAT POINT `t` WRITES BACK to output window 10's array: the run's contents for that window after the body (`outsAt0`: its component 3), read through the window's block. -/
theorem flushed10 (c : Dev nD) (t : Fin cfg0.N) :
    (dats m 0 c).flushed 10 t = (cfg0.win 10).cut (grid0.coords t) ((outsAt0 m c t.val t.isLt).2.2.2.1) := by
  show (cfg0.win 10).cut (grid0.coords t) ((dats m 0 c).after 10 t) = _
  rw [after0_10]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v2_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v2_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v2_2) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v2_3) = (dats m 0 c).arrAt 10 cfg0.N :=
  (h c).1 10

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 0 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 0).trans (((dats m 0 c).arrAt_in 0 rfl _).trans ((A_eq m c 0).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- The frame run with each output array after the run NAMED — `(dats m 0 c).arrAt w N`, as `dats` has it —,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 7 cfg0.N
      ∧ r.2.mem ((c : Thread nD τ).loc main_v2_1) = (dats m 0 c).arrAt 8 cfg0.N
      ∧ r.2.mem ((c : Thread nD τ).loc main_v2_2) = (dats m 0 c).arrAt 9 cfg0.N
      ∧ r.2.mem ((c : Thread nD τ).loc main_v2_3) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      post9 m r h c,
      post10 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end

/-! ## What every point leaves -/

variable (m : (ℓ : Loc nD τ sig) → Buf (Elt Ideal) ℓ)

theorem c0_lt (t : Fin cfg0.N) : (grid0.coords t 0).val < 4 := (grid0.coords t 0).isLt
theorem c1_lt (t : Fin cfg0.N) : (grid0.coords t 1).val < 12 := (grid0.coords t 1).isLt

theorem idx0 : ∀ t : Fin cfg0.N, win0_0.index t = ![0, 0, 0] := (by decide +kernel : ∀ t : Fin grid0.N, win0_0.index t = ![0, 0, 0])
theorem idx1 : ∀ t : Fin cfg0.N, win0_1.index t = ![0, 0] := (by decide +kernel : ∀ t : Fin grid0.N, win0_1.index t = ![0, 0])
theorem idx2 : ∀ t : Fin cfg0.N, win0_2.index t = ![0, 0, (grid0.coords t 1).val] := (by decide +kernel : ∀ t : Fin grid0.N, win0_2.index t = ![0, 0, (grid0.coords t 1).val])
theorem idx3 : ∀ t : Fin cfg0.N, win0_3.index t = ![0, 0, 12 + (grid0.coords t 1).val] := (by decide +kernel : ∀ t : Fin grid0.N, win0_3.index t = ![0, 0, 12 + (grid0.coords t 1).val])
theorem idx4 : ∀ t : Fin cfg0.N, win0_4.index t = ![0, 0, (grid0.coords t 1).val] := (by decide +kernel : ∀ t : Fin grid0.N, win0_4.index t = ![0, 0, (grid0.coords t 1).val])
theorem idx5 : ∀ t : Fin cfg0.N, win0_5.index t = ![0, 0, (grid0.coords t 1).val] := (by decide +kernel : ∀ t : Fin grid0.N, win0_5.index t = ![0, 0, (grid0.coords t 1).val])
theorem idx6 : ∀ t : Fin cfg0.N, win0_6.index t = ![0, 0, (grid0.coords t 1).val] := (by decide +kernel : ∀ t : Fin grid0.N, win0_6.index t = ![0, 0, (grid0.coords t 1).val])
theorem idx7 : ∀ t : Fin cfg0.N, win0_7.index t = ![(grid0.coords t 0).val, (grid0.coords t 1).val] := (by decide +kernel : ∀ t : Fin grid0.N, win0_7.index t = ![(grid0.coords t 0).val, (grid0.coords t 1).val])
theorem idx8 : ∀ t : Fin cfg0.N, win0_8.index t = ![(grid0.coords t 0).val, 0, (grid0.coords t 1).val] := (by decide +kernel : ∀ t : Fin grid0.N, win0_8.index t = ![(grid0.coords t 0).val, 0, (grid0.coords t 1).val])
theorem idx9 : ∀ t : Fin cfg0.N, win0_9.index t = ![(grid0.coords t 0).val, 0, (grid0.coords t 1).val] := (by decide +kernel : ∀ t : Fin grid0.N, win0_9.index t = ![(grid0.coords t 0).val, 0, (grid0.coords t 1).val])
theorem idx10 : ∀ t : Fin cfg0.N, win0_10.index t = ![(grid0.coords t 0).val, 0, (grid0.coords t 1).val] := (by decide +kernel : ∀ t : Fin grid0.N, win0_10.index t = ![(grid0.coords t 0).val, 0, (grid0.coords t 1).val])

/-- A column of an array under a block's column. -/
def col (t : Fin cfg0.N) (l : Fin 512) : Fin 6144 := ⟨512 * (grid0.coords t 1).val + l.val, by have := c1_lt t; omega⟩
/-- The sequence a point works on. -/
def seq (t : Fin cfg0.N) : Fin 4 := ⟨(grid0.coords t 0).val, c0_lt t⟩

theorem blk0 (c : Dev nD) (t : Fin cfg0.N) (r : Fin 32) (k : Fin 2048) :
    iblk m c 0 t (ix3 0 r k) = (m ((c : Thread nD τ).loc main_arg1) : FVec Ideal S4x32x2048 .f32) (ix3 0 r k) := by
  refine Eq.trans ?_ (congrFun (V_main_arg1 m c) _)
  unfold iblk
  show V m c main_arg1 _ = V m c main_arg1 _
  congr 1
  blk_ext [idx0 t]

theorem gain_at (c : Dev nD) (k : Fin 2048) :
    (V m c main_v0 : FVec Ideal S1x2048 .f32) (ix2 0 k) = (m ((c : Thread nD τ).loc main_arg2) : FVec Ideal S2048 .f32) (ix1 k) := by
  unfold V
  after_reads_at

theorem blk1 (c : Dev nD) (t : Fin cfg0.N) (k : Fin 2048) :
    iblk m c 1 t (ix2 0 k) = (m ((c : Thread nD τ).loc main_arg2) : FVec Ideal S2048 .f32) (ix1 k) := by
  refine Eq.trans ?_ (gain_at m c k)
  unfold iblk
  show V m c main_v0 _ = V m c main_v0 _
  congr 1
  blk_ext [idx1 t]

theorem blk2 (c : Dev nD) (t : Fin cfg0.N) (k : Fin 2048) (l : Fin 512) :
    iblk m c 2 t (ix3 0 k l) = (m ((c : Thread nD τ).loc main_arg3) : FVec Ideal S4x2048x12288 .f32) (ix3 0 k (lo (col t l))) := by
  refine Eq.trans ?_ (congrFun (V_main_arg3 m c) _)
  unfold iblk lo col
  show V m c main_arg3 _ = V m c main_arg3 _
  congr 1
  blk_ext [idx2 t]

theorem blk3 (c : Dev nD) (t : Fin cfg0.N) (k : Fin 2048) (l : Fin 512) :
    iblk m c 3 t (ix3 0 k l) = (m ((c : Thread nD τ).loc main_arg3) : FVec Ideal S4x2048x12288 .f32) (ix3 0 k (hi (col t l))) := by
  refine Eq.trans ?_ (congrFun (V_main_arg3 m c) _)
  unfold iblk hi col
  show V m c main_arg3 _ = V m c main_arg3 _
  congr 1
  blk_ext [idx3 t]

theorem blk4 (c : Dev nD) (t : Fin cfg0.N) (j : Fin 3) (l : Fin 512) :
    iblk m c 4 t (ix3 0 j l) = (m ((c : Thread nD τ).loc main_arg4) : FVec Ideal S4x3x6144 .f32) (ix3 0 j (col t l)) := by
  refine Eq.trans ?_ (congrFun (V_main_arg4 m c) _)
  unfold iblk col
  show V m c main_arg4 _ = V m c main_arg4 _
  congr 1
  blk_ext [idx4 t]

theorem shift_at (c : Dev nD) (C : Fin 6144) :
    (V m c main_v1 : FVec Ideal S4x1x6144 .f32) (ix3 0 0 C) = (m ((c : Thread nD τ).loc main_arg5) : FVec Ideal S4x6144 .f32) (ix2 0 C) := by
  unfold V
  after_reads_at

theorem blk5 (c : Dev nD) (t : Fin cfg0.N) (l : Fin 512) :
    iblk m c 5 t (ix3 0 0 l) = (m ((c : Thread nD τ).loc main_arg5) : FVec Ideal S4x6144 .f32) (ix2 0 (col t l)) := by
  refine Eq.trans ?_ (shift_at m c (col t l))
  unfold iblk col
  show V m c main_v1 _ = V m c main_v1 _
  congr 1
  blk_ext [idx5 t]

theorem blk6 (c : Dev nD) (t : Fin cfg0.N) (j : Fin 2) (r : Fin 32) (l : Fin 512) :
    iblk m c 6 t (ix3 j r l) = (m ((c : Thread nD τ).loc main_arg6) : FVec Ideal S2x32x6144 .f32) (ix3 j r (col t l)) := by
  refine Eq.trans ?_ (congrFun (V_main_arg6 m c) _)
  unfold iblk col
  show V m c main_arg6 _ = V m c main_arg6 _
  congr 1
  blk_ext [idx6 t]

/-- The normalized rows a point works on: the prompt's of its sequence, then the sample's. -/
def hT (c : Dev nD) (t : Fin cfg0.N) : Vec Ideal S2080x2048 .bf16 := hnN (grid0.coords t) (iblk m c 0 t) (iblk m c 1 t) (V m c main_arg0)

theorem hT_low (c : Dev nD) (t : Fin cfg0.N) (s : Fin 2048) (k : Fin 2048) :
    hT m c t (ix2 ⟨s.val, by omega⟩ k) = hpN (m ((c : Thread nD τ).loc main_arg0)) (m ((c : Thread nD τ).loc main_arg2)) (rowR (seq t) s) k := by
  refine (dif_pos s.isLt).trans ?_
  unfold hpN
  have e : ∀ u, (V m c main_arg0 : FVec Ideal S8192x2048 .f32) (ix2 ⟨2048 * (grid0.coords t 0).val + s.val, by have := c0_lt t; omega⟩ u)
      = (m ((c : Thread nD τ).loc main_arg0) : FVec Ideal S8192x2048 .f32) (ix2 (rowR (seq t) s) u) := fun u => by
    rw [V_main_arg0]
    exact congrArg (fun R => (m ((c : Thread nD τ).loc main_arg0) : FVec Ideal S8192x2048 .f32) (ix2 R u)) (Fin.ext (by show 2048 * (grid0.coords t 0).val + s.val = (grid0.coords t 0).val * 2048 + s.val; omega))
  exact congrArg₂ (fun u g => unitN u g k) (funext e) (blk1 m c t k)

theorem hT_samp (c : Dev nD) (t : Fin cfg0.N) (r : Fin 32) (k : Fin 2048) :
    hT m c t (ix2 ⟨2048 + r.val, by omega⟩ k) = hsN (m ((c : Thread nD τ).loc main_arg1)) (m ((c : Thread nD τ).loc main_arg2)) r k := by
  refine (dif_neg (show ¬ 2048 + r.val < 2048 by omega)).trans ?_
  unfold hsN
  have e : (⟨2048 + r.val - 2048, by omega⟩ : Fin 32) = r := Fin.ext (by show 2048 + r.val - 2048 = r.val; omega)
  refine congrArg₂ (fun u g => unitN u g k) (funext fun u => ?_) (blk1 m c t k)
  exact (congrArg (fun q => iblk m c 0 t (ix3 0 q u)) e).trans (blk0 m c t r u)

theorem hT_eq (c : Dev nD) (t t' : Fin cfg0.N) (h : grid0.coords t 0 = grid0.coords t' 0) : hT m c t = hT m c t' := by
  funext y
  obtain ⟨a, k, rfl⟩ : ∃ (a : Fin 2080) (k : Fin 2048), y = ix2 a k := ⟨y 0, y 1, (ix2_eta y).symm⟩
  have hs : seq t = seq t' := Fin.ext (congrArg Fin.val h)
  by_cases ha : a.val < 2048
  · refine (hT_low m c t ⟨a.val, ha⟩ k).trans (Eq.trans ?_ (hT_low m c t' ⟨a.val, ha⟩ k).symm)
    rw [hs]
  · have e : a = ⟨2048 + (a.val - 2048), by omega⟩ := Fin.ext (by show a.val = 2048 + (a.val - 2048); omega)
    rw [e]
    exact (hT_samp m c t ⟨a.val - 2048, by omega⟩ k).trans (hT_samp m c t' ⟨a.val - 2048, by omega⟩ k).symm

theorem same_seq : ∀ (n : ℕ) (hn : n + 1 < cfg0.N), 1 ≤ (n + 1) % 12 → grid0.coords ⟨n, Nat.lt_of_succ_lt hn⟩ 0 = grid0.coords ⟨n + 1, hn⟩ 0 := by
  have h : ∀ t : Fin 47, 1 ≤ (t.val + 1) % 12 → grid0.coords ⟨t.val, by show t.val < 48; omega⟩ 0 = grid0.coords ⟨t.val + 1, by show t.val + 1 < 48; omega⟩ 0 := by decide +kernel
  intro n hn h1
  have hN : n + 1 < 48 := lt_of_lt_of_eq hn (show cfg0.N = 48 from N_0)
  exact h ⟨n, by omega⟩ h1

theorem case_B (t : Fin cfg0.N) (h0 : ¬ t.val % 12 = 0) : 1 ≤ t.val % 12 := by omega
theorem case_A (t : Fin cfg0.N) (h0 : t.val % 12 = 0) : ¬ 1 ≤ t.val % 12 := by omega

theorem scr_A0 (c : Dev nD) (t : Fin cfg0.N) (h0 : t.val % 12 = 0) : (outsAt0 m c t.val t.isLt).2.2.2.2.1 = hT m c t := by
  rw [outsAt0_A m c t h0 (case_A t h0)]
  dsimp only
  exact scrA0

theorem scr_A1 (c : Dev nD) (t : Fin cfg0.N) (h0 : t.val % 12 = 0) (y : S2056x512.Idx) (hy : (y 0).val < 8) : (outsAt0 m c t.val t.isLt).2.2.2.2.2 y = 0 := by
  rw [outsAt0_A m c t h0 (case_A t h0)]
  dsimp only
  rw [scrA1]
  exact extN_low _ _ y hy

theorem scr_B0 (c : Dev nD) (t : Fin cfg0.N) (h0 : ¬ t.val % 12 = 0) :
    (outsAt0 m c t.val t.isLt).2.2.2.2.1 = (outsAt0 m c (t.val - 1) (Nat.lt_of_le_of_lt (Nat.sub_le _ _) t.isLt)).2.2.2.2.1 := by
  rw [outsAt0_B m c t h0 (case_B t h0)]
  rfl

theorem scr_B1 (c : Dev nD) (t : Fin cfg0.N) (h0 : ¬ t.val % 12 = 0) (y : S2056x512.Idx) (hy : (y 0).val < 8) :
    (outsAt0 m c t.val t.isLt).2.2.2.2.2 y = (outsAt0 m c (t.val - 1) (Nat.lt_of_le_of_lt (Nat.sub_le _ _) t.isLt)).2.2.2.2.2 y := by
  rw [outsAt0_B m c t h0 (case_B t h0)]
  dsimp only
  exact scrB1 y hy

/-- After every point the first scratch holds the rows of its sequence, and the second's first eight rows are zero. -/
theorem scr (c : Dev nD) : ∀ (n : ℕ) (hn : n < cfg0.N),
    (outsAt0 m c n hn).2.2.2.2.1 = hT m c ⟨n, hn⟩ ∧ ∀ y : S2056x512.Idx, (y 0).val < 8 → (outsAt0 m c n hn).2.2.2.2.2 y = 0
  | 0, hn => ⟨scr_A0 m c ⟨0, hn⟩ (Nat.zero_mod _), fun y hy => scr_A1 m c ⟨0, hn⟩ (Nat.zero_mod _) y hy⟩
  | n + 1, hn => by
    by_cases h0 : (n + 1) % 12 = 0
    · exact ⟨scr_A0 m c ⟨n + 1, hn⟩ h0, fun y hy => scr_A1 m c ⟨n + 1, hn⟩ h0 y hy⟩
    · have h1 : 1 ≤ (n + 1) % 12 := by omega
      have ih := scr c n (Nat.lt_of_succ_lt hn)
      exact ⟨(scr_B0 m c ⟨n + 1, hn⟩ h0).trans (ih.1.trans (hT_eq m c _ _ (same_seq n hn h1))), fun y hy => (scr_B1 m c ⟨n + 1, hn⟩ h0 y hy).trans (ih.2 y hy)⟩

/-- Before a point that is not a sequence's first. -/
theorem scr_pred (c : Dev nD) (t : Fin cfg0.N) (h1 : 1 ≤ t.val % 12) :
    (outsAt0 m c (t.val - 1) (Nat.lt_of_le_of_lt (Nat.sub_le _ _) t.isLt)).2.2.2.2.1 = hT m c t
    ∧ ∀ y : S2056x512.Idx, (y 0).val < 8 → (outsAt0 m c (t.val - 1) (Nat.lt_of_le_of_lt (Nat.sub_le _ _) t.isLt)).2.2.2.2.2 y = 0 := by
  obtain ⟨n, hn⟩ := t
  cases n with
  | zero => exact absurd h1 (by show ¬ 1 ≤ 0 % 12; decide)
  | succ n =>
    have ih := scr m c n (Nat.lt_of_succ_lt hn)
    exact ⟨ih.1.trans (hT_eq m c _ _ (same_seq n hn h1)), ih.2⟩

theorem left7 (c : Dev nD) (t : Fin cfg0.N) :
    (outsAt0 m c t.val t.isLt).1 = actN (hT m c t) (iblk m c 2 t) (iblk m c 3 t) (iblk m c 4 t) (iblk m c 5 t) := by
  by_cases h0 : t.val % 12 = 0
  · rw [outsAt0_A m c t h0 (case_A t h0)]
    dsimp only
    exact outA7
  · have hs := scr_pred m c t (case_B t h0)
    rw [outsAt0_B m c t h0 (case_B t h0)]
    dsimp only
    rw [outB7 hs.2, hs.1]

theorem left8 (c : Dev nD) (t : Fin cfg0.N) :
    (outsAt0 m c t.val t.isLt).2.1 = sactN (hT m c t) (iblk m c 2 t) (iblk m c 3 t) (iblk m c 4 t) (iblk m c 5 t) (iblk m c 6 t) := by
  by_cases h0 : t.val % 12 = 0
  · rw [outsAt0_A m c t h0 (case_A t h0)]
    dsimp only
    exact outA8
  · have hs := scr_pred m c t (case_B t h0)
    rw [outsAt0_B m c t h0 (case_B t h0)]
    dsimp only
    rw [outB8, hs.1]

theorem left9 (c : Dev nD) (t : Fin cfg0.N) : (outsAt0 m c t.val t.isLt).2.2.1 = lastN (hT m c t) (iblk m c 2 t) := by
  by_cases h0 : t.val % 12 = 0
  · rw [outsAt0_A m c t h0 (case_A t h0)]
    dsimp only
    exact outA9
  · have hs := scr_pred m c t (case_B t h0)
    rw [outsAt0_B m c t h0 (case_B t h0)]
    dsimp only
    rw [outB9, hs.1]

theorem left10 (c : Dev nD) (t : Fin cfg0.N) : (outsAt0 m c t.val t.isLt).2.2.2.1 = sgateN (hT m c t) (iblk m c 2 t) := by
  by_cases h0 : t.val % 12 = 0
  · rw [outsAt0_A m c t h0 (case_A t h0)]
    dsimp only
    exact outA10
  · have hs := scr_pred m c t (case_B t h0)
    rw [outsAt0_B m c t h0 (case_B t h0)]
    dsimp only
    rw [outB10, hs.1]

/-! ## The blocks' elements from the arrays -/

theorem gate_low (c : Dev nD) (t : Fin cfg0.N) (s : Fin 2048) (l : Fin 512) : gateN (hT m c t) (iblk m c 2 t) ⟨s.val, by omega⟩ l
    = gpN (m ((c : Thread nD τ).loc main_arg0)) (m ((c : Thread nD τ).loc main_arg2)) (m ((c : Thread nD τ).loc main_arg3)) (rowR (seq t) s) (lo (col t l)) :=
  Finset.sum_congr rfl fun k _ => congrArg₂ (· * ·) (hT_low m c t s k) (blk2 m c t k l)

theorem up_low (c : Dev nD) (t : Fin cfg0.N) (s : Fin 2048) (l : Fin 512) : gateN (hT m c t) (iblk m c 3 t) ⟨s.val, by omega⟩ l
    = gpN (m ((c : Thread nD τ).loc main_arg0)) (m ((c : Thread nD τ).loc main_arg2)) (m ((c : Thread nD τ).loc main_arg3)) (rowR (seq t) s) (hi (col t l)) :=
  Finset.sum_congr rfl fun k _ => congrArg₂ (· * ·) (hT_low m c t s k) (blk3 m c t k l)

theorem gate_samp (c : Dev nD) (t : Fin cfg0.N) (r : Fin 32) (l : Fin 512) : gateN (hT m c t) (iblk m c 2 t) ⟨2048 + r.val, by omega⟩ l
    = gsN (m ((c : Thread nD τ).loc main_arg1)) (m ((c : Thread nD τ).loc main_arg2)) (m ((c : Thread nD τ).loc main_arg3)) r (lo (col t l)) :=
  Finset.sum_congr rfl fun k _ => congrArg₂ (· * ·) (hT_samp m c t r k) (blk2 m c t k l)

theorem up_samp (c : Dev nD) (t : Fin cfg0.N) (r : Fin 32) (l : Fin 512) : gateN (hT m c t) (iblk m c 3 t) ⟨2048 + r.val, by omega⟩ l
    = gsN (m ((c : Thread nD τ).loc main_arg1)) (m ((c : Thread nD τ).loc main_arg2)) (m ((c : Thread nD τ).loc main_arg3)) r (hi (col t l)) :=
  Finset.sum_congr rfl fun k _ => congrArg₂ (· * ·) (hT_samp m c t r k) (blk3 m c t k l)

/-- A row some positions earlier, as the extended rows hold it. -/
theorem back_low (c : Dev nD) (t : Fin cfg0.N) (s : Fin 2048) (l : Fin 512) (d : ℕ) (hd : d ≤ 8) (q : Fin 2056) (hq : q.val = s.val + (8 - d)) :
    extN (hT m c t) (iblk m c 2 t) (ix2 q l)
      = backN (m ((c : Thread nD τ).loc main_arg0)) (m ((c : Thread nD τ).loc main_arg2)) (m ((c : Thread nD τ).loc main_arg3)) (seq t) s (lo (col t l)) d := by
  unfold backN
  by_cases h : s.val < d
  · rw [dif_pos h]
    exact extN_low _ _ _ (show q.val < 8 by omega)
  · rw [dif_neg h]
    exact (extN_row _ _ ⟨s.val - d, by omega⟩ q l (by show q.val = s.val - d + 8; omega)).trans (gate_low m c t ⟨s.val - d, by omega⟩ l)

theorem convN_congr {b b' g g' w2 w2' p2 p2' w0 w0' p1 p1' w1 w1' : EReal} (h1 : b = b') (h2 : g = g') (h3 : w2 = w2') (h4 : p2 = p2') (h5 : w0 = w0') (h6 : p1 = p1') (h7 : w1 = w1') :
    convN b g w2 p2 w0 p1 w1 = convN b' g' w2' p2' w0' p1' w1' := by
  subst h1 h2 h3 h4 h5 h6 h7
  rfl

theorem act_at (c : Dev nD) (t : Fin cfg0.N) (s : Fin 2048) (l : Fin 512) :
    actN (hT m c t) (iblk m c 2 t) (iblk m c 3 t) (iblk m c 4 t) (iblk m c 5 t) (ix2 s l)
      = actP (m ((c : Thread nD τ).loc main_arg0)) (m ((c : Thread nD τ).loc main_arg2)) (m ((c : Thread nD τ).loc main_arg3)) (m ((c : Thread nD τ).loc main_arg4))
        (m ((c : Thread nD τ).loc main_arg5)) (seq t) s (col t l) := by
  have e := convN_congr (blk5 m c t l) (gate_low m c t s l) (blk4 m c t 2 l) (back_low m c t s l 2 (by decide) ⟨s.val + 6, by omega⟩ rfl) (blk4 m c t 0 l)
    (back_low m c t s l 1 (by decide) ⟨s.val + 7, by omega⟩ rfl) (blk4 m c t 1 l)
  exact congrArg₂ (fun a b => geluN a * b) e (up_low m c t s l)

theorem sact_at (c : Dev nD) (t : Fin cfg0.N) (r : Fin 32) (l : Fin 512) :
    sactN (hT m c t) (iblk m c 2 t) (iblk m c 3 t) (iblk m c 4 t) (iblk m c 5 t) (iblk m c 6 t) (ix3 0 r l)
      = actS (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) r (col t l) := by
  have e := convN_congr (blk5 m c t l) (gate_samp m c t r l) (blk4 m c t 2 l) (blk6 m c t 0 r l) (blk4 m c t 0 l) (blk6 m c t 1 r l) (blk4 m c t 1 l)
  exact congrArg₂ (fun a b => geluN a * b) e (up_samp m c t r l)

end Cert.FfnIdeal.Own

end
-- ==== Proof.FfnRef.lean ====
module

public import proofs.«01_k».proof.Proof.FfnSpec
public import proofs.«01_k».proof.Proof.Gen.FfnReferenceIdeal.Read
public import Idealize.ShloMosaic.Lib.StableHlo.ReadAt

@[expose] public section

set_option maxRecDepth 16384

/-! The reference's four results, element by element. -/

noncomputable section

namespace Cert.FfnIdeal.Own

open Cert.FfnIdeal Cert.FfnReferenceIdeal.Read
open Idealize.ShloMosaic Idealize.ShloMosaic.TcCoe Idealize.ShloMosaic.Tactic

variable (x : FVec Ideal S8192x2048 .f32) (xs : FVec Ideal S4x32x2048 .f32) (g : FVec Ideal S2048 .f32) (W : FVec Ideal S4x2048x12288 .f32)
  (w : FVec Ideal S4x3x6144 .f32) (v : FVec Ideal S4x6144 .f32) (p : FVec Ideal S2x32x6144 .f32)

theorem ref_in (b : Fin 4) (s k : Fin 2048) : val_main_v0 (F := Ideal) x (ix3 b s k) = x (ix2 (rowR b s) k) := by
  unfold rowR
  pointwise [val_main_v0]

theorem ref_unit (b : Fin 4) (s k : Fin 2048) : val_main_v14 (F := Ideal) x g (ix3 b s k) = hpN x g (rowR b s) k := by
  unfold hpN unitN
  simp only [← ref_in]
  pointwise [val_main_v14, val_main_v13, val_main_v12, val_main_v11, val_main_v10, val_main_v9, val_main_v8, val_main_v7, val_main_v6, val_main_v5, val_main_v4, val_main_v3, val_main_v2, val_main_cst_0, val_main_cst_1, val_main_cst_2]

theorem ref_prod (b : Fin 4) (s : Fin 2048) (C : Fin 12288) : val_main_v17 (F := Ideal) x g W (ix3 b s C) = gpN x g W (rowR b s) C := by
  unfold gpN
  simp only [← ref_unit]
  pointwise [val_main_v17, val_main_v16, val_main_v15]

theorem ref_gate (b : Fin 4) (s : Fin 2048) (C : Fin 6144) : val_main_v18 (F := Ideal) x g W (ix3 b s C) = gpN x g W (rowR b s) (lo C) := by
  unfold lo
  simp only [← ref_prod]
  pointwise [val_main_v18]

theorem ref_up (b : Fin 4) (s : Fin 2048) (C : Fin 6144) : val_main_v19 (F := Ideal) x g W (ix3 b s C) = gpN x g W (rowR b s) (hi C) := by
  unfold hi
  simp only [← ref_prod]
  pointwise [val_main_v19]

theorem ref_ext (b : Fin 4) (q : Fin 2050) (C : Fin 6144) :
    val_main_v24 (F := Ideal) x g W (ix3 b q C) = if h : q.val < 2 then 0 else gpN x g W (rowR b ⟨q.val - 2, by omega⟩) (lo C) := by
  simp only [← ref_gate]
  pointwise [val_main_v24, val_main_v1, val_main_cst]

theorem ref_conv (b : Fin 4) (s : Fin 2048) (C : Fin 6144) : val_main_v47 (F := Ideal) x g W w v (ix3 b s C)
    = convN (v (ix2 0 C)) (val_main_v24 (F := Ideal) x g W (ix3 b ⟨s.val + 2, by omega⟩ C)) (w (ix3 0 2 C)) (val_main_v24 (F := Ideal) x g W (ix3 b ⟨s.val, by omega⟩ C)) (w (ix3 0 0 C))
      (val_main_v24 (F := Ideal) x g W (ix3 b ⟨s.val + 1, by omega⟩ C)) (w (ix3 0 1 C)) := by
  rw [show (⟨s.val + 2, by omega⟩ : Fin 2050) = ⟨2 + s.val, by omega⟩ from Fin.ext (Nat.add_comm _ _), show (⟨s.val + 1, by omega⟩ : Fin 2050) = ⟨1 + s.val, by omega⟩ from Fin.ext (Nat.add_comm _ _)]
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v23, val_main_v22, val_main_v21, val_main_v20, convN]

theorem ref_act (b : Fin 4) (s : Fin 2048) (C : Fin 6144) : val_main_v62 (F := Ideal) x g W w v (ix3 b s C) = actP x g W w v b s C := by
  have e : val_main_v47 (F := Ideal) x g W w v (ix3 b s C) = convN (v (ix2 0 C)) (gpN x g W (rowR b s) (lo C)) (w (ix3 0 2 C)) (backN x g W b s (lo C) 2) (w (ix3 0 0 C)) (backN x g W b s (lo C) 1) (w (ix3 0 1 C)) := by
    rw [ref_conv, ref_ext, ref_ext, ref_ext]
    have h2 : ¬ s.val + 2 < 2 := by omega
    rw [dif_neg h2]
    unfold backN
    by_cases h : s.val < 1
    · rw [dif_pos h, dif_pos (show s.val + 1 < 2 by omega)]
      rfl
    · rw [dif_neg h, dif_neg (show ¬ s.val + 1 < 2 by omega)]
      rfl
  unfold actP
  rw [← e, ← ref_up]
  generalize hK : val_main_v47 (F := Ideal) x g W w v = K
  pointwise [val_main_v62, val_main_v61, val_main_v60, val_main_v59, val_main_v58, val_main_v57, val_main_v56, val_main_v55, val_main_v54, val_main_v53, val_main_v52, val_main_v51, val_main_v50, val_main_v49, val_main_cst_3, val_main_cst_4, val_main_cst_5, val_main_cst_6, geluN, hK]
  rw [mul_assoc (K (ix3 b s C)) (K (ix3 b s C)) (K (ix3 b s C))]

theorem ref_act_flat (b : Fin 4) (s : Fin 2048) (C : Fin 6144) : val_main_v129 (F := Ideal) x g W w v (ix2 (rowR b s) C) = actP x g W w v b s C := by
  rw [← ref_act]
  unfold rowR
  pointwise [val_main_v129, val_main_v128]

theorem ref_last (b : Fin 4) (a : Fin 8) (C : Fin 6144) : val_main_v133 (F := Ideal) x g W (ix3 b a C) = gpN x g W (rowR b ⟨2040 + a.val, by omega⟩) (lo C) := by
  rw [← ref_gate]
  pointwise [val_main_v133]

theorem sref_in (r : Fin 32) (k : Fin 2048) : val_main_v65 (F := Ideal) xs (ix3 r 0 k) = xs (ix3 0 r k) := by
  pointwise [val_main_v65, val_main_v64, val_main_v63]

theorem sref_unit (r : Fin 32) (k : Fin 2048) : val_main_v79 (F := Ideal) xs g (ix3 r 0 k) = hsN xs g r k := by
  unfold hsN unitN
  simp only [← sref_in]
  pointwise [val_main_v79, val_main_v78, val_main_v77, val_main_v76, val_main_v75, val_main_v74, val_main_v73, val_main_v72, val_main_v71, val_main_v70, val_main_v69, val_main_v68, val_main_v67, val_main_cst_7, val_main_cst_8, val_main_cst_9]

theorem sref_prod (r : Fin 32) (C : Fin 12288) : val_main_v82 (F := Ideal) xs g W (ix3 r 0 C) = gsN xs g W r C := by
  unfold gsN
  simp only [← sref_unit]
  pointwise [val_main_v82, val_main_v81, val_main_v80]

theorem sref_gate (r : Fin 32) (C : Fin 6144) : val_main_v83 (F := Ideal) xs g W (ix3 r 0 C) = gsN xs g W r (lo C) := by
  unfold lo
  simp only [← sref_prod]
  pointwise [val_main_v83]

theorem sref_up (r : Fin 32) (C : Fin 6144) : val_main_v84 (F := Ideal) xs g W (ix3 r 0 C) = gsN xs g W r (hi C) := by
  unfold hi
  simp only [← sref_prod]
  pointwise [val_main_v84]

theorem sref_ext0 (r : Fin 32) (C : Fin 6144) : val_main_v89 (F := Ideal) xs g W p (ix3 r 0 C) = p (ix3 0 r C) := by
  pointwise [val_main_v89, val_main_v66]

theorem sref_ext1 (r : Fin 32) (C : Fin 6144) : val_main_v89 (F := Ideal) xs g W p (ix3 r 1 C) = p (ix3 1 r C) := by
  pointwise [val_main_v89, val_main_v66]

theorem sref_ext2 (r : Fin 32) (C : Fin 6144) : val_main_v89 (F := Ideal) xs g W p (ix3 r 2 C) = gsN xs g W r (lo C) := by
  simp only [← sref_gate]
  pointwise [val_main_v89]

theorem sref_conv (r : Fin 32) (C : Fin 6144) : val_main_v112 (F := Ideal) xs g W w v p (ix3 r 0 C)
    = convN (v (ix2 0 C)) (val_main_v89 (F := Ideal) xs g W p (ix3 r 2 C)) (w (ix3 0 2 C)) (val_main_v89 (F := Ideal) xs g W p (ix3 r 0 C)) (w (ix3 0 0 C))
      (val_main_v89 (F := Ideal) xs g W p (ix3 r 1 C)) (w (ix3 0 1 C)) := by
  pointwise [val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v88, val_main_v87, val_main_v86, val_main_v85, convN]

theorem sref_act (r : Fin 32) (C : Fin 6144) : val_main_v127 (F := Ideal) xs g W w v p (ix3 r 0 C) = actS xs g W w v p r C := by
  have e : val_main_v112 (F := Ideal) xs g W w v p (ix3 r 0 C) = convN (v (ix2 0 C)) (gsN xs g W r (lo C)) (w (ix3 0 2 C)) (p (ix3 0 r C)) (w (ix3 0 0 C)) (p (ix3 1 r C)) (w (ix3 0 1 C)) := by
    rw [sref_conv, sref_ext0, sref_ext1, sref_ext2]
  unfold actS
  rw [← e, ← sref_up]
  generalize hK : val_main_v112 (F := Ideal) xs g W w v p = K
  pointwise [val_main_v127, val_main_v126, val_main_v125, val_main_v124, val_main_v123, val_main_v122, val_main_v121, val_main_v120, val_main_v119, val_main_v118, val_main_v117, val_main_v116, val_main_v115, val_main_v114, val_main_cst_10, val_main_cst_11, val_main_cst_12, val_main_cst_13, geluN, hK]
  rw [mul_assoc (K (ix3 r 0 C)) (K (ix3 r 0 C)) (K (ix3 r 0 C))]

theorem sref_act_every (b : Fin 4) (r : Fin 32) (C : Fin 6144) : val_main_v132 (F := Ideal) xs g W w v p (ix3 b r C) = actS xs g W w v p r C := by
  rw [← sref_act]
  pointwise [val_main_v132, val_main_v131, val_main_v130]

theorem sref_gate_every (b : Fin 4) (r : Fin 32) (C : Fin 6144) : val_main_v135 (F := Ideal) xs g W (ix3 b r C) = gsN xs g W r (lo C) := by
  rw [← sref_gate]
  pointwise [val_main_v135, val_main_v134]

end Cert.FfnIdeal.Own

end
-- ==== Proof.FfnClaim.lean ====
module

public import proofs.«01_k».proof.Defs
public import proofs.«01_k».proof.Proof.FfnValue
public import proofs.«01_k».proof.Proof.FfnRef
public import proofs.«01_k».proof.Proof.Gen.FfnReferenceIdeal.Run
public import proofs.«01_k».proof.Proof.Gen.Ffn

@[expose] public section

set_option maxRecDepth 16384

/-! The feed-forward call computes what the reference does. -/

noncomputable section

namespace Cert.FfnIdeal.Own

open Cert.FfnIdeal Cert.FfnIdeal.Gen Cert.FfnReferenceIdeal.Read
open Idealize.ShloMosaic Idealize.ShloMosaic.TcCoe Idealize.ShloMosaic.Tactic Idealize.SL.Sem

variable (m : (ℓ : Loc nD τ sig) → Buf (Elt Ideal) ℓ)

/-- The prompt's activations are the reference's. -/
theorem final7 (c : Dev nD) : (dats m 0 c).arrAt 7 cfg0.N = val_main_v129 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  show (dats m 0 c).flushed 7 t y = _
  rw [flushed7, left7]
  obtain ⟨s, l, rfl⟩ : ∃ (s : Fin 2048) (l : Fin 512), y = ix2 s l := ⟨y 0, y 1, (ix2_eta y).symm⟩
  have e : (((cfg0.win 7).blk t).view.emb (ix2 s l) : S8192x6144.Idx) = ix2 (rowR (seq t) s) (col t l) := by
    unfold rowR seq col
    blk_ext [idx7 t]
  refine Eq.trans ?_ (congrArg (val_main_v129 (F := Ideal) (m ((c : Thread nD τ).loc main_arg0)) (m ((c : Thread nD τ).loc main_arg2)) (m ((c : Thread nD τ).loc main_arg3)) (m ((c : Thread nD τ).loc main_arg4)) (m ((c : Thread nD τ).loc main_arg5))) e).symm
  exact (act_at m c t s l).trans (ref_act_flat _ _ _ _ _ (seq t) s (col t l)).symm

/-- The sample's activations are the reference's. -/
theorem final8 (c : Dev nD) : (dats m 0 c).arrAt 8 cfg0.N = val_main_v132 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  show (dats m 0 c).flushed 8 t y = _
  rw [flushed8, left8]
  obtain ⟨z, r, l, rfl⟩ : ∃ (z : Fin 1) (r : Fin 32) (l : Fin 512), y = ix3 z r l := ⟨y 0, y 1, y 2, (ix3_eta y).symm⟩
  obtain rfl : z = 0 := Subsingleton.elim _ _
  have e : (((cfg0.win 8).blk t).view.emb (ix3 0 r l) : S4x32x6144.Idx) = ix3 (seq t) r (col t l) := by
    unfold seq col
    blk_ext [idx8 t]
  refine Eq.trans ?_ (congrArg (val_main_v132 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) e).symm
  exact (sact_at m c t r l).trans (sref_act_every _ _ _ _ _ _ (seq t) r (col t l)).symm

/-- The prompt's last rows of the gate are the reference's. -/
theorem final9 (c : Dev nD) : (dats m 0 c).arrAt 9 cfg0.N = val_main_v133 (F := Ideal) (m ((c : Thread nD τ).loc main_arg0)) (m ((c : Thread nD τ).loc main_arg2)) (m ((c : Thread nD τ).loc main_arg3)) := by
  refine (dats m 0 c).arrAt_eq_of_covers 9 _ (by decide +kernel) fun t hf y => ?_
  show (dats m 0 c).flushed 9 t y = _
  rw [flushed9, left9]
  obtain ⟨z, r, l, rfl⟩ : ∃ (z : Fin 1) (r : Fin 8) (l : Fin 512), y = ix3 z r l := ⟨y 0, y 1, y 2, (ix3_eta y).symm⟩
  obtain rfl : z = 0 := Subsingleton.elim _ _
  have e : (((cfg0.win 9).blk t).view.emb (ix3 0 r l) : S4x8x6144.Idx) = ix3 (seq t) r (col t l) := by
    unfold seq col
    blk_ext [idx9 t]
  refine Eq.trans ?_ (congrArg (val_main_v133 (F := Ideal) (m ((c : Thread nD τ).loc main_arg0)) (m ((c : Thread nD τ).loc main_arg2)) (m ((c : Thread nD τ).loc main_arg3))) e).symm
  exact (gate_low m c t ⟨2040 + r.val, by omega⟩ l).trans (ref_last _ _ _ (seq t) r (col t l)).symm

/-- The sample's gate is the reference's. -/
theorem final10 (c : Dev nD) : (dats m 0 c).arrAt 10 cfg0.N = val_main_v135 (F := Ideal) (m ((c : Thread nD τ).loc main_arg1)) (m ((c : Thread nD τ).loc main_arg2)) (m ((c : Thread nD τ).loc main_arg3)) := by
  refine (dats m 0 c).arrAt_eq_of_covers 10 _ (by decide +kernel) fun t hf y => ?_
  show (dats m 0 c).flushed 10 t y = _
  rw [flushed10, left10]
  obtain ⟨z, r, l, rfl⟩ : ∃ (z : Fin 1) (r : Fin 32) (l : Fin 512), y = ix3 z r l := ⟨y 0, y 1, y 2, (ix3_eta y).symm⟩
  obtain rfl : z = 0 := Subsingleton.elim _ _
  have e : (((cfg0.win 10).blk t).view.emb (ix3 0 r l) : S4x32x6144.Idx) = ix3 (seq t) r (col t l) := by
    unfold seq col
    blk_ext [idx10 t]
  refine Eq.trans ?_ (congrArg (val_main_v135 (F := Ideal) (m ((c : Thread nD τ).loc main_arg1)) (m ((c : Thread nD τ).loc main_arg2)) (m ((c : Thread nD τ).loc main_arg3))) e).symm
  exact (gate_samp m c t r l).trans (sref_gate_every _ _ _ (seq t) r (col t l)).symm

theorem algebraic : Cert.algebraic_FfnIdeal_FfnReferenceIdeal (hFfnIdeal := Cert.FfnIdeal.Gen.facts) (hFfnReferenceIdeal := Cert.FfnReferenceIdeal.Gen.facts) := by
  intro m g m' g' _ hag
  refine ⟨_, _, _, _, (θ_run defs _ _).mono (fun r h c => ⟨(h c).1.trans (final7 m c), (h c).2.1.trans (final8 m c), (h c).2.2.1.trans (final9 m c), (h c).2.2.2.1.trans (final10 m c), (h c).2.2.2.2⟩) (run_blocks m g), ?_⟩
  refine (θ_run _ _ _).mono (fun r h c => ⟨(h c).1.trans ?_, (h c).2.1.trans ?_, (h c).2.2.1.trans ?_, (h c).2.2.2.1.trans ?_, (h c).2.2.2.2⟩) (Cert.FfnReferenceIdeal.Value.run (F := Ideal) m' g')
  · rw [val_main_v129_eq, (hag c).1, (hag c).2.2.1, (hag c).2.2.2.1, (hag c).2.2.2.2.1, (hag c).2.2.2.2.2.1]
  · rw [val_main_v132_eq, (hag c).2.1, (hag c).2.2.1, (hag c).2.2.2.1, (hag c).2.2.2.2.1, (hag c).2.2.2.2.2.1, (hag c).2.2.2.2.2.2]
  · refine (val_main_v133_eq _ _ _).trans ?_
    rw [(hag c).1, (hag c).2.2.1, (hag c).2.2.2.1]
  · refine (val_main_v135_eq _ _ _).trans ?_
    rw [(hag c).2.1, (hag c).2.2.1, (hag c).2.2.2.1]

theorem frame_ref : Cert.quiescent_FfnReferenceIdeal (hFfnReferenceIdeal := Cert.FfnReferenceIdeal.Gen.facts) := fun m g _ =>
  (θ_run Cert.FfnReferenceIdeal.defs _ _).mono (fun r h => ⟨fun c => (h c).2.2.2.2, sem_eq_zero_of_no_sems (by decide) r.2⟩)
    (Cert.FfnReferenceIdeal.Value.run (F := Ideal) m g)

theorem frame_ideal : Cert.quiescent_FfnIdeal (hFfnIdeal := Cert.FfnIdeal.Gen.facts) := fun m g _ => frame m g

section
attribute [local instance] Cert.Ffn.Gen.facts

/-- The two programs have the same bodies. -/
theorem bodies : Cert.Ffn.defs₀ (F := Bits) = Cert.FfnIdeal.defs₀ (F := Bits) := by
  refine congrArg Defs.onTc (funext fun l => funext fun a => ?_)
  match l, a with
  | 0, (_, _) => rfl

/-- The same run, for the program the machine executes. -/
theorem frame_kernel : Cert.quiescent_Ffn (hFfn := Cert.Ffn.Gen.facts) := fun m g _ => by
  have e : Cert.Ffn.defs (F := Bits) = Cert.FfnIdeal.defs (F := Bits) := congrArg (Pipeline.defs Cert.FfnIdeal.pcfgs) bodies
  rw [e]
  exact frame (F := Bits) m g

end

end Cert.FfnIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.SwaClaim
public import proofs.«01_k».proof.Proof.OutMix
public import proofs.«01_k».proof.Proof.OutLru
public import proofs.«01_k».proof.Proof.OutB
public import proofs.«01_k».proof.Proof.OutA
public import proofs.«01_k».proof.Proof.Gen.OutA.Frame
public import proofs.«01_k».proof.Proof.Gen.OutAIdeal.Frame
public import proofs.«01_k».proof.Proof.Gen.OutAIdeal.Value
public import proofs.«01_k».proof.Proof.Gen.OutAReferenceIdeal.Run
public import proofs.«01_k».proof.Proof.Gen.OutAReferenceIdeal.Read
public import proofs.«01_k».proof.Proof.Gen.OutB.Frame
public import proofs.«01_k».proof.Proof.Gen.OutBIdeal.Frame
public import proofs.«01_k».proof.Proof.Gen.OutBIdeal.Value
public import proofs.«01_k».proof.Proof.Gen.OutBReferenceIdeal.Run
public import proofs.«01_k».proof.Proof.Gen.OutBReferenceIdeal.Read
public import proofs.«01_k».proof.Proof.Gen.OutLru.Frame
public import proofs.«01_k».proof.Proof.Gen.OutLruIdeal.Frame
public import proofs.«01_k».proof.Proof.Gen.OutLruIdeal.Value
public import proofs.«01_k».proof.Proof.Gen.OutLruReferenceIdeal.Run
public import proofs.«01_k».proof.Proof.Gen.OutLruReferenceIdeal.Read
public import proofs.«01_k».proof.Proof.Gen.OutMix.Frame
public import proofs.«01_k».proof.Proof.Gen.OutMixIdeal.Frame
public import proofs.«01_k».proof.Proof.Gen.OutMixIdeal.Value
public import proofs.«01_k».proof.Proof.Gen.OutMixReferenceIdeal.Run
public import proofs.«01_k».proof.Proof.Gen.OutMixReferenceIdeal.Read
public import proofs.«01_k».proof.Proof.FfnClaim
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal.Run
public import proofs.«01_k».proof.Proof.Gen.FfnReferenceIdeal.Read
public import Idealize.ShloMosaic.Adequacy
public import Idealize.ShloMosaic.Init

@[expose] public section

noncomputable section

namespace Cert.Proof

open Idealize.ShloMosaic Idealize.SL.Sem Cert.Kernel

/-- The frames are the launches'; the values are `Cert.SwaClaim.algebraic`. -/
theorem claim : Cert.Claim := ⟨Cert.Kernel.Gen.facts, Cert.KernelIdeal.Gen.facts, Cert.ReferenceIdeal.Gen.facts, Cert.OutA.Gen.facts, Cert.OutAIdeal.Gen.facts, Cert.OutAReferenceIdeal.Gen.facts, Cert.OutB.Gen.facts, Cert.OutBIdeal.Gen.facts, Cert.OutBReferenceIdeal.Gen.facts, Cert.OutLru.Gen.facts, Cert.OutLruIdeal.Gen.facts, Cert.OutLruReferenceIdeal.Gen.facts, Cert.OutMix.Gen.facts, Cert.OutMixIdeal.Gen.facts, Cert.OutMixReferenceIdeal.Gen.facts, Cert.Ffn.Gen.facts, Cert.FfnIdeal.Gen.facts, Cert.FfnReferenceIdeal.Gen.facts, Cert.SwaClaim.preFacts,
    fun m ρ _ => Cert.Kernel.Gen.frame m ρ, fun m ρ _ => Cert.KernelIdeal.Gen.frame m ρ, fun m ρ _ => Cert.KernelIdeal.Gen.frame m ρ, Cert.SwaClaim.frame_ref, fun m ρ _ => Cert.SwaClaim.frame_ref m ρ trivial,
    fun m ρ _ => Cert.OutA.Gen.frame m ρ, fun m ρ _ => Cert.OutAIdeal.Gen.frame m ρ, Cert.OutAIdeal.Out.frame_ref,
    fun m ρ _ => Cert.OutB.Gen.frame m ρ, fun m ρ _ => Cert.OutBIdeal.Gen.frame m ρ, Cert.OutBIdeal.Out.frame_ref,
    fun m ρ _ => Cert.OutLru.Gen.frame m ρ, fun m ρ _ => Cert.OutLruIdeal.Gen.frame m ρ, Cert.OutLruIdeal.Out.frame_ref,
    fun m ρ _ => Cert.OutMix.Gen.frame m ρ, fun m ρ _ => Cert.OutMixIdeal.Gen.frame m ρ, Cert.OutMixIdeal.Out.frame_ref,
    Cert.FfnIdeal.Own.frame_kernel, Cert.FfnIdeal.Own.frame_ideal, Cert.FfnIdeal.Own.frame_ref,
    trivial, Cert.SwaClaim.algebraic,
    trivial, Cert.OutAIdeal.Out.algebraic, trivial, Cert.OutBIdeal.Out.algebraic, trivial, Cert.OutLruIdeal.Out.algebraic, trivial, Cert.OutMixIdeal.Out.algebraic, trivial, Cert.FfnIdeal.Own.algebraic⟩

end Cert.Proof

end
